-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_and_weights [hPre_scales_and_weights : Cert.Pre_scales_and_weights.Facts] (m : (ℓ : Loc Cert.KernelIdeal.nD Cert.KernelIdeal.τ Cert.KernelIdeal.sig) → Buf (Elt Ideal) ℓ) : Prop :=
  ∀ c : Dev Cert.KernelIdeal.nD,
    (Cert.Pre_scales_and_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_scales_and_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_scales_and_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_scales_and_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_scales_and_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 = (fun _ => 1#1)
    ∧ (Cert.Pre_scales_and_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.1 = (fun _ => 1#1)
    ∧ (Cert.Pre_scales_and_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.1 = (fun _ => 1#1)
    ∧ (Cert.Pre_scales_and_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.1 = (fun _ => 1#1)
    ∧ (Cert.Pre_scales_and_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.1 = (fun _ => 1#1)
    ∧ (Cert.Pre_scales_and_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_and_weights [hPre_scales_and_weights : Cert.Pre_scales_and_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_and_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_scales_and_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_scales_and_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_scales_and_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_scales_and_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.1 = (fun _ => 1#1)
    ∧ (Cert.Pre_scales_and_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.1 = (fun _ => 1#1)
    ∧ (Cert.Pre_scales_and_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.1 = (fun _ => 1#1)
    ∧ (Cert.Pre_scales_and_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.1 = (fun _ => 1#1)
    ∧ (Cert.Pre_scales_and_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.1 = (fun _ => 1#1)
    ∧ (Cert.Pre_scales_and_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_scales_and_weights [hKernelIdeal : Cert.KernelIdeal.Facts] [hPre_scales_and_weights : Cert.Pre_scales_and_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_and_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_scales_and_weights [hReferenceIdeal : Cert.ReferenceIdeal.Facts] [hPre_scales_and_weights : Cert.Pre_scales_and_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_and_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_scales_and_weights [hKernelIdeal : Cert.KernelIdeal.Facts] [hReferenceIdeal : Cert.ReferenceIdeal.Facts] [hPre_scales_and_weights : Cert.Pre_scales_and_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_and_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v11_2)) (v3 : (c : Dev Cert.KernelIdeal.nD) → Buf (Elt Ideal) ((c.tc : Thread Cert.KernelIdeal.nD Cert.KernelIdeal.τ).loc Cert.KernelIdeal.main_v11_3)) (v4 : (c : Dev Cert.KernelIdeal.nD) → Buf (Elt Ideal) ((c.tc : Thread Cert.KernelIdeal.nD Cert.KernelIdeal.τ).loc Cert.KernelIdeal.main_v11_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v11_2) = v2 c
          ∧ r.2.mem ((c.tc : Thread Cert.KernelIdeal.nD Cert.KernelIdeal.τ).loc Cert.KernelIdeal.main_v11_3) = v3 c
          ∧ r.2.mem ((c.tc : Thread Cert.KernelIdeal.nD Cert.KernelIdeal.τ).loc Cert.KernelIdeal.main_v11_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11_0) = v0 c
          ∧ r.2.mem ((c.tc : Thread Cert.ReferenceIdeal.nD Cert.ReferenceIdeal.τ).loc Cert.ReferenceIdeal.main_v11_1) = v1 c
          ∧ r.2.mem ((c.tc : Thread Cert.ReferenceIdeal.nD Cert.ReferenceIdeal.τ).loc Cert.ReferenceIdeal.main_v11_2) = v2 c
          ∧ r.2.mem ((c.tc : Thread Cert.ReferenceIdeal.nD Cert.ReferenceIdeal.τ).loc Cert.ReferenceIdeal.main_v11_3) = v3 c
          ∧ r.2.mem ((c.tc : Thread Cert.ReferenceIdeal.nD Cert.ReferenceIdeal.τ).loc Cert.ReferenceIdeal.main_v11_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_scales_and_weights : Cert.Pre_scales_and_weights.Facts),
    quiescent_Kernel (hKernel := hKernel)
    ∧ quiescent_KernelIdeal (hKernelIdeal := hKernelIdeal)
    ∧ quiescent_KernelIdeal_pre_scales_and_weights (hKernelIdeal := hKernelIdeal) (hPre_scales_and_weights := hPre_scales_and_weights)
    ∧ quiescent_ReferenceIdeal (hReferenceIdeal := hReferenceIdeal)
    ∧ quiescent_ReferenceIdeal_pre_scales_and_weights (hReferenceIdeal := hReferenceIdeal) (hPre_scales_and_weights := hPre_scales_and_weights)
    ∧ preserves_Kernel_KernelIdeal
    ∧ algebraic_KernelIdeal_ReferenceIdeal_pre_scales_and_weights (hKernelIdeal := hKernelIdeal) (hReferenceIdeal := hReferenceIdeal) (hPre_scales_and_weights := hPre_scales_and_weights)
-- ==== Pre_scales_and_weights.lean ====
abbrev S24x2560x1024 : Shape := ⟨3, ![24, 2560, 1024]⟩
abbrev S1024 : Shape := ⟨1, ![1024]⟩
abbrev S1024x2048 : Shape := ⟨2, ![1024, 2048]⟩
abbrev S2048 : Shape := ⟨1, ![2048]⟩
abbrev S9x1024 : Shape := ⟨2, ![9, 1024]⟩
abbrev S1024x1024 : Shape := ⟨2, ![1024, 1024]⟩
abbrev S_ : Shape := ⟨0, ![]⟩

class Facts : Prop where
  bcast_S_S1024x2048 : S_.BroadcastsInDim S1024x2048 (![] : Fin 0 → Fin S1024x2048.rank)
  bcast_S_S2048 : S_.BroadcastsInDim S2048 (![] : Fin 0 → Fin S2048.rank)
  bcast_S_S9x1024 : S_.BroadcastsInDim S9x1024 (![] : Fin 0 → Fin S9x1024.rank)
  bcast_S_S1024 : S_.BroadcastsInDim S1024 (![] : Fin 0 → Fin S1024.rank)

variable [Facts]

def fn_part1 {F : FTy → Type} [FloatOps F] (main_arg7 : FVec F S1024 .f32) (main_arg8 : FVec F S1024 .f32) (main_v0 : IVec S_ 1) (main_v1 : IVec S_ 1) (main_v2 : IVec S_ 1) (main_v3 : IVec S_ 1) (main_v6 : IVec S1024x2048 1) (main_v9 : IVec S2048 1) (main_v12 : IVec S2048 1) (main_v15 : IVec S9x1024 1) : IVec S_ 1 × IVec S_ 1 × IVec S_ 1 × IVec S_ 1 × IVec S1024x2048 1 × IVec S2048 1 × IVec S2048 1 × IVec S9x1024 1 × IVec S1024 1 × IVec S1024 1 :=
  let main_v16 : FVec F S1024 .f32 := Host.absf main_arg7
  let main_cst_7 : FVec F S_ .f32 := constant S_ .f32 0x7F800000#32
  let main_v17 : FVec F S1024 .f32 := broadcastInDim S1024 ![] bcast_S_S1024 main_cst_7
  let main_v18 : IVec S1024 1 := cmpf .olt main_v16 main_v17
  let main_v19 : FVec F S1024 .f32 := Host.absf main_arg8
  let main_cst_8 : FVec F S_ .f32 := constant S_ .f32 0x7F800000#32
  let main_v20 : FVec F S1024 .f32 := broadcastInDim S1024 ![] bcast_S_S1024 main_cst_8
  let main_v21 : IVec S1024 1 := cmpf .olt main_v19 main_v20
  (main_v0, main_v1, main_v2, main_v3, main_v6, main_v9, main_v12, main_v15, main_v18, main_v21)

def fn {F : FTy → Type} [FloatOps F] (main_arg0 : FVec F S24x2560x1024 .bf16) (main_arg1 : FVec F S1024 .f32) (main_arg2 : FVec F S1024 .f32) (main_arg3 : FVec F S1024x2048 .f32) (main_arg4 : FVec F S2048 .f32) (main_arg5 : FVec F S2048 .f32) (main_arg6 : FVec F S9x1024 .f32) (main_arg7 : FVec F S1024 .f32) (main_arg8 : FVec F S1024 .f32) (main_arg9 : FVec F S1024x1024 .fp8e4m3) (main_arg10 : FVec F S1024 .f32) (main_arg11 : FVec F S1024 .f32) (main_arg12 : FVec F S_ .f32) (main_arg13 : FVec F S_ .f32) : IVec S_ 1 × IVec S_ 1 × IVec S_ 1 × IVec S_ 1 × IVec S1024x2048 1 × IVec S2048 1 × IVec S2048 1 × IVec S9x1024 1 × IVec S1024 1 × IVec S1024 1 :=
  let main_cst : FVec F S_ .f32 := constant S_ .f32 0x0D800000#32
  let main_v0 : IVec S_ 1 := cmpf .oge main_arg12 main_cst
  let main_cst_0 : FVec F S_ .f32 := constant S_ .f32 0x7F800000#32
  let main_v1 : IVec S_ 1 := cmpf .olt main_arg12 main_cst_0
  let main_cst_1 : FVec F S_ .f32 := constant S_ .f32 0x0D800000#32
  let main_v2 : IVec S_ 1 := cmpf .oge main_arg13 main_cst_1
  let main_cst_2 : FVec F S_ .f32 := constant S_ .f32 0x7F800000#32
  let main_v3 : IVec S_ 1 := cmpf .olt main_arg13 main_cst_2
  let main_v4 : FVec F S1024x2048 .f32 := Host.absf main_arg3
  let main_cst_3 : FVec F S_ .f32 := constant S_ .f32 0x7F800000#32
  let main_v5 : FVec F S1024x2048 .f32 := broadcastInDim S1024x2048 ![] bcast_S_S1024x2048 main_cst_3
  let main_v6 : IVec S1024x2048 1 := cmpf .olt main_v4 main_v5
  let main_v7 : FVec F S2048 .f32 := Host.absf main_arg4
  let main_cst_4 : FVec F S_ .f32 := constant S_ .f32 0x7F800000#32
  let main_v8 : FVec F S2048 .f32 := broadcastInDim S2048 ![] bcast_S_S2048 main_cst_4
  let main_v9 : IVec S2048 1 := cmpf .olt main_v7 main_v8
  let main_v10 : FVec F S2048 .f32 := Host.absf main_arg5
  let main_cst_5 : FVec F S_ .f32 := constant S_ .f32 0x7F800000#32
  let main_v11 : FVec F S2048 .f32 := broadcastInDim S2048 ![] bcast_S_S2048 main_cst_5
  let main_v12 : IVec S2048 1 := cmpf .olt main_v10 main_v11
  let main_v13 : FVec F S9x1024 .f32 := Host.absf main_arg6
  let main_cst_6 : FVec F S_ .f32 := constant S_ .f32 0x7F800000#32
  let main_v14 : FVec F S9x1024 .f32 := broadcastInDim S9x1024 ![] bcast_S_S9x1024 main_cst_6
  let main_v15 : IVec S9x1024 1 := cmpf .olt main_v13 main_v14
  fn_part1 (F := F) main_arg7 main_arg8 main_v0 main_v1 main_v2 main_v3 main_v6 main_v9 main_v12 main_v15
-- ==== Kernel.lean ====
abbrev S24x2560x1024 : Shape := ⟨3, ![24, 2560, 1024]⟩
abbrev S1024 : Shape := ⟨1, ![1024]⟩
abbrev S1024x2048 : Shape := ⟨2, ![1024, 2048]⟩
abbrev S2048 : Shape := ⟨1, ![2048]⟩
abbrev S9x1024 : Shape := ⟨2, ![9, 1024]⟩
abbrev S1024x1024 : Shape := ⟨2, ![1024, 1024]⟩
abbrev S_ : Shape := ⟨0, ![]⟩
abbrev S1x1024 : Shape := ⟨2, ![1, 1024]⟩
abbrev S1x2048 : Shape := ⟨2, ![1, 2048]⟩
abbrev S1 : Shape := ⟨1, ![1]⟩
abbrev S24x2560 : Shape := ⟨2, ![24, 2560]⟩
abbrev S1x2560x1024 : Shape := ⟨3, ![1, 2560, 1024]⟩
abbrev S8x2576x128 : Shape := ⟨3, ![8, 2576, 128]⟩
abbrev S8x160x128 : Shape := ⟨3, ![8, 160, 128]⟩
abbrev S2x2560x128 : Shape := ⟨3, ![2, 2560, 128]⟩
abbrev S32x1024 : Shape := ⟨2, ![32, 1024]⟩
abbrev S8x8x128 : Shape := ⟨3, ![8, 8, 128]⟩
abbrev S1x32x1024 : Shape := ⟨3, ![1, 32, 1024]⟩
abbrev S32 : Shape := ⟨1, ![32]⟩
abbrev S32x1 : Shape := ⟨2, ![32, 1]⟩
abbrev S32x128 : Shape := ⟨2, ![32, 128]⟩
abbrev S1x32x128 : Shape := ⟨3, ![1, 32, 128]⟩
abbrev S1x160x1024 : Shape := ⟨3, ![1, 160, 1024]⟩
abbrev S160x1024 : Shape := ⟨2, ![160, 1024]⟩
abbrev S1024x256 : Shape := ⟨2, ![1024, 256]⟩
abbrev S160x256 : Shape := ⟨2, ![160, 256]⟩
abbrev S1x256 : Shape := ⟨2, ![1, 256]⟩
abbrev S160x128 : Shape := ⟨2, ![160, 128]⟩
abbrev S1x160x128 : Shape := ⟨3, ![1, 160, 128]⟩
abbrev S1x128 : Shape := ⟨2, ![1, 128]⟩
abbrev S8x128 : Shape := ⟨2, ![8, 128]⟩
abbrev S1x8x128 : Shape := ⟨3, ![1, 8, 128]⟩
abbrev S1x160x256 : Shape := ⟨3, ![1, 160, 256]⟩
abbrev S1x128x128 : Shape := ⟨3, ![1, 128, 128]⟩
abbrev S128x128 : Shape := ⟨2, ![128, 128]⟩
abbrev S128 : Shape := ⟨1, ![128]⟩

abbrev nBuf : Space → Nat
  | .hbm => 30
  | .vmem => 25
  | .smem => 2
  | _ => 0

abbrev bufTy : (tb : Table) → Fin (tcTables nBuf tb) → BufTy
  | .hbm, ⟨0, _⟩ => ⟨S24x2560x1024, .bf16⟩
  | .hbm, ⟨1, _⟩ => ⟨S1024, .f32⟩
  | .hbm, ⟨2, _⟩ => ⟨S1024, .f32⟩
  | .hbm, ⟨3, _⟩ => ⟨S1024x2048, .f32⟩
  | .hbm, ⟨4, _⟩ => ⟨S2048, .f32⟩
  | .hbm, ⟨5, _⟩ => ⟨S2048, .f32⟩
  | .hbm, ⟨6, _⟩ => ⟨S9x1024, .f32⟩
  | .hbm, ⟨7, _⟩ => ⟨S1024, .f32⟩
  | .hbm, ⟨8, _⟩ => ⟨S1024, .f32⟩
  | .hbm, ⟨9, _⟩ => ⟨S1024x1024, .fp8e4m3⟩
  | .hbm, ⟨10, _⟩ => ⟨S1024, .f32⟩
  | .hbm, ⟨11, _⟩ => ⟨S1024, .f32⟩
  | .hbm, ⟨12, _⟩ => ⟨S_, .f32⟩
  | .hbm, ⟨13, _⟩ => ⟨S_, .f32⟩
  | .hbm, ⟨14, _⟩ => ⟨S1x1024, .f32⟩
  | .hbm, ⟨15, _⟩ => ⟨S1x1024, .f32⟩
  | .hbm, ⟨16, _⟩ => ⟨S1024x2048, .fp8e4m3⟩
  | .hbm, ⟨17, _⟩ => ⟨S1x2048, .f32⟩
  | .hbm, ⟨18, _⟩ => ⟨S1x2048, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1, .f32⟩
  | .hbm, ⟨24, _⟩ => ⟨S1, .f32⟩
  | .hbm, ⟨25, _⟩ => ⟨S24x2560x1024, .bf16⟩
  | .hbm, ⟨26, _⟩ => ⟨S24x2560x1024, .fp8e4m3⟩
  | .hbm, ⟨27, _⟩ => ⟨S24x2560, .f32⟩
  | .hbm, ⟨28, _⟩ => ⟨S24x2560x1024, .fp8e4m3⟩
  | .hbm, ⟨29, _⟩ => ⟨S24x2560, .f32⟩
  | .local _ .vmem, ⟨0, _⟩ => ⟨S1x2560x1024, .bf16⟩
  | .local _ .vmem, ⟨1, _⟩ => ⟨S1x2560x1024, .bf16⟩
  | .local _ .vmem, ⟨2, _⟩ => ⟨S1x1024, .f32⟩
  | .local _ .vmem, ⟨3, _⟩ => ⟨S1x1024, .f32⟩
  | .local _ .vmem, ⟨4, _⟩ => ⟨S1024x2048, .fp8e4m3⟩
  | .local _ .vmem, ⟨5, _⟩ => ⟨S1x2048, .f32⟩
  | .local _ .vmem, ⟨6, _⟩ => ⟨S1x2048, .f32⟩
  | .local _ .vmem, ⟨7, _⟩ => ⟨S9x1024, .f32⟩
  | .local _ .vmem, ⟨8, _⟩ => ⟨S1x1024, .f32⟩
  | .local _ .vmem, ⟨9, _⟩ => ⟨S1x1024, .f32⟩
  | .local _ .vmem, ⟨10, _⟩ => ⟨S1024x1024, .fp8e4m3⟩
  | .local _ .vmem, ⟨11, _⟩ => ⟨S1x1024, .f32⟩
  | .local _ .vmem, ⟨12, _⟩ => ⟨S1x1024, .f32⟩
  | .local _ .vmem, ⟨13, _⟩ => ⟨S1x2560x1024, .bf16⟩
  | .local _ .vmem, ⟨14, _⟩ => ⟨S1x2560x1024, .bf16⟩
  | .local _ .vmem, ⟨15, _⟩ => ⟨S1x2560x1024, .fp8e4m3⟩
  | .local _ .vmem, ⟨16, _⟩ => ⟨S1x2560x1024, .fp8e4m3⟩
  | .local _ .vmem, ⟨17, _⟩ => ⟨S24x2560, .f32⟩
  | .local _ .vmem, ⟨18, _⟩ => ⟨S1x2560x1024, .fp8e4m3⟩
  | .local _ .vmem, ⟨19, _⟩ => ⟨S1x2560x1024, .fp8e4m3⟩
  | .local _ .vmem, ⟨20, _⟩ => ⟨S24x2560, .f32⟩
  | .local _ .vmem, ⟨21, _⟩ => ⟨S8x2576x128, .f32⟩
  | .local _ .vmem, ⟨22, _⟩ => ⟨S8x160x128, .f32⟩
  | .local _ .vmem, ⟨23, _⟩ => ⟨S2x2560x128, .f32⟩
  | .local _ .vmem, ⟨24, _⟩ => ⟨S32x1024, .f32⟩
  | .local _ .smem, ⟨0, _⟩ => ⟨S1, .f32⟩
  | .local _ .smem, ⟨1, _⟩ => ⟨S1, .f32⟩
  | _, _ => ⟨S24x2560x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11_0 : Ref sig .tc := ⟨.hbm, 25, rfl⟩
abbrev main_v11_1 : Ref sig .tc := ⟨.hbm, 26, rfl⟩
abbrev main_v11_2 : Ref sig .tc := ⟨.hbm, 27, rfl⟩
abbrev main_v11_3 : Ref sig .tc := ⟨.hbm, 28, rfl⟩
abbrev main_v11_4 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg14_0 : Ref sig .tc := ⟨.vmem, 13, rfl⟩
abbrev cc0_stg14_1 : Ref sig .tc := ⟨.vmem, 14, rfl⟩
abbrev cc0_stg15_0 : Ref sig .tc := ⟨.vmem, 15, rfl⟩
abbrev cc0_stg15_1 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_stg18_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_stg12_0 : Ref sig .tc := ⟨.smem, 0, rfl⟩
abbrev cc0_stg13_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16
abbrev cc0_sem15_0 : DmaSem sig := 17
abbrev cc0_sem15_1 : DmaSem sig := 18
abbrev cc0_sem16_0 : DmaSem sig := 19
abbrev cc0_sem17_0 : DmaSem sig := 20
abbrev cc0_sem17_1 : DmaSem sig := 21
abbrev cc0_sem18_0 : DmaSem sig := 22

abbrev nD : Nat := 1
abbrev τ : Topo := Topo.v7x

variable {F : FTy → Type} [FloatOps F]

abbrev grid0 : Pipeline.Grid := ⟨1, ![24], ![false]⟩

@[reducible] def k0_t1_loop : Scf.Loop 32 :=
  let c0_i32 : BitVec 32 := 0#32
  let c16_i32 : BitVec 32 := 16#32
  let v90 : BitVec 32 := Scalar.addi c0_i32 c16_i32
  let c1_i32 : BitVec 32 := 1#32
  ⟨c0_i32, v90, c1_i32⟩
def k0_mult1 (k0_t1 : Fin k0_t1_loop.trips) : BitVec 32 :=
  let c0_i32 : BitVec 32 := 0#32
  let c1_i32 : BitVec 32 := 1#32
  let arg24 : BitVec 32 := Scf.iv c0_i32 c1_i32 k0_t1
  let c160_i32 : BitVec 32 := 160#32
  let v718 : BitVec 32 := Scalar.muli arg24 c160_i32
  v718
def k0_mult2 (k0_t1 : Fin k0_t1_loop.trips) : BitVec 32 :=
  let c0_i32 : BitVec 32 := 0#32
  let c1_i32 : BitVec 32 := 1#32
  let arg24 : BitVec 32 := Scf.iv c0_i32 c1_i32 k0_t1
  let c160_i32 : BitVec 32 := 160#32
  let v718 : BitVec 32 := Scalar.muli arg24 c160_i32
  let v719 : BitVec 32 := v718
  let c0_i32_286 : BitVec 32 := 0#32
  let v720 : BitVec 32 := Scalar.addi v719 c0_i32_286
  v720
def k0_off1 (k0_t1 : Fin k0_t1_loop.trips) (c0_i32_286 : BitVec 32) : Fin 3 → Nat :=
  let c0_287 : Index := 0#32
  let c0_i32 : BitVec 32 := 0#32
  let c1_i32 : BitVec 32 := 1#32
  let arg24 : BitVec 32 := Scf.iv c0_i32 c1_i32 k0_t1
  let c160_i32 : BitVec 32 := 160#32
  let v718 : BitVec 32 := Scalar.muli arg24 c160_i32
  let v719 : BitVec 32 := v718
  let v720 : BitVec 32 := Scalar.addi v719 c0_i32_286
  let v721 : BitVec 32 := v720
  let v722 : Index := Scalar.indexCast v721
  let c0_288 : Index := 0#32
  ![0, v722.toNat, 0]
def k0_off2 (k0_t1 : Fin k0_t1_loop.trips) (c0_i32_286 : BitVec 32) : Fin 3 → Nat :=
  let c0_298 : Index := 0#32
  let c0_i32 : BitVec 32 := 0#32
  let c1_i32 : BitVec 32 := 1#32
  let arg24 : BitVec 32 := Scf.iv c0_i32 c1_i32 k0_t1
  let c160_i32 : BitVec 32 := 160#32
  let v718 : BitVec 32 := Scalar.muli arg24 c160_i32
  let v719 : BitVec 32 := v718
  let v720 : BitVec 32 := Scalar.addi v719 c0_i32_286
  let v721 : BitVec 32 := v720
  let v771 : Index := Scalar.indexCast v721
  let c0_299 : Index := 0#32
  ![0, v771.toNat, 0]
def k0_mult3 (k0_t1 : Fin k0_t1_loop.trips) : BitVec 32 :=
  let c0_i32 : BitVec 32 := 0#32
  let c1_i32 : BitVec 32 := 1#32
  let arg24 : BitVec 32 := Scf.iv c0_i32 c1_i32 k0_t1
  let c160_i32 : BitVec 32 := 160#32
  let v718 : BitVec 32 := Scalar.muli arg24 c160_i32
  let v719 : BitVec 32 := v718
  let c32_i32 : BitVec 32 := 32#32
  let v784 : BitVec 32 := Scalar.addi v719 c32_i32
  v784
def k0_mult4 (k0_t1 : Fin k0_t1_loop.trips) : BitVec 32 :=
  let c0_i32 : BitVec 32 := 0#32
  let c1_i32 : BitVec 32 := 1#32
  let arg24 : BitVec 32 := Scf.iv c0_i32 c1_i32 k0_t1
  let c160_i32 : BitVec 32 := 160#32
  let v718 : BitVec 32 := Scalar.muli arg24 c160_i32
  let v719 : BitVec 32 := v718
  let c64_i32 : BitVec 32 := 64#32
  let v848 : BitVec 32 := Scalar.addi v719 c64_i32
  v848
def k0_mult5 (k0_t1 : Fin k0_t1_loop.trips) : BitVec 32 :=
  let c0_i32 : BitVec 32 := 0#32
  let c1_i32 : BitVec 32 := 1#32
  let arg24 : BitVec 32 := Scf.iv c0_i32 c1_i32 k0_t1
  let c160_i32 : BitVec 32 := 160#32
  let v718 : BitVec 32 := Scalar.muli arg24 c160_i32
  let v719 : BitVec 32 := v718
  let c96_i32 : BitVec 32 := 96#32
  let v912 : BitVec 32 := Scalar.addi v719 c96_i32
  v912
def k0_mult6 (k0_t1 : Fin k0_t1_loop.trips) : BitVec 32 :=
  let c0_i32 : BitVec 32 := 0#32
  let c1_i32 : BitVec 32 := 1#32
  let arg24 : BitVec 32 := Scf.iv c0_i32 c1_i32 k0_t1
  let c160_i32 : BitVec 32 := 160#32
  let v718 : BitVec 32 := Scalar.muli arg24 c160_i32
  let v719 : BitVec 32 := v718
  let c128_i32 : BitVec 32 := 128#32
  let v976 : BitVec 32 := Scalar.addi v719 c128_i32
  v976
def k0_off3 (k0_t1 : Fin k0_t1_loop.trips) : Fin 3 → Nat :=
  let c0_372 : Index := 0#32
  let c0_i32 : BitVec 32 := 0#32
  let c1_i32 : BitVec 32 := 1#32
  let arg24 : BitVec 32 := Scf.iv c0_i32 c1_i32 k0_t1
  let c160_i32 : BitVec 32 := 160#32
  let v718 : BitVec 32 := Scalar.muli arg24 c160_i32
  let v719 : BitVec 32 := v718
  let v1040 : Index := Scalar.indexCast v719
  let c0_373 : Index := 0#32
  ![0, v1040.toNat, 0]
def k0_off4 (k0_t1 : Fin k0_t1_loop.trips) : Fin 3 → Nat :=
  let c0_389 : Index := 0#32
  let c0_i32 : BitVec 32 := 0#32
  let c1_i32 : BitVec 32 := 1#32
  let arg24 : BitVec 32 := Scf.iv c0_i32 c1_i32 k0_t1
  let c160_i32 : BitVec 32 := 160#32
  let v718 : BitVec 32 := Scalar.muli arg24 c160_i32
  let v719 : BitVec 32 := v718
  let c8_i32_388 : BitVec 32 := 8#32
  let v1065 : BitVec 32 := Scalar.addi v719 c8_i32_388
  let v1066 : Index := Scalar.indexCast v1065
  let c0_390 : Index := 0#32
  ![0, v1066.toNat, 0]
def k0_off5 (k0_t1 : Fin k0_t1_loop.trips) : Fin 3 → Nat :=
  let c1_392 : Index := 1#32
  let c0_i32 : BitVec 32 := 0#32
  let c1_i32 : BitVec 32 := 1#32
  let arg24 : BitVec 32 := Scf.iv c0_i32 c1_i32 k0_t1
  let c160_i32 : BitVec 32 := 160#32
  let v718 : BitVec 32 := Scalar.muli arg24 c160_i32
  let v719 : BitVec 32 := v718
  let c8_i32_391 : BitVec 32 := 8#32
  let v1071 : BitVec 32 := Scalar.addi v719 c8_i32_391
  let v1072 : Index := Scalar.indexCast v1071
  let c0_393 : Index := 0#32
  ![1, v1072.toNat, 0]
def k0_off6 (k0_t1 : Fin k0_t1_loop.trips) : Fin 3 → Nat :=
  let c2_409 : Index := 2#32
  let c0_i32 : BitVec 32 := 0#32
  let c1_i32 : BitVec 32 := 1#32
  let arg24 : BitVec 32 := Scf.iv c0_i32 c1_i32 k0_t1
  let c160_i32 : BitVec 32 := 160#32
  let v718 : BitVec 32 := Scalar.muli arg24 c160_i32
  let v719 : BitVec 32 := v718
  let c8_i32_408 : BitVec 32 := 8#32
  let v1098 : BitVec 32 := Scalar.addi v719 c8_i32_408
  let v1099 : Index := Scalar.indexCast v1098
  let c0_410 : Index := 0#32
  ![2, v1099.toNat, 0]
def k0_off7 (k0_t1 : Fin k0_t1_loop.trips) : Fin 3 → Nat :=
  let c3_412 : Index := 3#32
  let c0_i32 : BitVec 32 := 0#32
  let c1_i32 : BitVec 32 := 1#32
  let arg24 : BitVec 32 := Scf.iv c0_i32 c1_i32 k0_t1
  let c160_i32 : BitVec 32 := 160#32
  let v718 : BitVec 32 := Scalar.muli arg24 c160_i32
  let v719 : BitVec 32 := v718
  let c8_i32_411 : BitVec 32 := 8#32
  let v1104 : BitVec 32 := Scalar.addi v719 c8_i32_411
  let v1105 : Index := Scalar.indexCast v1104
  let c0_413 : Index := 0#32
  ![3, v1105.toNat, 0]
def k0_off8 (k0_t1 : Fin k0_t1_loop.trips) : Fin 3 → Nat :=
  let c4_429 : Index := 4#32
  let c0_i32 : BitVec 32 := 0#32
  let c1_i32 : BitVec 32 := 1#32
  let arg24 : BitVec 32 := Scf.iv c0_i32 c1_i32 k0_t1
  let c160_i32 : BitVec 32 := 160#32
  let v718 : BitVec 32 := Scalar.muli arg24 c160_i32
  let v719 : BitVec 32 := v718
  let c8_i32_428 : BitVec 32 := 8#32
  let v1131 : BitVec 32 := Scalar.addi v719 c8_i32_428
  let v1132 : Index := Scalar.indexCast v1131
  let c0_430 : Index := 0#32
  ![4, v1132.toNat, 0]
def k0_off9 (k0_t1 : Fin k0_t1_loop.trips) : Fin 3 → Nat :=
  let c5_432 : Index := 5#32
  let c0_i32 : BitVec 32 := 0#32
  let c1_i32 : BitVec 32 := 1#32
  let arg24 : BitVec 32 := Scf.iv c0_i32 c1_i32 k0_t1
  let c160_i32 : BitVec 32 := 160#32
  let v718 : BitVec 32 := Scalar.muli arg24 c160_i32
  let v719 : BitVec 32 := v718
  let c8_i32_431 : BitVec 32 := 8#32
  let v1137 : BitVec 32 := Scalar.addi v719 c8_i32_431
  let v1138 : Index := Scalar.indexCast v1137
  let c0_433 : Index := 0#32
  ![5, v1138.toNat, 0]
def k0_off10 (k0_t1 : Fin k0_t1_loop.trips) : Fin 3 → Nat :=
  let c6_449 : Index := 6#32
  let c0_i32 : BitVec 32 := 0#32
  let c1_i32 : BitVec 32 := 1#32
  let arg24 : BitVec 32 := Scf.iv c0_i32 c1_i32 k0_t1
  let c160_i32 : BitVec 32 := 160#32
  let v718 : BitVec 32 := Scalar.muli arg24 c160_i32
  let v719 : BitVec 32 := v718
  let c8_i32_448 : BitVec 32 := 8#32
  let v1164 : BitVec 32 := Scalar.addi v719 c8_i32_448
  let v1165 : Index := Scalar.indexCast v1164
  let c0_450 : Index := 0#32
  ![6, v1165.toNat, 0]
def k0_off11 (k0_t1 : Fin k0_t1_loop.trips) : Fin 3 → Nat :=
  let c7_452 : Index := 7#32
  let c0_i32 : BitVec 32 := 0#32
  let c1_i32 : BitVec 32 := 1#32
  let arg24 : BitVec 32 := Scf.iv c0_i32 c1_i32 k0_t1
  let c160_i32 : BitVec 32 := 160#32
  let v718 : BitVec 32 := Scalar.muli arg24 c160_i32
  let v719 : BitVec 32 := v718
  let c8_i32_451 : BitVec 32 := 8#32
  let v1170 : BitVec 32 := Scalar.addi v719 c8_i32_451
  let v1171 : Index := Scalar.indexCast v1170
  let c0_453 : Index := 0#32
  ![7, v1171.toNat, 0]
@[reducible] def k0_t2_loop : Scf.Loop 32 :=
  let c0_i32_51 : BitVec 32 := 0#32
  let c16_i32_52 : BitVec 32 := 16#32
  let v91 : BitVec 32 := Scalar.addi c0_i32_51 c16_i32_52
  let c1_i32_53 : BitVec 32 := 1#32
  ⟨c0_i32_51, v91, c1_i32_53⟩
def k0_mult7 (k0_t2 : Fin k0_t2_loop.trips) : BitVec 32 :=
  let c0_i32_51 : BitVec 32 := 0#32
  let c1_i32_53 : BitVec 32 := 1#32
  let arg24 : BitVec 32 := Scf.iv c0_i32_51 c1_i32_53 k0_t2
  let c160_i32 : BitVec 32 := 160#32
  let v718 : BitVec 32 := Scalar.muli arg24 c160_i32
  v718
def k0_off12 (k0_t2 : Fin k0_t2_loop.trips) (c0_i32_299 : BitVec 32) : Fin 3 → Nat :=
  let c0_300 : Index := 0#32
  let c0_i32_51 : BitVec 32 := 0#32
  let c1_i32_53 : BitVec 32 := 1#32
  let arg24 : BitVec 32 := Scf.iv c0_i32_51 c1_i32_53 k0_t2
  let c160_i32 : BitVec 32 := 160#32
  let v718 : BitVec 32 := Scalar.muli arg24 c160_i32
  let v719 : BitVec 32 := v718
  let c8_i32_298 : BitVec 32 := 8#32
  let v750 : BitVec 32 := Scalar.addi v719 c8_i32_298
  let c4_i32 : BitVec 32 := 4#32
  let v751 : BitVec 32 := Scalar.subi v750 c4_i32
  let v752 : BitVec 32 := Scalar.addi v751 c0_i32_299
  let v753 : Index := Scalar.indexCast v752
  let c0_301 : Index := 0#32
  ![0, v753.toNat, 0]
def k0_off13 (k0_t2 : Fin k0_t2_loop.trips) (c0_i32_334 : BitVec 32) : Fin 3 → Nat :=
  let c0_335 : Index := 0#32
  let c0_i32_51 : BitVec 32 := 0#32
  let c1_i32_53 : BitVec 32 := 1#32
  let arg24 : BitVec 32 := Scf.iv c0_i32_51 c1_i32_53 k0_t2
  let c160_i32 : BitVec 32 := 160#32
  let v718 : BitVec 32 := Scalar.muli arg24 c160_i32
  let v719 : BitVec 32 := v718
  let c8_i32_332 : BitVec 32 := 8#32
  let v798 : BitVec 32 := Scalar.addi v719 c8_i32_332
  let c4_i32_333 : BitVec 32 := 4#32
  let v799 : BitVec 32 := Scalar.addi v798 c4_i32_333
  let v800 : BitVec 32 := Scalar.addi v799 c0_i32_334
  let v801 : Index := Scalar.indexCast v800
  let c0_336 : Index := 0#32
  ![0, v801.toNat, 0]
def k0_off14 (k0_t2 : Fin k0_t2_loop.trips) (c0_i32_497 : BitVec 32) : Fin 3 → Nat :=
  let c1_498 : Index := 1#32
  let c0_i32_51 : BitVec 32 := 0#32
  let c1_i32_53 : BitVec 32 := 1#32
  let arg24 : BitVec 32 := Scf.iv c0_i32_51 c1_i32_53 k0_t2
  let c160_i32 : BitVec 32 := 160#32
  let v718 : BitVec 32 := Scalar.muli arg24 c160_i32
  let v719 : BitVec 32 := v718
  let c8_i32_495 : BitVec 32 := 8#32
  let v1468 : BitVec 32 := Scalar.addi v719 c8_i32_495
  let c4_i32_496 : BitVec 32 := 4#32
  let v1469 : BitVec 32 := Scalar.subi v1468 c4_i32_496
  let v1470 : BitVec 32 := Scalar.addi v1469 c0_i32_497
  let v1471 : Index := Scalar.indexCast v1470
  let c0_499 : Index := 0#32
  ![1, v1471.toNat, 0]
def k0_off15 (k0_t2 : Fin k0_t2_loop.trips) (c0_i32_537 : BitVec 32) : Fin 3 → Nat :=
  let c1_538 : Index := 1#32
  let c0_i32_51 : BitVec 32 := 0#32
  let c1_i32_53 : BitVec 32 := 1#32
  let arg24 : BitVec 32 := Scf.iv c0_i32_51 c1_i32_53 k0_t2
  let c160_i32 : BitVec 32 := 160#32
  let v718 : BitVec 32 := Scalar.muli arg24 c160_i32
  let v719 : BitVec 32 := v718
  let c8_i32_535 : BitVec 32 := 8#32
  let v1516 : BitVec 32 := Scalar.addi v719 c8_i32_535
  let c4_i32_536 : BitVec 32 := 4#32
  let v1517 : BitVec 32 := Scalar.addi v1516 c4_i32_536
  let v1518 : BitVec 32 := Scalar.addi v1517 c0_i32_537
  let v1519 : Index := Scalar.indexCast v1518
  let c0_539 : Index := 0#32
  ![1, v1519.toNat, 0]
def k0_off16 (k0_t2 : Fin k0_t2_loop.trips) (c0_i32_717 : BitVec 32) : Fin 3 → Nat :=
  let c2_718 : Index := 2#32
  let c0_i32_51 : BitVec 32 := 0#32
  let c1_i32_53 : BitVec 32 := 1#32
  let arg24 : BitVec 32 := Scf.iv c0_i32_51 c1_i32_53 k0_t2
  let c160_i32 : BitVec 32 := 160#32
  let v718 : BitVec 32 := Scalar.muli arg24 c160_i32
  let v719 : BitVec 32 := v718
  let c8_i32_715 : BitVec 32 := 8#32
  let v2186 : BitVec 32 := Scalar.addi v719 c8_i32_715
  let c4_i32_716 : BitVec 32 := 4#32
  let v2187 : BitVec 32 := Scalar.subi v2186 c4_i32_716
  let v2188 : BitVec 32 := Scalar.addi v2187 c0_i32_717
  let v2189 : Index := Scalar.indexCast v2188
  let c0_719 : Index := 0#32
  ![2, v2189.toNat, 0]
def k0_off17 (k0_t2 : Fin k0_t2_loop.trips) (c0_i32_757 : BitVec 32) : Fin 3 → Nat :=
  let c2_758 : Index := 2#32
  let c0_i32_51 : BitVec 32 := 0#32
  let c1_i32_53 : BitVec 32 := 1#32
  let arg24 : BitVec 32 := Scf.iv c0_i32_51 c1_i32_53 k0_t2
  let c160_i32 : BitVec 32 := 160#32
  let v718 : BitVec 32 := Scalar.muli arg24 c160_i32
  let v719 : BitVec 32 := v718
  let c8_i32_755 : BitVec 32 := 8#32
  let v2234 : BitVec 32 := Scalar.addi v719 c8_i32_755
  let c4_i32_756 : BitVec 32 := 4#32
  let v2235 : BitVec 32 := Scalar.addi v2234 c4_i32_756
  let v2236 : BitVec 32 := Scalar.addi v2235 c0_i32_757
  let v2237 : Index := Scalar.indexCast v2236
  let c0_759 : Index := 0#32
  ![2, v2237.toNat, 0]
def k0_off18 (k0_t2 : Fin k0_t2_loop.trips) (c0_i32_937 : BitVec 32) : Fin 3 → Nat :=
  let c3_938 : Index := 3#32
  let c0_i32_51 : BitVec 32 := 0#32
  let c1_i32_53 : BitVec 32 := 1#32
  let arg24 : BitVec 32 := Scf.iv c0_i32_51 c1_i32_53 k0_t2
  let c160_i32 : BitVec 32 := 160#32
  let v718 : BitVec 32 := Scalar.muli arg24 c160_i32
  let v719 : BitVec 32 := v718
  let c8_i32_935 : BitVec 32 := 8#32
  let v2904 : BitVec 32 := Scalar.addi v719 c8_i32_935
  let c4_i32_936 : BitVec 32 := 4#32
  let v2905 : BitVec 32 := Scalar.subi v2904 c4_i32_936
  let v2906 : BitVec 32 := Scalar.addi v2905 c0_i32_937
  let v2907 : Index := Scalar.indexCast v2906
  let c0_939 : Index := 0#32
  ![3, v2907.toNat, 0]
def k0_off19 (k0_t2 : Fin k0_t2_loop.trips) (c0_i32_977 : BitVec 32) : Fin 3 → Nat :=
  let c3_978 : Index := 3#32
  let c0_i32_51 : BitVec 32 := 0#32
  let c1_i32_53 : BitVec 32 := 1#32
  let arg24 : BitVec 32 := Scf.iv c0_i32_51 c1_i32_53 k0_t2
  let c160_i32 : BitVec 32 := 160#32
  let v718 : BitVec 32 := Scalar.muli arg24 c160_i32
  let v719 : BitVec 32 := v718
  let c8_i32_975 : BitVec 32 := 8#32
  let v2952 : BitVec 32 := Scalar.addi v719 c8_i32_975
  let c4_i32_976 : BitVec 32 := 4#32
  let v2953 : BitVec 32 := Scalar.addi v2952 c4_i32_976
  let v2954 : BitVec 32 := Scalar.addi v2953 c0_i32_977
  let v2955 : Index := Scalar.indexCast v2954
  let c0_979 : Index := 0#32
  ![3, v2955.toNat, 0]
def k0_off20 (k0_t2 : Fin k0_t2_loop.trips) (c0_i32_1157 : BitVec 32) : Fin 3 → Nat :=
  let c4_1158 : Index := 4#32
  let c0_i32_51 : BitVec 32 := 0#32
  let c1_i32_53 : BitVec 32 := 1#32
  let arg24 : BitVec 32 := Scf.iv c0_i32_51 c1_i32_53 k0_t2
  let c160_i32 : BitVec 32 := 160#32
  let v718 : BitVec 32 := Scalar.muli arg24 c160_i32
  let v719 : BitVec 32 := v718
  let c8_i32_1155 : BitVec 32 := 8#32
  let v3622 : BitVec 32 := Scalar.addi v719 c8_i32_1155
  let c4_i32_1156 : BitVec 32 := 4#32
  let v3623 : BitVec 32 := Scalar.subi v3622 c4_i32_1156
  let v3624 : BitVec 32 := Scalar.addi v3623 c0_i32_1157
  let v3625 : Index := Scalar.indexCast v3624
  let c0_1159 : Index := 0#32
  ![4, v3625.toNat, 0]
def k0_off21 (k0_t2 : Fin k0_t2_loop.trips) (c0_i32_1197 : BitVec 32) : Fin 3 → Nat :=
  let c4_1198 : Index := 4#32
  let c0_i32_51 : BitVec 32 := 0#32
  let c1_i32_53 : BitVec 32 := 1#32
  let arg24 : BitVec 32 := Scf.iv c0_i32_51 c1_i32_53 k0_t2
  let c160_i32 : BitVec 32 := 160#32
  let v718 : BitVec 32 := Scalar.muli arg24 c160_i32
  let v719 : BitVec 32 := v718
  let c8_i32_1195 : BitVec 32 := 8#32
  let v3670 : BitVec 32 := Scalar.addi v719 c8_i32_1195
  let c4_i32_1196 : BitVec 32 := 4#32
  let v3671 : BitVec 32 := Scalar.addi v3670 c4_i32_1196
  let v3672 : BitVec 32 := Scalar.addi v3671 c0_i32_1197
  let v3673 : Index := Scalar.indexCast v3672
  let c0_1199 : Index := 0#32
  ![4, v3673.toNat, 0]
def k0_off22 (k0_t2 : Fin k0_t2_loop.trips) (c0_i32_1377 : BitVec 32) : Fin 3 → Nat :=
  let c5_1378 : Index := 5#32
  let c0_i32_51 : BitVec 32 := 0#32
  let c1_i32_53 : BitVec 32 := 1#32
  let arg24 : BitVec 32 := Scf.iv c0_i32_51 c1_i32_53 k0_t2
  let c160_i32 : BitVec 32 := 160#32
  let v718 : BitVec 32 := Scalar.muli arg24 c160_i32
  let v719 : BitVec 32 := v718
  let c8_i32_1375 : BitVec 32 := 8#32
  let v4340 : BitVec 32 := Scalar.addi v719 c8_i32_1375
  let c4_i32_1376 : BitVec 32 := 4#32
  let v4341 : BitVec 32 := Scalar.subi v4340 c4_i32_1376
  let v4342 : BitVec 32 := Scalar.addi v4341 c0_i32_1377
  let v4343 : Index := Scalar.indexCast v4342
  let c0_1379 : Index := 0#32
  ![5, v4343.toNat, 0]
def k0_off23 (k0_t2 : Fin k0_t2_loop.trips) (c0_i32_1417 : BitVec 32) : Fin 3 → Nat :=
  let c5_1418 : Index := 5#32
  let c0_i32_51 : BitVec 32 := 0#32
  let c1_i32_53 : BitVec 32 := 1#32
  let arg24 : BitVec 32 := Scf.iv c0_i32_51 c1_i32_53 k0_t2
  let c160_i32 : BitVec 32 := 160#32
  let v718 : BitVec 32 := Scalar.muli arg24 c160_i32
  let v719 : BitVec 32 := v718
  let c8_i32_1415 : BitVec 32 := 8#32
  let v4388 : BitVec 32 := Scalar.addi v719 c8_i32_1415
  let c4_i32_1416 : BitVec 32 := 4#32
  let v4389 : BitVec 32 := Scalar.addi v4388 c4_i32_1416
  let v4390 : BitVec 32 := Scalar.addi v4389 c0_i32_1417
  let v4391 : Index := Scalar.indexCast v4390
  let c0_1419 : Index := 0#32
  ![5, v4391.toNat, 0]
def k0_off24 (k0_t2 : Fin k0_t2_loop.trips) (c0_i32_1597 : BitVec 32) : Fin 3 → Nat :=
  let c6_1598 : Index := 6#32
  let c0_i32_51 : BitVec 32 := 0#32
  let c1_i32_53 : BitVec 32 := 1#32
  let arg24 : BitVec 32 := Scf.iv c0_i32_51 c1_i32_53 k0_t2
  let c160_i32 : BitVec 32 := 160#32
  let v718 : BitVec 32 := Scalar.muli arg24 c160_i32
  let v719 : BitVec 32 := v718
  let c8_i32_1595 : BitVec 32 := 8#32
  let v5058 : BitVec 32 := Scalar.addi v719 c8_i32_1595
  let c4_i32_1596 : BitVec 32 := 4#32
  let v5059 : BitVec 32 := Scalar.subi v5058 c4_i32_1596
  let v5060 : BitVec 32 := Scalar.addi v5059 c0_i32_1597
  let v5061 : Index := Scalar.indexCast v5060
  let c0_1599 : Index := 0#32
  ![6, v5061.toNat, 0]
def k0_off25 (k0_t2 : Fin k0_t2_loop.trips) (c0_i32_1637 : BitVec 32) : Fin 3 → Nat :=
  let c6_1638 : Index := 6#32
  let c0_i32_51 : BitVec 32 := 0#32
  let c1_i32_53 : BitVec 32 := 1#32
  let arg24 : BitVec 32 := Scf.iv c0_i32_51 c1_i32_53 k0_t2
  let c160_i32 : BitVec 32 := 160#32
  let v718 : BitVec 32 := Scalar.muli arg24 c160_i32
  let v719 : BitVec 32 := v718
  let c8_i32_1635 : BitVec 32 := 8#32
  let v5106 : BitVec 32 := Scalar.addi v719 c8_i32_1635
  let c4_i32_1636 : BitVec 32 := 4#32
  let v5107 : BitVec 32 := Scalar.addi v5106 c4_i32_1636
  let v5108 : BitVec 32 := Scalar.addi v5107 c0_i32_1637
  let v5109 : Index := Scalar.indexCast v5108
  let c0_1639 : Index := 0#32
  ![6, v5109.toNat, 0]
def k0_off26 (k0_t2 : Fin k0_t2_loop.trips) (c0_i32_1817 : BitVec 32) : Fin 3 → Nat :=
  let c7_1818 : Index := 7#32
  let c0_i32_51 : BitVec 32 := 0#32
  let c1_i32_53 : BitVec 32 := 1#32
  let arg24 : BitVec 32 := Scf.iv c0_i32_51 c1_i32_53 k0_t2
  let c160_i32 : BitVec 32 := 160#32
  let v718 : BitVec 32 := Scalar.muli arg24 c160_i32
  let v719 : BitVec 32 := v718
  let c8_i32_1815 : BitVec 32 := 8#32
  let v5776 : BitVec 32 := Scalar.addi v719 c8_i32_1815
  let c4_i32_1816 : BitVec 32 := 4#32
  let v5777 : BitVec 32 := Scalar.subi v5776 c4_i32_1816
  let v5778 : BitVec 32 := Scalar.addi v5777 c0_i32_1817
  let v5779 : Index := Scalar.indexCast v5778
  let c0_1819 : Index := 0#32
  ![7, v5779.toNat, 0]
def k0_off27 (k0_t2 : Fin k0_t2_loop.trips) (c0_i32_1857 : BitVec 32) : Fin 3 → Nat :=
  let c7_1858 : Index := 7#32
  let c0_i32_51 : BitVec 32 := 0#32
  let c1_i32_53 : BitVec 32 := 1#32
  let arg24 : BitVec 32 := Scf.iv c0_i32_51 c1_i32_53 k0_t2
  let c160_i32 : BitVec 32 := 160#32
  let v718 : BitVec 32 := Scalar.muli arg24 c160_i32
  let v719 : BitVec 32 := v718
  let c8_i32_1855 : BitVec 32 := 8#32
  let v5824 : BitVec 32 := Scalar.addi v719 c8_i32_1855
  let c4_i32_1856 : BitVec 32 := 4#32
  let v5825 : BitVec 32 := Scalar.addi v5824 c4_i32_1856
  let v5826 : BitVec 32 := Scalar.addi v5825 c0_i32_1857
  let v5827 : Index := Scalar.indexCast v5826
  let c0_1859 : Index := 0#32
  ![7, v5827.toNat, 0]
def k0_mult8 (k0_t2 : Fin k0_t2_loop.trips) : BitVec 32 :=
  let c0_i32_51 : BitVec 32 := 0#32
  let c1_i32_53 : BitVec 32 := 1#32
  let arg24 : BitVec 32 := Scf.iv c0_i32_51 c1_i32_53 k0_t2
  let c160_i32 : BitVec 32 := 160#32
  let v718 : BitVec 32 := Scalar.muli arg24 c160_i32
  let v719 : BitVec 32 := v718
  let c0_i32_2015 : BitVec 32 := 0#32
  let v6464 : BitVec 32 := Scalar.addi v719 c0_i32_2015
  v6464
def k0_off28 (k0_t2 : Fin k0_t2_loop.trips) (c0_i32_2015 : BitVec 32) : Fin 3 → Nat :=
  let c0_2021 : Index := 0#32
  let c0_i32_51 : BitVec 32 := 0#32
  let c1_i32_53 : BitVec 32 := 1#32
  let arg24 : BitVec 32 := Scf.iv c0_i32_51 c1_i32_53 k0_t2
  let c160_i32 : BitVec 32 := 160#32
  let v718 : BitVec 32 := Scalar.muli arg24 c160_i32
  let v719 : BitVec 32 := v718
  let v6464 : BitVec 32 := Scalar.addi v719 c0_i32_2015
  let v6465 : BitVec 32 := v6464
  let v6474 : Index := Scalar.indexCast v6465
  let c0_2022 : Index := 0#32
  ![0, v6474.toNat, 0]
def k0_off29 (k0_t2 : Fin k0_t2_loop.trips) (c0_i32_2015 : BitVec 32) : Fin 3 → Nat :=
  let c0_2028 : Index := 0#32
  let c0_i32_51 : BitVec 32 := 0#32
  let c1_i32_53 : BitVec 32 := 1#32
  let arg24 : BitVec 32 := Scf.iv c0_i32_51 c1_i32_53 k0_t2
  let c160_i32 : BitVec 32 := 160#32
  let v718 : BitVec 32 := Scalar.muli arg24 c160_i32
  let v719 : BitVec 32 := v718
  let v6464 : BitVec 32 := Scalar.addi v719 c0_i32_2015
  let v6465 : BitVec 32 := v6464
  let v6487 : Index := Scalar.indexCast v6465
  let c128_2029 : Index := 128#32
  ![0, v6487.toNat, 128]
def k0_off30 (k0_t2 : Fin k0_t2_loop.trips) (c0_i32_2015 : BitVec 32) : Fin 3 → Nat :=
  let c0_2035 : Index := 0#32
  let c0_i32_51 : BitVec 32 := 0#32
  let c1_i32_53 : BitVec 32 := 1#32
  let arg24 : BitVec 32 := Scf.iv c0_i32_51 c1_i32_53 k0_t2
  let c160_i32 : BitVec 32 := 160#32
  let v718 : BitVec 32 := Scalar.muli arg24 c160_i32
  let v719 : BitVec 32 := v718
  let v6464 : BitVec 32 := Scalar.addi v719 c0_i32_2015
  let v6465 : BitVec 32 := v6464
  let v6500 : Index := Scalar.indexCast v6465
  let c256_2036 : Index := 256#32
  ![0, v6500.toNat, 256]
def k0_off31 (k0_t2 : Fin k0_t2_loop.trips) (c0_i32_2015 : BitVec 32) : Fin 3 → Nat :=
  let c0_2042 : Index := 0#32
  let c0_i32_51 : BitVec 32 := 0#32
  let c1_i32_53 : BitVec 32 := 1#32
  let arg24 : BitVec 32 := Scf.iv c0_i32_51 c1_i32_53 k0_t2
  let c160_i32 : BitVec 32 := 160#32
  let v718 : BitVec 32 := Scalar.muli arg24 c160_i32
  let v719 : BitVec 32 := v718
  let v6464 : BitVec 32 := Scalar.addi v719 c0_i32_2015
  let v6465 : BitVec 32 := v6464
  let v6513 : Index := Scalar.indexCast v6465
  let c384_2043 : Index := 384#32
  ![0, v6513.toNat, 384]
def k0_off32 (k0_t2 : Fin k0_t2_loop.trips) (c0_i32_2015 : BitVec 32) : Fin 3 → Nat :=
  let c0_2049 : Index := 0#32
  let c0_i32_51 : BitVec 32 := 0#32
  let c1_i32_53 : BitVec 32 := 1#32
  let arg24 : BitVec 32 := Scf.iv c0_i32_51 c1_i32_53 k0_t2
  let c160_i32 : BitVec 32 := 160#32
  let v718 : BitVec 32 := Scalar.muli arg24 c160_i32
  let v719 : BitVec 32 := v718
  let v6464 : BitVec 32 := Scalar.addi v719 c0_i32_2015
  let v6465 : BitVec 32 := v6464
  let v6526 : Index := Scalar.indexCast v6465
  let c512_2050 : Index := 512#32
  ![0, v6526.toNat, 512]
def k0_off33 (k0_t2 : Fin k0_t2_loop.trips) (c0_i32_2015 : BitVec 32) : Fin 3 → Nat :=
  let c0_2056 : Index := 0#32
  let c0_i32_51 : BitVec 32 := 0#32
  let c1_i32_53 : BitVec 32 := 1#32
  let arg24 : BitVec 32 := Scf.iv c0_i32_51 c1_i32_53 k0_t2
  let c160_i32 : BitVec 32 := 160#32
  let v718 : BitVec 32 := Scalar.muli arg24 c160_i32
  let v719 : BitVec 32 := v718
  let v6464 : BitVec 32 := Scalar.addi v719 c0_i32_2015
  let v6465 : BitVec 32 := v6464
  let v6539 : Index := Scalar.indexCast v6465
  let c640_2057 : Index := 640#32
  ![0, v6539.toNat, 640]
def k0_off34 (k0_t2 : Fin k0_t2_loop.trips) (c0_i32_2015 : BitVec 32) : Fin 3 → Nat :=
  let c0_2063 : Index := 0#32
  let c0_i32_51 : BitVec 32 := 0#32
  let c1_i32_53 : BitVec 32 := 1#32
  let arg24 : BitVec 32 := Scf.iv c0_i32_51 c1_i32_53 k0_t2
  let c160_i32 : BitVec 32 := 160#32
  let v718 : BitVec 32 := Scalar.muli arg24 c160_i32
  let v719 : BitVec 32 := v718
  let v6464 : BitVec 32 := Scalar.addi v719 c0_i32_2015
  let v6465 : BitVec 32 := v6464
  let v6552 : Index := Scalar.indexCast v6465
  let c768_2064 : Index := 768#32
  ![0, v6552.toNat, 768]
def k0_off35 (k0_t2 : Fin k0_t2_loop.trips) (c0_i32_2015 : BitVec 32) : Fin 3 → Nat :=
  let c0_2070 : Index := 0#32
  let c0_i32_51 : BitVec 32 := 0#32
  let c1_i32_53 : BitVec 32 := 1#32
  let arg24 : BitVec 32 := Scf.iv c0_i32_51 c1_i32_53 k0_t2
  let c160_i32 : BitVec 32 := 160#32
  let v718 : BitVec 32 := Scalar.muli arg24 c160_i32
  let v719 : BitVec 32 := v718
  let v6464 : BitVec 32 := Scalar.addi v719 c0_i32_2015
  let v6465 : BitVec 32 := v6464
  let v6565 : Index := Scalar.indexCast v6465
  let c896_2071 : Index := 896#32
  ![0, v6565.toNat, 896]
def k0_off36 (k0_t2 : Fin k0_t2_loop.trips) (c0_i32_2015 : BitVec 32) : Fin 3 → Nat :=
  let c1_2072 : Index := 1#32
  let c0_i32_51 : BitVec 32 := 0#32
  let c1_i32_53 : BitVec 32 := 1#32
  let arg24 : BitVec 32 := Scf.iv c0_i32_51 c1_i32_53 k0_t2
  let c160_i32 : BitVec 32 := 160#32
  let v718 : BitVec 32 := Scalar.muli arg24 c160_i32
  let v719 : BitVec 32 := v718
  let v6464 : BitVec 32 := Scalar.addi v719 c0_i32_2015
  let v6465 : BitVec 32 := v6464
  let v6569 : Index := Scalar.indexCast v6465
  let c0_2073 : Index := 0#32
  ![1, v6569.toNat, 0]
def k0_mult9 (k0_t2 : Fin k0_t2_loop.trips) : BitVec 32 :=
  let c0_i32_51 : BitVec 32 := 0#32
  let c1_i32_53 : BitVec 32 := 1#32
  let arg24 : BitVec 32 := Scf.iv c0_i32_51 c1_i32_53 k0_t2
  let c160_i32 : BitVec 32 := 160#32
  let v718 : BitVec 32 := Scalar.muli arg24 c160_i32
  let v719 : BitVec 32 := v718
  let c32_i32 : BitVec 32 := 32#32
  let v6573 : BitVec 32 := Scalar.addi v719 c32_i32
  v6573
def k0_mult10 (k0_t2 : Fin k0_t2_loop.trips) : BitVec 32 :=
  let c0_i32_51 : BitVec 32 := 0#32
  let c1_i32_53 : BitVec 32 := 1#32
  let arg24 : BitVec 32 := Scf.iv c0_i32_51 c1_i32_53 k0_t2
  let c160_i32 : BitVec 32 := 160#32
  let v718 : BitVec 32 := Scalar.muli arg24 c160_i32
  let v719 : BitVec 32 := v718
  let c64_i32 : BitVec 32 := 64#32
  let v6682 : BitVec 32 := Scalar.addi v719 c64_i32
  v6682
def k0_mult11 (k0_t2 : Fin k0_t2_loop.trips) : BitVec 32 :=
  let c0_i32_51 : BitVec 32 := 0#32
  let c1_i32_53 : BitVec 32 := 1#32
  let arg24 : BitVec 32 := Scf.iv c0_i32_51 c1_i32_53 k0_t2
  let c160_i32 : BitVec 32 := 160#32
  let v718 : BitVec 32 := Scalar.muli arg24 c160_i32
  let v719 : BitVec 32 := v718
  let c96_i32 : BitVec 32 := 96#32
  let v6791 : BitVec 32 := Scalar.addi v719 c96_i32
  v6791
def k0_mult12 (k0_t2 : Fin k0_t2_loop.trips) : BitVec 32 :=
  let c0_i32_51 : BitVec 32 := 0#32
  let c1_i32_53 : BitVec 32 := 1#32
  let arg24 : BitVec 32 := Scf.iv c0_i32_51 c1_i32_53 k0_t2
  let c160_i32 : BitVec 32 := 160#32
  let v718 : BitVec 32 := Scalar.muli arg24 c160_i32
  let v719 : BitVec 32 := v718
  let c128_i32 : BitVec 32 := 128#32
  let v6900 : BitVec 32 := Scalar.addi v719 c128_i32
  v6900
def k0_off37 (k0_t2 : Fin k0_t2_loop.trips) : Fin 3 → Nat :=
  let c0_2303 : Index := 0#32
  let c0_i32_51 : BitVec 32 := 0#32
  let c1_i32_53 : BitVec 32 := 1#32
  let arg24 : BitVec 32 := Scf.iv c0_i32_51 c1_i32_53 k0_t2
  let c160_i32 : BitVec 32 := 160#32
  let v718 : BitVec 32 := Scalar.muli arg24 c160_i32
  let v719 : BitVec 32 := v718
  let v7009 : Index := Scalar.indexCast v719
  let c0_2304 : Index := 0#32
  ![0, v7009.toNat, 0]
def k0_off38 (k0_t2 : Fin k0_t2_loop.trips) : Fin 3 → Nat :=
  let c0_2312 : Index := 0#32
  let c0_i32_51 : BitVec 32 := 0#32
  let c1_i32_53 : BitVec 32 := 1#32
  let arg24 : BitVec 32 := Scf.iv c0_i32_51 c1_i32_53 k0_t2
  let c160_i32 : BitVec 32 := 160#32
  let v718 : BitVec 32 := Scalar.muli arg24 c160_i32
  let v719 : BitVec 32 := v718
  let v7020 : Index := Scalar.indexCast v719
  let c0_2313 : Index := 0#32
  ![0, v7020.toNat, 0]
def k0_off39 (k0_t2 : Fin k0_t2_loop.trips) : Fin 3 → Nat :=
  let c0_2323 : Index := 0#32
  let c0_i32_51 : BitVec 32 := 0#32
  let c1_i32_53 : BitVec 32 := 1#32
  let arg24 : BitVec 32 := Scf.iv c0_i32_51 c1_i32_53 k0_t2
  let c160_i32 : BitVec 32 := 160#32
  let v718 : BitVec 32 := Scalar.muli arg24 c160_i32
  let v719 : BitVec 32 := v718
  let v7038 : Index := Scalar.indexCast v719
  let c256_2324 : Index := 256#32
  ![0, v7038.toNat, 256]
def k0_off40 (k0_t2 : Fin k0_t2_loop.trips) : Fin 3 → Nat :=
  let c0_2334 : Index := 0#32
  let c0_i32_51 : BitVec 32 := 0#32
  let c1_i32_53 : BitVec 32 := 1#32
  let arg24 : BitVec 32 := Scf.iv c0_i32_51 c1_i32_53 k0_t2
  let c160_i32 : BitVec 32 := 160#32
  let v718 : BitVec 32 := Scalar.muli arg24 c160_i32
  let v719 : BitVec 32 := v718
  let v7056 : Index := Scalar.indexCast v719
  let c512_2335 : Index := 512#32
  ![0, v7056.toNat, 512]
def k0_off41 (k0_t2 : Fin k0_t2_loop.trips) : Fin 3 → Nat :=
  let c0_2345 : Index := 0#32
  let c0_i32_51 : BitVec 32 := 0#32
  let c1_i32_53 : BitVec 32 := 1#32
  let arg24 : BitVec 32 := Scf.iv c0_i32_51 c1_i32_53 k0_t2
  let c160_i32 : BitVec 32 := 160#32
  let v718 : BitVec 32 := Scalar.muli arg24 c160_i32
  let v719 : BitVec 32 := v718
  let v7074 : Index := Scalar.indexCast v719
  let c768_2346 : Index := 768#32
  ![0, v7074.toNat, 768]
def k0_mult13 (i : grid0.Coords) : BitVec 32 :=
  let arg0 : BitVec 32 := BitVec.ofNat 32 (i 0).val
  let c0_i32_57 : BitVec 32 := 0#32
  let v96 : BitVec 1 := Scalar.cmpi .sgt arg0 c0_i32_57
  let v97 : BitVec 32 := Scalar.extui v96
  let c0_i32_58 : BitVec 32 := 0#32
  let v98 : BitVec 1 := Scalar.cmpi .slt arg0 c0_i32_58
  let v99 : BitVec 32 := Scalar.extui v98
  let v100 : BitVec 32 := Scalar.subi v97 v99
  let c8_i32 : BitVec 32 := 8#32
  let c0_i32_59 : BitVec 32 := 0#32
  let v101 : BitVec 1 := Scalar.cmpi .sgt c8_i32 c0_i32_59
  let v102 : BitVec 32 := Scalar.extui v101
  let c0_i32_60 : BitVec 32 := 0#32
  let v103 : BitVec 1 := Scalar.cmpi .slt c8_i32 c0_i32_60
  let v104 : BitVec 32 := Scalar.extui v103
  let v105 : BitVec 32 := Scalar.subi v102 v104
  let v106 : BitVec 1 := Scalar.cmpi .ne v100 v105
  let v107 : BitVec 32 := Scalar.remsi arg0 c8_i32
  let c0_i32_61 : BitVec 32 := 0#32
  let v108 : BitVec 1 := Scalar.cmpi .ne v107 c0_i32_61
  let v109 : BitVec 1 := Scalar.andi v106 v108
  let v95 : BitVec 32 := Scalar.divsi arg0 c8_i32
  let c1_i32_62 : BitVec 32 := 1#32
  let v110 : BitVec 32 := Scalar.subi v95 c1_i32_62
  let v111 : BitVec 32 := Scalar.select v109 v110 v95
  let c8_i32_63 : BitVec 32 := 8#32
  let v112 : BitVec 32 := Scalar.muli v111 c8_i32_63
  v112
def k0_off42 (i : grid0.Coords) : Fin 2 → Nat :=
  let arg0 : BitVec 32 := BitVec.ofNat 32 (i 0).val
  let c0_i32_57 : BitVec 32 := 0#32
  let v96 : BitVec 1 := Scalar.cmpi .sgt arg0 c0_i32_57
  let v97 : BitVec 32 := Scalar.extui v96
  let c0_i32_58 : BitVec 32 := 0#32
  let v98 : BitVec 1 := Scalar.cmpi .slt arg0 c0_i32_58
  let v99 : BitVec 32 := Scalar.extui v98
  let v100 : BitVec 32 := Scalar.subi v97 v99
  let c8_i32 : BitVec 32 := 8#32
  let c0_i32_59 : BitVec 32 := 0#32
  let v101 : BitVec 1 := Scalar.cmpi .sgt c8_i32 c0_i32_59
  let v102 : BitVec 32 := Scalar.extui v101
  let c0_i32_60 : BitVec 32 := 0#32
  let v103 : BitVec 1 := Scalar.cmpi .slt c8_i32 c0_i32_60
  let v104 : BitVec 32 := Scalar.extui v103
  let v105 : BitVec 32 := Scalar.subi v102 v104
  let v106 : BitVec 1 := Scalar.cmpi .ne v100 v105
  let v107 : BitVec 32 := Scalar.remsi arg0 c8_i32
  let c0_i32_61 : BitVec 32 := 0#32
  let v108 : BitVec 1 := Scalar.cmpi .ne v107 c0_i32_61
  let v109 : BitVec 1 := Scalar.andi v106 v108
  let v95 : BitVec 32 := Scalar.divsi arg0 c8_i32
  let c1_i32_62 : BitVec 32 := 1#32
  let v110 : BitVec 32 := Scalar.subi v95 c1_i32_62
  let v111 : BitVec 32 := Scalar.select v109 v110 v95
  let c8_i32_63 : BitVec 32 := 8#32
  let v112 : BitVec 32 := Scalar.muli v111 c8_i32_63
  let v113 : BitVec 32 := v112
  let v125 : Index := Scalar.indexCast v113
  let c0_68 : Index := 0#32
  ![v125.toNat, 0]
def k0_off43 (i : grid0.Coords) : Fin 2 → Nat :=
  let arg0 : BitVec 32 := BitVec.ofNat 32 (i 0).val
  let c0_i32_57 : BitVec 32 := 0#32
  let v96 : BitVec 1 := Scalar.cmpi .sgt arg0 c0_i32_57
  let v97 : BitVec 32 := Scalar.extui v96
  let c0_i32_58 : BitVec 32 := 0#32
  let v98 : BitVec 1 := Scalar.cmpi .slt arg0 c0_i32_58
  let v99 : BitVec 32 := Scalar.extui v98
  let v100 : BitVec 32 := Scalar.subi v97 v99
  let c8_i32 : BitVec 32 := 8#32
  let c0_i32_59 : BitVec 32 := 0#32
  let v101 : BitVec 1 := Scalar.cmpi .sgt c8_i32 c0_i32_59
  let v102 : BitVec 32 := Scalar.extui v101
  let c0_i32_60 : BitVec 32 := 0#32
  let v103 : BitVec 1 := Scalar.cmpi .slt c8_i32 c0_i32_60
  let v104 : BitVec 32 := Scalar.extui v103
  let v105 : BitVec 32 := Scalar.subi v102 v104
  let v106 : BitVec 1 := Scalar.cmpi .ne v100 v105
  let v107 : BitVec 32 := Scalar.remsi arg0 c8_i32
  let c0_i32_61 : BitVec 32 := 0#32
  let v108 : BitVec 1 := Scalar.cmpi .ne v107 c0_i32_61
  let v109 : BitVec 1 := Scalar.andi v106 v108
  let v95 : BitVec 32 := Scalar.divsi arg0 c8_i32
  let c1_i32_62 : BitVec 32 := 1#32
  let v110 : BitVec 32 := Scalar.subi v95 c1_i32_62
  let v111 : BitVec 32 := Scalar.select v109 v110 v95
  let c8_i32_63 : BitVec 32 := 8#32
  let v112 : BitVec 32 := Scalar.muli v111 c8_i32_63
  let v113 : BitVec 32 := v112
  let v155 : Index := Scalar.indexCast v113
  let c128_79 : Index := 128#32
  ![v155.toNat, 128]
def k0_off44 (i : grid0.Coords) : Fin 2 → Nat :=
  let arg0 : BitVec 32 := BitVec.ofNat 32 (i 0).val
  let c0_i32_57 : BitVec 32 := 0#32
  let v96 : BitVec 1 := Scalar.cmpi .sgt arg0 c0_i32_57
  let v97 : BitVec 32 := Scalar.extui v96
  let c0_i32_58 : BitVec 32 := 0#32
  let v98 : BitVec 1 := Scalar.cmpi .slt arg0 c0_i32_58
  let v99 : BitVec 32 := Scalar.extui v98
  let v100 : BitVec 32 := Scalar.subi v97 v99
  let c8_i32 : BitVec 32 := 8#32
  let c0_i32_59 : BitVec 32 := 0#32
  let v101 : BitVec 1 := Scalar.cmpi .sgt c8_i32 c0_i32_59
  let v102 : BitVec 32 := Scalar.extui v101
  let c0_i32_60 : BitVec 32 := 0#32
  let v103 : BitVec 1 := Scalar.cmpi .slt c8_i32 c0_i32_60
  let v104 : BitVec 32 := Scalar.extui v103
  let v105 : BitVec 32 := Scalar.subi v102 v104
  let v106 : BitVec 1 := Scalar.cmpi .ne v100 v105
  let v107 : BitVec 32 := Scalar.remsi arg0 c8_i32
  let c0_i32_61 : BitVec 32 := 0#32
  let v108 : BitVec 1 := Scalar.cmpi .ne v107 c0_i32_61
  let v109 : BitVec 1 := Scalar.andi v106 v108
  let v95 : BitVec 32 := Scalar.divsi arg0 c8_i32
  let c1_i32_62 : BitVec 32 := 1#32
  let v110 : BitVec 32 := Scalar.subi v95 c1_i32_62
  let v111 : BitVec 32 := Scalar.select v109 v110 v95
  let c8_i32_63 : BitVec 32 := 8#32
  let v112 : BitVec 32 := Scalar.muli v111 c8_i32_63
  let v113 : BitVec 32 := v112
  let v185 : Index := Scalar.indexCast v113
  let c256_90 : Index := 256#32
  ![v185.toNat, 256]
def k0_off45 (i : grid0.Coords) : Fin 2 → Nat :=
  let arg0 : BitVec 32 := BitVec.ofNat 32 (i 0).val
  let c0_i32_57 : BitVec 32 := 0#32
  let v96 : BitVec 1 := Scalar.cmpi .sgt arg0 c0_i32_57
  let v97 : BitVec 32 := Scalar.extui v96
  let c0_i32_58 : BitVec 32 := 0#32
  let v98 : BitVec 1 := Scalar.cmpi .slt arg0 c0_i32_58
  let v99 : BitVec 32 := Scalar.extui v98
  let v100 : BitVec 32 := Scalar.subi v97 v99
  let c8_i32 : BitVec 32 := 8#32
  let c0_i32_59 : BitVec 32 := 0#32
  let v101 : BitVec 1 := Scalar.cmpi .sgt c8_i32 c0_i32_59
  let v102 : BitVec 32 := Scalar.extui v101
  let c0_i32_60 : BitVec 32 := 0#32
  let v103 : BitVec 1 := Scalar.cmpi .slt c8_i32 c0_i32_60
  let v104 : BitVec 32 := Scalar.extui v103
  let v105 : BitVec 32 := Scalar.subi v102 v104
  let v106 : BitVec 1 := Scalar.cmpi .ne v100 v105
  let v107 : BitVec 32 := Scalar.remsi arg0 c8_i32
  let c0_i32_61 : BitVec 32 := 0#32
  let v108 : BitVec 1 := Scalar.cmpi .ne v107 c0_i32_61
  let v109 : BitVec 1 := Scalar.andi v106 v108
  let v95 : BitVec 32 := Scalar.divsi arg0 c8_i32
  let c1_i32_62 : BitVec 32 := 1#32
  let v110 : BitVec 32 := Scalar.subi v95 c1_i32_62
  let v111 : BitVec 32 := Scalar.select v109 v110 v95
  let c8_i32_63 : BitVec 32 := 8#32
  let v112 : BitVec 32 := Scalar.muli v111 c8_i32_63
  let v113 : BitVec 32 := v112
  let v215 : Index := Scalar.indexCast v113
  let c384_101 : Index := 384#32
  ![v215.toNat, 384]
def k0_off46 (i : grid0.Coords) : Fin 2 → Nat :=
  let arg0 : BitVec 32 := BitVec.ofNat 32 (i 0).val
  let c0_i32_57 : BitVec 32 := 0#32
  let v96 : BitVec 1 := Scalar.cmpi .sgt arg0 c0_i32_57
  let v97 : BitVec 32 := Scalar.extui v96
  let c0_i32_58 : BitVec 32 := 0#32
  let v98 : BitVec 1 := Scalar.cmpi .slt arg0 c0_i32_58
  let v99 : BitVec 32 := Scalar.extui v98
  let v100 : BitVec 32 := Scalar.subi v97 v99
  let c8_i32 : BitVec 32 := 8#32
  let c0_i32_59 : BitVec 32 := 0#32
  let v101 : BitVec 1 := Scalar.cmpi .sgt c8_i32 c0_i32_59
  let v102 : BitVec 32 := Scalar.extui v101
  let c0_i32_60 : BitVec 32 := 0#32
  let v103 : BitVec 1 := Scalar.cmpi .slt c8_i32 c0_i32_60
  let v104 : BitVec 32 := Scalar.extui v103
  let v105 : BitVec 32 := Scalar.subi v102 v104
  let v106 : BitVec 1 := Scalar.cmpi .ne v100 v105
  let v107 : BitVec 32 := Scalar.remsi arg0 c8_i32
  let c0_i32_61 : BitVec 32 := 0#32
  let v108 : BitVec 1 := Scalar.cmpi .ne v107 c0_i32_61
  let v109 : BitVec 1 := Scalar.andi v106 v108
  let v95 : BitVec 32 := Scalar.divsi arg0 c8_i32
  let c1_i32_62 : BitVec 32 := 1#32
  let v110 : BitVec 32 := Scalar.subi v95 c1_i32_62
  let v111 : BitVec 32 := Scalar.select v109 v110 v95
  let c8_i32_63 : BitVec 32 := 8#32
  let v112 : BitVec 32 := Scalar.muli v111 c8_i32_63
  let v113 : BitVec 32 := v112
  let v245 : Index := Scalar.indexCast v113
  let c512_112 : Index := 512#32
  ![v245.toNat, 512]
def k0_off47 (i : grid0.Coords) : Fin 2 → Nat :=
  let arg0 : BitVec 32 := BitVec.ofNat 32 (i 0).val
  let c0_i32_57 : BitVec 32 := 0#32
  let v96 : BitVec 1 := Scalar.cmpi .sgt arg0 c0_i32_57
  let v97 : BitVec 32 := Scalar.extui v96
  let c0_i32_58 : BitVec 32 := 0#32
  let v98 : BitVec 1 := Scalar.cmpi .slt arg0 c0_i32_58
  let v99 : BitVec 32 := Scalar.extui v98
  let v100 : BitVec 32 := Scalar.subi v97 v99
  let c8_i32 : BitVec 32 := 8#32
  let c0_i32_59 : BitVec 32 := 0#32
  let v101 : BitVec 1 := Scalar.cmpi .sgt c8_i32 c0_i32_59
  let v102 : BitVec 32 := Scalar.extui v101
  let c0_i32_60 : BitVec 32 := 0#32
  let v103 : BitVec 1 := Scalar.cmpi .slt c8_i32 c0_i32_60
  let v104 : BitVec 32 := Scalar.extui v103
  let v105 : BitVec 32 := Scalar.subi v102 v104
  let v106 : BitVec 1 := Scalar.cmpi .ne v100 v105
  let v107 : BitVec 32 := Scalar.remsi arg0 c8_i32
  let c0_i32_61 : BitVec 32 := 0#32
  let v108 : BitVec 1 := Scalar.cmpi .ne v107 c0_i32_61
  let v109 : BitVec 1 := Scalar.andi v106 v108
  let v95 : BitVec 32 := Scalar.divsi arg0 c8_i32
  let c1_i32_62 : BitVec 32 := 1#32
  let v110 : BitVec 32 := Scalar.subi v95 c1_i32_62
  let v111 : BitVec 32 := Scalar.select v109 v110 v95
  let c8_i32_63 : BitVec 32 := 8#32
  let v112 : BitVec 32 := Scalar.muli v111 c8_i32_63
  let v113 : BitVec 32 := v112
  let v275 : Index := Scalar.indexCast v113
  let c640_123 : Index := 640#32
  ![v275.toNat, 640]
def k0_off48 (i : grid0.Coords) : Fin 2 → Nat :=
  let arg0 : BitVec 32 := BitVec.ofNat 32 (i 0).val
  let c0_i32_57 : BitVec 32 := 0#32
  let v96 : BitVec 1 := Scalar.cmpi .sgt arg0 c0_i32_57
  let v97 : BitVec 32 := Scalar.extui v96
  let c0_i32_58 : BitVec 32 := 0#32
  let v98 : BitVec 1 := Scalar.cmpi .slt arg0 c0_i32_58
  let v99 : BitVec 32 := Scalar.extui v98
  let v100 : BitVec 32 := Scalar.subi v97 v99
  let c8_i32 : BitVec 32 := 8#32
  let c0_i32_59 : BitVec 32 := 0#32
  let v101 : BitVec 1 := Scalar.cmpi .sgt c8_i32 c0_i32_59
  let v102 : BitVec 32 := Scalar.extui v101
  let c0_i32_60 : BitVec 32 := 0#32
  let v103 : BitVec 1 := Scalar.cmpi .slt c8_i32 c0_i32_60
  let v104 : BitVec 32 := Scalar.extui v103
  let v105 : BitVec 32 := Scalar.subi v102 v104
  let v106 : BitVec 1 := Scalar.cmpi .ne v100 v105
  let v107 : BitVec 32 := Scalar.remsi arg0 c8_i32
  let c0_i32_61 : BitVec 32 := 0#32
  let v108 : BitVec 1 := Scalar.cmpi .ne v107 c0_i32_61
  let v109 : BitVec 1 := Scalar.andi v106 v108
  let v95 : BitVec 32 := Scalar.divsi arg0 c8_i32
  let c1_i32_62 : BitVec 32 := 1#32
  let v110 : BitVec 32 := Scalar.subi v95 c1_i32_62
  let v111 : BitVec 32 := Scalar.select v109 v110 v95
  let c8_i32_63 : BitVec 32 := 8#32
  let v112 : BitVec 32 := Scalar.muli v111 c8_i32_63
  let v113 : BitVec 32 := v112
  let v305 : Index := Scalar.indexCast v113
  let c768_134 : Index := 768#32
  ![v305.toNat, 768]
def k0_off49 (i : grid0.Coords) : Fin 2 → Nat :=
  let arg0 : BitVec 32 := BitVec.ofNat 32 (i 0).val
  let c0_i32_57 : BitVec 32 := 0#32
  let v96 : BitVec 1 := Scalar.cmpi .sgt arg0 c0_i32_57
  let v97 : BitVec 32 := Scalar.extui v96
  let c0_i32_58 : BitVec 32 := 0#32
  let v98 : BitVec 1 := Scalar.cmpi .slt arg0 c0_i32_58
  let v99 : BitVec 32 := Scalar.extui v98
  let v100 : BitVec 32 := Scalar.subi v97 v99
  let c8_i32 : BitVec 32 := 8#32
  let c0_i32_59 : BitVec 32 := 0#32
  let v101 : BitVec 1 := Scalar.cmpi .sgt c8_i32 c0_i32_59
  let v102 : BitVec 32 := Scalar.extui v101
  let c0_i32_60 : BitVec 32 := 0#32
  let v103 : BitVec 1 := Scalar.cmpi .slt c8_i32 c0_i32_60
  let v104 : BitVec 32 := Scalar.extui v103
  let v105 : BitVec 32 := Scalar.subi v102 v104
  let v106 : BitVec 1 := Scalar.cmpi .ne v100 v105
  let v107 : BitVec 32 := Scalar.remsi arg0 c8_i32
  let c0_i32_61 : BitVec 32 := 0#32
  let v108 : BitVec 1 := Scalar.cmpi .ne v107 c0_i32_61
  let v109 : BitVec 1 := Scalar.andi v106 v108
  let v95 : BitVec 32 := Scalar.divsi arg0 c8_i32
  let c1_i32_62 : BitVec 32 := 1#32
  let v110 : BitVec 32 := Scalar.subi v95 c1_i32_62
  let v111 : BitVec 32 := Scalar.select v109 v110 v95
  let c8_i32_63 : BitVec 32 := 8#32
  let v112 : BitVec 32 := Scalar.muli v111 c8_i32_63
  let v113 : BitVec 32 := v112
  let v335 : Index := Scalar.indexCast v113
  let c896_145 : Index := 896#32
  ![v335.toNat, 896]
def k0_off50 (i : grid0.Coords) : Fin 2 → Nat :=
  let arg0 : BitVec 32 := BitVec.ofNat 32 (i 0).val
  let c0_i32_57 : BitVec 32 := 0#32
  let v96 : BitVec 1 := Scalar.cmpi .sgt arg0 c0_i32_57
  let v97 : BitVec 32 := Scalar.extui v96
  let c0_i32_58 : BitVec 32 := 0#32
  let v98 : BitVec 1 := Scalar.cmpi .slt arg0 c0_i32_58
  let v99 : BitVec 32 := Scalar.extui v98
  let v100 : BitVec 32 := Scalar.subi v97 v99
  let c8_i32 : BitVec 32 := 8#32
  let c0_i32_59 : BitVec 32 := 0#32
  let v101 : BitVec 1 := Scalar.cmpi .sgt c8_i32 c0_i32_59
  let v102 : BitVec 32 := Scalar.extui v101
  let c0_i32_60 : BitVec 32 := 0#32
  let v103 : BitVec 1 := Scalar.cmpi .slt c8_i32 c0_i32_60
  let v104 : BitVec 32 := Scalar.extui v103
  let v105 : BitVec 32 := Scalar.subi v102 v104
  let v106 : BitVec 1 := Scalar.cmpi .ne v100 v105
  let v107 : BitVec 32 := Scalar.remsi arg0 c8_i32
  let c0_i32_61 : BitVec 32 := 0#32
  let v108 : BitVec 1 := Scalar.cmpi .ne v107 c0_i32_61
  let v109 : BitVec 1 := Scalar.andi v106 v108
  let v95 : BitVec 32 := Scalar.divsi arg0 c8_i32
  let c1_i32_62 : BitVec 32 := 1#32
  let v110 : BitVec 32 := Scalar.subi v95 c1_i32_62
  let v111 : BitVec 32 := Scalar.select v109 v110 v95
  let c8_i32_63 : BitVec 32 := 8#32
  let v112 : BitVec 32 := Scalar.muli v111 c8_i32_63
  let v113 : BitVec 32 := v112
  let v365 : Index := Scalar.indexCast v113
  let c1024_157 : Index := 1024#32
  ![v365.toNat, 1024]
def k0_off51 (i : grid0.Coords) : Fin 2 → Nat :=
  let arg0 : BitVec 32 := BitVec.ofNat 32 (i 0).val
  let c0_i32_57 : BitVec 32 := 0#32
  let v96 : BitVec 1 := Scalar.cmpi .sgt arg0 c0_i32_57
  let v97 : BitVec 32 := Scalar.extui v96
  let c0_i32_58 : BitVec 32 := 0#32
  let v98 : BitVec 1 := Scalar.cmpi .slt arg0 c0_i32_58
  let v99 : BitVec 32 := Scalar.extui v98
  let v100 : BitVec 32 := Scalar.subi v97 v99
  let c8_i32 : BitVec 32 := 8#32
  let c0_i32_59 : BitVec 32 := 0#32
  let v101 : BitVec 1 := Scalar.cmpi .sgt c8_i32 c0_i32_59
  let v102 : BitVec 32 := Scalar.extui v101
  let c0_i32_60 : BitVec 32 := 0#32
  let v103 : BitVec 1 := Scalar.cmpi .slt c8_i32 c0_i32_60
  let v104 : BitVec 32 := Scalar.extui v103
  let v105 : BitVec 32 := Scalar.subi v102 v104
  let v106 : BitVec 1 := Scalar.cmpi .ne v100 v105
  let v107 : BitVec 32 := Scalar.remsi arg0 c8_i32
  let c0_i32_61 : BitVec 32 := 0#32
  let v108 : BitVec 1 := Scalar.cmpi .ne v107 c0_i32_61
  let v109 : BitVec 1 := Scalar.andi v106 v108
  let v95 : BitVec 32 := Scalar.divsi arg0 c8_i32
  let c1_i32_62 : BitVec 32 := 1#32
  let v110 : BitVec 32 := Scalar.subi v95 c1_i32_62
  let v111 : BitVec 32 := Scalar.select v109 v110 v95
  let c8_i32_63 : BitVec 32 := 8#32
  let v112 : BitVec 32 := Scalar.muli v111 c8_i32_63
  let v113 : BitVec 32 := v112
  let v395 : Index := Scalar.indexCast v113
  let c1152_168 : Index := 1152#32
  ![v395.toNat, 1152]
def k0_off52 (i : grid0.Coords) : Fin 2 → Nat :=
  let arg0 : BitVec 32 := BitVec.ofNat 32 (i 0).val
  let c0_i32_57 : BitVec 32 := 0#32
  let v96 : BitVec 1 := Scalar.cmpi .sgt arg0 c0_i32_57
  let v97 : BitVec 32 := Scalar.extui v96
  let c0_i32_58 : BitVec 32 := 0#32
  let v98 : BitVec 1 := Scalar.cmpi .slt arg0 c0_i32_58
  let v99 : BitVec 32 := Scalar.extui v98
  let v100 : BitVec 32 := Scalar.subi v97 v99
  let c8_i32 : BitVec 32 := 8#32
  let c0_i32_59 : BitVec 32 := 0#32
  let v101 : BitVec 1 := Scalar.cmpi .sgt c8_i32 c0_i32_59
  let v102 : BitVec 32 := Scalar.extui v101
  let c0_i32_60 : BitVec 32 := 0#32
  let v103 : BitVec 1 := Scalar.cmpi .slt c8_i32 c0_i32_60
  let v104 : BitVec 32 := Scalar.extui v103
  let v105 : BitVec 32 := Scalar.subi v102 v104
  let v106 : BitVec 1 := Scalar.cmpi .ne v100 v105
  let v107 : BitVec 32 := Scalar.remsi arg0 c8_i32
  let c0_i32_61 : BitVec 32 := 0#32
  let v108 : BitVec 1 := Scalar.cmpi .ne v107 c0_i32_61
  let v109 : BitVec 1 := Scalar.andi v106 v108
  let v95 : BitVec 32 := Scalar.divsi arg0 c8_i32
  let c1_i32_62 : BitVec 32 := 1#32
  let v110 : BitVec 32 := Scalar.subi v95 c1_i32_62
  let v111 : BitVec 32 := Scalar.select v109 v110 v95
  let c8_i32_63 : BitVec 32 := 8#32
  let v112 : BitVec 32 := Scalar.muli v111 c8_i32_63
  let v113 : BitVec 32 := v112
  let v425 : Index := Scalar.indexCast v113
  let c1280_179 : Index := 1280#32
  ![v425.toNat, 1280]
def k0_off53 (i : grid0.Coords) : Fin 2 → Nat :=
  let arg0 : BitVec 32 := BitVec.ofNat 32 (i 0).val
  let c0_i32_57 : BitVec 32 := 0#32
  let v96 : BitVec 1 := Scalar.cmpi .sgt arg0 c0_i32_57
  let v97 : BitVec 32 := Scalar.extui v96
  let c0_i32_58 : BitVec 32 := 0#32
  let v98 : BitVec 1 := Scalar.cmpi .slt arg0 c0_i32_58
  let v99 : BitVec 32 := Scalar.extui v98
  let v100 : BitVec 32 := Scalar.subi v97 v99
  let c8_i32 : BitVec 32 := 8#32
  let c0_i32_59 : BitVec 32 := 0#32
  let v101 : BitVec 1 := Scalar.cmpi .sgt c8_i32 c0_i32_59
  let v102 : BitVec 32 := Scalar.extui v101
  let c0_i32_60 : BitVec 32 := 0#32
  let v103 : BitVec 1 := Scalar.cmpi .slt c8_i32 c0_i32_60
  let v104 : BitVec 32 := Scalar.extui v103
  let v105 : BitVec 32 := Scalar.subi v102 v104
  let v106 : BitVec 1 := Scalar.cmpi .ne v100 v105
  let v107 : BitVec 32 := Scalar.remsi arg0 c8_i32
  let c0_i32_61 : BitVec 32 := 0#32
  let v108 : BitVec 1 := Scalar.cmpi .ne v107 c0_i32_61
  let v109 : BitVec 1 := Scalar.andi v106 v108
  let v95 : BitVec 32 := Scalar.divsi arg0 c8_i32
  let c1_i32_62 : BitVec 32 := 1#32
  let v110 : BitVec 32 := Scalar.subi v95 c1_i32_62
  let v111 : BitVec 32 := Scalar.select v109 v110 v95
  let c8_i32_63 : BitVec 32 := 8#32
  let v112 : BitVec 32 := Scalar.muli v111 c8_i32_63
  let v113 : BitVec 32 := v112
  let v455 : Index := Scalar.indexCast v113
  let c1408_190 : Index := 1408#32
  ![v455.toNat, 1408]
def k0_off54 (i : grid0.Coords) : Fin 2 → Nat :=
  let arg0 : BitVec 32 := BitVec.ofNat 32 (i 0).val
  let c0_i32_57 : BitVec 32 := 0#32
  let v96 : BitVec 1 := Scalar.cmpi .sgt arg0 c0_i32_57
  let v97 : BitVec 32 := Scalar.extui v96
  let c0_i32_58 : BitVec 32 := 0#32
  let v98 : BitVec 1 := Scalar.cmpi .slt arg0 c0_i32_58
  let v99 : BitVec 32 := Scalar.extui v98
  let v100 : BitVec 32 := Scalar.subi v97 v99
  let c8_i32 : BitVec 32 := 8#32
  let c0_i32_59 : BitVec 32 := 0#32
  let v101 : BitVec 1 := Scalar.cmpi .sgt c8_i32 c0_i32_59
  let v102 : BitVec 32 := Scalar.extui v101
  let c0_i32_60 : BitVec 32 := 0#32
  let v103 : BitVec 1 := Scalar.cmpi .slt c8_i32 c0_i32_60
  let v104 : BitVec 32 := Scalar.extui v103
  let v105 : BitVec 32 := Scalar.subi v102 v104
  let v106 : BitVec 1 := Scalar.cmpi .ne v100 v105
  let v107 : BitVec 32 := Scalar.remsi arg0 c8_i32
  let c0_i32_61 : BitVec 32 := 0#32
  let v108 : BitVec 1 := Scalar.cmpi .ne v107 c0_i32_61
  let v109 : BitVec 1 := Scalar.andi v106 v108
  let v95 : BitVec 32 := Scalar.divsi arg0 c8_i32
  let c1_i32_62 : BitVec 32 := 1#32
  let v110 : BitVec 32 := Scalar.subi v95 c1_i32_62
  let v111 : BitVec 32 := Scalar.select v109 v110 v95
  let c8_i32_63 : BitVec 32 := 8#32
  let v112 : BitVec 32 := Scalar.muli v111 c8_i32_63
  let v113 : BitVec 32 := v112
  let v485 : Index := Scalar.indexCast v113
  let c1536_201 : Index := 1536#32
  ![v485.toNat, 1536]
def k0_off55 (i : grid0.Coords) : Fin 2 → Nat :=
  let arg0 : BitVec 32 := BitVec.ofNat 32 (i 0).val
  let c0_i32_57 : BitVec 32 := 0#32
  let v96 : BitVec 1 := Scalar.cmpi .sgt arg0 c0_i32_57
  let v97 : BitVec 32 := Scalar.extui v96
  let c0_i32_58 : BitVec 32 := 0#32
  let v98 : BitVec 1 := Scalar.cmpi .slt arg0 c0_i32_58
  let v99 : BitVec 32 := Scalar.extui v98
  let v100 : BitVec 32 := Scalar.subi v97 v99
  let c8_i32 : BitVec 32 := 8#32
  let c0_i32_59 : BitVec 32 := 0#32
  let v101 : BitVec 1 := Scalar.cmpi .sgt c8_i32 c0_i32_59
  let v102 : BitVec 32 := Scalar.extui v101
  let c0_i32_60 : BitVec 32 := 0#32
  let v103 : BitVec 1 := Scalar.cmpi .slt c8_i32 c0_i32_60
  let v104 : BitVec 32 := Scalar.extui v103
  let v105 : BitVec 32 := Scalar.subi v102 v104
  let v106 : BitVec 1 := Scalar.cmpi .ne v100 v105
  let v107 : BitVec 32 := Scalar.remsi arg0 c8_i32
  let c0_i32_61 : BitVec 32 := 0#32
  let v108 : BitVec 1 := Scalar.cmpi .ne v107 c0_i32_61
  let v109 : BitVec 1 := Scalar.andi v106 v108
  let v95 : BitVec 32 := Scalar.divsi arg0 c8_i32
  let c1_i32_62 : BitVec 32 := 1#32
  let v110 : BitVec 32 := Scalar.subi v95 c1_i32_62
  let v111 : BitVec 32 := Scalar.select v109 v110 v95
  let c8_i32_63 : BitVec 32 := 8#32
  let v112 : BitVec 32 := Scalar.muli v111 c8_i32_63
  let v113 : BitVec 32 := v112
  let v515 : Index := Scalar.indexCast v113
  let c1664_212 : Index := 1664#32
  ![v515.toNat, 1664]
def k0_off56 (i : grid0.Coords) : Fin 2 → Nat :=
  let arg0 : BitVec 32 := BitVec.ofNat 32 (i 0).val
  let c0_i32_57 : BitVec 32 := 0#32
  let v96 : BitVec 1 := Scalar.cmpi .sgt arg0 c0_i32_57
  let v97 : BitVec 32 := Scalar.extui v96
  let c0_i32_58 : BitVec 32 := 0#32
  let v98 : BitVec 1 := Scalar.cmpi .slt arg0 c0_i32_58
  let v99 : BitVec 32 := Scalar.extui v98
  let v100 : BitVec 32 := Scalar.subi v97 v99
  let c8_i32 : BitVec 32 := 8#32
  let c0_i32_59 : BitVec 32 := 0#32
  let v101 : BitVec 1 := Scalar.cmpi .sgt c8_i32 c0_i32_59
  let v102 : BitVec 32 := Scalar.extui v101
  let c0_i32_60 : BitVec 32 := 0#32
  let v103 : BitVec 1 := Scalar.cmpi .slt c8_i32 c0_i32_60
  let v104 : BitVec 32 := Scalar.extui v103
  let v105 : BitVec 32 := Scalar.subi v102 v104
  let v106 : BitVec 1 := Scalar.cmpi .ne v100 v105
  let v107 : BitVec 32 := Scalar.remsi arg0 c8_i32
  let c0_i32_61 : BitVec 32 := 0#32
  let v108 : BitVec 1 := Scalar.cmpi .ne v107 c0_i32_61
  let v109 : BitVec 1 := Scalar.andi v106 v108
  let v95 : BitVec 32 := Scalar.divsi arg0 c8_i32
  let c1_i32_62 : BitVec 32 := 1#32
  let v110 : BitVec 32 := Scalar.subi v95 c1_i32_62
  let v111 : BitVec 32 := Scalar.select v109 v110 v95
  let c8_i32_63 : BitVec 32 := 8#32
  let v112 : BitVec 32 := Scalar.muli v111 c8_i32_63
  let v113 : BitVec 32 := v112
  let v545 : Index := Scalar.indexCast v113
  let c1792_223 : Index := 1792#32
  ![v545.toNat, 1792]
def k0_off57 (i : grid0.Coords) : Fin 2 → Nat :=
  let arg0 : BitVec 32 := BitVec.ofNat 32 (i 0).val
  let c0_i32_57 : BitVec 32 := 0#32
  let v96 : BitVec 1 := Scalar.cmpi .sgt arg0 c0_i32_57
  let v97 : BitVec 32 := Scalar.extui v96
  let c0_i32_58 : BitVec 32 := 0#32
  let v98 : BitVec 1 := Scalar.cmpi .slt arg0 c0_i32_58
  let v99 : BitVec 32 := Scalar.extui v98
  let v100 : BitVec 32 := Scalar.subi v97 v99
  let c8_i32 : BitVec 32 := 8#32
  let c0_i32_59 : BitVec 32 := 0#32
  let v101 : BitVec 1 := Scalar.cmpi .sgt c8_i32 c0_i32_59
  let v102 : BitVec 32 := Scalar.extui v101
  let c0_i32_60 : BitVec 32 := 0#32
  let v103 : BitVec 1 := Scalar.cmpi .slt c8_i32 c0_i32_60
  let v104 : BitVec 32 := Scalar.extui v103
  let v105 : BitVec 32 := Scalar.subi v102 v104
  let v106 : BitVec 1 := Scalar.cmpi .ne v100 v105
  let v107 : BitVec 32 := Scalar.remsi arg0 c8_i32
  let c0_i32_61 : BitVec 32 := 0#32
  let v108 : BitVec 1 := Scalar.cmpi .ne v107 c0_i32_61
  let v109 : BitVec 1 := Scalar.andi v106 v108
  let v95 : BitVec 32 := Scalar.divsi arg0 c8_i32
  let c1_i32_62 : BitVec 32 := 1#32
  let v110 : BitVec 32 := Scalar.subi v95 c1_i32_62
  let v111 : BitVec 32 := Scalar.select v109 v110 v95
  let c8_i32_63 : BitVec 32 := 8#32
  let v112 : BitVec 32 := Scalar.muli v111 c8_i32_63
  let v113 : BitVec 32 := v112
  let v575 : Index := Scalar.indexCast v113
  let c1920_234 : Index := 1920#32
  ![v575.toNat, 1920]
def k0_off58 (i : grid0.Coords) : Fin 2 → Nat :=
  let arg0 : BitVec 32 := BitVec.ofNat 32 (i 0).val
  let c0_i32_57 : BitVec 32 := 0#32
  let v96 : BitVec 1 := Scalar.cmpi .sgt arg0 c0_i32_57
  let v97 : BitVec 32 := Scalar.extui v96
  let c0_i32_58 : BitVec 32 := 0#32
  let v98 : BitVec 1 := Scalar.cmpi .slt arg0 c0_i32_58
  let v99 : BitVec 32 := Scalar.extui v98
  let v100 : BitVec 32 := Scalar.subi v97 v99
  let c8_i32 : BitVec 32 := 8#32
  let c0_i32_59 : BitVec 32 := 0#32
  let v101 : BitVec 1 := Scalar.cmpi .sgt c8_i32 c0_i32_59
  let v102 : BitVec 32 := Scalar.extui v101
  let c0_i32_60 : BitVec 32 := 0#32
  let v103 : BitVec 1 := Scalar.cmpi .slt c8_i32 c0_i32_60
  let v104 : BitVec 32 := Scalar.extui v103
  let v105 : BitVec 32 := Scalar.subi v102 v104
  let v106 : BitVec 1 := Scalar.cmpi .ne v100 v105
  let v107 : BitVec 32 := Scalar.remsi arg0 c8_i32
  let c0_i32_61 : BitVec 32 := 0#32
  let v108 : BitVec 1 := Scalar.cmpi .ne v107 c0_i32_61
  let v109 : BitVec 1 := Scalar.andi v106 v108
  let v95 : BitVec 32 := Scalar.divsi arg0 c8_i32
  let c1_i32_62 : BitVec 32 := 1#32
  let v110 : BitVec 32 := Scalar.subi v95 c1_i32_62
  let v111 : BitVec 32 := Scalar.select v109 v110 v95
  let c8_i32_63 : BitVec 32 := 8#32
  let v112 : BitVec 32 := Scalar.muli v111 c8_i32_63
  let v113 : BitVec 32 := v112
  let v605 : Index := Scalar.indexCast v113
  let c2048_245 : Index := 2048#32
  ![v605.toNat, 2048]
def k0_off59 (i : grid0.Coords) : Fin 2 → Nat :=
  let arg0 : BitVec 32 := BitVec.ofNat 32 (i 0).val
  let c0_i32_57 : BitVec 32 := 0#32
  let v96 : BitVec 1 := Scalar.cmpi .sgt arg0 c0_i32_57
  let v97 : BitVec 32 := Scalar.extui v96
  let c0_i32_58 : BitVec 32 := 0#32
  let v98 : BitVec 1 := Scalar.cmpi .slt arg0 c0_i32_58
  let v99 : BitVec 32 := Scalar.extui v98
  let v100 : BitVec 32 := Scalar.subi v97 v99
  let c8_i32 : BitVec 32 := 8#32
  let c0_i32_59 : BitVec 32 := 0#32
  let v101 : BitVec 1 := Scalar.cmpi .sgt c8_i32 c0_i32_59
  let v102 : BitVec 32 := Scalar.extui v101
  let c0_i32_60 : BitVec 32 := 0#32
  let v103 : BitVec 1 := Scalar.cmpi .slt c8_i32 c0_i32_60
  let v104 : BitVec 32 := Scalar.extui v103
  let v105 : BitVec 32 := Scalar.subi v102 v104
  let v106 : BitVec 1 := Scalar.cmpi .ne v100 v105
  let v107 : BitVec 32 := Scalar.remsi arg0 c8_i32
  let c0_i32_61 : BitVec 32 := 0#32
  let v108 : BitVec 1 := Scalar.cmpi .ne v107 c0_i32_61
  let v109 : BitVec 1 := Scalar.andi v106 v108
  let v95 : BitVec 32 := Scalar.divsi arg0 c8_i32
  let c1_i32_62 : BitVec 32 := 1#32
  let v110 : BitVec 32 := Scalar.subi v95 c1_i32_62
  let v111 : BitVec 32 := Scalar.select v109 v110 v95
  let c8_i32_63 : BitVec 32 := 8#32
  let v112 : BitVec 32 := Scalar.muli v111 c8_i32_63
  let v113 : BitVec 32 := v112
  let v635 : Index := Scalar.indexCast v113
  let c2176_256 : Index := 2176#32
  ![v635.toNat, 2176]
def k0_off60 (i : grid0.Coords) : Fin 2 → Nat :=
  let arg0 : BitVec 32 := BitVec.ofNat 32 (i 0).val
  let c0_i32_57 : BitVec 32 := 0#32
  let v96 : BitVec 1 := Scalar.cmpi .sgt arg0 c0_i32_57
  let v97 : BitVec 32 := Scalar.extui v96
  let c0_i32_58 : BitVec 32 := 0#32
  let v98 : BitVec 1 := Scalar.cmpi .slt arg0 c0_i32_58
  let v99 : BitVec 32 := Scalar.extui v98
  let v100 : BitVec 32 := Scalar.subi v97 v99
  let c8_i32 : BitVec 32 := 8#32
  let c0_i32_59 : BitVec 32 := 0#32
  let v101 : BitVec 1 := Scalar.cmpi .sgt c8_i32 c0_i32_59
  let v102 : BitVec 32 := Scalar.extui v101
  let c0_i32_60 : BitVec 32 := 0#32
  let v103 : BitVec 1 := Scalar.cmpi .slt c8_i32 c0_i32_60
  let v104 : BitVec 32 := Scalar.extui v103
  let v105 : BitVec 32 := Scalar.subi v102 v104
  let v106 : BitVec 1 := Scalar.cmpi .ne v100 v105
  let v107 : BitVec 32 := Scalar.remsi arg0 c8_i32
  let c0_i32_61 : BitVec 32 := 0#32
  let v108 : BitVec 1 := Scalar.cmpi .ne v107 c0_i32_61
  let v109 : BitVec 1 := Scalar.andi v106 v108
  let v95 : BitVec 32 := Scalar.divsi arg0 c8_i32
  let c1_i32_62 : BitVec 32 := 1#32
  let v110 : BitVec 32 := Scalar.subi v95 c1_i32_62
  let v111 : BitVec 32 := Scalar.select v109 v110 v95
  let c8_i32_63 : BitVec 32 := 8#32
  let v112 : BitVec 32 := Scalar.muli v111 c8_i32_63
  let v113 : BitVec 32 := v112
  let v665 : Index := Scalar.indexCast v113
  let c2304_267 : Index := 2304#32
  ![v665.toNat, 2304]
def k0_off61 (i : grid0.Coords) : Fin 2 → Nat :=
  let arg0 : BitVec 32 := BitVec.ofNat 32 (i 0).val
  let c0_i32_57 : BitVec 32 := 0#32
  let v96 : BitVec 1 := Scalar.cmpi .sgt arg0 c0_i32_57
  let v97 : BitVec 32 := Scalar.extui v96
  let c0_i32_58 : BitVec 32 := 0#32
  let v98 : BitVec 1 := Scalar.cmpi .slt arg0 c0_i32_58
  let v99 : BitVec 32 := Scalar.extui v98
  let v100 : BitVec 32 := Scalar.subi v97 v99
  let c8_i32 : BitVec 32 := 8#32
  let c0_i32_59 : BitVec 32 := 0#32
  let v101 : BitVec 1 := Scalar.cmpi .sgt c8_i32 c0_i32_59
  let v102 : BitVec 32 := Scalar.extui v101
  let c0_i32_60 : BitVec 32 := 0#32
  let v103 : BitVec 1 := Scalar.cmpi .slt c8_i32 c0_i32_60
  let v104 : BitVec 32 := Scalar.extui v103
  let v105 : BitVec 32 := Scalar.subi v102 v104
  let v106 : BitVec 1 := Scalar.cmpi .ne v100 v105
  let v107 : BitVec 32 := Scalar.remsi arg0 c8_i32
  let c0_i32_61 : BitVec 32 := 0#32
  let v108 : BitVec 1 := Scalar.cmpi .ne v107 c0_i32_61
  let v109 : BitVec 1 := Scalar.andi v106 v108
  let v95 : BitVec 32 := Scalar.divsi arg0 c8_i32
  let c1_i32_62 : BitVec 32 := 1#32
  let v110 : BitVec 32 := Scalar.subi v95 c1_i32_62
  let v111 : BitVec 32 := Scalar.select v109 v110 v95
  let c8_i32_63 : BitVec 32 := 8#32
  let v112 : BitVec 32 := Scalar.muli v111 c8_i32_63
  let v113 : BitVec 32 := v112
  let v695 : Index := Scalar.indexCast v113
  let c2432_278 : Index := 2432#32
  ![v695.toNat, 2432]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2560x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S9x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .smem S1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .smem S1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S1x2560x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x2560x1024 .fp8e4m3 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S24x2560 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S1x2560x1024 .fp8e4m3 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S24x2560 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== ReferenceIdeal.lean ====
abbrev S24x2560x1024 : Shape := ⟨3, ![24, 2560, 1024]⟩
abbrev S1024 : Shape := ⟨1, ![1024]⟩
abbrev S1024x2048 : Shape := ⟨2, ![1024, 2048]⟩
abbrev S2048 : Shape := ⟨1, ![2048]⟩
abbrev S9x1024 : Shape := ⟨2, ![9, 1024]⟩
abbrev S1024x1024 : Shape := ⟨2, ![1024, 1024]⟩
abbrev S_ : Shape := ⟨0, ![]⟩
abbrev S1x1024 : Shape := ⟨2, ![1, 1024]⟩
abbrev S1x2048 : Shape := ⟨2, ![1, 2048]⟩
abbrev S1x1 : Shape := ⟨2, ![1, 1]⟩
abbrev S24x2560 : Shape := ⟨2, ![24, 2560]⟩
abbrev S24x2560x1 : Shape := ⟨3, ![24, 2560, 1]⟩
abbrev S1x1x1024 : Shape := ⟨3, ![1, 1, 1024]⟩
abbrev S1x1x1 : Shape := ⟨3, ![1, 1, 1]⟩
abbrev S61440x1024 : Shape := ⟨2, ![61440, 1024]⟩
abbrev S61440x2048 : Shape := ⟨2, ![61440, 2048]⟩
abbrev S24x2560x2048 : Shape := ⟨3, ![24, 2560, 2048]⟩
abbrev S1x1x2048 : Shape := ⟨3, ![1, 1, 2048]⟩
abbrev S24x4x1024 : Shape := ⟨3, ![24, 4, 1024]⟩
abbrev S24x2568x1024 : Shape := ⟨3, ![24, 2568, 1024]⟩

abbrev nBuf : Space → Nat
  | .hbm => 30
  | .vmem => 19
  | .smem => 0
  | _ => 0

abbrev bufTy : (tb : Table) → Fin (tcTables nBuf tb) → BufTy
  | .hbm, ⟨0, _⟩ => ⟨S24x2560x1024, .bf16⟩
  | .hbm, ⟨1, _⟩ => ⟨S1024, .f32⟩
  | .hbm, ⟨2, _⟩ => ⟨S1024, .f32⟩
  | .hbm, ⟨3, _⟩ => ⟨S1024x2048, .f32⟩
  | .hbm, ⟨4, _⟩ => ⟨S2048, .f32⟩
  | .hbm, ⟨5, _⟩ => ⟨S2048, .f32⟩
  | .hbm, ⟨6, _⟩ => ⟨S9x1024, .f32⟩
  | .hbm, ⟨7, _⟩ => ⟨S1024, .f32⟩
  | .hbm, ⟨8, _⟩ => ⟨S1024, .f32⟩
  | .hbm, ⟨9, _⟩ => ⟨S1024x1024, .fp8e4m3⟩
  | .hbm, ⟨10, _⟩ => ⟨S1024, .f32⟩
  | .hbm, ⟨11, _⟩ => ⟨S1024, .f32⟩
  | .hbm, ⟨12, _⟩ => ⟨S_, .f32⟩
  | .hbm, ⟨13, _⟩ => ⟨S_, .f32⟩
  | .hbm, ⟨14, _⟩ => ⟨S1x1024, .f32⟩
  | .hbm, ⟨15, _⟩ => ⟨S1x1024, .f32⟩
  | .hbm, ⟨16, _⟩ => ⟨S1024x2048, .fp8e4m3⟩
  | .hbm, ⟨17, _⟩ => ⟨S1x2048, .f32⟩
  | .hbm, ⟨18, _⟩ => ⟨S1x2048, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1, .f32⟩
  | .hbm, ⟨24, _⟩ => ⟨S1x1, .f32⟩
  | .hbm, ⟨25, _⟩ => ⟨S24x2560x1024, .bf16⟩
  | .hbm, ⟨26, _⟩ => ⟨S24x2560x1024, .fp8e4m3⟩
  | .hbm, ⟨27, _⟩ => ⟨S24x2560, .f32⟩
  | .hbm, ⟨28, _⟩ => ⟨S24x2560x1024, .fp8e4m3⟩
  | .hbm, ⟨29, _⟩ => ⟨S24x2560, .f32⟩
  | .local _ .vmem, ⟨0, _⟩ => ⟨S24x2560x1024, .bf16⟩
  | .local _ .vmem, ⟨1, _⟩ => ⟨S1x1024, .f32⟩
  | .local _ .vmem, ⟨2, _⟩ => ⟨S1x1024, .f32⟩
  | .local _ .vmem, ⟨3, _⟩ => ⟨S1024x2048, .fp8e4m3⟩
  | .local _ .vmem, ⟨4, _⟩ => ⟨S1x2048, .f32⟩
  | .local _ .vmem, ⟨5, _⟩ => ⟨S1x2048, .f32⟩
  | .local _ .vmem, ⟨6, _⟩ => ⟨S9x1024, .f32⟩
  | .local _ .vmem, ⟨7, _⟩ => ⟨S1x1024, .f32⟩
  | .local _ .vmem, ⟨8, _⟩ => ⟨S1x1024, .f32⟩
  | .local _ .vmem, ⟨9, _⟩ => ⟨S1024x1024, .fp8e4m3⟩
  | .local _ .vmem, ⟨10, _⟩ => ⟨S1x1024, .f32⟩
  | .local _ .vmem, ⟨11, _⟩ => ⟨S1x1024, .f32⟩
  | .local _ .vmem, ⟨12, _⟩ => ⟨S1x1, .f32⟩
  | .local _ .vmem, ⟨13, _⟩ => ⟨S1x1, .f32⟩
  | .local _ .vmem, ⟨14, _⟩ => ⟨S24x2560x1024, .bf16⟩
  | .local _ .vmem, ⟨15, _⟩ => ⟨S24x2560x1024, .fp8e4m3⟩
  | .local _ .vmem, ⟨16, _⟩ => ⟨S24x2560, .f32⟩
  | .local _ .vmem, ⟨17, _⟩ => ⟨S24x2560x1024, .fp8e4m3⟩
  | .local _ .vmem, ⟨18, _⟩ => ⟨S24x2560, .f32⟩
  | _, _ => ⟨S24x2560x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11_0 : Ref sig .tc := ⟨.hbm, 25, rfl⟩
abbrev main_v11_1 : Ref sig .tc := ⟨.hbm, 26, rfl⟩
abbrev main_v11_2 : Ref sig .tc := ⟨.hbm, 27, rfl⟩
abbrev main_v11_3 : Ref sig .tc := ⟨.hbm, 28, rfl⟩
abbrev main_v11_4 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := .none

abbrev stage0_0 : Fin 1 → Memref sig .tc .vmem S24x2560x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S9x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x1024 .fp8e4m3 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S24x2560x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S24x2560x1024 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S24x2560 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S24x2560x1024 .fp8e4m3 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S24x2560 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
-- ==== Proof.Kernel.Loop2.lean ====
module

public import proofs.«01_k».proof.Proof.Gen.Kernel.Loops
public import Idealize.ShloMosaic.Lib.Exec
public import Idealize.ShloMosaic.Lib.Tactic
public import Idealize.ShloMosaic.Lib.Pipeline.Kit

/-!
The second counted loop of the kernel body (the depthwise convolution, the second quantiser and the second product, 160
rows per trip): one trip run once at a symbolic trip number, the pieces all trips before a given one have stored, and the
loop's invariant.
-/

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What one trip of the second loop holds: the four memrefs it reads, at their contents, and the four it writes. -/
abbrev Trip2 (c : Dev nD) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole) (arg0 : BitVec 32) (v5 : F .f32) (v64 : FVec F S1x1024 .f32) (X_arg1 : BufTy.Contents (Elt F) arg1.view.ty) (X_arg10 : BufTy.Contents (Elt F) arg10.view.ty) (X_arg20 : BufTy.Contents (Elt F) arg20.view.ty) (X_arg23 : BufTy.Contents (Elt F) arg23.view.ty) (f_arg15 : BufTy.Contents (Elt F) arg15.view.ty) (f_arg18 : BufTy.Contents (Elt F) arg18.view.ty) (f_arg21 : BufTy.Contents (Elt F) arg21.view.ty) (f_arg22 : BufTy.Contents (Elt F) arg22.view.ty) : sProp 𝕄G :=
  iprop((arg1.view.loc (c : Thread nD τ) ↦[arg1.view.set]{fullShare} X_arg1) ∗ (arg10.view.loc (c : Thread nD τ) ↦[arg10.view.set]{fullShare} X_arg10) ∗ (arg20.view.loc (c : Thread nD τ) ↦[arg20.view.set]{fullShare} X_arg20) ∗ (arg23.view.loc (c : Thread nD τ) ↦[arg23.view.set]{fullShare} X_arg23) ∗ (arg15.view.loc (c : Thread nD τ) ↦[arg15.view.set]{fullShare} f_arg15) ∗ (arg18.view.loc (c : Thread nD τ) ↦[arg18.view.set]{fullShare} f_arg18) ∗ (arg21.view.loc (c : Thread nD τ) ↦[arg21.view.set]{fullShare} f_arg21) ∗ (arg22.view.loc (c : Thread nD τ) ↦[arg22.view.set]{fullShare} f_arg22))

set_option sl_exec.stridedRows true in
/-- One trip of the second loop, at trip `k`: the pieces it stores into each memref it writes, with the proof that the
    trip's region leaves exactly these pieces written over what it found. -/
@[irreducible] def trip2 (𝒱 : Variants) (c : Dev nD) (bd : Option 𝒱.V) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole) (arg0 : BitVec 32) (v5 : F .f32) (v64 : FVec F S1x1024 .f32) (X_arg1 : BufTy.Contents (Elt F) arg1.view.ty) (X_arg10 : BufTy.Contents (Elt F) arg10.view.ty) (X_arg20 : BufTy.Contents (Elt F) arg20.view.ty) (X_arg23 : BufTy.Contents (Elt F) arg23.view.ty) (k : Fin k0_t2_loop.trips) :
    Σ' (L15 : List (View.Piece (Elt F) S1x2560x1024 .bf16)), Σ' (L18 : List (View.Piece (Elt F) S1x2560x1024 .fp8e4m3)), Σ' (L21 : List (View.Piece (Elt F) S8x160x128 .f32)), { L22 : List (View.Piece (Elt F) S2x2560x128 .f32) //
      ∀ (E : Set ℕ) (f_arg15 : BufTy.Contents (Elt F) arg15.view.ty) (f_arg18 : BufTy.Contents (Elt F) arg18.view.ty) (f_arg21 : BufTy.Contents (Elt F) arg21.view.ty) (f_arg22 : BufTy.Contents (Elt F) arg22.view.ty),
        Trip2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 f_arg15 f_arg18 f_arg21 f_arg22 ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 k PUnit.unit)
          (fun _ => Trip2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 (arg15.view.writes (Elt F) f_arg15 L15) (arg18.view.writes (Elt F) f_arg18 L18) (arg21.view.writes (Elt F) f_arg21 L21) (arg22.view.writes (Elt F) f_arg22 L22)) } := by
  have hk : k.val < 16 := Nat.lt_of_lt_of_le k.isLt k0_t2_abs.2.1
  refine ⟨?_, ?_, ?_, ?_, fun E f_arg15 f_arg18 f_arg21 f_arg22 => ?run⟩
  case run =>
    unfold k0_t2_body
    iintro ⟨HR1, HR10, HR20, HR23, HW15, HW18, HW21, HW22⟩
    sl_exec_parts
    sl_step
    sl_close

/-- The trip's piece lists alone. -/
abbrev tripL2 (𝒱 : Variants) (c : Dev nD) (bd : Option 𝒱.V) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole) (arg0 : BitVec 32) (v5 : F .f32) (v64 : FVec F S1x1024 .f32) (X_arg1 : BufTy.Contents (Elt F) arg1.view.ty) (X_arg10 : BufTy.Contents (Elt F) arg10.view.ty) (X_arg20 : BufTy.Contents (Elt F) arg20.view.ty) (X_arg23 : BufTy.Contents (Elt F) arg23.view.ty) (k : Fin k0_t2_loop.trips) : List (View.Piece (Elt F) S1x2560x1024 .bf16) × List (View.Piece (Elt F) S1x2560x1024 .fp8e4m3) × List (View.Piece (Elt F) S8x160x128 .f32) × List (View.Piece (Elt F) S2x2560x128 .f32) :=
  ((trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 k).1, (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 k).2.1, (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 k).2.2.1, (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 k).2.2.2.1)

/-- Trip `k`'s pieces in front of those of the trips before it; past the last trip nothing is added. -/
@[irreducible] def pb2Step (𝒱 : Variants) (c : Dev nD) (bd : Option 𝒱.V) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole) (arg0 : BitVec 32) (v5 : F .f32) (v64 : FVec F S1x1024 .f32) (X_arg1 : BufTy.Contents (Elt F) arg1.view.ty) (X_arg10 : BufTy.Contents (Elt F) arg10.view.ty) (X_arg20 : BufTy.Contents (Elt F) arg20.view.ty) (X_arg23 : BufTy.Contents (Elt F) arg23.view.ty) (k : ℕ) (prev : List (View.Piece (Elt F) S1x2560x1024 .bf16) × List (View.Piece (Elt F) S1x2560x1024 .fp8e4m3) × List (View.Piece (Elt F) S8x160x128 .f32) × List (View.Piece (Elt F) S2x2560x128 .f32)) : List (View.Piece (Elt F) S1x2560x1024 .bf16) × List (View.Piece (Elt F) S1x2560x1024 .fp8e4m3) × List (View.Piece (Elt F) S8x160x128 .f32) × List (View.Piece (Elt F) S2x2560x128 .f32) :=
  if h : k < k0_t2_loop.trips then
    ((tripL2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 ⟨k, h⟩).1 ++ prev.1, (tripL2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 ⟨k, h⟩).2.1 ++ prev.2.1, (tripL2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 ⟨k, h⟩).2.2.1 ++ prev.2.2.1, (tripL2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 ⟨k, h⟩).2.2.2 ++ prev.2.2.2)
  else prev

/-- The pieces of the trips before `k`, last first. -/
def pb2 (𝒱 : Variants) (c : Dev nD) (bd : Option 𝒱.V) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole) (arg0 : BitVec 32) (v5 : F .f32) (v64 : FVec F S1x1024 .f32) (X_arg1 : BufTy.Contents (Elt F) arg1.view.ty) (X_arg10 : BufTy.Contents (Elt F) arg10.view.ty) (X_arg20 : BufTy.Contents (Elt F) arg20.view.ty) (X_arg23 : BufTy.Contents (Elt F) arg23.view.ty) : ℕ → List (View.Piece (Elt F) S1x2560x1024 .bf16) × List (View.Piece (Elt F) S1x2560x1024 .fp8e4m3) × List (View.Piece (Elt F) S8x160x128 .f32) × List (View.Piece (Elt F) S2x2560x128 .f32)
  | 0 => ([], [], [], [])
  | k + 1 => pb2Step (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 k (pb2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 k)

/-- One trip more adds that trip's pieces in front. -/
theorem pb2_succ (𝒱 : Variants) (c : Dev nD) (bd : Option 𝒱.V) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole) (arg0 : BitVec 32) (v5 : F .f32) (v64 : FVec F S1x1024 .f32) (X_arg1 : BufTy.Contents (Elt F) arg1.view.ty) (X_arg10 : BufTy.Contents (Elt F) arg10.view.ty) (X_arg20 : BufTy.Contents (Elt F) arg20.view.ty) (X_arg23 : BufTy.Contents (Elt F) arg23.view.ty) (k : Fin k0_t2_loop.trips) :
    pb2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 (k.val + 1)
      = ((tripL2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 k).1 ++ (pb2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 k.val).1, (tripL2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 k).2.1 ++ (pb2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 k.val).2.1, (tripL2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 k).2.2.1 ++ (pb2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 k.val).2.2.1, (tripL2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 k).2.2.2 ++ (pb2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 k.val).2.2.2) := by
  rw [pb2.eq_2]; unfold pb2Step; exact dif_pos k.isLt

/-- The invariant of the second loop before trip `k`: what it reads at `X_·`, what it writes holding the pieces of the trips
    before `k` over the contents `G_·` at loop entry. -/
abbrev inv2 (𝒱 : Variants) (c : Dev nD) (bd : Option 𝒱.V) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole) (arg0 : BitVec 32) (v5 : F .f32) (v64 : FVec F S1x1024 .f32) (X_arg1 : BufTy.Contents (Elt F) arg1.view.ty) (X_arg10 : BufTy.Contents (Elt F) arg10.view.ty) (X_arg20 : BufTy.Contents (Elt F) arg20.view.ty) (X_arg23 : BufTy.Contents (Elt F) arg23.view.ty) (G_arg15 : BufTy.Contents (Elt F) arg15.view.ty) (G_arg18 : BufTy.Contents (Elt F) arg18.view.ty) (G_arg21 : BufTy.Contents (Elt F) arg21.view.ty) (G_arg22 : BufTy.Contents (Elt F) arg22.view.ty) (k : ℕ) (_u : PUnit) : sProp 𝕄G :=
  iprop((arg1.view.loc (c : Thread nD τ) ↦[arg1.view.set]{fullShare} X_arg1) ∗ (arg10.view.loc (c : Thread nD τ) ↦[arg10.view.set]{fullShare} X_arg10) ∗ (arg20.view.loc (c : Thread nD τ) ↦[arg20.view.set]{fullShare} X_arg20) ∗ (arg23.view.loc (c : Thread nD τ) ↦[arg23.view.set]{fullShare} X_arg23) ∗ (∃ f, (arg15.view.loc (c : Thread nD τ) ↦[arg15.view.set]{fullShare} f) ∗ ⌜f = arg15.view.writes (Elt F) G_arg15 (pb2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 k).1⌝) ∗ (∃ f, (arg18.view.loc (c : Thread nD τ) ↦[arg18.view.set]{fullShare} f) ∗ ⌜f = arg18.view.writes (Elt F) G_arg18 (pb2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 k).2.1⌝) ∗ (∃ f, (arg21.view.loc (c : Thread nD τ) ↦[arg21.view.set]{fullShare} f) ∗ ⌜f = arg21.view.writes (Elt F) G_arg21 (pb2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 k).2.2.1⌝) ∗ (∃ f, (arg22.view.loc (c : Thread nD τ) ↦[arg22.view.set]{fullShare} f) ∗ ⌜f = arg22.view.writes (Elt F) G_arg22 (pb2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 k).2.2.2⌝))

set_option warn.classDefReducibility false in
/-- The second loop by its invariant. -/
@[sl_loop] def loopInv2 (𝒱 : Variants) (c : Dev nD) (bd : Option 𝒱.V) (E : Set ℕ) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole) (arg0 : BitVec 32) (v5 : F .f32) (v64 : FVec F S1x1024 .f32) (X_arg1 : BufTy.Contents (Elt F) arg1.view.ty) (X_arg10 : BufTy.Contents (Elt F) arg10.view.ty) (X_arg20 : BufTy.Contents (Elt F) arg20.view.ty) (X_arg23 : BufTy.Contents (Elt F) arg23.view.ty) (G_arg15 : BufTy.Contents (Elt F) arg15.view.ty) (G_arg18 : BufTy.Contents (Elt F) arg18.view.ty) (G_arg21 : BufTy.Contents (Elt F) arg21.view.ty) (G_arg22 : BufTy.Contents (Elt F) arg22.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 where
  inv := inv2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 G_arg15 G_arg18 G_arg21 G_arg22
  step k acc := by
    iintro ⟨HR1, HR10, HR20, HR23, ⟨%f15, HW15, %h15⟩, ⟨%f18, HW18, %h18⟩, ⟨%f21, HW21, %h21⟩, ⟨%f22, HW22, %h22⟩⟩
    iapply (wp_wand_r Idealize.ShloMosaic.frame (wpE (defs₀ (F := F)) 𝒱 (c : Thread nD τ) bd) E)
    isplitl [HR1 HR10 HR20 HR23 HW15 HW18 HW21 HW22]
    · iapply ((trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 k).2.2.2.2 E f15 f18 f21 f22)
      isplitl [HR1]; · iexact HR1
      isplitl [HR10]; · iexact HR10
      isplitl [HR20]; · iexact HR20
      isplitl [HR23]; · iexact HR23
      isplitl [HW15]; · iexact HW15
      isplitl [HW18]; · iexact HW18
      isplitl [HW21]; · iexact HW21
      iexact HW22
    · iintro %_ ⟨HR1, HR10, HR20, HR23, HW15, HW18, HW21, HW22⟩
      isplitl [HR1]; · iexact HR1
      isplitl [HR10]; · iexact HR10
      isplitl [HR20]; · iexact HR20
      isplitl [HR23]; · iexact HR23
      rw [pb2_succ]
      isplitl [HW15]
      · iexists _; isplitl [HW15]; · iexact HW15
        ipureintro; rw [h15, ← View.writes_append]
      isplitl [HW18]
      · iexists _; isplitl [HW18]; · iexact HW18
        ipureintro; rw [h18, ← View.writes_append]
      isplitl [HW21]
      · iexists _; isplitl [HW21]; · iexact HW21
        ipureintro; rw [h21, ← View.writes_append]
      iexists _; isplitl [HW22]; · iexact HW22
      ipureintro; rw [h22, ← View.writes_append]

end Cert.Kernel.Body

end
-- ==== Proof.Kernel.Offsets.lean ====
module

public import proofs.«01_k».proof.Proof.Gen.Kernel.Frame
public import Idealize.ShloMosaic.Lib.Exec

/-! Where the row maxima are stored: the eight-row group of the grid point, 128 columns at a time, in closed form. -/

@[expose] public section

set_option maxRecDepth 16384

namespace Cert.Kernel.Body

open Cert.Kernel Cert.Kernel.Gen
open Idealize.ShloMosaic

/-- The condition of the body's branch: the grid coordinate is zero. -/
abbrev cond0_0 (i : grid0.Coords) : Prop := (Scalar.cmpi .ne (Scalar.extui (Scalar.cmpi .eq (BitVec.ofNat 32 (i 0).val) 0#32)) 0#32) = 1#1

theorem off42_eq : ∀ i : grid0.Coords, k0_off42 i = ![(i 0).val / 8 * 8, 0] := by decide +kernel
instance closedOff_off42 (i : grid0.Coords) : ClosedOff (k0_off42 i) := ⟨![(i 0).val / 8 * 8, 0], off42_eq i⟩
theorem off43_eq : ∀ i : grid0.Coords, k0_off43 i = ![(i 0).val / 8 * 8, 128] := by decide +kernel
instance closedOff_off43 (i : grid0.Coords) : ClosedOff (k0_off43 i) := ⟨![(i 0).val / 8 * 8, 128], off43_eq i⟩
theorem off44_eq : ∀ i : grid0.Coords, k0_off44 i = ![(i 0).val / 8 * 8, 256] := by decide +kernel
instance closedOff_off44 (i : grid0.Coords) : ClosedOff (k0_off44 i) := ⟨![(i 0).val / 8 * 8, 256], off44_eq i⟩
theorem off45_eq : ∀ i : grid0.Coords, k0_off45 i = ![(i 0).val / 8 * 8, 384] := by decide +kernel
instance closedOff_off45 (i : grid0.Coords) : ClosedOff (k0_off45 i) := ⟨![(i 0).val / 8 * 8, 384], off45_eq i⟩
theorem off46_eq : ∀ i : grid0.Coords, k0_off46 i = ![(i 0).val / 8 * 8, 512] := by decide +kernel
instance closedOff_off46 (i : grid0.Coords) : ClosedOff (k0_off46 i) := ⟨![(i 0).val / 8 * 8, 512], off46_eq i⟩
theorem off47_eq : ∀ i : grid0.Coords, k0_off47 i = ![(i 0).val / 8 * 8, 640] := by decide +kernel
instance closedOff_off47 (i : grid0.Coords) : ClosedOff (k0_off47 i) := ⟨![(i 0).val / 8 * 8, 640], off47_eq i⟩
theorem off48_eq : ∀ i : grid0.Coords, k0_off48 i = ![(i 0).val / 8 * 8, 768] := by decide +kernel
instance closedOff_off48 (i : grid0.Coords) : ClosedOff (k0_off48 i) := ⟨![(i 0).val / 8 * 8, 768], off48_eq i⟩
theorem off49_eq : ∀ i : grid0.Coords, k0_off49 i = ![(i 0).val / 8 * 8, 896] := by decide +kernel
instance closedOff_off49 (i : grid0.Coords) : ClosedOff (k0_off49 i) := ⟨![(i 0).val / 8 * 8, 896], off49_eq i⟩
theorem off50_eq : ∀ i : grid0.Coords, k0_off50 i = ![(i 0).val / 8 * 8, 1024] := by decide +kernel
instance closedOff_off50 (i : grid0.Coords) : ClosedOff (k0_off50 i) := ⟨![(i 0).val / 8 * 8, 1024], off50_eq i⟩
theorem off51_eq : ∀ i : grid0.Coords, k0_off51 i = ![(i 0).val / 8 * 8, 1152] := by decide +kernel
instance closedOff_off51 (i : grid0.Coords) : ClosedOff (k0_off51 i) := ⟨![(i 0).val / 8 * 8, 1152], off51_eq i⟩
theorem off52_eq : ∀ i : grid0.Coords, k0_off52 i = ![(i 0).val / 8 * 8, 1280] := by decide +kernel
instance closedOff_off52 (i : grid0.Coords) : ClosedOff (k0_off52 i) := ⟨![(i 0).val / 8 * 8, 1280], off52_eq i⟩
theorem off53_eq : ∀ i : grid0.Coords, k0_off53 i = ![(i 0).val / 8 * 8, 1408] := by decide +kernel
instance closedOff_off53 (i : grid0.Coords) : ClosedOff (k0_off53 i) := ⟨![(i 0).val / 8 * 8, 1408], off53_eq i⟩
theorem off54_eq : ∀ i : grid0.Coords, k0_off54 i = ![(i 0).val / 8 * 8, 1536] := by decide +kernel
instance closedOff_off54 (i : grid0.Coords) : ClosedOff (k0_off54 i) := ⟨![(i 0).val / 8 * 8, 1536], off54_eq i⟩
theorem off55_eq : ∀ i : grid0.Coords, k0_off55 i = ![(i 0).val / 8 * 8, 1664] := by decide +kernel
instance closedOff_off55 (i : grid0.Coords) : ClosedOff (k0_off55 i) := ⟨![(i 0).val / 8 * 8, 1664], off55_eq i⟩
theorem off56_eq : ∀ i : grid0.Coords, k0_off56 i = ![(i 0).val / 8 * 8, 1792] := by decide +kernel
instance closedOff_off56 (i : grid0.Coords) : ClosedOff (k0_off56 i) := ⟨![(i 0).val / 8 * 8, 1792], off56_eq i⟩
theorem off57_eq : ∀ i : grid0.Coords, k0_off57 i = ![(i 0).val / 8 * 8, 1920] := by decide +kernel
instance closedOff_off57 (i : grid0.Coords) : ClosedOff (k0_off57 i) := ⟨![(i 0).val / 8 * 8, 1920], off57_eq i⟩
theorem off58_eq : ∀ i : grid0.Coords, k0_off58 i = ![(i 0).val / 8 * 8, 2048] := by decide +kernel
instance closedOff_off58 (i : grid0.Coords) : ClosedOff (k0_off58 i) := ⟨![(i 0).val / 8 * 8, 2048], off58_eq i⟩
theorem off59_eq : ∀ i : grid0.Coords, k0_off59 i = ![(i 0).val / 8 * 8, 2176] := by decide +kernel
instance closedOff_off59 (i : grid0.Coords) : ClosedOff (k0_off59 i) := ⟨![(i 0).val / 8 * 8, 2176], off59_eq i⟩
theorem off60_eq : ∀ i : grid0.Coords, k0_off60 i = ![(i 0).val / 8 * 8, 2304] := by decide +kernel
instance closedOff_off60 (i : grid0.Coords) : ClosedOff (k0_off60 i) := ⟨![(i 0).val / 8 * 8, 2304], off60_eq i⟩
theorem off61_eq : ∀ i : grid0.Coords, k0_off61 i = ![(i 0).val / 8 * 8, 2432] := by decide +kernel
instance closedOff_off61 (i : grid0.Coords) : ClosedOff (k0_off61 i) := ⟨![(i 0).val / 8 * 8, 2432], off61_eq i⟩

end Cert.Kernel.Body
-- ==== Proof.Kernel.RunA.lean ====
module

public import proofs.«01_k».proof.Proof.Kernel.Loop2
public import proofs.«01_k».proof.Proof.Kernel.Offsets
public import proofs.«01_k».proof.Proof.Gen.Kernel.Frame
public import Idealize.ShloMosaic.Lib.Pipeline.FrameBody
public import Idealize.ShloMosaic.Lib.Ring
public import Idealize.ShloMosaic.Lib.WordCmp

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at the first grid point: the pieces its stores leave in each output's staging memref (last first), with the proof
    that on whole memrefs the body runs from its inputs at `x·` and everything else at anything to the inputs unchanged and the
    outputs with these pieces written. -/
def kernelRun0_A (c : Dev nD) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole) (hc0 : cond0_0 i)
    (x0 : Vec F S1x2560x1024 .bf16) (x1 : Vec F S1x1024 .f32) (x2 : Vec F S1x1024 .f32) (x3 : Vec F S1024x2048 .fp8e4m3) (x4 : Vec F S1x2048 .f32) (x5 : Vec F S1x2048 .f32) (x6 : Vec F S9x1024 .f32) (x7 : Vec F S1x1024 .f32) (x8 : Vec F S1x1024 .f32) (x9 : Vec F S1024x1024 .fp8e4m3) (x10 : Vec F S1x1024 .f32) (x11 : Vec F S1x1024 .f32) (x12 : Vec F S1 .f32) (x13 : Vec F S1 .f32) (f14 : BufTy.Contents (Elt F) arg15.view.ty) (f15 : BufTy.Contents (Elt F) arg16.view.ty) (f16 : BufTy.Contents (Elt F) arg17.view.ty) (f17 : BufTy.Contents (Elt F) arg18.view.ty) (f18 : BufTy.Contents (Elt F) arg19.view.ty) (fs0 : BufTy.Contents (Elt F) arg20.view.ty) (fs1 : BufTy.Contents (Elt F) arg21.view.ty) (fs2 : BufTy.Contents (Elt F) arg22.view.ty) (fs3 : BufTy.Contents (Elt F) arg23.view.ty) :
    Σ' (L14 : List (View.Piece (Elt F) S1x2560x1024 .bf16)), Σ' (L15 : List (View.Piece (Elt F) S1x2560x1024 .fp8e4m3)), Σ' (L16 : List (View.Piece (Elt F) S24x2560 .f32)), Σ' (L17 : List (View.Piece (Elt F) S1x2560x1024 .fp8e4m3)), { L18 : List (View.Piece (Elt F) S24x2560 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (arg15.view.loc (c : Thread nD τ) ↦[arg15.view.set]{fullShare} f14) ∗ (arg16.view.loc (c : Thread nD τ) ↦[arg16.view.set]{fullShare} f15) ∗ (arg17.view.loc (c : Thread nD τ) ↦[arg17.view.set]{fullShare} f16) ∗ (arg18.view.loc (c : Thread nD τ) ↦[arg18.view.set]{fullShare} f17) ∗ (arg19.view.loc (c : Thread nD τ) ↦[arg19.view.set]{fullShare} f18) ∗ (arg20.view.loc (c : Thread nD τ) ↦[arg20.view.set]{fullShare} fs0) ∗ (arg21.view.loc (c : Thread nD τ) ↦[arg21.view.set]{fullShare} fs1) ∗ (arg22.view.loc (c : Thread nD τ) ↦[arg22.view.set]{fullShare} fs2) ∗ (arg23.view.loc (c : Thread nD τ) ↦[arg23.view.set]{fullShare} fs3)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
          ⊢ wp frame (wpE (defs₀ (F := F)) Variants.none c none) E (cc0_conformer_conv_fp8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, fun E K => ?run⟩
  case run =>
    simp only [cc0_conformer_conv_fp8_eq_skeleton]; unfold cc0_conformer_conv_fp8_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, H14, H15, H16, H17, H18, HS0, HS1, HS2, HS3, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
    sl_exec_parts (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [H15]; · iexists _; iexact H15
    isplitl [H16]; · iexists _; iexact H16
    isplitl [H17]; · iexists _; iexact H17
    isplitl [H18]; · iexists _; iexact H18
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Body

end
-- ==== Proof.Kernel.RunB.lean ====
module

public import proofs.«01_k».proof.Proof.Kernel.Loop2
public import proofs.«01_k».proof.Proof.Kernel.Offsets
public import proofs.«01_k».proof.Proof.Gen.Kernel.Frame
public import Idealize.ShloMosaic.Lib.Pipeline.FrameBody
public import Idealize.ShloMosaic.Lib.Ring
public import Idealize.ShloMosaic.Lib.WordCmp

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a later grid point: as `kernelRun0_A`, the two row maxima's memrefs found at `xo16` and `xo18`. -/
def kernelRun0_B (c : Dev nD) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole) (hc0 : ¬cond0_0 i)
    (x0 : Vec F S1x2560x1024 .bf16) (x1 : Vec F S1x1024 .f32) (x2 : Vec F S1x1024 .f32) (x3 : Vec F S1024x2048 .fp8e4m3) (x4 : Vec F S1x2048 .f32) (x5 : Vec F S1x2048 .f32) (x6 : Vec F S9x1024 .f32) (x7 : Vec F S1x1024 .f32) (x8 : Vec F S1x1024 .f32) (x9 : Vec F S1024x1024 .fp8e4m3) (x10 : Vec F S1x1024 .f32) (x11 : Vec F S1x1024 .f32) (x12 : Vec F S1 .f32) (x13 : Vec F S1 .f32) (xo16 : Vec F S24x2560 .f32) (xo18 : Vec F S24x2560 .f32) (f14 : BufTy.Contents (Elt F) arg15.view.ty) (f15 : BufTy.Contents (Elt F) arg16.view.ty) (f17 : BufTy.Contents (Elt F) arg18.view.ty) (fs0 : BufTy.Contents (Elt F) arg20.view.ty) (fs1 : BufTy.Contents (Elt F) arg21.view.ty) (fs2 : BufTy.Contents (Elt F) arg22.view.ty) (fs3 : BufTy.Contents (Elt F) arg23.view.ty) :
    Σ' (L14 : List (View.Piece (Elt F) S1x2560x1024 .bf16)), Σ' (L15 : List (View.Piece (Elt F) S1x2560x1024 .fp8e4m3)), Σ' (L16 : List (View.Piece (Elt F) S24x2560 .f32)), Σ' (L17 : List (View.Piece (Elt F) S1x2560x1024 .fp8e4m3)), { L18 : List (View.Piece (Elt F) S24x2560 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (arg15.view.loc (c : Thread nD τ) ↦[arg15.view.set]{fullShare} f14) ∗ (arg16.view.loc (c : Thread nD τ) ↦[arg16.view.set]{fullShare} f15) ∗ owns (c : Thread nD τ) arg17 fullShare xo16 ∗ (arg18.view.loc (c : Thread nD τ) ↦[arg18.view.set]{fullShare} f17) ∗ owns (c : Thread nD τ) arg19 fullShare xo18 ∗ (arg20.view.loc (c : Thread nD τ) ↦[arg20.view.set]{fullShare} fs0) ∗ (arg21.view.loc (c : Thread nD τ) ↦[arg21.view.set]{fullShare} fs1) ∗ (arg22.view.loc (c : Thread nD τ) ↦[arg22.view.set]{fullShare} fs2) ∗ (arg23.view.loc (c : Thread nD τ) ↦[arg23.view.set]{fullShare} fs3)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (arg17.view.loc (c : Thread nD τ) ↦[arg17.view.set]{fullShare} arg17.view.writes (Elt F) (harg17.unread xo16) L16) ∗ (∃ f, arg18.view.loc (c : Thread nD τ) ↦[arg18.view.set]{fullShare} arg18.view.writes (Elt F) f L17) ∗ (arg19.view.loc (c : Thread nD τ) ↦[arg19.view.set]{fullShare} arg19.view.writes (Elt F) (harg19.unread xo18) L18) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
          ⊢ wp frame (wpE (defs₀ (F := F)) Variants.none c none) E (cc0_conformer_conv_fp8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, fun E K => ?run⟩
  case run =>
    simp only [cc0_conformer_conv_fp8_eq_skeleton]; unfold cc0_conformer_conv_fp8_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, H14, H15, ⟨%f16, %hf16, H16⟩, H17, ⟨%f18, %hf18, H18⟩, HS0, HS1, HS2, HS3, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg17.eq_unread hf16; obtain rfl := harg19.eq_unread hf18
    sl_exec_parts (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [H15]; · iexists _; iexact H15
    isplitl [H16]; · iexact H16
    isplitl [H17]; · iexists _; iexact H17
    isplitl [H18]; · iexact H18
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.Kernel.Body

end
-- ==== Proof.Kernel.Indep.lean ====
module

public import proofs.«01_k».proof.Proof.Kernel.RunA
public import proofs.«01_k».proof.Proof.Kernel.RunB

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Two contents of the table of parameters agree on the rows that the kernel writes before its loops: 0 to 8 and 16 to 24. -/
def Agree (m : Memref sig .tc .vmem S32x1024 .f32) (X X' : BufTy.Contents (Elt F) m.view.ty) : Prop :=
  ∀ y : S32x1024.Idx, ((y 0).val ≤ 8 ∨ 16 ≤ (y 0).val ∧ (y 0).val ≤ 24) → m.view.read (Elt F) X y = m.view.read (Elt F) X' y

/-- A load of one of those rows gives the same on both. -/
theorem Agree.row {m : Memref sig .tc .vmem S32x1024 .f32} {X X' : BufTy.Contents (Elt F) m.view.ty} (h : Agree m X X') (a : ℕ)
    (ha : a ≤ 8 ∨ 16 ≤ a ∧ a ≤ 24) (b : ℕ) (s : Fin 2 → ℕ) (hs : s 0 = 1) (inb : ∀ j : Fin 2, (![a, b] : Fin 2 → ℕ) j + s j ≤ S32x1024.size j) :
    View.readAt (Elt F) m.view (Rect.unit (s := S32x1024) ![a, b] s inb).toLoadRect X
      = View.readAt (Elt F) m.view (Rect.unit (s := S32x1024) ![a, b] s inb).toLoadRect X' := by
  funext x
  refine h _ ?_
  have hx : (x 0).val < 1 := lt_of_lt_of_eq (x 0).isLt hs
  have e : (((Rect.unit (s := S32x1024) ![a, b] s inb).toLoadRect.idx x) 0).val = a := by
    rw [LoadRect.idx_apply]
    show a + 1 * (x 0).val = a
    omega
  rw [e]; exact ha

set_option maxHeartbeats 2000000 in
/-- A trip of the first loop stores the same pieces on tables of parameters that agree, whatever it finds in what it writes. -/
theorem tripL1_congr (𝒱 : Variants) (c : Dev nD) (bd : Option 𝒱.V) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole) (arg0 : BitVec 32) (v5 : F .f32) (v64 : FVec F S1x1024 .f32) (X_arg1 : BufTy.Contents (Elt F) arg1.view.ty) (X_arg4 : BufTy.Contents (Elt F) arg4.view.ty)  {X X' : BufTy.Contents (Elt F) arg23.view.ty} (h : Agree arg23 X X') (k : Fin k0_t1_loop.trips) (f16 f16' : BufTy.Contents (Elt F) arg16.view.ty) (f20 f20' : BufTy.Contents (Elt F) arg20.view.ty) (f22 f22' : BufTy.Contents (Elt F) arg22.view.ty) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X_arg1 X_arg4 X k f16 f20 f22 = tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X_arg1 X_arg4 X' k f16' f20' f22' := by
  unfold tripL_k0_t1 trip_k0_t1
  simp only [Gen.trip_k0_t1.sl.HW_arg16_5, Gen.trip_k0_t1.sl.r, Gen.trip_k0_t1.sl.r_1, Gen.trip_k0_t1.sl.r_12, Gen.trip_k0_t1.sl.r_13, Gen.trip_k0_t1.sl.r_14, Gen.trip_k0_t1.sl.r_15, Gen.trip_k0_t1.sl.r_2, Gen.trip_k0_t1.sl.r_5, Gen.trip_k0_t1.sl.r_6, Gen.trip_k0_t1.sl.r_7, Gen.trip_k0_t1.sl.r_8, Gen.trip_k0_t1.sl.r_9, Gen.trip_k0_t1.sl.v1041, h.row 0 (by decide) _ S1x1024.size rfl, h.row 1 (by decide) _ S1x1024.size rfl, h.row 2 (by decide) _ S1x256.size rfl, h.row 3 (by decide) _ S1x256.size rfl, h.row 4 (by decide) _ S1x256.size rfl, h.row 5 (by decide) _ S1x256.size rfl, h.row 6 (by decide) _ S1x128.size rfl, h.row 7 (by decide) _ S1x256.size rfl, h.row 8 (by decide) _ S1x256.size rfl, h.row 16 (by decide) _ S1x128.size rfl, h.row 17 (by decide) _ S1x128.size rfl, h.row 18 (by decide) _ S1x128.size rfl, h.row 19 (by decide) _ S1x128.size rfl, h.row 20 (by decide) _ S1x128.size rfl, h.row 21 (by decide) _ S1x128.size rfl, h.row 22 (by decide) _ S1x128.size rfl, h.row 23 (by decide) _ S1x128.size rfl, h.row 24 (by decide) _ S1x128.size rfl]

/-- Nor do the trips before `n`. -/
theorem pb1_congr (𝒱 : Variants) (c : Dev nD) (bd : Option 𝒱.V) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole) (arg0 : BitVec 32) (v5 : F .f32) (v64 : FVec F S1x1024 .f32) (X_arg1 : BufTy.Contents (Elt F) arg1.view.ty) (X_arg4 : BufTy.Contents (Elt F) arg4.view.ty)  {X X' : BufTy.Contents (Elt F) arg23.view.ty} (h : Agree arg23 X X') {G16 G16' : BufTy.Contents (Elt F) arg16.view.ty} {G20 G20' : BufTy.Contents (Elt F) arg20.view.ty} {G22 G22' : BufTy.Contents (Elt F) arg22.view.ty} (n : ℕ) :
    pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X_arg1 X_arg4 X G16 G20 G22 n = pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X_arg1 X_arg4 X' G16' G20' G22' n := by
  induction n with
  | zero => rfl
  | succ n ih =>
    by_cases hn : n < k0_t1_loop.trips
    · have e := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X_arg1 X_arg4 X G16 G20 G22 ⟨n, hn⟩
      have e' := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X_arg1 X_arg4 X' G16' G20' G22' ⟨n, hn⟩
      dsimp only at e e'
      rw [e, e', ih]
      exact congrArg (fun q : List (View.Piece (Elt F) S1x2560x1024 .fp8e4m3) × List (View.Piece (Elt F) S8x2576x128 .f32) × List (View.Piece (Elt F) S2x2560x128 .f32) =>
        (q.1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X_arg1 X_arg4 X' G16' G20' G22' n).1, q.2.1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X_arg1 X_arg4 X' G16' G20' G22' n).2.1, q.2.2 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X_arg1 X_arg4 X' G16' G20' G22' n).2.2))
        (tripL1_congr 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X_arg1 X_arg4 h ⟨n, hn⟩ _ _ _ _ _ _)
    · rw [pb_k0_t1.eq_2, pb_k0_t1.eq_2]; unfold pb_k0_t1Step; rw [dif_neg hn, dif_neg hn]; exact ih

set_option maxHeartbeats 8000000 in
/-- A trip of the second loop stores the same pieces on tables of parameters that agree. -/
theorem tripL2_congr (𝒱 : Variants) (c : Dev nD) (bd : Option 𝒱.V) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole) (arg0 : BitVec 32) (v5 : F .f32) (v64 : FVec F S1x1024 .f32) (X_arg1 : BufTy.Contents (Elt F) arg1.view.ty) (X_arg10 : BufTy.Contents (Elt F) arg10.view.ty) (X_arg20 : BufTy.Contents (Elt F) arg20.view.ty)  {X X' : BufTy.Contents (Elt F) arg23.view.ty} (h : Agree arg23 X X') (k : Fin k0_t2_loop.trips) :
    tripL2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X_arg1 X_arg10 X_arg20 X k = tripL2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X_arg1 X_arg10 X_arg20 X' k := by
  unfold tripL2 trip2
  simp only [trip2.sl.HW18_11, trip2.sl.HW18_14, trip2.sl.HW18_16, trip2.sl.HW18_19, trip2.sl.HW18_22, trip2.sl.HW18_24, trip2.sl.HW18_27, trip2.sl.HW18_3, trip2.sl.HW18_30, trip2.sl.HW18_33, trip2.sl.HW18_35, trip2.sl.HW18_38, trip2.sl.HW18_40, trip2.sl.HW18_6, trip2.sl.HW18_8, trip2.sl.HW21_100, trip2.sl.HW21_101, trip2.sl.HW21_102, trip2.sl.HW21_104, trip2.sl.HW21_105, trip2.sl.HW21_107, trip2.sl.HW21_108, trip2.sl.HW21_109, trip2.sl.HW21_11, trip2.sl.HW21_111, trip2.sl.HW21_112, trip2.sl.HW21_114, trip2.sl.HW21_115, trip2.sl.HW21_117, trip2.sl.HW21_118, trip2.sl.HW21_12, trip2.sl.HW21_120, trip2.sl.HW21_121, trip2.sl.HW21_122, trip2.sl.HW21_124, trip2.sl.HW21_125, trip2.sl.HW21_127, trip2.sl.HW21_128, trip2.sl.HW21_130, trip2.sl.HW21_131, trip2.sl.HW21_132, trip2.sl.HW21_134, trip2.sl.HW21_135, trip2.sl.HW21_137, trip2.sl.HW21_138, trip2.sl.HW21_14, trip2.sl.HW21_140, trip2.sl.HW21_141, trip2.sl.HW21_142, trip2.sl.HW21_144, trip2.sl.HW21_145, trip2.sl.HW21_147, trip2.sl.HW21_148, trip2.sl.HW21_15, trip2.sl.HW21_150, trip2.sl.HW21_151, trip2.sl.HW21_152, trip2.sl.HW21_154, trip2.sl.HW21_155, trip2.sl.HW21_157, trip2.sl.HW21_158, trip2.sl.HW21_160, trip2.sl.HW21_17, trip2.sl.HW21_18, trip2.sl.HW21_19, trip2.sl.HW21_2, trip2.sl.HW21_20, trip2.sl.HW21_22, trip2.sl.HW21_23, trip2.sl.HW21_25, trip2.sl.HW21_26, trip2.sl.HW21_28, trip2.sl.HW21_29, trip2.sl.HW21_3, trip2.sl.HW21_31, trip2.sl.HW21_32, trip2.sl.HW21_34, trip2.sl.HW21_35, trip2.sl.HW21_37, trip2.sl.HW21_38, trip2.sl.HW21_40, trip2.sl.HW21_41, trip2.sl.HW21_42, trip2.sl.HW21_43, trip2.sl.HW21_45, trip2.sl.HW21_46, trip2.sl.HW21_48, trip2.sl.HW21_49, trip2.sl.HW21_5, trip2.sl.HW21_51, trip2.sl.HW21_52, trip2.sl.HW21_54, trip2.sl.HW21_55, trip2.sl.HW21_57, trip2.sl.HW21_58, trip2.sl.HW21_6, trip2.sl.HW21_60, trip2.sl.HW21_61, trip2.sl.HW21_62, trip2.sl.HW21_64, trip2.sl.HW21_65, trip2.sl.HW21_66, trip2.sl.HW21_68, trip2.sl.HW21_69, trip2.sl.HW21_71, trip2.sl.HW21_72, trip2.sl.HW21_74, trip2.sl.HW21_75, trip2.sl.HW21_77, trip2.sl.HW21_78, trip2.sl.HW21_8, trip2.sl.HW21_80, trip2.sl.HW21_81, trip2.sl.HW21_82, trip2.sl.HW21_84, trip2.sl.HW21_85, trip2.sl.HW21_86, trip2.sl.HW21_88, trip2.sl.HW21_89, trip2.sl.HW21_9, trip2.sl.HW21_91, trip2.sl.HW21_92, trip2.sl.HW21_94, trip2.sl.HW21_95, trip2.sl.HW21_97, trip2.sl.HW21_98, trip2.sl.HW22_1, trip2.sl.HW22_2, trip2.sl.HW22_3, trip2.sl.HW22_4, trip2.sl.HW22_5, trip2.sl.exec_k0_part100, trip2.sl.exec_k0_part101, trip2.sl.exec_k0_part102, trip2.sl.exec_k0_part103, trip2.sl.exec_k0_part104, trip2.sl.exec_k0_part105, trip2.sl.exec_k0_part106, trip2.sl.exec_k0_part107, trip2.sl.exec_k0_part108, trip2.sl.exec_k0_part109, trip2.sl.exec_k0_part11, trip2.sl.exec_k0_part110, trip2.sl.exec_k0_part111, trip2.sl.exec_k0_part112, trip2.sl.exec_k0_part113, trip2.sl.exec_k0_part114, trip2.sl.exec_k0_part115, trip2.sl.exec_k0_part116, trip2.sl.exec_k0_part117, trip2.sl.exec_k0_part118, trip2.sl.exec_k0_part119, trip2.sl.exec_k0_part12, trip2.sl.exec_k0_part120, trip2.sl.exec_k0_part121, trip2.sl.exec_k0_part122, trip2.sl.exec_k0_part123, trip2.sl.exec_k0_part124, trip2.sl.exec_k0_part125, trip2.sl.exec_k0_part126, trip2.sl.exec_k0_part127, trip2.sl.exec_k0_part128, trip2.sl.exec_k0_part129, trip2.sl.exec_k0_part13, trip2.sl.exec_k0_part130, trip2.sl.exec_k0_part131, trip2.sl.exec_k0_part132, trip2.sl.exec_k0_part133, trip2.sl.exec_k0_part134, trip2.sl.exec_k0_part135, trip2.sl.exec_k0_part136, trip2.sl.exec_k0_part137, trip2.sl.exec_k0_part138, trip2.sl.exec_k0_part139, trip2.sl.exec_k0_part14, trip2.sl.exec_k0_part140, trip2.sl.exec_k0_part141, trip2.sl.exec_k0_part142, trip2.sl.exec_k0_part143, trip2.sl.exec_k0_part144, trip2.sl.exec_k0_part145, trip2.sl.exec_k0_part146, trip2.sl.exec_k0_part147, trip2.sl.exec_k0_part148, trip2.sl.exec_k0_part149, trip2.sl.exec_k0_part15, trip2.sl.exec_k0_part150, trip2.sl.exec_k0_part151, trip2.sl.exec_k0_part152, trip2.sl.exec_k0_part153, trip2.sl.exec_k0_part154, trip2.sl.exec_k0_part155, trip2.sl.exec_k0_part156, trip2.sl.exec_k0_part157, trip2.sl.exec_k0_part16, trip2.sl.exec_k0_part17, trip2.sl.exec_k0_part18, trip2.sl.exec_k0_part19, trip2.sl.exec_k0_part20, trip2.sl.exec_k0_part21, trip2.sl.exec_k0_part22, trip2.sl.exec_k0_part23, trip2.sl.exec_k0_part24, trip2.sl.exec_k0_part25, trip2.sl.exec_k0_part26, trip2.sl.exec_k0_part27, trip2.sl.exec_k0_part28, trip2.sl.exec_k0_part29, trip2.sl.exec_k0_part30, trip2.sl.exec_k0_part31, trip2.sl.exec_k0_part32, trip2.sl.exec_k0_part33, trip2.sl.exec_k0_part34, trip2.sl.exec_k0_part35, trip2.sl.exec_k0_part36, trip2.sl.exec_k0_part37, trip2.sl.exec_k0_part38, trip2.sl.exec_k0_part39, trip2.sl.exec_k0_part40, trip2.sl.exec_k0_part41, trip2.sl.exec_k0_part42, trip2.sl.exec_k0_part43, trip2.sl.exec_k0_part44, trip2.sl.exec_k0_part45, trip2.sl.exec_k0_part46, trip2.sl.exec_k0_part47, trip2.sl.exec_k0_part48, trip2.sl.exec_k0_part49, trip2.sl.exec_k0_part50, trip2.sl.exec_k0_part51, trip2.sl.exec_k0_part52, trip2.sl.exec_k0_part53, trip2.sl.exec_k0_part54, trip2.sl.exec_k0_part55, trip2.sl.exec_k0_part56, trip2.sl.exec_k0_part57, trip2.sl.exec_k0_part58, trip2.sl.exec_k0_part59, trip2.sl.exec_k0_part60, trip2.sl.exec_k0_part61, trip2.sl.exec_k0_part62, trip2.sl.exec_k0_part63, trip2.sl.exec_k0_part64, trip2.sl.exec_k0_part65, trip2.sl.exec_k0_part66, trip2.sl.exec_k0_part67, trip2.sl.exec_k0_part68, trip2.sl.exec_k0_part69, trip2.sl.exec_k0_part70, trip2.sl.exec_k0_part71, trip2.sl.exec_k0_part72, trip2.sl.exec_k0_part73, trip2.sl.exec_k0_part74, trip2.sl.exec_k0_part75, trip2.sl.exec_k0_part76, trip2.sl.exec_k0_part77, trip2.sl.exec_k0_part78, trip2.sl.exec_k0_part79, trip2.sl.exec_k0_part80, trip2.sl.exec_k0_part81, trip2.sl.exec_k0_part82, trip2.sl.exec_k0_part83, trip2.sl.exec_k0_part84, trip2.sl.exec_k0_part85, trip2.sl.exec_k0_part86, trip2.sl.exec_k0_part87, trip2.sl.exec_k0_part88, trip2.sl.exec_k0_part89, trip2.sl.exec_k0_part90, trip2.sl.exec_k0_part91, trip2.sl.exec_k0_part92, trip2.sl.exec_k0_part93, trip2.sl.exec_k0_part94, trip2.sl.exec_k0_part95, trip2.sl.exec_k0_part96, trip2.sl.exec_k0_part97, trip2.sl.exec_k0_part98, trip2.sl.exec_k0_part99, trip2.sl.r_10, trip2.sl.r_100, trip2.sl.r_104, trip2.sl.r_105, trip2.sl.r_111, trip2.sl.r_112, trip2.sl.r_116, trip2.sl.r_118, trip2.sl.r_119, trip2.sl.r_122, trip2.sl.r_123, trip2.sl.r_125, trip2.sl.r_128, trip2.sl.r_13, trip2.sl.r_130, trip2.sl.r_135, trip2.sl.r_139, trip2.sl.r_140, trip2.sl.r_141, trip2.sl.r_147, trip2.sl.r_148, trip2.sl.r_15, trip2.sl.r_152, trip2.sl.r_154, trip2.sl.r_157, trip2.sl.r_158, trip2.sl.r_160, trip2.sl.r_163, trip2.sl.r_165, trip2.sl.r_168, trip2.sl.r_170, trip2.sl.r_171, trip2.sl.r_175, trip2.sl.r_176, trip2.sl.r_177, trip2.sl.r_184, trip2.sl.r_185, trip2.sl.r_189, trip2.sl.r_193, trip2.sl.r_194, trip2.sl.r_196, trip2.sl.r_199, trip2.sl.r_20, trip2.sl.r_201, trip2.sl.r_204, trip2.sl.r_205, trip2.sl.r_207, trip2.sl.r_211, trip2.sl.r_212, trip2.sl.r_213, trip2.sl.r_214, trip2.sl.r_219, trip2.sl.r_220, trip2.sl.r_224, trip2.sl.r_228, trip2.sl.r_229, trip2.sl.r_233, trip2.sl.r_235, trip2.sl.r_236, trip2.sl.r_239, trip2.sl.r_24, trip2.sl.r_240, trip2.sl.r_242, trip2.sl.r_245, trip2.sl.r_247, trip2.sl.r_248, trip2.sl.r_249, trip2.sl.r_25, trip2.sl.r_254, trip2.sl.r_255, trip2.sl.r_259, trip2.sl.r_263, trip2.sl.r_264, trip2.sl.r_268, trip2.sl.r_270, trip2.sl.r_273, trip2.sl.r_274, trip2.sl.r_276, trip2.sl.r_279, trip2.sl.r_281, trip2.sl.r_282, trip2.sl.r_283, trip2.sl.r_284, trip2.sl.r_285, trip2.sl.r_286, trip2.sl.r_287, trip2.sl.r_288, trip2.sl.r_289, trip2.sl.r_29, trip2.sl.r_290, trip2.sl.r_291, trip2.sl.r_292, trip2.sl.r_293, trip2.sl.r_294, trip2.sl.r_295, trip2.sl.r_296, trip2.sl.r_297, trip2.sl.r_298, trip2.sl.r_299, trip2.sl.r_3, trip2.sl.r_300, trip2.sl.r_301, trip2.sl.r_302, trip2.sl.r_303, trip2.sl.r_304, trip2.sl.r_305, trip2.sl.r_306, trip2.sl.r_307, trip2.sl.r_308, trip2.sl.r_309, trip2.sl.r_310, trip2.sl.r_311, trip2.sl.r_312, trip2.sl.r_313, trip2.sl.r_33, trip2.sl.r_34, trip2.sl.r_35, trip2.sl.r_39, trip2.sl.r_42, trip2.sl.r_43, trip2.sl.r_45, trip2.sl.r_48, trip2.sl.r_50, trip2.sl.r_53, trip2.sl.r_55, trip2.sl.r_56, trip2.sl.r_60, trip2.sl.r_61, trip2.sl.r_65, trip2.sl.r_69, trip2.sl.r_7, trip2.sl.r_70, trip2.sl.r_77, trip2.sl.r_78, trip2.sl.r_8, trip2.sl.r_80, trip2.sl.r_83, trip2.sl.r_85, trip2.sl.r_88, trip2.sl.r_89, trip2.sl.r_91, trip2.sl.r_95, trip2.sl.r_96, trip2.sl.v1437, trip2.sl.v1439, trip2.sl.v1440, trip2.sl.v1442, trip2.sl.v1443, trip2.sl.v1445, trip2.sl.v1446, trip2.sl.v1448, trip2.sl.v1449, trip2.sl.v1451, trip2.sl.v1452, trip2.sl.v1454, trip2.sl.v1455, trip2.sl.v1457, trip2.sl.v1458, trip2.sl.v1460, trip2.sl.v1461, trip2.sl.v1463, trip2.sl.v1464, trip2.sl.v1466, trip2.sl.v1467, trip2.sl.v2157, trip2.sl.v2158, trip2.sl.v2160, trip2.sl.v2161, trip2.sl.v2163, trip2.sl.v2164, trip2.sl.v2166, trip2.sl.v2167, trip2.sl.v2169, trip2.sl.v2170, trip2.sl.v2172, trip2.sl.v2173, trip2.sl.v2175, trip2.sl.v2176, trip2.sl.v2178, trip2.sl.v2179, trip2.sl.v2181, trip2.sl.v2182, trip2.sl.v2184, trip2.sl.v2185, trip2.sl.v2875, trip2.sl.v2876, trip2.sl.v2878, trip2.sl.v2879, trip2.sl.v2881, trip2.sl.v2882, trip2.sl.v2884, trip2.sl.v2885, trip2.sl.v2887, trip2.sl.v2888, trip2.sl.v2890, trip2.sl.v2891, trip2.sl.v2893, trip2.sl.v2894, trip2.sl.v2896, trip2.sl.v2897, trip2.sl.v2899, trip2.sl.v2900, trip2.sl.v2902, trip2.sl.v2903, trip2.sl.v3594, trip2.sl.v3596, trip2.sl.v3597, trip2.sl.v3599, trip2.sl.v3600, trip2.sl.v3602, trip2.sl.v3603, trip2.sl.v3605, trip2.sl.v3606, trip2.sl.v3608, trip2.sl.v3609, trip2.sl.v3611, trip2.sl.v3612, trip2.sl.v3614, trip2.sl.v3615, trip2.sl.v3617, trip2.sl.v3618, trip2.sl.v3620, trip2.sl.v3621, trip2.sl.v4314, trip2.sl.v4315, trip2.sl.v4317, trip2.sl.v4318, trip2.sl.v4320, trip2.sl.v4321, trip2.sl.v4323, trip2.sl.v4324, trip2.sl.v4326, trip2.sl.v4327, trip2.sl.v4329, trip2.sl.v4330, trip2.sl.v4332, trip2.sl.v4333, trip2.sl.v4335, trip2.sl.v4336, trip2.sl.v4338, trip2.sl.v4339, trip2.sl.v5032, trip2.sl.v5033, trip2.sl.v5035, trip2.sl.v5036, trip2.sl.v5038, trip2.sl.v5039, trip2.sl.v5041, trip2.sl.v5042, trip2.sl.v5044, trip2.sl.v5045, trip2.sl.v5047, trip2.sl.v5048, trip2.sl.v5050, trip2.sl.v5051, trip2.sl.v5053, trip2.sl.v5054, trip2.sl.v5056, trip2.sl.v5057, trip2.sl.v5753, trip2.sl.v5754, trip2.sl.v5756, trip2.sl.v5757, trip2.sl.v5759, trip2.sl.v5760, trip2.sl.v5762, trip2.sl.v5763, trip2.sl.v5765, trip2.sl.v5766, trip2.sl.v5768, trip2.sl.v5769, trip2.sl.v5771, trip2.sl.v5772, trip2.sl.v5774, trip2.sl.v5775, trip2.sl.v6466, trip2.sl.v6478, trip2.sl.v6491, trip2.sl.v6504, trip2.sl.v6517, trip2.sl.v6530, trip2.sl.v6543, trip2.sl.v6556, trip2.sl.v6575, trip2.sl.v6587, trip2.sl.v6600, trip2.sl.v6613, trip2.sl.v6626, trip2.sl.v6639, trip2.sl.v6652, trip2.sl.v6665, trip2.sl.v6684, trip2.sl.v6696, trip2.sl.v6709, trip2.sl.v6722, trip2.sl.v6735, trip2.sl.v6748, trip2.sl.v6761, trip2.sl.v6774, trip2.sl.v6793, trip2.sl.v6805, trip2.sl.v6818, trip2.sl.v6831, trip2.sl.v6844, trip2.sl.v6857, trip2.sl.v6870, trip2.sl.v6883, trip2.sl.v6902, trip2.sl.v6914, trip2.sl.v6927, trip2.sl.v6940, trip2.sl.v6953, trip2.sl.v6966, trip2.sl.v6979, trip2.sl.v6992, trip2.sl.v7010, trip2.sl.v721, trip2.sl.v722, trip2.sl.v724, trip2.sl.v725, trip2.sl.v727, trip2.sl.v728, trip2.sl.v730, trip2.sl.v731, trip2.sl.v733, trip2.sl.v734, trip2.sl.v736, trip2.sl.v737, trip2.sl.v739, trip2.sl.v740, trip2.sl.v742, trip2.sl.v743, trip2.sl.v745, trip2.sl.v746, trip2.sl.v748, trip2.sl.v749, h.row 0 (by decide) _ S1x1024.size rfl, h.row 1 (by decide) _ S1x1024.size rfl, h.row 2 (by decide) _ S1x256.size rfl, h.row 3 (by decide) _ S1x256.size rfl, h.row 4 (by decide) _ S1x256.size rfl, h.row 5 (by decide) _ S1x256.size rfl, h.row 6 (by decide) _ S1x128.size rfl, h.row 7 (by decide) _ S1x256.size rfl, h.row 8 (by decide) _ S1x256.size rfl, h.row 16 (by decide) _ S1x128.size rfl, h.row 17 (by decide) _ S1x128.size rfl, h.row 18 (by decide) _ S1x128.size rfl, h.row 19 (by decide) _ S1x128.size rfl, h.row 20 (by decide) _ S1x128.size rfl, h.row 21 (by decide) _ S1x128.size rfl, h.row 22 (by decide) _ S1x128.size rfl, h.row 23 (by decide) _ S1x128.size rfl, h.row 24 (by decide) _ S1x128.size rfl]

end Cert.Kernel.Body

end
-- ==== Proof.Kernel.Indep2.lean ====
module

public import proofs.«01_k».proof.Proof.Kernel.Indep

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Nor do the trips before `n`. -/
theorem pb2_congr (𝒱 : Variants) (c : Dev nD) (bd : Option 𝒱.V) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole) (arg0 : BitVec 32) (v5 : F .f32) (v64 : FVec F S1x1024 .f32) (X_arg1 : BufTy.Contents (Elt F) arg1.view.ty) (X_arg10 : BufTy.Contents (Elt F) arg10.view.ty) (X_arg20 : BufTy.Contents (Elt F) arg20.view.ty)  {X X' : BufTy.Contents (Elt F) arg23.view.ty} (h : Agree arg23 X X') (n : ℕ) :
    pb2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X_arg1 X_arg10 X_arg20 X n = pb2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X_arg1 X_arg10 X_arg20 X' n := by
  induction n with
  | zero => rfl
  | succ n ih =>
    by_cases hn : n < k0_t2_loop.trips
    · have e := pb2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X_arg1 X_arg10 X_arg20 X ⟨n, hn⟩
      have e' := pb2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X_arg1 X_arg10 X_arg20 X' ⟨n, hn⟩
      exact e.trans ((congrArg₂ (fun (q p : List (View.Piece (Elt F) S1x2560x1024 .bf16) × List (View.Piece (Elt F) S1x2560x1024 .fp8e4m3) × List (View.Piece (Elt F) S8x160x128 .f32) × List (View.Piece (Elt F) S2x2560x128 .f32)) =>
        (q.1 ++ p.1, q.2.1 ++ p.2.1, q.2.2.1 ++ p.2.2.1, q.2.2.2 ++ p.2.2.2)) (tripL2_congr 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X_arg1 X_arg10 X_arg20 h ⟨n, hn⟩) ih).trans e'.symm)
    · rw [pb2.eq_2, pb2.eq_2]; unfold pb2Step; rw [dif_neg hn, dif_neg hn]; exact ih

/-- Writes that cover a whole buffer leave the same contents whatever it held before. -/
theorem writes_eq_of_cover {s : Shape} {e : EltTy} {m : Memref sig .tc .vmem s e} (hm : m.IsWhole) (f f' : BufTy.Contents (Elt F) m.view.ty)
    (L : List (View.Piece (Elt F) s e)) (hL : ∀ y : s.Idx, ∃ p ∈ L, y ∈ p.1.set) :
    m.view.writes (Elt F) f L = m.view.writes (Elt F) f' L := by
  rw [hm.eq_unread (f := m.view.writes (Elt F) f L) rfl, hm.eq_unread (f := m.view.writes (Elt F) f' L) rfl]
  exact congrArg _ (funext fun y => View.read_writes_apply_eq _ _ _ _ y L (hL y))

/-- Tables written with the same pieces, which cover the rows in use, agree. -/
theorem agree_of_cover (m : Memref sig .tc .vmem S32x1024 .f32) (f f' : BufTy.Contents (Elt F) m.view.ty)
    (L : List (View.Piece (Elt F) S32x1024 .f32))
    (hL : ∀ y : S32x1024.Idx, ((y 0).val ≤ 8 ∨ 16 ≤ (y 0).val ∧ (y 0).val ≤ 24) → ∃ p ∈ L, y ∈ p.1.set) :
    Agree m (m.view.writes (Elt F) f L) (m.view.writes (Elt F) f' L) :=
  fun y hy => View.read_writes_apply_eq _ _ _ _ y L (hL y hy)

/-- The table's pieces cover the rows in use. -/
theorem table_cover (w0 w1 w2 w3 w4 w5 w6 w7 w8 : Vec F S1x1024 .f32) (w16 : Vec F S9x1024 .f32) (y : S32x1024.Idx)
    (hy : (y 0).val ≤ 8 ∨ 16 ≤ (y 0).val ∧ (y 0).val ≤ 24) :
    ∃ p ∈ ([⟨Rect.unit ![16, 0] S9x1024.size Gen.inb_S32x1024_S9x1024_16_0, w16⟩,
      ⟨Rect.unit ![8, 0] S1x1024.size Gen.inb_S32x1024_S1x1024_8_0, w8⟩,
      ⟨Rect.unit ![7, 0] S1x1024.size Gen.inb_S32x1024_S1x1024_7_0, w7⟩,
      ⟨Rect.unit ![6, 0] S1x1024.size Gen.inb_S32x1024_S1x1024_6_0, w6⟩,
      ⟨Rect.unit ![5, 0] S1x1024.size Gen.inb_S32x1024_S1x1024_5_0, w5⟩,
      ⟨Rect.unit ![4, 0] S1x1024.size Gen.inb_S32x1024_S1x1024_4_0, w4⟩,
      ⟨Rect.unit ![3, 0] S1x1024.size Gen.inb_S32x1024_S1x1024_3_0, w3⟩,
      ⟨Rect.unit ![2, 0] S1x1024.size Gen.inb_S32x1024_S1x1024_2_0, w2⟩,
      ⟨Rect.unit ![1, 0] S1x1024.size Gen.inb_S32x1024_S1x1024_1_0, w1⟩,
      ⟨Rect.unit ![0, 0] S1x1024.size Gen.inb_S32x1024_S1x1024_0_0, w0⟩] : List (View.Piece (Elt F) S32x1024 .f32)), y ∈ p.1.set := by
  have h1 : (y 1).val < 1024 := (y 1).isLt
  by_cases h : 16 ≤ (y 0).val
  · refine ⟨_, List.mem_cons_self, ?_⟩
    rw [Rect.mem_set_unit]; intro a; fin_cases a
    · show 16 ≤ (y 0).val ∧ (y 0).val < 16 + 9; omega
    · show 0 ≤ (y 1).val ∧ (y 1).val < 0 + 1024; omega
  by_cases h8 : (y 0).val = 8
  · refine ⟨_, (List.mem_cons_of_mem _ List.mem_cons_self), ?_⟩
    rw [Rect.mem_set_unit]; intro a; fin_cases a
    · show 8 ≤ (y 0).val ∧ (y 0).val < 8 + 1; omega
    · show 0 ≤ (y 1).val ∧ (y 1).val < 0 + 1024; omega
  by_cases h7 : (y 0).val = 7
  · refine ⟨_, (List.mem_cons_of_mem _ (List.mem_cons_of_mem _ List.mem_cons_self)), ?_⟩
    rw [Rect.mem_set_unit]; intro a; fin_cases a
    · show 7 ≤ (y 0).val ∧ (y 0).val < 7 + 1; omega
    · show 0 ≤ (y 1).val ∧ (y 1).val < 0 + 1024; omega
  by_cases h6 : (y 0).val = 6
  · refine ⟨_, (List.mem_cons_of_mem _ (List.mem_cons_of_mem _ (List.mem_cons_of_mem _ List.mem_cons_self))), ?_⟩
    rw [Rect.mem_set_unit]; intro a; fin_cases a
    · show 6 ≤ (y 0).val ∧ (y 0).val < 6 + 1; omega
    · show 0 ≤ (y 1).val ∧ (y 1).val < 0 + 1024; omega
  by_cases h5 : (y 0).val = 5
  · refine ⟨_, (List.mem_cons_of_mem _ (List.mem_cons_of_mem _ (List.mem_cons_of_mem _ (List.mem_cons_of_mem _ List.mem_cons_self)))), ?_⟩
    rw [Rect.mem_set_unit]; intro a; fin_cases a
    · show 5 ≤ (y 0).val ∧ (y 0).val < 5 + 1; omega
    · show 0 ≤ (y 1).val ∧ (y 1).val < 0 + 1024; omega
  by_cases h4 : (y 0).val = 4
  · refine ⟨_, (List.mem_cons_of_mem _ (List.mem_cons_of_mem _ (List.mem_cons_of_mem _ (List.mem_cons_of_mem _ (List.mem_cons_of_mem _ List.mem_cons_self))))), ?_⟩
    rw [Rect.mem_set_unit]; intro a; fin_cases a
    · show 4 ≤ (y 0).val ∧ (y 0).val < 4 + 1; omega
    · show 0 ≤ (y 1).val ∧ (y 1).val < 0 + 1024; omega
  by_cases h3 : (y 0).val = 3
  · refine ⟨_, (List.mem_cons_of_mem _ (List.mem_cons_of_mem _ (List.mem_cons_of_mem _ (List.mem_cons_of_mem _ (List.mem_cons_of_mem _ (List.mem_cons_of_mem _ List.mem_cons_self)))))), ?_⟩
    rw [Rect.mem_set_unit]; intro a; fin_cases a
    · show 3 ≤ (y 0).val ∧ (y 0).val < 3 + 1; omega
    · show 0 ≤ (y 1).val ∧ (y 1).val < 0 + 1024; omega
  by_cases h2 : (y 0).val = 2
  · refine ⟨_, (List.mem_cons_of_mem _ (List.mem_cons_of_mem _ (List.mem_cons_of_mem _ (List.mem_cons_of_mem _ (List.mem_cons_of_mem _ (List.mem_cons_of_mem _ (List.mem_cons_of_mem _ List.mem_cons_self))))))), ?_⟩
    rw [Rect.mem_set_unit]; intro a; fin_cases a
    · show 2 ≤ (y 0).val ∧ (y 0).val < 2 + 1; omega
    · show 0 ≤ (y 1).val ∧ (y 1).val < 0 + 1024; omega
  by_cases h1 : (y 0).val = 1
  · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), ?_⟩
    rw [Rect.mem_set_unit]; intro a; fin_cases a
    · show 1 ≤ (y 0).val ∧ (y 0).val < 1 + 1; omega
    · show 0 ≤ (y 1).val ∧ (y 1).val < 0 + 1024; omega
  by_cases h0 : (y 0).val = 0
  · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), ?_⟩
    rw [Rect.mem_set_unit]; intro a; fin_cases a
    · show 0 ≤ (y 0).val ∧ (y 0).val < 0 + 1; omega
    · show 0 ≤ (y 1).val ∧ (y 1).val < 0 + 1024; omega
  omega

/-- The two zero borders of the buffer of hidden rows. -/
abbrev borders : List (View.Piece (Elt F) S8x2576x128 .f32) :=
  [⟨Rect.unit ![0, 2568, 0] S8x8x128.size Gen.inb_S8x2576x128_S8x8x128_0_2568_0, Gen.k0_pay734⟩, ⟨Rect.unit ![0, 0, 0] S8x8x128.size Gen.inb_S8x2576x128_S8x8x128_0_0_0, Gen.k0_pay733⟩]

/-- The pieces of the whole first loop. -/
abbrev front (𝒱 : Variants) (c : Dev nD) (bd : Option 𝒱.V) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole) (arg0 : BitVec 32) (v5 : F .f32) (v64 : FVec F S1x1024 .f32)  (X1 : BufTy.Contents (Elt F) arg1.view.ty) (X4 : BufTy.Contents (Elt F) arg4.view.ty) (X10 : BufTy.Contents (Elt F) arg10.view.ty) (L23 : List (View.Piece (Elt F) S32x1024 .f32)) (f15 : BufTy.Contents (Elt F) arg16.view.ty) (fs0 : BufTy.Contents (Elt F) arg20.view.ty) (fs2 : BufTy.Contents (Elt F) arg22.view.ty) (fs3 : BufTy.Contents (Elt F) arg23.view.ty) :=
  pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X4 (arg23.view.writes (Elt F) fs3 L23) f15 (arg20.view.writes (Elt F) fs0 borders) fs2 (Scf.trips k0_t1_loop.lb k0_t1_loop.ub k0_t1_loop.st)

/-- The hidden rows after it. -/
abbrev hidden (𝒱 : Variants) (c : Dev nD) (bd : Option 𝒱.V) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole) (arg0 : BitVec 32) (v5 : F .f32) (v64 : FVec F S1x1024 .f32)  (X1 : BufTy.Contents (Elt F) arg1.view.ty) (X4 : BufTy.Contents (Elt F) arg4.view.ty) (X10 : BufTy.Contents (Elt F) arg10.view.ty) (L23 : List (View.Piece (Elt F) S32x1024 .f32)) (f15 : BufTy.Contents (Elt F) arg16.view.ty) (fs0 : BufTy.Contents (Elt F) arg20.view.ty) (fs2 : BufTy.Contents (Elt F) arg22.view.ty) (fs3 : BufTy.Contents (Elt F) arg23.view.ty) : BufTy.Contents (Elt F) arg20.view.ty :=
  arg20.view.writes (Elt F) fs0 ((front 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X4 X10 L23 f15 fs0 fs2 fs3).2.1 ++ borders)

/-- The pieces of the whole second loop. -/
abbrev back (𝒱 : Variants) (c : Dev nD) (bd : Option 𝒱.V) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole) (arg0 : BitVec 32) (v5 : F .f32) (v64 : FVec F S1x1024 .f32)  (X1 : BufTy.Contents (Elt F) arg1.view.ty) (X4 : BufTy.Contents (Elt F) arg4.view.ty) (X10 : BufTy.Contents (Elt F) arg10.view.ty) (L23 : List (View.Piece (Elt F) S32x1024 .f32)) (f15 : BufTy.Contents (Elt F) arg16.view.ty) (fs0 : BufTy.Contents (Elt F) arg20.view.ty) (fs2 : BufTy.Contents (Elt F) arg22.view.ty) (fs3 : BufTy.Contents (Elt F) arg23.view.ty) :=
  pb2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X10 (hidden 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X4 X10 L23 f15 fs0 fs2 fs3) (arg23.view.writes (Elt F) fs3 L23) (Scf.trips k0_t2_loop.lb k0_t2_loop.ub k0_t2_loop.st)

/-- The row maxima after it. -/
abbrev maxima (𝒱 : Variants) (c : Dev nD) (bd : Option 𝒱.V) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole) (arg0 : BitVec 32) (v5 : F .f32) (v64 : FVec F S1x1024 .f32)  (X1 : BufTy.Contents (Elt F) arg1.view.ty) (X4 : BufTy.Contents (Elt F) arg4.view.ty) (X10 : BufTy.Contents (Elt F) arg10.view.ty) (L23 : List (View.Piece (Elt F) S32x1024 .f32)) (f15 : BufTy.Contents (Elt F) arg16.view.ty) (fs0 : BufTy.Contents (Elt F) arg20.view.ty) (fs2 : BufTy.Contents (Elt F) arg22.view.ty) (fs3 : BufTy.Contents (Elt F) arg23.view.ty) : BufTy.Contents (Elt F) arg22.view.ty :=
  arg22.view.writes (Elt F) fs2 ((back 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X4 X10 L23 f15 fs0 fs2 fs3).2.2.2 ++ (front 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X4 X10 L23 f15 fs0 fs2 fs3).2.2)

set_option maxHeartbeats 4000000 in
theorem cover_hidden (𝒱 : Variants) (c : Dev nD) (bd : Option 𝒱.V) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole) (arg0 : BitVec 32) (v5 : F .f32) (v64 : FVec F S1x1024 .f32)  (X1 : BufTy.Contents (Elt F) arg1.view.ty) (X4 : BufTy.Contents (Elt F) arg4.view.ty) (X10 : BufTy.Contents (Elt F) arg10.view.ty) (L23 : List (View.Piece (Elt F) S32x1024 .f32)) (f15 : BufTy.Contents (Elt F) arg16.view.ty) (fs0 : BufTy.Contents (Elt F) arg20.view.ty) (fs2 : BufTy.Contents (Elt F) arg22.view.ty) (fs3 : BufTy.Contents (Elt F) arg23.view.ty) (y : S8x2576x128.Idx) :
    ∃ p ∈ (front 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X4 X10 L23 f15 fs0 fs2 fs3).2.1 ++ borders, y ∈ p.1.set :=
  View.cover_of_tiledBy _ ![1, 8, 128] (by sl_kernel_rfl) y

set_option maxHeartbeats 4000000 in
theorem cover_maxima (𝒱 : Variants) (c : Dev nD) (bd : Option 𝒱.V) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole) (arg0 : BitVec 32) (v5 : F .f32) (v64 : FVec F S1x1024 .f32)  (X1 : BufTy.Contents (Elt F) arg1.view.ty) (X4 : BufTy.Contents (Elt F) arg4.view.ty) (X10 : BufTy.Contents (Elt F) arg10.view.ty) (L23 : List (View.Piece (Elt F) S32x1024 .f32)) (f15 : BufTy.Contents (Elt F) arg16.view.ty) (fs0 : BufTy.Contents (Elt F) arg20.view.ty) (fs2 : BufTy.Contents (Elt F) arg22.view.ty) (fs3 : BufTy.Contents (Elt F) arg23.view.ty) (y : S2x2560x128.Idx) :
    ∃ p ∈ (back 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X4 X10 L23 f15 fs0 fs2 fs3).2.2.2 ++ (front 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X4 X10 L23 f15 fs0 fs2 fs3).2.2, y ∈ p.1.set :=
  View.cover_of_tiledL _ ![1, 32, 128] (by sl_kernel_rfl) y

/-- Nothing that the loops leave depends on what the buffers held before. -/
theorem loops_congr (𝒱 : Variants) (c : Dev nD) (bd : Option 𝒱.V) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole) (arg0 : BitVec 32) (v5 : F .f32) (v64 : FVec F S1x1024 .f32)  (X1 : BufTy.Contents (Elt F) arg1.view.ty) (X4 : BufTy.Contents (Elt F) arg4.view.ty) (X10 : BufTy.Contents (Elt F) arg10.view.ty) (L23 : List (View.Piece (Elt F) S32x1024 .f32))
    (hL : ∀ y : S32x1024.Idx, ((y 0).val ≤ 8 ∨ 16 ≤ (y 0).val ∧ (y 0).val ≤ 24) → ∃ p ∈ L23, y ∈ p.1.set) (f15 : BufTy.Contents (Elt F) arg16.view.ty) (fs0 : BufTy.Contents (Elt F) arg20.view.ty) (fs2 : BufTy.Contents (Elt F) arg22.view.ty) (fs3 : BufTy.Contents (Elt F) arg23.view.ty) (f15' : BufTy.Contents (Elt F) arg16.view.ty) (fs0' : BufTy.Contents (Elt F) arg20.view.ty) (fs2' : BufTy.Contents (Elt F) arg22.view.ty) (fs3' : BufTy.Contents (Elt F) arg23.view.ty) :
    front 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X4 X10 L23 f15 fs0 fs2 fs3 = front 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X4 X10 L23 f15' fs0' fs2' fs3'
    ∧ back 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X4 X10 L23 f15 fs0 fs2 fs3 = back 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X4 X10 L23 f15' fs0' fs2' fs3'
    ∧ maxima 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X4 X10 L23 f15 fs0 fs2 fs3 = maxima 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X4 X10 L23 f15' fs0' fs2' fs3' := by
  have hag := agree_of_cover arg23 fs3 fs3' L23 hL
  have h1 : front 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X4 X10 L23 f15 fs0 fs2 fs3 = front 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X4 X10 L23 f15' fs0' fs2' fs3' := pb1_congr 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X4 hag _
  have h2 : hidden 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X4 X10 L23 f15 fs0 fs2 fs3 = hidden 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X4 X10 L23 f15' fs0' fs2' fs3' :=
    (congrArg (fun q => arg20.view.writes (Elt F) fs0 (q.2.1 ++ borders)) h1).trans
      (writes_eq_of_cover harg20 fs0 fs0' _ (cover_hidden 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X4 X10 L23 f15' fs0' fs2' fs3'))
  have h3 : back 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X4 X10 L23 f15 fs0 fs2 fs3 = back 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X4 X10 L23 f15' fs0' fs2' fs3' :=
    (congrArg (fun X => pb2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X10 X (arg23.view.writes (Elt F) fs3 L23) (Scf.trips k0_t2_loop.lb k0_t2_loop.ub k0_t2_loop.st)) h2).trans
      (pb2_congr 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X10 _ hag _)
  exact ⟨h1, h3, (congrArg₂ (fun q q' => arg22.view.writes (Elt F) fs2 (q.2.2.2 ++ q'.2.2)) h3 h1).trans
    (writes_eq_of_cover harg22 fs2 fs2' _ (cover_maxima 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X4 X10 L23 f15' fs0' fs2' fs3'))⟩

end Cert.Kernel.Body

end
-- ==== Proof.Kernel.Indep3.lean ====
module

public import proofs.«01_k».proof.Proof.Kernel.Indep2

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole)
    (x0 : Vec F S1x2560x1024 .bf16) (x1 : Vec F S1x1024 .f32) (x2 : Vec F S1x1024 .f32) (x3 : Vec F S1024x2048 .fp8e4m3) (x4 : Vec F S1x2048 .f32) (x5 : Vec F S1x2048 .f32) (x6 : Vec F S9x1024 .f32) (x7 : Vec F S1x1024 .f32) (x8 : Vec F S1x1024 .f32) (x9 : Vec F S1024x1024 .fp8e4m3) (x10 : Vec F S1x1024 .f32) (x11 : Vec F S1x1024 .f32) (x12 : Vec F S1 .f32) (x13 : Vec F S1 .f32)

set_option maxHeartbeats 8000000 in
/-- The pieces that the body stores at first point do not depend on what the buffers held. -/
theorem runA_congr (hc0 : cond0_0 i) (f14 : BufTy.Contents (Elt F) arg15.view.ty) (f15 : BufTy.Contents (Elt F) arg16.view.ty) (f16 : BufTy.Contents (Elt F) arg17.view.ty) (f17 : BufTy.Contents (Elt F) arg18.view.ty) (f18 : BufTy.Contents (Elt F) arg19.view.ty) (fs0 : BufTy.Contents (Elt F) arg20.view.ty) (fs1 : BufTy.Contents (Elt F) arg21.view.ty) (fs2 : BufTy.Contents (Elt F) arg22.view.ty) (fs3 : BufTy.Contents (Elt F) arg23.view.ty) (f14' : BufTy.Contents (Elt F) arg15.view.ty) (f15' : BufTy.Contents (Elt F) arg16.view.ty) (f16' : BufTy.Contents (Elt F) arg17.view.ty) (f17' : BufTy.Contents (Elt F) arg18.view.ty) (f18' : BufTy.Contents (Elt F) arg19.view.ty) (fs0' : BufTy.Contents (Elt F) arg20.view.ty) (fs1' : BufTy.Contents (Elt F) arg21.view.ty) (fs2' : BufTy.Contents (Elt F) arg22.view.ty) (fs3' : BufTy.Contents (Elt F) arg23.view.ty) :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 f14 f15 f16 f17 f18 fs0 fs1 fs2 fs3).1 = (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 f14' f15' f16' f17' f18' fs0' fs1' fs2' fs3').1 ∧
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 f14 f15 f16 f17 f18 fs0 fs1 fs2 fs3).2.1 = (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 f14' f15' f16' f17' f18' fs0' fs1' fs2' fs3').2.1 ∧
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 f14 f15 f16 f17 f18 fs0 fs1 fs2 fs3).2.2.1 = (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 f14' f15' f16' f17' f18' fs0' fs1' fs2' fs3').2.2.1 ∧
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 f14 f15 f16 f17 f18 fs0 fs1 fs2 fs3).2.2.2.1 = (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 f14' f15' f16' f17' f18' fs0' fs1' fs2' fs3').2.2.2.1 ∧
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 f14 f15 f16 f17 f18 fs0 fs1 fs2 fs3).2.2.2.2.1 = (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 f14' f15' f16' f17' f18' fs0' fs1' fs2' fs3').2.2.2.2.1 := by
  have h := loops_congr (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (BitVec.ofNat 32 ↑(i 0)) (kernelRun0_A.sl.r_2 c arg14 harg14 x13) (kernelRun0_A.sl.r_6 c arg11 harg11 arg14 harg14 x10 x13) (harg1.unread x0) (harg4.unread x3) (harg10.unread x9)
    (⟨Rect.unit ![16, 0] S9x1024.size Gen.inb_S32x1024_S9x1024_16_0, Gen.k0_pay731 (View.readAt (Elt F) arg7.view (Rect.unit ![0, 0] S9x1024.size Gen.inb_S9x1024_S9x1024_0_0).toLoadRect (harg7.unread x6)) (View.readAt (Elt F) arg8.view (Rect.unit ![0, 0] S1x1024.size Gen.inb_S1x1024_S1x1024_0_0).toLoadRect (harg8.unread x7))⟩ ::
    ⟨Rect.unit ![8, 0] S1x1024.size Gen.inb_S32x1024_S1x1024_8_0, Gen.k0_pay730 (View.readAt (Elt F) arg12.view (Rect.unit ![0, 0] S1x1024.size Gen.inb_S1x1024_S1x1024_0_0).toLoadRect (harg12.unread x11))⟩ ::
    ⟨Rect.unit ![7, 0] S1x1024.size Gen.inb_S32x1024_S1x1024_7_0, Gen.k0_pay729 (kernelRun0_A.sl.r_6 c arg11 harg11 arg14 harg14 x10 x13)⟩ :: kernelRun0_A.sl.HS3_7 c arg2 harg2 arg3 harg3 arg5 harg5 arg6 harg6 arg9 harg9 arg13 harg13 x1 x2 x4 x5 x8 x12) (fun y hy => table_cover _ _ _ _ _ _ _ _ _ _ y hy) f15 fs0 fs2 fs3 f15' fs0' fs2' fs3'
  refine ⟨congrArg Prod.fst h.2.1, congrArg Prod.fst h.1, ?_, congrArg (fun q => (Prod.snd q).1) h.2.1, ?_⟩
  · have h := h.2.2
    unfold kernelRun0_A
    dsimp only
    simp only [kernelRun0_A.sl.v471, kernelRun0_A.sl.v478, kernelRun0_A.sl.v148, kernelRun0_A.sl.H16_3, kernelRun0_A.sl.v403, kernelRun0_A.sl.H16_7, kernelRun0_A.sl.v336, kernelRun0_A.sl.r_9, kernelRun0_A.sl.H18_15, kernelRun0_A.sl.v433, kernelRun0_A.sl.v306, kernelRun0_A.sl.v688, kernelRun0_A.sl.r_20, kernelRun0_A.sl.v486, kernelRun0_A.sl.v636, kernelRun0_A.sl.v553, kernelRun0_A.sl.H18_19, kernelRun0_A.sl.v163, kernelRun0_A.sl.H18_7, kernelRun0_A.sl.v193, kernelRun0_A.sl.v178, kernelRun0_A.sl.v238, kernelRun0_A.sl.v613, kernelRun0_A.sl.v381, kernelRun0_A.sl.H16_5, kernelRun0_A.sl.v463, kernelRun0_A.sl.v208, kernelRun0_A.sl.H18_13, kernelRun0_A.sl.H18_12, kernelRun0_A.sl.v598, kernelRun0_A.sl.v283, kernelRun0_A.sl.r_21, kernelRun0_A.sl.v546, kernelRun0_A.sl.v216, kernelRun0_A.sl.r_8, kernelRun0_A.sl.v253, kernelRun0_A.sl.v703, kernelRun0_A.sl.v343, kernelRun0_A.sl.v133, kernelRun0_A.sl.v298, kernelRun0_A.sl.v373, kernelRun0_A.sl.v583, kernelRun0_A.sl.v696, kernelRun0_A.sl.v456, kernelRun0_A.sl.v568, kernelRun0_A.sl.H18_11, kernelRun0_A.sl.H16_10, kernelRun0_A.sl.v508, kernelRun0_A.sl.v448, kernelRun0_A.sl.v328, kernelRun0_A.sl.H18_5, kernelRun0_A.sl.H16_17, kernelRun0_A.sl.v366, kernelRun0_A.sl.v351, kernelRun0_A.sl.v523, kernelRun0_A.sl.H18_2, kernelRun0_A.sl.r_14, kernelRun0_A.sl.v261, kernelRun0_A.sl.H18_17, kernelRun0_A.sl.v276, kernelRun0_A.sl.v576, kernelRun0_A.sl.r_12, kernelRun0_A.sl.v681, kernelRun0_A.sl.r_13, kernelRun0_A.sl.H16_8, kernelRun0_A.sl.v531, kernelRun0_A.sl.v493, kernelRun0_A.sl.H18_4, kernelRun0_A.sl.v246, kernelRun0_A.sl.v711, kernelRun0_A.sl.H16_20, kernelRun0_A.sl.v118, kernelRun0_A.sl.H18_6, kernelRun0_A.sl.H16_18, kernelRun0_A.sl.v628, kernelRun0_A.sl.H16_11, kernelRun0_A.sl.r_16, kernelRun0_A.sl.r_18, kernelRun0_A.sl.v516, kernelRun0_A.sl.H16_15, kernelRun0_A.sl.v621, kernelRun0_A.sl.H16_4, kernelRun0_A.sl.v673, kernelRun0_A.sl.r_17, kernelRun0_A.sl.v291, kernelRun0_A.sl.H16_19, kernelRun0_A.sl.v643, kernelRun0_A.sl.H16_2, kernelRun0_A.sl.v418, kernelRun0_A.sl.v268, kernelRun0_A.sl.v186, kernelRun0_A.sl.v321, kernelRun0_A.sl.H16_9, kernelRun0_A.sl.r_19, kernelRun0_A.sl.v591, kernelRun0_A.sl.H18_3, kernelRun0_A.sl.v223, kernelRun0_A.sl.r_10, kernelRun0_A.sl.H16_14, kernelRun0_A.sl.H18_8, kernelRun0_A.sl.r_15, kernelRun0_A.sl.v606, kernelRun0_A.sl.v231, kernelRun0_A.sl.H18_18, kernelRun0_A.sl.H16_16, kernelRun0_A.sl.v666, kernelRun0_A.sl.v538, kernelRun0_A.sl.H18_10, kernelRun0_A.sl.v426, kernelRun0_A.sl.v501, kernelRun0_A.sl.v388, kernelRun0_A.sl.v411, kernelRun0_A.sl.v313, kernelRun0_A.sl.H16_6, kernelRun0_A.sl.v358, kernelRun0_A.sl.v201, kernelRun0_A.sl.H18_16, kernelRun0_A.sl.H18_20, kernelRun0_A.sl.v156, kernelRun0_A.sl.r_11, kernelRun0_A.sl.v561, kernelRun0_A.sl.H16_13, kernelRun0_A.sl.H18_14, kernelRun0_A.sl.v658, kernelRun0_A.sl.v396, kernelRun0_A.sl.v171, kernelRun0_A.sl.H16_12, kernelRun0_A.sl.H18_9, kernelRun0_A.sl.v441, kernelRun0_A.sl.v651, h]
  · have h := h.2.2
    unfold kernelRun0_A
    dsimp only
    simp only [kernelRun0_A.sl.v471, kernelRun0_A.sl.v478, kernelRun0_A.sl.v148, kernelRun0_A.sl.H16_3, kernelRun0_A.sl.v403, kernelRun0_A.sl.H16_7, kernelRun0_A.sl.v336, kernelRun0_A.sl.r_9, kernelRun0_A.sl.H18_15, kernelRun0_A.sl.v433, kernelRun0_A.sl.v306, kernelRun0_A.sl.v688, kernelRun0_A.sl.r_20, kernelRun0_A.sl.v486, kernelRun0_A.sl.v636, kernelRun0_A.sl.v553, kernelRun0_A.sl.H18_19, kernelRun0_A.sl.v163, kernelRun0_A.sl.H18_7, kernelRun0_A.sl.v193, kernelRun0_A.sl.v178, kernelRun0_A.sl.v238, kernelRun0_A.sl.v613, kernelRun0_A.sl.v381, kernelRun0_A.sl.H16_5, kernelRun0_A.sl.v463, kernelRun0_A.sl.v208, kernelRun0_A.sl.H18_13, kernelRun0_A.sl.H18_12, kernelRun0_A.sl.v598, kernelRun0_A.sl.v283, kernelRun0_A.sl.r_21, kernelRun0_A.sl.v546, kernelRun0_A.sl.v216, kernelRun0_A.sl.r_8, kernelRun0_A.sl.v253, kernelRun0_A.sl.v703, kernelRun0_A.sl.v343, kernelRun0_A.sl.v133, kernelRun0_A.sl.v298, kernelRun0_A.sl.v373, kernelRun0_A.sl.v583, kernelRun0_A.sl.v696, kernelRun0_A.sl.v456, kernelRun0_A.sl.v568, kernelRun0_A.sl.H18_11, kernelRun0_A.sl.H16_10, kernelRun0_A.sl.v508, kernelRun0_A.sl.v448, kernelRun0_A.sl.v328, kernelRun0_A.sl.H18_5, kernelRun0_A.sl.H16_17, kernelRun0_A.sl.v366, kernelRun0_A.sl.v351, kernelRun0_A.sl.v523, kernelRun0_A.sl.H18_2, kernelRun0_A.sl.r_14, kernelRun0_A.sl.v261, kernelRun0_A.sl.H18_17, kernelRun0_A.sl.v276, kernelRun0_A.sl.v576, kernelRun0_A.sl.r_12, kernelRun0_A.sl.v681, kernelRun0_A.sl.r_13, kernelRun0_A.sl.H16_8, kernelRun0_A.sl.v531, kernelRun0_A.sl.v493, kernelRun0_A.sl.H18_4, kernelRun0_A.sl.v246, kernelRun0_A.sl.v711, kernelRun0_A.sl.H16_20, kernelRun0_A.sl.v118, kernelRun0_A.sl.H18_6, kernelRun0_A.sl.H16_18, kernelRun0_A.sl.v628, kernelRun0_A.sl.H16_11, kernelRun0_A.sl.r_16, kernelRun0_A.sl.r_18, kernelRun0_A.sl.v516, kernelRun0_A.sl.H16_15, kernelRun0_A.sl.v621, kernelRun0_A.sl.H16_4, kernelRun0_A.sl.v673, kernelRun0_A.sl.r_17, kernelRun0_A.sl.v291, kernelRun0_A.sl.H16_19, kernelRun0_A.sl.v643, kernelRun0_A.sl.H16_2, kernelRun0_A.sl.v418, kernelRun0_A.sl.v268, kernelRun0_A.sl.v186, kernelRun0_A.sl.v321, kernelRun0_A.sl.H16_9, kernelRun0_A.sl.r_19, kernelRun0_A.sl.v591, kernelRun0_A.sl.H18_3, kernelRun0_A.sl.v223, kernelRun0_A.sl.r_10, kernelRun0_A.sl.H16_14, kernelRun0_A.sl.H18_8, kernelRun0_A.sl.r_15, kernelRun0_A.sl.v606, kernelRun0_A.sl.v231, kernelRun0_A.sl.H18_18, kernelRun0_A.sl.H16_16, kernelRun0_A.sl.v666, kernelRun0_A.sl.v538, kernelRun0_A.sl.H18_10, kernelRun0_A.sl.v426, kernelRun0_A.sl.v501, kernelRun0_A.sl.v388, kernelRun0_A.sl.v411, kernelRun0_A.sl.v313, kernelRun0_A.sl.H16_6, kernelRun0_A.sl.v358, kernelRun0_A.sl.v201, kernelRun0_A.sl.H18_16, kernelRun0_A.sl.H18_20, kernelRun0_A.sl.v156, kernelRun0_A.sl.r_11, kernelRun0_A.sl.v561, kernelRun0_A.sl.H16_13, kernelRun0_A.sl.H18_14, kernelRun0_A.sl.v658, kernelRun0_A.sl.v396, kernelRun0_A.sl.v171, kernelRun0_A.sl.H16_12, kernelRun0_A.sl.H18_9, kernelRun0_A.sl.v441, kernelRun0_A.sl.v651, h]

set_option maxHeartbeats 8000000 in
/-- The pieces that the body stores at a later point do not depend on what the buffers held. -/
theorem runB_congr (hc0 : ¬cond0_0 i) (xo16 xo18 : Vec F S24x2560 .f32) (f14 : BufTy.Contents (Elt F) arg15.view.ty) (f15 : BufTy.Contents (Elt F) arg16.view.ty) (f17 : BufTy.Contents (Elt F) arg18.view.ty) (fs0 : BufTy.Contents (Elt F) arg20.view.ty) (fs1 : BufTy.Contents (Elt F) arg21.view.ty) (fs2 : BufTy.Contents (Elt F) arg22.view.ty) (fs3 : BufTy.Contents (Elt F) arg23.view.ty) (f14' : BufTy.Contents (Elt F) arg15.view.ty) (f15' : BufTy.Contents (Elt F) arg16.view.ty) (f17' : BufTy.Contents (Elt F) arg18.view.ty) (fs0' : BufTy.Contents (Elt F) arg20.view.ty) (fs1' : BufTy.Contents (Elt F) arg21.view.ty) (fs2' : BufTy.Contents (Elt F) arg22.view.ty) (fs3' : BufTy.Contents (Elt F) arg23.view.ty) :
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xo16 xo18 f14 f15 f17 fs0 fs1 fs2 fs3).1 = (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xo16 xo18 f14' f15' f17' fs0' fs1' fs2' fs3').1 ∧
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xo16 xo18 f14 f15 f17 fs0 fs1 fs2 fs3).2.1 = (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xo16 xo18 f14' f15' f17' fs0' fs1' fs2' fs3').2.1 ∧
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xo16 xo18 f14 f15 f17 fs0 fs1 fs2 fs3).2.2.1 = (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xo16 xo18 f14' f15' f17' fs0' fs1' fs2' fs3').2.2.1 ∧
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xo16 xo18 f14 f15 f17 fs0 fs1 fs2 fs3).2.2.2.1 = (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xo16 xo18 f14' f15' f17' fs0' fs1' fs2' fs3').2.2.2.1 ∧
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xo16 xo18 f14 f15 f17 fs0 fs1 fs2 fs3).2.2.2.2.1 = (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xo16 xo18 f14' f15' f17' fs0' fs1' fs2' fs3').2.2.2.2.1 := by
  have h := loops_congr (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (BitVec.ofNat 32 ↑(i 0)) (kernelRun0_B.sl.r_2 c arg14 harg14 x13) (kernelRun0_B.sl.r_6 c arg11 harg11 arg14 harg14 x10 x13) (harg1.unread x0) (harg4.unread x3) (harg10.unread x9)
    (⟨Rect.unit ![16, 0] S9x1024.size Gen.inb_S32x1024_S9x1024_16_0, Gen.k0_pay731 (View.readAt (Elt F) arg7.view (Rect.unit ![0, 0] S9x1024.size Gen.inb_S9x1024_S9x1024_0_0).toLoadRect (harg7.unread x6)) (View.readAt (Elt F) arg8.view (Rect.unit ![0, 0] S1x1024.size Gen.inb_S1x1024_S1x1024_0_0).toLoadRect (harg8.unread x7))⟩ ::
    ⟨Rect.unit ![8, 0] S1x1024.size Gen.inb_S32x1024_S1x1024_8_0, Gen.k0_pay730 (View.readAt (Elt F) arg12.view (Rect.unit ![0, 0] S1x1024.size Gen.inb_S1x1024_S1x1024_0_0).toLoadRect (harg12.unread x11))⟩ ::
    ⟨Rect.unit ![7, 0] S1x1024.size Gen.inb_S32x1024_S1x1024_7_0, Gen.k0_pay729 (kernelRun0_B.sl.r_6 c arg11 harg11 arg14 harg14 x10 x13)⟩ :: kernelRun0_B.sl.HS3_7 c arg2 harg2 arg3 harg3 arg5 harg5 arg6 harg6 arg9 harg9 arg13 harg13 x1 x2 x4 x5 x8 x12) (fun y hy => table_cover _ _ _ _ _ _ _ _ _ _ y hy) f15 fs0 fs2 fs3 f15' fs0' fs2' fs3'
  refine ⟨congrArg Prod.fst h.2.1, congrArg Prod.fst h.1, ?_, congrArg (fun q => (Prod.snd q).1) h.2.1, ?_⟩
  · have h := h.2.2
    unfold kernelRun0_B
    dsimp only
    simp only [kernelRun0_B.sl.H16_18, kernelRun0_B.sl.v388, kernelRun0_B.sl.v568, kernelRun0_B.sl.v673, kernelRun0_B.sl.v283, kernelRun0_B.sl.v418, kernelRun0_B.sl.v643, kernelRun0_B.sl.r_20, kernelRun0_B.sl.v313, kernelRun0_B.sl.v403, kernelRun0_B.sl.H16_7, kernelRun0_B.sl.v448, kernelRun0_B.sl.v523, kernelRun0_B.sl.v493, kernelRun0_B.sl.r_21, kernelRun0_B.sl.v598, kernelRun0_B.sl.v463, kernelRun0_B.sl.r_8, kernelRun0_B.sl.v238, kernelRun0_B.sl.H16_6, kernelRun0_B.sl.v163, kernelRun0_B.sl.v478, kernelRun0_B.sl.v703, kernelRun0_B.sl.H18_8, kernelRun0_B.sl.v358, kernelRun0_B.sl.v538, kernelRun0_B.sl.r_12, kernelRun0_B.sl.H18_15, kernelRun0_B.sl.H18_11, kernelRun0_B.sl.r_16, kernelRun0_B.sl.v178, kernelRun0_B.sl.H16_11, kernelRun0_B.sl.v328, kernelRun0_B.sl.v208, kernelRun0_B.sl.v268, kernelRun0_B.sl.H16_3, kernelRun0_B.sl.v118, kernelRun0_B.sl.v553, kernelRun0_B.sl.H16_17, kernelRun0_B.sl.H18_16, kernelRun0_B.sl.v433, kernelRun0_B.sl.r_18, kernelRun0_B.sl.v148, kernelRun0_B.sl.H16_1, kernelRun0_B.sl.v343, kernelRun0_B.sl.H16_5, kernelRun0_B.sl.r_19, kernelRun0_B.sl.H16_9, kernelRun0_B.sl.r_14, kernelRun0_B.sl.H16_13, kernelRun0_B.sl.H16_2, kernelRun0_B.sl.v583, kernelRun0_B.sl.v628, kernelRun0_B.sl.H16_16, kernelRun0_B.sl.H18_10, kernelRun0_B.sl.v508, kernelRun0_B.sl.H18_14, kernelRun0_B.sl.r_10, kernelRun0_B.sl.v133, kernelRun0_B.sl.H18_3, kernelRun0_B.sl.r_13, kernelRun0_B.sl.H18_6, kernelRun0_B.sl.H16_10, kernelRun0_B.sl.H18_1, kernelRun0_B.sl.H18_18, kernelRun0_B.sl.v223, kernelRun0_B.sl.H16_14, kernelRun0_B.sl.v688, kernelRun0_B.sl.v298, kernelRun0_B.sl.v373, kernelRun0_B.sl.r_9, kernelRun0_B.sl.v613, kernelRun0_B.sl.H18_12, kernelRun0_B.sl.v193, kernelRun0_B.sl.v658, kernelRun0_B.sl.H18_7, kernelRun0_B.sl.H18_4, kernelRun0_B.sl.v253, kernelRun0_B.sl.r_15, h]
  · have h := h.2.2
    unfold kernelRun0_B
    dsimp only
    simp only [kernelRun0_B.sl.H16_18, kernelRun0_B.sl.v388, kernelRun0_B.sl.v568, kernelRun0_B.sl.v673, kernelRun0_B.sl.v283, kernelRun0_B.sl.v418, kernelRun0_B.sl.v643, kernelRun0_B.sl.r_20, kernelRun0_B.sl.v313, kernelRun0_B.sl.v403, kernelRun0_B.sl.H16_7, kernelRun0_B.sl.v448, kernelRun0_B.sl.v523, kernelRun0_B.sl.v493, kernelRun0_B.sl.r_21, kernelRun0_B.sl.v598, kernelRun0_B.sl.v463, kernelRun0_B.sl.r_8, kernelRun0_B.sl.v238, kernelRun0_B.sl.H16_6, kernelRun0_B.sl.v163, kernelRun0_B.sl.v478, kernelRun0_B.sl.v703, kernelRun0_B.sl.H18_8, kernelRun0_B.sl.v358, kernelRun0_B.sl.v538, kernelRun0_B.sl.r_12, kernelRun0_B.sl.H18_15, kernelRun0_B.sl.H18_11, kernelRun0_B.sl.r_16, kernelRun0_B.sl.v178, kernelRun0_B.sl.H16_11, kernelRun0_B.sl.v328, kernelRun0_B.sl.v208, kernelRun0_B.sl.v268, kernelRun0_B.sl.H16_3, kernelRun0_B.sl.v118, kernelRun0_B.sl.v553, kernelRun0_B.sl.H16_17, kernelRun0_B.sl.H18_16, kernelRun0_B.sl.v433, kernelRun0_B.sl.r_18, kernelRun0_B.sl.v148, kernelRun0_B.sl.H16_1, kernelRun0_B.sl.v343, kernelRun0_B.sl.H16_5, kernelRun0_B.sl.r_19, kernelRun0_B.sl.H16_9, kernelRun0_B.sl.r_14, kernelRun0_B.sl.H16_13, kernelRun0_B.sl.H16_2, kernelRun0_B.sl.v583, kernelRun0_B.sl.v628, kernelRun0_B.sl.H16_16, kernelRun0_B.sl.H18_10, kernelRun0_B.sl.v508, kernelRun0_B.sl.H18_14, kernelRun0_B.sl.r_10, kernelRun0_B.sl.v133, kernelRun0_B.sl.H18_3, kernelRun0_B.sl.r_13, kernelRun0_B.sl.H18_6, kernelRun0_B.sl.H16_10, kernelRun0_B.sl.H18_1, kernelRun0_B.sl.H18_18, kernelRun0_B.sl.v223, kernelRun0_B.sl.H16_14, kernelRun0_B.sl.v688, kernelRun0_B.sl.v298, kernelRun0_B.sl.v373, kernelRun0_B.sl.r_9, kernelRun0_B.sl.v613, kernelRun0_B.sl.H18_12, kernelRun0_B.sl.v193, kernelRun0_B.sl.v658, kernelRun0_B.sl.H18_7, kernelRun0_B.sl.H18_4, kernelRun0_B.sl.v253, kernelRun0_B.sl.r_15, h]

end Cert.Kernel.Body

end
-- ==== Proof.Kernel.Outs.lean ====
module

public import proofs.«01_k».proof.Proof.Kernel.Indep3

/-!
What every output window holds after each grid point.
-/

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- It holds at the first point only — by arithmetic of the point. -/
theorem hcond0_0 : ∀ t : Fin cfg0.N, cond0_0 (grid0.coords t) ↔ t.val % 24 = 0 :=
  (fun t => by
    have ht : t.val < 24 := Nat.lt_of_lt_of_eq t.isLt N_0
    have e0 : (grid0.coords t 0).val = t.val / 1 % 24 := Pipeline.Grid.coords_val t 0 (by decide) rfl
    simp only [cond0_0, e0]
    word_cmp
   : ∀ t : Fin grid0.N, cond0_0 (grid0.coords t) ↔ t.val % 24 = 0)

/-! One staging buffer of each output window: its contents are stated through it, and the choice does not matter. -/
abbrev VO0_14 : View sig .tc .vmem S1x2560x1024 .bf16 := (Memref.whole cc0_stg14_0 : Memref sig .tc .vmem S1x2560x1024 .bf16).view
abbrev VO0_15 : View sig .tc .vmem S1x2560x1024 .fp8e4m3 := (Memref.whole cc0_stg15_0 : Memref sig .tc .vmem S1x2560x1024 .fp8e4m3).view
abbrev VO0_16 : View sig .tc .vmem S24x2560 .f32 := (Memref.whole cc0_stg16_0 : Memref sig .tc .vmem S24x2560 .f32).view
abbrev VO0_17 : View sig .tc .vmem S1x2560x1024 .fp8e4m3 := (Memref.whole cc0_stg17_0 : Memref sig .tc .vmem S1x2560x1024 .fp8e4m3).view
abbrev VO0_18 : View sig .tc .vmem S24x2560 .f32 := (Memref.whole cc0_stg18_0 : Memref sig .tc .vmem S24x2560 .f32).view
/-- Each window's current staging memref at point `t`, spelled as the pipeline passes it (`bodyAt0`), and its wholeness. -/
abbrev ms0_0 (t : Fin cfg0.N) : Memref sig .tc .vmem S1x2560x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x2048 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S9x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x1024 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .smem S1 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .smem S1 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x2560x1024 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x2560x1024 .fp8e4m3 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S24x2560 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x2560x1024 .fp8e4m3 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S24x2560 .f32 := win0_18.stage (cfg0.slots t 18)
abbrev hs0_18 (t : Fin cfg0.N) : (ms0_18 t).IsWhole := hstage0_18 ((cfg0.slots t 18).cast nbuf0_18)
/-- The scratch operands: whole scoped buffers of the kernel's own, passed beside the windows. -/
abbrev scM0_0 : Memref sig .tc .vmem S8x2576x128 .f32 := Memref.whole cc0_scratch0
abbrev scM0_1 : Memref sig .tc .vmem S8x160x128 .f32 := Memref.whole cc0_scratch1
abbrev scM0_2 : Memref sig .tc .vmem S2x2560x128 .f32 := Memref.whole cc0_scratch2
abbrev scM0_3 : Memref sig .tc .vmem S32x1024 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- The run of the body at the first point, at the staging memrefs and blocks of point `t`. -/
abbrev runA (c : Dev nD) (t : Fin cfg0.N) (h0 : t.val % 24 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((ms0_14 t).view.junk) ((ms0_15 t).view.junk) ((ms0_16 t).view.junk) ((ms0_17 t).view.junk) ((ms0_18 t).view.junk) (scM0_0.view.junk) (scM0_1.view.junk) (scM0_2.view.junk) (scM0_3.view.junk)

/-- The run of the body at a later point. -/
abbrev runB (c : Dev nD) (t : Fin cfg0.N) (h0 : ¬t.val % 24 = 0) (xo16 xo18 : Vec F S24x2560 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) xo16 xo18 ((ms0_14 t).view.junk) ((ms0_15 t).view.junk) ((ms0_17 t).view.junk) (scM0_0.view.junk) (scM0_1.view.junk) (scM0_2.view.junk) (scM0_3.view.junk)

/-- The same runs at any contents. -/
abbrev runA' (c : Dev nD) (t : Fin cfg0.N) (h0 : t.val % 24 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
abbrev runB' (c : Dev nD) (t : Fin cfg0.N) (h0 : ¬t.val % 24 = 0) (xo16 xo18 : Vec F S24x2560 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) xo16 xo18

/-! The pieces of the three windows written block by block tile their blocks; so do the first point's pieces of the two
windows kept over the grid (its first store fills the block with zeros). -/

theorem coverA_14 (c : Dev nD) (t : Fin cfg0.N) (h0 : t.val % 24 = 0) (y : S1x2560x1024.Idx) : ∃ pc ∈ (runA m c t h0).1, y ∈ pc.1.set :=
  View.cover_of_tiledL _ ![1, 160, 256] (by sl_kernel_rfl) y
theorem coverA_15 (c : Dev nD) (t : Fin cfg0.N) (h0 : t.val % 24 = 0) (y : S1x2560x1024.Idx) : ∃ pc ∈ (runA m c t h0).2.1, y ∈ pc.1.set :=
  View.cover_of_tiledL _ ![1, 32, 1024] (by sl_kernel_rfl) y
theorem coverA_17 (c : Dev nD) (t : Fin cfg0.N) (h0 : t.val % 24 = 0) (y : S1x2560x1024.Idx) : ∃ pc ∈ (runA m c t h0).2.2.2.1, y ∈ pc.1.set :=
  View.cover_of_tiledL _ ![1, 32, 128] (by sl_kernel_rfl) y
theorem coverB_14 (c : Dev nD) (t : Fin cfg0.N) (h0 : ¬t.val % 24 = 0) (a b) (y : S1x2560x1024.Idx) : ∃ pc ∈ (runB m c t h0 a b).1, y ∈ pc.1.set :=
  View.cover_of_tiledL _ ![1, 160, 256] (by sl_kernel_rfl) y
theorem coverB_15 (c : Dev nD) (t : Fin cfg0.N) (h0 : ¬t.val % 24 = 0) (a b) (y : S1x2560x1024.Idx) : ∃ pc ∈ (runB m c t h0 a b).2.1, y ∈ pc.1.set :=
  View.cover_of_tiledL _ ![1, 32, 1024] (by sl_kernel_rfl) y
theorem coverB_17 (c : Dev nD) (t : Fin cfg0.N) (h0 : ¬t.val % 24 = 0) (a b) (y : S1x2560x1024.Idx) : ∃ pc ∈ (runB m c t h0 a b).2.2.2.1, y ∈ pc.1.set :=
  View.cover_of_tiledL _ ![1, 32, 128] (by sl_kernel_rfl) y
theorem coverA_16 (c : Dev nD) (t : Fin cfg0.N) (h0 : t.val % 24 = 0) (y : S24x2560.Idx) : ∃ pc ∈ (runA m c t h0).2.2.1, y ∈ pc.1.set :=
  View.cover_of_wholeMem _ (by sl_whole_mem) y
theorem coverA_18 (c : Dev nD) (t : Fin cfg0.N) (h0 : t.val % 24 = 0) (y : S24x2560.Idx) : ∃ pc ∈ (runA m c t h0).2.2.2.2.1, y ∈ pc.1.set :=
  View.cover_of_wholeMem _ (by sl_whole_mem) y

/-- What the outputs hold after the first point. -/
def stepA (c : Dev nD) (t : Fin cfg0.N) (h0 : t.val % 24 = 0) : Vec F S1x2560x1024 .bf16 × Vec F S1x2560x1024 .fp8e4m3 × Vec F S24x2560 .f32 × Vec F S1x2560x1024 .fp8e4m3 × Vec F S24x2560 .f32 :=
  (VO0_14.read (Elt F) (VO0_14.writes (Elt F) VO0_14.junk (runA m c t h0).1),
   VO0_15.read (Elt F) (VO0_15.writes (Elt F) VO0_15.junk (runA m c t h0).2.1),
   VO0_16.read (Elt F) (VO0_16.writes (Elt F) VO0_16.junk (runA m c t h0).2.2.1),
   VO0_17.read (Elt F) (VO0_17.writes (Elt F) VO0_17.junk (runA m c t h0).2.2.2.1),
   VO0_18.read (Elt F) (VO0_18.writes (Elt F) VO0_18.junk (runA m c t h0).2.2.2.2.1))

/-- What the outputs hold after a later point, the kept windows holding `a` and `b` before it. -/
def stepB (c : Dev nD) (t : Fin cfg0.N) (h0 : ¬t.val % 24 = 0) (a b : Vec F S24x2560 .f32) : Vec F S1x2560x1024 .bf16 × Vec F S1x2560x1024 .fp8e4m3 × Vec F S24x2560 .f32 × Vec F S1x2560x1024 .fp8e4m3 × Vec F S24x2560 .f32 :=
  (VO0_14.read (Elt F) (VO0_14.writes (Elt F) VO0_14.junk (runB m c t h0 a b).1),
   VO0_15.read (Elt F) (VO0_15.writes (Elt F) VO0_15.junk (runB m c t h0 a b).2.1),
   (ms0_16 t).view.read (Elt F) ((ms0_16 t).view.writes (Elt F) ((hs0_16 t).unread a) (runB m c t h0 a b).2.2.1),
   VO0_17.read (Elt F) (VO0_17.writes (Elt F) VO0_17.junk (runB m c t h0 a b).2.2.2.1),
   (ms0_18 t).view.read (Elt F) ((ms0_18 t).view.writes (Elt F) ((hs0_18 t).unread b) (runB m c t h0 a b).2.2.2.2.1))

/-- What the outputs hold after each point. -/
def outsAt0 (c : Dev nD) : (n : ℕ) → n < cfg0.N → Vec F S1x2560x1024 .bf16 × Vec F S1x2560x1024 .fp8e4m3 × Vec F S24x2560 .f32 × Vec F S1x2560x1024 .fp8e4m3 × Vec F S24x2560 .f32
  | 0, hn => stepA m c ⟨0, hn⟩ (Nat.zero_mod _)
  | n + 1, hn =>
    if h0 : (n + 1) % 24 = 0 then stepA m c ⟨n + 1, hn⟩ h0
    else stepB m c ⟨n + 1, hn⟩ h0 (outsAt0 c n (Nat.lt_of_succ_lt hn)).2.2.1 (outsAt0 c n (Nat.lt_of_succ_lt hn)).2.2.2.2

theorem outsAt0_A (c : Dev nD) (t : Fin cfg0.N) (h0 : t.val % 24 = 0) : outsAt0 m c t.val t.isLt = stepA m c t h0 := by
  obtain ⟨n, hn⟩ := t
  cases n with
  | zero => exact rfl
  | succ n => exact (dif_pos h0).trans rfl

theorem outsAt0_B (c : Dev nD) (t : Fin cfg0.N) (h0 : ¬t.val % 24 = 0) :
    outsAt0 m c t.val t.isLt = stepB m c t h0 (outsAt0 m c (t.val - 1) (Nat.lt_of_le_of_lt (Nat.sub_le _ _) t.isLt)).2.2.1
      (outsAt0 m c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans rfl

end Cert.Kernel.Body

end
-- ==== Proof.Kernel.Whole.lean ====
module

public import proofs.«01_k».proof.Proof.Kernel.Outs
public import Idealize.ShloMosaic.Lib.Claim

/-!
The whole program: the proof data of the pipeline, the body
obligation, the run and the frame.
-/

@[expose] public section

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outsAt0 m c t.val t.isLt).1
    | ⟨15, _⟩ => (outsAt0 m c t.val t.isLt).2.1
    | ⟨16, _⟩ => (outsAt0 m c t.val t.isLt).2.2.1
    | ⟨17, _⟩ => (outsAt0 m c t.val t.isLt).2.2.2.1
    | ⟨18, _⟩ => (outsAt0 m c t.val t.isLt).2.2.2.2
    | ⟨_ + 19, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = (outsAt0 m c t.val t.isLt).1 := by dsimp only [dats]
theorem after0_15 (c : Dev nD) (t : Fin cfg0.N) : (dats m 0 c).after 15 t = (outsAt0 m c t.val t.isLt).2.1 := by dsimp only [dats]
theorem after0_16 (c : Dev nD) (t : Fin cfg0.N) : (dats m 0 c).after 16 t = (outsAt0 m c t.val t.isLt).2.2.1 := by dsimp only [dats]
theorem after0_17 (c : Dev nD) (t : Fin cfg0.N) : (dats m 0 c).after 17 t = (outsAt0 m c t.val t.isLt).2.2.2.1 := by dsimp only [dats]
theorem after0_18 (c : Dev nD) (t : Fin cfg0.N) : (dats m 0 c).after 18 t = (outsAt0 m c t.val t.isLt).2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
/-- At a point of case B output 16's current staging buffer holds what the body left at the point before: the point is
    not the first, the buffer was not written back between (`flush0_16`), the window is live and uncut (Lib/Pipeline/Frame.lean
    `Dat.before_out_kept`). -/
theorem before0_16_B (c : Dev nD) (t : Fin cfg0.N) (h0 : ¬t.val % 24 = 0) (d) :
    (dats m 0 c).before 16 t d = (outsAt0 m c (t.val - 1) (Nat.lt_of_le_of_lt (Nat.sub_le _ _) t.isLt)).2.2.1 := by
  have hN : t.val < 24 := lt_of_lt_of_eq t.isLt (show cfg0.N = 24 from N_0)
  rw [Dat.before_out_kept _ 16 rfl t (by omega) (Bool.eq_false_iff.mpr fun h => by have := (flush0_16 _).mp h; dsimp only at this; omega)
    (fun _ => rfl) (fun _ _ => rfl)]
  dsimp only [dats]
/-- At a point of case B output 18's current staging buffer holds what the body left at the point before: the point is
    not the first, the buffer was not written back between (`flush0_18`), the window is live and uncut (Lib/Pipeline/Frame.lean
    `Dat.before_out_kept`). -/
theorem before0_18_B (c : Dev nD) (t : Fin cfg0.N) (h0 : ¬t.val % 24 = 0) (d) :
    (dats m 0 c).before 18 t d = (outsAt0 m c (t.val - 1) (Nat.lt_of_le_of_lt (Nat.sub_le _ _) t.isLt)).2.2.2.2 := by
  have hN : t.val < 24 := lt_of_lt_of_eq t.isLt (show cfg0.N = 24 from N_0)
  rw [Dat.before_out_kept _ 18 rfl t (by omega) (Bool.eq_false_iff.mpr fun h => by have := (flush0_18 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t))

set_option maxHeartbeats 4000000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  rw [show (dats m 0 c).Φ t.castSucc = Pipeline.ΦA spec0 c from rfl, PhiA0_eq]
  have hN : t.val < 24 := lt_of_lt_of_eq t.isLt (show cfg0.N = 24 from N_0)
  by_cases h0 : t.val % 24 = 0
  · rw [outsAt0_A m c t h0]
    unfold stepA; (try dsimp only)
    unfold owns
    iintro ⟨⟨⟨⟨%ds0, %s0, %hs0, HS0⟩, ⟨%ds1, %s1, %hs1, HS1⟩, ⟨%ds2, %s2, %hs2, HS2⟩, ⟨%ds3, %s3, %hs3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, %i14, %h14, H14⟩, ⟨%d15, %i15, %h15, H15⟩, ⟨%d16, %i16, %h16, H16⟩, ⟨%d17, %i17, %h17, H17⟩, ⟨%d18, %i18, %h18, H18⟩⟩
    have hcg := runA_congr (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((hcond0_0 t).mpr h0) i14 i15 i16 i17 i18 s0 s1 s2 s3 ((ms0_14 t).view.junk) ((ms0_15 t).view.junk) ((ms0_16 t).view.junk) ((ms0_17 t).view.junk) ((ms0_18 t).view.junk) (scM0_0.view.junk) (scM0_1.view.junk) (scM0_2.view.junk) (scM0_3.view.junk)
    obtain ⟨hc14, hc15, hc16, hc17, hc18⟩ := hcg
    iapply ((runA' m c t h0 i14 i15 i16 i17 i18 s0 s1 s2 s3).2.2.2.2.2 Set.univ _)
    isplitl [H0]; · unfold owns; iexact H0
    isplitl [H1]; · unfold owns; iexact H1
    isplitl [H2]; · unfold owns; iexact H2
    isplitl [H3]; · unfold owns; iexact H3
    isplitl [H4]; · unfold owns; iexact H4
    isplitl [H5]; · unfold owns; iexact H5
    isplitl [H6]; · unfold owns; iexact H6
    isplitl [H7]; · unfold owns; iexact H7
    isplitl [H8]; · unfold owns; iexact H8
    isplitl [H9]; · unfold owns; iexact H9
    isplitl [H10]; · unfold owns; iexact H10
    isplitl [H11]; · unfold owns; iexact H11
    isplitl [H12]; · unfold owns; iexact H12
    isplitl [H13]; · unfold owns; iexact H13
    isplitl [H14]; · iexact H14
    isplitl [H15]; · iexact H15
    isplitl [H16]; · iexact H16
    isplitl [H17]; · iexact H17
    isplitl [H18]; · iexact H18
    isplitl [HS0]; · iexact HS0
    isplitl [HS1]; · iexact HS1
    isplitl [HS2]; · iexact HS2
    isplitl [HS3]; · iexact HS3
    unfold owns
    iintro ⟨H0, H1, H2, H3, H4, H5, H6, H7, H8, H9, H10, H11, H12, H13, ⟨%e14, H14⟩, ⟨%e15, H15⟩, ⟨%e16, H16⟩, ⟨%e17, H17⟩, ⟨%e18, H18⟩, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]
    · iexists _; isplitr
      swap; · iexact H14
      ipureintro; rw [hc14]; exact View.read_writes_of_cover _ _ _ _ _ (coverA_14 m c t h0)
    isplitl [H15]
    · iexists _; isplitr
      swap; · iexact H15
      ipureintro; rw [hc15]; exact View.read_writes_of_cover _ _ _ _ _ (coverA_15 m c t h0)
    isplitl [H16]
    · iexists _; isplitr
      swap; · iexact H16
      ipureintro; rw [hc16]; exact View.read_writes_of_cover _ _ _ _ _ (coverA_16 m c t h0)
    isplitl [H17]
    · iexists _; isplitr
      swap; · iexact H17
      ipureintro; rw [hc17]; exact View.read_writes_of_cover _ _ _ _ _ (coverA_17 m c t h0)
    iexists _; isplitr
    swap; · iexact H18
    ipureintro; rw [hc18]; exact View.read_writes_of_cover _ _ _ _ _ (coverA_18 m c t h0)
  · rw [outsAt0_B m c t h0]
    simp only [before0_16_B m c t h0, before0_18_B m c t h0]
    unfold stepB; (try dsimp only)
    unfold owns
    iintro ⟨⟨⟨⟨%ds0, %s0, %hs0, HS0⟩, ⟨%ds1, %s1, %hs1, HS1⟩, ⟨%ds2, %s2, %hs2, HS2⟩, ⟨%ds3, %s3, %hs3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, %i14, %h14, H14⟩, ⟨%d15, %i15, %h15, H15⟩, ⟨%d16, H16⟩, ⟨%d17, %i17, %h17, H17⟩, ⟨%d18, H18⟩⟩
    have hcg := runB_congr (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (fun h => h0 ((hcond0_0 t).mp h)) (outsAt0 m c (t.val - 1) (Nat.lt_of_le_of_lt (Nat.sub_le _ _) t.isLt)).2.2.1 (outsAt0 m c (t.val - 1) (Nat.lt_of_le_of_lt (Nat.sub_le _ _) t.isLt)).2.2.2.2 i14 i15 i17 s0 s1 s2 s3 ((ms0_14 t).view.junk) ((ms0_15 t).view.junk) ((ms0_17 t).view.junk) (scM0_0.view.junk) (scM0_1.view.junk) (scM0_2.view.junk) (scM0_3.view.junk)
    obtain ⟨hc14, hc15, hc16, hc17, hc18⟩ := hcg
    iapply ((runB' m c t h0 _ _ i14 i15 i17 s0 s1 s2 s3).2.2.2.2.2 Set.univ _)
    isplitl [H0]; · unfold owns; iexact H0
    isplitl [H1]; · unfold owns; iexact H1
    isplitl [H2]; · unfold owns; iexact H2
    isplitl [H3]; · unfold owns; iexact H3
    isplitl [H4]; · unfold owns; iexact H4
    isplitl [H5]; · unfold owns; iexact H5
    isplitl [H6]; · unfold owns; iexact H6
    isplitl [H7]; · unfold owns; iexact H7
    isplitl [H8]; · unfold owns; iexact H8
    isplitl [H9]; · unfold owns; iexact H9
    isplitl [H10]; · unfold owns; iexact H10
    isplitl [H11]; · unfold owns; iexact H11
    isplitl [H12]; · unfold owns; iexact H12
    isplitl [H13]; · unfold owns; iexact H13
    isplitl [H14]; · iexact H14
    isplitl [H15]; · iexact H15
    isplitl [H16]; · unfold owns; iexact H16
    isplitl [H17]; · iexact H17
    isplitl [H18]; · unfold owns; iexact H18
    isplitl [HS0]; · iexact HS0
    isplitl [HS1]; · iexact HS1
    isplitl [HS2]; · iexact HS2
    isplitl [HS3]; · iexact HS3
    unfold owns
    iintro ⟨H0, H1, H2, H3, H4, H5, H6, H7, H8, H9, H10, H11, H12, H13, ⟨%e14, H14⟩, ⟨%e15, H15⟩, H16, ⟨%e17, H17⟩, H18, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]
    · iexists _; isplitr
      swap; · iexact H14
      ipureintro; rw [hc14]; exact View.read_writes_of_cover _ _ _ _ _ (coverB_14 m c t h0 _ _)
    isplitl [H15]
    · iexists _; isplitr
      swap; · iexact H15
      ipureintro; rw [hc15]; exact View.read_writes_of_cover _ _ _ _ _ (coverB_15 m c t h0 _ _)
    isplitl [H16]
    · iexists _; isplitr
      swap; · iexact H16
      ipureintro; rw [hc16]
    isplitl [H17]
    · iexists _; isplitr
      swap; · iexact H17
      ipureintro; rw [hc17]; exact View.read_writes_of_cover _ _ _ _ _ (coverB_17 m c t h0 _ _)
    iexists _; isplitr
    swap; · iexact H18
    ipureintro; rw [hc18]

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

/-- The frame: the arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.Kernel.Body

end
-- ==== Proof.KernelIdeal.Loop2.lean ====
module

public import proofs.«01_k».proof.Proof.Gen.KernelIdeal.Loops
public import Idealize.ShloMosaic.Lib.Exec
public import Idealize.ShloMosaic.Lib.Tactic
public import Idealize.ShloMosaic.Lib.Pipeline.Kit

/-!
The second counted loop of the kernel body (the depthwise convolution, the second quantiser and the second product, 160
rows per trip): one trip run once at a symbolic trip number, the pieces all trips before a given one have stored, and the
loop's invariant.
-/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-- What one trip of the second loop holds: the four memrefs it reads, at their contents, and the four it writes. -/
abbrev Trip2 (c : Dev nD) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole) (arg0 : BitVec 32) (v5 : F .f32) (v64 : FVec F S1x1024 .f32) (X_arg1 : BufTy.Contents (Elt F) arg1.view.ty) (X_arg10 : BufTy.Contents (Elt F) arg10.view.ty) (X_arg20 : BufTy.Contents (Elt F) arg20.view.ty) (X_arg23 : BufTy.Contents (Elt F) arg23.view.ty) (f_arg15 : BufTy.Contents (Elt F) arg15.view.ty) (f_arg18 : BufTy.Contents (Elt F) arg18.view.ty) (f_arg21 : BufTy.Contents (Elt F) arg21.view.ty) (f_arg22 : BufTy.Contents (Elt F) arg22.view.ty) : sProp 𝕄G :=
  iprop((arg1.view.loc (c : Thread nD τ) ↦[arg1.view.set]{fullShare} X_arg1) ∗ (arg10.view.loc (c : Thread nD τ) ↦[arg10.view.set]{fullShare} X_arg10) ∗ (arg20.view.loc (c : Thread nD τ) ↦[arg20.view.set]{fullShare} X_arg20) ∗ (arg23.view.loc (c : Thread nD τ) ↦[arg23.view.set]{fullShare} X_arg23) ∗ (arg15.view.loc (c : Thread nD τ) ↦[arg15.view.set]{fullShare} f_arg15) ∗ (arg18.view.loc (c : Thread nD τ) ↦[arg18.view.set]{fullShare} f_arg18) ∗ (arg21.view.loc (c : Thread nD τ) ↦[arg21.view.set]{fullShare} f_arg21) ∗ (arg22.view.loc (c : Thread nD τ) ↦[arg22.view.set]{fullShare} f_arg22))

set_option sl_exec.stridedRows true in
/-- One trip of the second loop, at trip `k`: the pieces it stores into each memref it writes, with the proof that the
    trip's region leaves exactly these pieces written over what it found. -/
@[irreducible] def trip2 (𝒱 : Variants) (c : Dev nD) (bd : Option 𝒱.V) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole) (arg0 : BitVec 32) (v5 : F .f32) (v64 : FVec F S1x1024 .f32) (X_arg1 : BufTy.Contents (Elt F) arg1.view.ty) (X_arg10 : BufTy.Contents (Elt F) arg10.view.ty) (X_arg20 : BufTy.Contents (Elt F) arg20.view.ty) (X_arg23 : BufTy.Contents (Elt F) arg23.view.ty) (k : Fin k0_t2_loop.trips) :
    Σ' (L15 : List (View.Piece (Elt F) S1x2560x1024 .bf16)), Σ' (L18 : List (View.Piece (Elt F) S1x2560x1024 .fp8e4m3)), Σ' (L21 : List (View.Piece (Elt F) S8x160x128 .f32)), { L22 : List (View.Piece (Elt F) S2x2560x128 .f32) //
      ∀ (E : Set ℕ) (f_arg15 : BufTy.Contents (Elt F) arg15.view.ty) (f_arg18 : BufTy.Contents (Elt F) arg18.view.ty) (f_arg21 : BufTy.Contents (Elt F) arg21.view.ty) (f_arg22 : BufTy.Contents (Elt F) arg22.view.ty),
        Trip2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 f_arg15 f_arg18 f_arg21 f_arg22 ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 k PUnit.unit)
          (fun _ => Trip2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 (arg15.view.writes (Elt F) f_arg15 L15) (arg18.view.writes (Elt F) f_arg18 L18) (arg21.view.writes (Elt F) f_arg21 L21) (arg22.view.writes (Elt F) f_arg22 L22)) } := by
  have hk : k.val < 16 := Nat.lt_of_lt_of_le k.isLt k0_t2_abs.2.1
  refine ⟨?_, ?_, ?_, ?_, fun E f_arg15 f_arg18 f_arg21 f_arg22 => ?run⟩
  case run =>
    unfold k0_t2_body
    iintro ⟨HR1, HR10, HR20, HR23, HW15, HW18, HW21, HW22⟩
    sl_exec_parts
    sl_step
    sl_close

/-- The trip's piece lists alone. -/
abbrev tripL2 (𝒱 : Variants) (c : Dev nD) (bd : Option 𝒱.V) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole) (arg0 : BitVec 32) (v5 : F .f32) (v64 : FVec F S1x1024 .f32) (X_arg1 : BufTy.Contents (Elt F) arg1.view.ty) (X_arg10 : BufTy.Contents (Elt F) arg10.view.ty) (X_arg20 : BufTy.Contents (Elt F) arg20.view.ty) (X_arg23 : BufTy.Contents (Elt F) arg23.view.ty) (k : Fin k0_t2_loop.trips) : List (View.Piece (Elt F) S1x2560x1024 .bf16) × List (View.Piece (Elt F) S1x2560x1024 .fp8e4m3) × List (View.Piece (Elt F) S8x160x128 .f32) × List (View.Piece (Elt F) S2x2560x128 .f32) :=
  ((trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 k).1, (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 k).2.1, (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 k).2.2.1, (trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 k).2.2.2.1)

/-- Trip `k`'s pieces in front of those of the trips before it; past the last trip nothing is added. -/
@[irreducible] def pb2Step (𝒱 : Variants) (c : Dev nD) (bd : Option 𝒱.V) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole) (arg0 : BitVec 32) (v5 : F .f32) (v64 : FVec F S1x1024 .f32) (X_arg1 : BufTy.Contents (Elt F) arg1.view.ty) (X_arg10 : BufTy.Contents (Elt F) arg10.view.ty) (X_arg20 : BufTy.Contents (Elt F) arg20.view.ty) (X_arg23 : BufTy.Contents (Elt F) arg23.view.ty) (k : ℕ) (prev : List (View.Piece (Elt F) S1x2560x1024 .bf16) × List (View.Piece (Elt F) S1x2560x1024 .fp8e4m3) × List (View.Piece (Elt F) S8x160x128 .f32) × List (View.Piece (Elt F) S2x2560x128 .f32)) : List (View.Piece (Elt F) S1x2560x1024 .bf16) × List (View.Piece (Elt F) S1x2560x1024 .fp8e4m3) × List (View.Piece (Elt F) S8x160x128 .f32) × List (View.Piece (Elt F) S2x2560x128 .f32) :=
  if h : k < k0_t2_loop.trips then
    ((tripL2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 ⟨k, h⟩).1 ++ prev.1, (tripL2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 ⟨k, h⟩).2.1 ++ prev.2.1, (tripL2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 ⟨k, h⟩).2.2.1 ++ prev.2.2.1, (tripL2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 ⟨k, h⟩).2.2.2 ++ prev.2.2.2)
  else prev

/-- The pieces of the trips before `k`, last first. -/
def pb2 (𝒱 : Variants) (c : Dev nD) (bd : Option 𝒱.V) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole) (arg0 : BitVec 32) (v5 : F .f32) (v64 : FVec F S1x1024 .f32) (X_arg1 : BufTy.Contents (Elt F) arg1.view.ty) (X_arg10 : BufTy.Contents (Elt F) arg10.view.ty) (X_arg20 : BufTy.Contents (Elt F) arg20.view.ty) (X_arg23 : BufTy.Contents (Elt F) arg23.view.ty) : ℕ → List (View.Piece (Elt F) S1x2560x1024 .bf16) × List (View.Piece (Elt F) S1x2560x1024 .fp8e4m3) × List (View.Piece (Elt F) S8x160x128 .f32) × List (View.Piece (Elt F) S2x2560x128 .f32)
  | 0 => ([], [], [], [])
  | k + 1 => pb2Step (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 k (pb2 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 k)

/-- One trip more adds that trip's pieces in front. -/
theorem pb2_succ (𝒱 : Variants) (c : Dev nD) (bd : Option 𝒱.V) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole) (arg0 : BitVec 32) (v5 : F .f32) (v64 : FVec F S1x1024 .f32) (X_arg1 : BufTy.Contents (Elt F) arg1.view.ty) (X_arg10 : BufTy.Contents (Elt F) arg10.view.ty) (X_arg20 : BufTy.Contents (Elt F) arg20.view.ty) (X_arg23 : BufTy.Contents (Elt F) arg23.view.ty) (k : Fin k0_t2_loop.trips) :
    pb2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 (k.val + 1)
      = ((tripL2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 k).1 ++ (pb2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 k.val).1, (tripL2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 k).2.1 ++ (pb2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 k.val).2.1, (tripL2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 k).2.2.1 ++ (pb2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 k.val).2.2.1, (tripL2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 k).2.2.2 ++ (pb2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 k.val).2.2.2) := by
  rw [pb2.eq_2]; unfold pb2Step; exact dif_pos k.isLt

/-- The invariant of the second loop before trip `k`: what it reads at `X_·`, what it writes holding the pieces of the trips
    before `k` over the contents `G_·` at loop entry. -/
abbrev inv2 (𝒱 : Variants) (c : Dev nD) (bd : Option 𝒱.V) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole) (arg0 : BitVec 32) (v5 : F .f32) (v64 : FVec F S1x1024 .f32) (X_arg1 : BufTy.Contents (Elt F) arg1.view.ty) (X_arg10 : BufTy.Contents (Elt F) arg10.view.ty) (X_arg20 : BufTy.Contents (Elt F) arg20.view.ty) (X_arg23 : BufTy.Contents (Elt F) arg23.view.ty) (G_arg15 : BufTy.Contents (Elt F) arg15.view.ty) (G_arg18 : BufTy.Contents (Elt F) arg18.view.ty) (G_arg21 : BufTy.Contents (Elt F) arg21.view.ty) (G_arg22 : BufTy.Contents (Elt F) arg22.view.ty) (k : ℕ) (_u : PUnit) : sProp 𝕄G :=
  iprop((arg1.view.loc (c : Thread nD τ) ↦[arg1.view.set]{fullShare} X_arg1) ∗ (arg10.view.loc (c : Thread nD τ) ↦[arg10.view.set]{fullShare} X_arg10) ∗ (arg20.view.loc (c : Thread nD τ) ↦[arg20.view.set]{fullShare} X_arg20) ∗ (arg23.view.loc (c : Thread nD τ) ↦[arg23.view.set]{fullShare} X_arg23) ∗ (∃ f, (arg15.view.loc (c : Thread nD τ) ↦[arg15.view.set]{fullShare} f) ∗ ⌜f = arg15.view.writes (Elt F) G_arg15 (pb2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 k).1⌝) ∗ (∃ f, (arg18.view.loc (c : Thread nD τ) ↦[arg18.view.set]{fullShare} f) ∗ ⌜f = arg18.view.writes (Elt F) G_arg18 (pb2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 k).2.1⌝) ∗ (∃ f, (arg21.view.loc (c : Thread nD τ) ↦[arg21.view.set]{fullShare} f) ∗ ⌜f = arg21.view.writes (Elt F) G_arg21 (pb2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 k).2.2.1⌝) ∗ (∃ f, (arg22.view.loc (c : Thread nD τ) ↦[arg22.view.set]{fullShare} f) ∗ ⌜f = arg22.view.writes (Elt F) G_arg22 (pb2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 k).2.2.2⌝))

set_option warn.classDefReducibility false in
/-- The second loop by its invariant. -/
@[sl_loop] def loopInv2 (𝒱 : Variants) (c : Dev nD) (bd : Option 𝒱.V) (E : Set ℕ) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole) (arg0 : BitVec 32) (v5 : F .f32) (v64 : FVec F S1x1024 .f32) (X_arg1 : BufTy.Contents (Elt F) arg1.view.ty) (X_arg10 : BufTy.Contents (Elt F) arg10.view.ty) (X_arg20 : BufTy.Contents (Elt F) arg20.view.ty) (X_arg23 : BufTy.Contents (Elt F) arg23.view.ty) (G_arg15 : BufTy.Contents (Elt F) arg15.view.ty) (G_arg18 : BufTy.Contents (Elt F) arg18.view.ty) (G_arg21 : BufTy.Contents (Elt F) arg21.view.ty) (G_arg22 : BufTy.Contents (Elt F) arg22.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 where
  inv := inv2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 G_arg15 G_arg18 G_arg21 G_arg22
  step k acc := by
    iintro ⟨HR1, HR10, HR20, HR23, ⟨%f15, HW15, %h15⟩, ⟨%f18, HW18, %h18⟩, ⟨%f21, HW21, %h21⟩, ⟨%f22, HW22, %h22⟩⟩
    iapply (wp_wand_r Idealize.ShloMosaic.frame (wpE (defs₀ (F := F)) 𝒱 (c : Thread nD τ) bd) E)
    isplitl [HR1 HR10 HR20 HR23 HW15 HW18 HW21 HW22]
    · iapply ((trip2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 k).2.2.2.2 E f15 f18 f21 f22)
      isplitl [HR1]; · iexact HR1
      isplitl [HR10]; · iexact HR10
      isplitl [HR20]; · iexact HR20
      isplitl [HR23]; · iexact HR23
      isplitl [HW15]; · iexact HW15
      isplitl [HW18]; · iexact HW18
      isplitl [HW21]; · iexact HW21
      iexact HW22
    · iintro %_ ⟨HR1, HR10, HR20, HR23, HW15, HW18, HW21, HW22⟩
      isplitl [HR1]; · iexact HR1
      isplitl [HR10]; · iexact HR10
      isplitl [HR20]; · iexact HR20
      isplitl [HR23]; · iexact HR23
      rw [pb2_succ]
      isplitl [HW15]
      · iexists _; isplitl [HW15]; · iexact HW15
        ipureintro; rw [h15, ← View.writes_append]
      isplitl [HW18]
      · iexists _; isplitl [HW18]; · iexact HW18
        ipureintro; rw [h18, ← View.writes_append]
      isplitl [HW21]
      · iexists _; isplitl [HW21]; · iexact HW21
        ipureintro; rw [h21, ← View.writes_append]
      iexists _; isplitl [HW22]; · iexact HW22
      ipureintro; rw [h22, ← View.writes_append]

end Cert.KernelIdeal.Body

end
-- ==== Proof.KernelIdeal.Offsets.lean ====
module

public import proofs.«01_k».proof.Proof.Gen.KernelIdeal.Frame
public import Idealize.ShloMosaic.Lib.Exec

/-! Where the row maxima are stored: the eight-row group of the grid point, 128 columns at a time, in closed form. -/

@[expose] public section

set_option maxRecDepth 16384

namespace Cert.KernelIdeal.Body

open Cert.KernelIdeal Cert.KernelIdeal.Gen
open Idealize.ShloMosaic

/-- The condition of the body's branch: the grid coordinate is zero. -/
abbrev cond0_0 (i : grid0.Coords) : Prop := (Scalar.cmpi .ne (Scalar.extui (Scalar.cmpi .eq (BitVec.ofNat 32 (i 0).val) 0#32)) 0#32) = 1#1

theorem off42_eq : ∀ i : grid0.Coords, k0_off42 i = ![(i 0).val / 8 * 8, 0] := by decide +kernel
instance closedOff_off42 (i : grid0.Coords) : ClosedOff (k0_off42 i) := ⟨![(i 0).val / 8 * 8, 0], off42_eq i⟩
theorem off43_eq : ∀ i : grid0.Coords, k0_off43 i = ![(i 0).val / 8 * 8, 128] := by decide +kernel
instance closedOff_off43 (i : grid0.Coords) : ClosedOff (k0_off43 i) := ⟨![(i 0).val / 8 * 8, 128], off43_eq i⟩
theorem off44_eq : ∀ i : grid0.Coords, k0_off44 i = ![(i 0).val / 8 * 8, 256] := by decide +kernel
instance closedOff_off44 (i : grid0.Coords) : ClosedOff (k0_off44 i) := ⟨![(i 0).val / 8 * 8, 256], off44_eq i⟩
theorem off45_eq : ∀ i : grid0.Coords, k0_off45 i = ![(i 0).val / 8 * 8, 384] := by decide +kernel
instance closedOff_off45 (i : grid0.Coords) : ClosedOff (k0_off45 i) := ⟨![(i 0).val / 8 * 8, 384], off45_eq i⟩
theorem off46_eq : ∀ i : grid0.Coords, k0_off46 i = ![(i 0).val / 8 * 8, 512] := by decide +kernel
instance closedOff_off46 (i : grid0.Coords) : ClosedOff (k0_off46 i) := ⟨![(i 0).val / 8 * 8, 512], off46_eq i⟩
theorem off47_eq : ∀ i : grid0.Coords, k0_off47 i = ![(i 0).val / 8 * 8, 640] := by decide +kernel
instance closedOff_off47 (i : grid0.Coords) : ClosedOff (k0_off47 i) := ⟨![(i 0).val / 8 * 8, 640], off47_eq i⟩
theorem off48_eq : ∀ i : grid0.Coords, k0_off48 i = ![(i 0).val / 8 * 8, 768] := by decide +kernel
instance closedOff_off48 (i : grid0.Coords) : ClosedOff (k0_off48 i) := ⟨![(i 0).val / 8 * 8, 768], off48_eq i⟩
theorem off49_eq : ∀ i : grid0.Coords, k0_off49 i = ![(i 0).val / 8 * 8, 896] := by decide +kernel
instance closedOff_off49 (i : grid0.Coords) : ClosedOff (k0_off49 i) := ⟨![(i 0).val / 8 * 8, 896], off49_eq i⟩
theorem off50_eq : ∀ i : grid0.Coords, k0_off50 i = ![(i 0).val / 8 * 8, 1024] := by decide +kernel
instance closedOff_off50 (i : grid0.Coords) : ClosedOff (k0_off50 i) := ⟨![(i 0).val / 8 * 8, 1024], off50_eq i⟩
theorem off51_eq : ∀ i : grid0.Coords, k0_off51 i = ![(i 0).val / 8 * 8, 1152] := by decide +kernel
instance closedOff_off51 (i : grid0.Coords) : ClosedOff (k0_off51 i) := ⟨![(i 0).val / 8 * 8, 1152], off51_eq i⟩
theorem off52_eq : ∀ i : grid0.Coords, k0_off52 i = ![(i 0).val / 8 * 8, 1280] := by decide +kernel
instance closedOff_off52 (i : grid0.Coords) : ClosedOff (k0_off52 i) := ⟨![(i 0).val / 8 * 8, 1280], off52_eq i⟩
theorem off53_eq : ∀ i : grid0.Coords, k0_off53 i = ![(i 0).val / 8 * 8, 1408] := by decide +kernel
instance closedOff_off53 (i : grid0.Coords) : ClosedOff (k0_off53 i) := ⟨![(i 0).val / 8 * 8, 1408], off53_eq i⟩
theorem off54_eq : ∀ i : grid0.Coords, k0_off54 i = ![(i 0).val / 8 * 8, 1536] := by decide +kernel
instance closedOff_off54 (i : grid0.Coords) : ClosedOff (k0_off54 i) := ⟨![(i 0).val / 8 * 8, 1536], off54_eq i⟩
theorem off55_eq : ∀ i : grid0.Coords, k0_off55 i = ![(i 0).val / 8 * 8, 1664] := by decide +kernel
instance closedOff_off55 (i : grid0.Coords) : ClosedOff (k0_off55 i) := ⟨![(i 0).val / 8 * 8, 1664], off55_eq i⟩
theorem off56_eq : ∀ i : grid0.Coords, k0_off56 i = ![(i 0).val / 8 * 8, 1792] := by decide +kernel
instance closedOff_off56 (i : grid0.Coords) : ClosedOff (k0_off56 i) := ⟨![(i 0).val / 8 * 8, 1792], off56_eq i⟩
theorem off57_eq : ∀ i : grid0.Coords, k0_off57 i = ![(i 0).val / 8 * 8, 1920] := by decide +kernel
instance closedOff_off57 (i : grid0.Coords) : ClosedOff (k0_off57 i) := ⟨![(i 0).val / 8 * 8, 1920], off57_eq i⟩
theorem off58_eq : ∀ i : grid0.Coords, k0_off58 i = ![(i 0).val / 8 * 8, 2048] := by decide +kernel
instance closedOff_off58 (i : grid0.Coords) : ClosedOff (k0_off58 i) := ⟨![(i 0).val / 8 * 8, 2048], off58_eq i⟩
theorem off59_eq : ∀ i : grid0.Coords, k0_off59 i = ![(i 0).val / 8 * 8, 2176] := by decide +kernel
instance closedOff_off59 (i : grid0.Coords) : ClosedOff (k0_off59 i) := ⟨![(i 0).val / 8 * 8, 2176], off59_eq i⟩
theorem off60_eq : ∀ i : grid0.Coords, k0_off60 i = ![(i 0).val / 8 * 8, 2304] := by decide +kernel
instance closedOff_off60 (i : grid0.Coords) : ClosedOff (k0_off60 i) := ⟨![(i 0).val / 8 * 8, 2304], off60_eq i⟩
theorem off61_eq : ∀ i : grid0.Coords, k0_off61 i = ![(i 0).val / 8 * 8, 2432] := by decide +kernel
instance closedOff_off61 (i : grid0.Coords) : ClosedOff (k0_off61 i) := ⟨![(i 0).val / 8 * 8, 2432], off61_eq i⟩

end Cert.KernelIdeal.Body
-- ==== Proof.KernelIdeal.RunA.lean ====
module

public import proofs.«01_k».proof.Proof.KernelIdeal.Loop2
public import proofs.«01_k».proof.Proof.KernelIdeal.Offsets
public import proofs.«01_k».proof.Proof.Gen.KernelIdeal.Frame
public import Idealize.ShloMosaic.Lib.Pipeline.FrameBody
public import Idealize.ShloMosaic.Lib.Ring
public import Idealize.ShloMosaic.Lib.WordCmp

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at the first grid point: the pieces its stores leave in each output's staging memref (last first), with the proof
    that on whole memrefs the body runs from its inputs at `x·` and everything else at anything to the inputs unchanged and the
    outputs with these pieces written. -/
def kernelRun0_A (c : Dev nD) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole) (hc0 : cond0_0 i)
    (x0 : Vec F S1x2560x1024 .bf16) (x1 : Vec F S1x1024 .f32) (x2 : Vec F S1x1024 .f32) (x3 : Vec F S1024x2048 .fp8e4m3) (x4 : Vec F S1x2048 .f32) (x5 : Vec F S1x2048 .f32) (x6 : Vec F S9x1024 .f32) (x7 : Vec F S1x1024 .f32) (x8 : Vec F S1x1024 .f32) (x9 : Vec F S1024x1024 .fp8e4m3) (x10 : Vec F S1x1024 .f32) (x11 : Vec F S1x1024 .f32) (x12 : Vec F S1 .f32) (x13 : Vec F S1 .f32) (f14 : BufTy.Contents (Elt F) arg15.view.ty) (f15 : BufTy.Contents (Elt F) arg16.view.ty) (f16 : BufTy.Contents (Elt F) arg17.view.ty) (f17 : BufTy.Contents (Elt F) arg18.view.ty) (f18 : BufTy.Contents (Elt F) arg19.view.ty) (fs0 : BufTy.Contents (Elt F) arg20.view.ty) (fs1 : BufTy.Contents (Elt F) arg21.view.ty) (fs2 : BufTy.Contents (Elt F) arg22.view.ty) (fs3 : BufTy.Contents (Elt F) arg23.view.ty) :
    Σ' (L14 : List (View.Piece (Elt F) S1x2560x1024 .bf16)), Σ' (L15 : List (View.Piece (Elt F) S1x2560x1024 .fp8e4m3)), Σ' (L16 : List (View.Piece (Elt F) S24x2560 .f32)), Σ' (L17 : List (View.Piece (Elt F) S1x2560x1024 .fp8e4m3)), { L18 : List (View.Piece (Elt F) S24x2560 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (arg15.view.loc (c : Thread nD τ) ↦[arg15.view.set]{fullShare} f14) ∗ (arg16.view.loc (c : Thread nD τ) ↦[arg16.view.set]{fullShare} f15) ∗ (arg17.view.loc (c : Thread nD τ) ↦[arg17.view.set]{fullShare} f16) ∗ (arg18.view.loc (c : Thread nD τ) ↦[arg18.view.set]{fullShare} f17) ∗ (arg19.view.loc (c : Thread nD τ) ↦[arg19.view.set]{fullShare} f18) ∗ (arg20.view.loc (c : Thread nD τ) ↦[arg20.view.set]{fullShare} fs0) ∗ (arg21.view.loc (c : Thread nD τ) ↦[arg21.view.set]{fullShare} fs1) ∗ (arg22.view.loc (c : Thread nD τ) ↦[arg22.view.set]{fullShare} fs2) ∗ (arg23.view.loc (c : Thread nD τ) ↦[arg23.view.set]{fullShare} fs3)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
          ⊢ wp frame (wpE (defs₀ (F := F)) Variants.none c none) E (cc0_conformer_conv_fp8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, fun E K => ?run⟩
  case run =>
    simp only [cc0_conformer_conv_fp8_eq_skeleton]; unfold cc0_conformer_conv_fp8_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, H14, H15, H16, H17, H18, HS0, HS1, HS2, HS3, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
    sl_exec_parts (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [H15]; · iexists _; iexact H15
    isplitl [H16]; · iexists _; iexact H16
    isplitl [H17]; · iexists _; iexact H17
    isplitl [H18]; · iexists _; iexact H18
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Body

end
-- ==== Proof.KernelIdeal.RunB.lean ====
module

public import proofs.«01_k».proof.Proof.KernelIdeal.Loop2
public import proofs.«01_k».proof.Proof.KernelIdeal.Offsets
public import proofs.«01_k».proof.Proof.Gen.KernelIdeal.Frame
public import Idealize.ShloMosaic.Lib.Pipeline.FrameBody
public import Idealize.ShloMosaic.Lib.Ring
public import Idealize.ShloMosaic.Lib.WordCmp

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 8000000 in
/-- The body at a later grid point: as `kernelRun0_A`, the two row maxima's memrefs found at `xo16` and `xo18`. -/
def kernelRun0_B (c : Dev nD) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole) (hc0 : ¬cond0_0 i)
    (x0 : Vec F S1x2560x1024 .bf16) (x1 : Vec F S1x1024 .f32) (x2 : Vec F S1x1024 .f32) (x3 : Vec F S1024x2048 .fp8e4m3) (x4 : Vec F S1x2048 .f32) (x5 : Vec F S1x2048 .f32) (x6 : Vec F S9x1024 .f32) (x7 : Vec F S1x1024 .f32) (x8 : Vec F S1x1024 .f32) (x9 : Vec F S1024x1024 .fp8e4m3) (x10 : Vec F S1x1024 .f32) (x11 : Vec F S1x1024 .f32) (x12 : Vec F S1 .f32) (x13 : Vec F S1 .f32) (xo16 : Vec F S24x2560 .f32) (xo18 : Vec F S24x2560 .f32) (f14 : BufTy.Contents (Elt F) arg15.view.ty) (f15 : BufTy.Contents (Elt F) arg16.view.ty) (f17 : BufTy.Contents (Elt F) arg18.view.ty) (fs0 : BufTy.Contents (Elt F) arg20.view.ty) (fs1 : BufTy.Contents (Elt F) arg21.view.ty) (fs2 : BufTy.Contents (Elt F) arg22.view.ty) (fs3 : BufTy.Contents (Elt F) arg23.view.ty) :
    Σ' (L14 : List (View.Piece (Elt F) S1x2560x1024 .bf16)), Σ' (L15 : List (View.Piece (Elt F) S1x2560x1024 .fp8e4m3)), Σ' (L16 : List (View.Piece (Elt F) S24x2560 .f32)), Σ' (L17 : List (View.Piece (Elt F) S1x2560x1024 .fp8e4m3)), { L18 : List (View.Piece (Elt F) S24x2560 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (arg15.view.loc (c : Thread nD τ) ↦[arg15.view.set]{fullShare} f14) ∗ (arg16.view.loc (c : Thread nD τ) ↦[arg16.view.set]{fullShare} f15) ∗ owns (c : Thread nD τ) arg17 fullShare xo16 ∗ (arg18.view.loc (c : Thread nD τ) ↦[arg18.view.set]{fullShare} f17) ∗ owns (c : Thread nD τ) arg19 fullShare xo18 ∗ (arg20.view.loc (c : Thread nD τ) ↦[arg20.view.set]{fullShare} fs0) ∗ (arg21.view.loc (c : Thread nD τ) ↦[arg21.view.set]{fullShare} fs1) ∗ (arg22.view.loc (c : Thread nD τ) ↦[arg22.view.set]{fullShare} fs2) ∗ (arg23.view.loc (c : Thread nD τ) ↦[arg23.view.set]{fullShare} fs3)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (arg17.view.loc (c : Thread nD τ) ↦[arg17.view.set]{fullShare} arg17.view.writes (Elt F) (harg17.unread xo16) L16) ∗ (∃ f, arg18.view.loc (c : Thread nD τ) ↦[arg18.view.set]{fullShare} arg18.view.writes (Elt F) f L17) ∗ (arg19.view.loc (c : Thread nD τ) ↦[arg19.view.set]{fullShare} arg19.view.writes (Elt F) (harg19.unread xo18) L18) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)) -∗ K ⟨⟩))
          ⊢ wp frame (wpE (defs₀ (F := F)) Variants.none c none) E (cc0_conformer_conv_fp8 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, fun E K => ?run⟩
  case run =>
    simp only [cc0_conformer_conv_fp8_eq_skeleton]; unfold cc0_conformer_conv_fp8_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, H14, H15, ⟨%f16, %hf16, H16⟩, H17, ⟨%f18, %hf18, H18⟩, HS0, HS1, HS2, HS3, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg17.eq_unread hf16; obtain rfl := harg19.eq_unread hf18
    sl_exec_parts (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [H15]; · iexists _; iexact H15
    isplitl [H16]; · iexact H16
    isplitl [H17]; · iexists _; iexact H17
    isplitl [H18]; · iexact H18
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl

end Cert.KernelIdeal.Body

end
-- ==== Proof.KernelIdeal.Indep.lean ====
module

public import proofs.«01_k».proof.Proof.KernelIdeal.RunA
public import proofs.«01_k».proof.Proof.KernelIdeal.RunB

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Two contents of the table of parameters agree on the rows that the kernel writes before its loops: 0 to 8 and 16 to 24. -/
def Agree (m : Memref sig .tc .vmem S32x1024 .f32) (X X' : BufTy.Contents (Elt F) m.view.ty) : Prop :=
  ∀ y : S32x1024.Idx, ((y 0).val ≤ 8 ∨ 16 ≤ (y 0).val ∧ (y 0).val ≤ 24) → m.view.read (Elt F) X y = m.view.read (Elt F) X' y

/-- A load of one of those rows gives the same on both. -/
theorem Agree.row {m : Memref sig .tc .vmem S32x1024 .f32} {X X' : BufTy.Contents (Elt F) m.view.ty} (h : Agree m X X') (a : ℕ)
    (ha : a ≤ 8 ∨ 16 ≤ a ∧ a ≤ 24) (b : ℕ) (s : Fin 2 → ℕ) (hs : s 0 = 1) (inb : ∀ j : Fin 2, (![a, b] : Fin 2 → ℕ) j + s j ≤ S32x1024.size j) :
    View.readAt (Elt F) m.view (Rect.unit (s := S32x1024) ![a, b] s inb).toLoadRect X
      = View.readAt (Elt F) m.view (Rect.unit (s := S32x1024) ![a, b] s inb).toLoadRect X' := by
  funext x
  refine h _ ?_
  have hx : (x 0).val < 1 := lt_of_lt_of_eq (x 0).isLt hs
  have e : (((Rect.unit (s := S32x1024) ![a, b] s inb).toLoadRect.idx x) 0).val = a := by
    rw [LoadRect.idx_apply]
    show a + 1 * (x 0).val = a
    omega
  rw [e]; exact ha

set_option maxHeartbeats 2000000 in
/-- A trip of the first loop stores the same pieces on tables of parameters that agree, whatever it finds in what it writes. -/
theorem tripL1_congr (𝒱 : Variants) (c : Dev nD) (bd : Option 𝒱.V) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole) (arg0 : BitVec 32) (v5 : F .f32) (v64 : FVec F S1x1024 .f32) (X_arg1 : BufTy.Contents (Elt F) arg1.view.ty) (X_arg4 : BufTy.Contents (Elt F) arg4.view.ty)  {X X' : BufTy.Contents (Elt F) arg23.view.ty} (h : Agree arg23 X X') (k : Fin k0_t1_loop.trips) (f16 f16' : BufTy.Contents (Elt F) arg16.view.ty) (f20 f20' : BufTy.Contents (Elt F) arg20.view.ty) (f22 f22' : BufTy.Contents (Elt F) arg22.view.ty) :
    tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X_arg1 X_arg4 X k f16 f20 f22 = tripL_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X_arg1 X_arg4 X' k f16' f20' f22' := by
  unfold tripL_k0_t1 trip_k0_t1
  simp only [Gen.trip_k0_t1.sl.HW_arg16_5, Gen.trip_k0_t1.sl.r, Gen.trip_k0_t1.sl.r_1, Gen.trip_k0_t1.sl.r_12, Gen.trip_k0_t1.sl.r_13, Gen.trip_k0_t1.sl.r_14, Gen.trip_k0_t1.sl.r_15, Gen.trip_k0_t1.sl.r_2, Gen.trip_k0_t1.sl.r_5, Gen.trip_k0_t1.sl.r_6, Gen.trip_k0_t1.sl.r_7, Gen.trip_k0_t1.sl.r_8, Gen.trip_k0_t1.sl.r_9, Gen.trip_k0_t1.sl.v1041, h.row 0 (by decide) _ S1x1024.size rfl, h.row 1 (by decide) _ S1x1024.size rfl, h.row 2 (by decide) _ S1x256.size rfl, h.row 3 (by decide) _ S1x256.size rfl, h.row 4 (by decide) _ S1x256.size rfl, h.row 5 (by decide) _ S1x256.size rfl, h.row 6 (by decide) _ S1x128.size rfl, h.row 7 (by decide) _ S1x256.size rfl, h.row 8 (by decide) _ S1x256.size rfl, h.row 16 (by decide) _ S1x128.size rfl, h.row 17 (by decide) _ S1x128.size rfl, h.row 18 (by decide) _ S1x128.size rfl, h.row 19 (by decide) _ S1x128.size rfl, h.row 20 (by decide) _ S1x128.size rfl, h.row 21 (by decide) _ S1x128.size rfl, h.row 22 (by decide) _ S1x128.size rfl, h.row 23 (by decide) _ S1x128.size rfl, h.row 24 (by decide) _ S1x128.size rfl]

/-- Nor do the trips before `n`. -/
theorem pb1_congr (𝒱 : Variants) (c : Dev nD) (bd : Option 𝒱.V) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole) (arg0 : BitVec 32) (v5 : F .f32) (v64 : FVec F S1x1024 .f32) (X_arg1 : BufTy.Contents (Elt F) arg1.view.ty) (X_arg4 : BufTy.Contents (Elt F) arg4.view.ty)  {X X' : BufTy.Contents (Elt F) arg23.view.ty} (h : Agree arg23 X X') {G16 G16' : BufTy.Contents (Elt F) arg16.view.ty} {G20 G20' : BufTy.Contents (Elt F) arg20.view.ty} {G22 G22' : BufTy.Contents (Elt F) arg22.view.ty} (n : ℕ) :
    pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X_arg1 X_arg4 X G16 G20 G22 n = pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X_arg1 X_arg4 X' G16' G20' G22' n := by
  induction n with
  | zero => rfl
  | succ n ih =>
    by_cases hn : n < k0_t1_loop.trips
    · have e := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X_arg1 X_arg4 X G16 G20 G22 ⟨n, hn⟩
      have e' := pb_k0_t1_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X_arg1 X_arg4 X' G16' G20' G22' ⟨n, hn⟩
      dsimp only at e e'
      rw [e, e', ih]
      exact congrArg (fun q : List (View.Piece (Elt F) S1x2560x1024 .fp8e4m3) × List (View.Piece (Elt F) S8x2576x128 .f32) × List (View.Piece (Elt F) S2x2560x128 .f32) =>
        (q.1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X_arg1 X_arg4 X' G16' G20' G22' n).1, q.2.1 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X_arg1 X_arg4 X' G16' G20' G22' n).2.1, q.2.2 ++ (pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X_arg1 X_arg4 X' G16' G20' G22' n).2.2))
        (tripL1_congr 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X_arg1 X_arg4 h ⟨n, hn⟩ _ _ _ _ _ _)
    · rw [pb_k0_t1.eq_2, pb_k0_t1.eq_2]; unfold pb_k0_t1Step; rw [dif_neg hn, dif_neg hn]; exact ih

set_option maxHeartbeats 8000000 in
/-- A trip of the second loop stores the same pieces on tables of parameters that agree. -/
theorem tripL2_congr (𝒱 : Variants) (c : Dev nD) (bd : Option 𝒱.V) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole) (arg0 : BitVec 32) (v5 : F .f32) (v64 : FVec F S1x1024 .f32) (X_arg1 : BufTy.Contents (Elt F) arg1.view.ty) (X_arg10 : BufTy.Contents (Elt F) arg10.view.ty) (X_arg20 : BufTy.Contents (Elt F) arg20.view.ty)  {X X' : BufTy.Contents (Elt F) arg23.view.ty} (h : Agree arg23 X X') (k : Fin k0_t2_loop.trips) :
    tripL2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X_arg1 X_arg10 X_arg20 X k = tripL2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X_arg1 X_arg10 X_arg20 X' k := by
  unfold tripL2 trip2
  simp only [trip2.sl.HW18_11, trip2.sl.HW18_14, trip2.sl.HW18_16, trip2.sl.HW18_19, trip2.sl.HW18_22, trip2.sl.HW18_24, trip2.sl.HW18_27, trip2.sl.HW18_3, trip2.sl.HW18_30, trip2.sl.HW18_33, trip2.sl.HW18_35, trip2.sl.HW18_38, trip2.sl.HW18_40, trip2.sl.HW18_6, trip2.sl.HW18_8, trip2.sl.HW21_100, trip2.sl.HW21_101, trip2.sl.HW21_102, trip2.sl.HW21_104, trip2.sl.HW21_105, trip2.sl.HW21_107, trip2.sl.HW21_108, trip2.sl.HW21_109, trip2.sl.HW21_11, trip2.sl.HW21_111, trip2.sl.HW21_112, trip2.sl.HW21_114, trip2.sl.HW21_115, trip2.sl.HW21_117, trip2.sl.HW21_118, trip2.sl.HW21_12, trip2.sl.HW21_120, trip2.sl.HW21_121, trip2.sl.HW21_122, trip2.sl.HW21_124, trip2.sl.HW21_125, trip2.sl.HW21_127, trip2.sl.HW21_128, trip2.sl.HW21_130, trip2.sl.HW21_131, trip2.sl.HW21_132, trip2.sl.HW21_134, trip2.sl.HW21_135, trip2.sl.HW21_137, trip2.sl.HW21_138, trip2.sl.HW21_14, trip2.sl.HW21_140, trip2.sl.HW21_141, trip2.sl.HW21_142, trip2.sl.HW21_144, trip2.sl.HW21_145, trip2.sl.HW21_147, trip2.sl.HW21_148, trip2.sl.HW21_15, trip2.sl.HW21_150, trip2.sl.HW21_151, trip2.sl.HW21_152, trip2.sl.HW21_154, trip2.sl.HW21_155, trip2.sl.HW21_157, trip2.sl.HW21_158, trip2.sl.HW21_160, trip2.sl.HW21_17, trip2.sl.HW21_18, trip2.sl.HW21_19, trip2.sl.HW21_2, trip2.sl.HW21_20, trip2.sl.HW21_22, trip2.sl.HW21_23, trip2.sl.HW21_25, trip2.sl.HW21_26, trip2.sl.HW21_28, trip2.sl.HW21_29, trip2.sl.HW21_3, trip2.sl.HW21_31, trip2.sl.HW21_32, trip2.sl.HW21_34, trip2.sl.HW21_35, trip2.sl.HW21_37, trip2.sl.HW21_38, trip2.sl.HW21_40, trip2.sl.HW21_41, trip2.sl.HW21_42, trip2.sl.HW21_43, trip2.sl.HW21_45, trip2.sl.HW21_46, trip2.sl.HW21_48, trip2.sl.HW21_49, trip2.sl.HW21_5, trip2.sl.HW21_51, trip2.sl.HW21_52, trip2.sl.HW21_54, trip2.sl.HW21_55, trip2.sl.HW21_57, trip2.sl.HW21_58, trip2.sl.HW21_6, trip2.sl.HW21_60, trip2.sl.HW21_61, trip2.sl.HW21_62, trip2.sl.HW21_64, trip2.sl.HW21_65, trip2.sl.HW21_66, trip2.sl.HW21_68, trip2.sl.HW21_69, trip2.sl.HW21_71, trip2.sl.HW21_72, trip2.sl.HW21_74, trip2.sl.HW21_75, trip2.sl.HW21_77, trip2.sl.HW21_78, trip2.sl.HW21_8, trip2.sl.HW21_80, trip2.sl.HW21_81, trip2.sl.HW21_82, trip2.sl.HW21_84, trip2.sl.HW21_85, trip2.sl.HW21_86, trip2.sl.HW21_88, trip2.sl.HW21_89, trip2.sl.HW21_9, trip2.sl.HW21_91, trip2.sl.HW21_92, trip2.sl.HW21_94, trip2.sl.HW21_95, trip2.sl.HW21_97, trip2.sl.HW21_98, trip2.sl.HW22_1, trip2.sl.HW22_2, trip2.sl.HW22_3, trip2.sl.HW22_4, trip2.sl.HW22_5, trip2.sl.exec_k0_part100, trip2.sl.exec_k0_part101, trip2.sl.exec_k0_part102, trip2.sl.exec_k0_part103, trip2.sl.exec_k0_part104, trip2.sl.exec_k0_part105, trip2.sl.exec_k0_part106, trip2.sl.exec_k0_part107, trip2.sl.exec_k0_part108, trip2.sl.exec_k0_part109, trip2.sl.exec_k0_part11, trip2.sl.exec_k0_part110, trip2.sl.exec_k0_part111, trip2.sl.exec_k0_part112, trip2.sl.exec_k0_part113, trip2.sl.exec_k0_part114, trip2.sl.exec_k0_part115, trip2.sl.exec_k0_part116, trip2.sl.exec_k0_part117, trip2.sl.exec_k0_part118, trip2.sl.exec_k0_part119, trip2.sl.exec_k0_part12, trip2.sl.exec_k0_part120, trip2.sl.exec_k0_part121, trip2.sl.exec_k0_part122, trip2.sl.exec_k0_part123, trip2.sl.exec_k0_part124, trip2.sl.exec_k0_part125, trip2.sl.exec_k0_part126, trip2.sl.exec_k0_part127, trip2.sl.exec_k0_part128, trip2.sl.exec_k0_part129, trip2.sl.exec_k0_part13, trip2.sl.exec_k0_part130, trip2.sl.exec_k0_part131, trip2.sl.exec_k0_part132, trip2.sl.exec_k0_part133, trip2.sl.exec_k0_part134, trip2.sl.exec_k0_part135, trip2.sl.exec_k0_part136, trip2.sl.exec_k0_part137, trip2.sl.exec_k0_part138, trip2.sl.exec_k0_part139, trip2.sl.exec_k0_part14, trip2.sl.exec_k0_part140, trip2.sl.exec_k0_part141, trip2.sl.exec_k0_part142, trip2.sl.exec_k0_part143, trip2.sl.exec_k0_part144, trip2.sl.exec_k0_part145, trip2.sl.exec_k0_part146, trip2.sl.exec_k0_part147, trip2.sl.exec_k0_part148, trip2.sl.exec_k0_part149, trip2.sl.exec_k0_part15, trip2.sl.exec_k0_part150, trip2.sl.exec_k0_part151, trip2.sl.exec_k0_part152, trip2.sl.exec_k0_part153, trip2.sl.exec_k0_part154, trip2.sl.exec_k0_part155, trip2.sl.exec_k0_part156, trip2.sl.exec_k0_part157, trip2.sl.exec_k0_part16, trip2.sl.exec_k0_part17, trip2.sl.exec_k0_part18, trip2.sl.exec_k0_part19, trip2.sl.exec_k0_part20, trip2.sl.exec_k0_part21, trip2.sl.exec_k0_part22, trip2.sl.exec_k0_part23, trip2.sl.exec_k0_part24, trip2.sl.exec_k0_part25, trip2.sl.exec_k0_part26, trip2.sl.exec_k0_part27, trip2.sl.exec_k0_part28, trip2.sl.exec_k0_part29, trip2.sl.exec_k0_part30, trip2.sl.exec_k0_part31, trip2.sl.exec_k0_part32, trip2.sl.exec_k0_part33, trip2.sl.exec_k0_part34, trip2.sl.exec_k0_part35, trip2.sl.exec_k0_part36, trip2.sl.exec_k0_part37, trip2.sl.exec_k0_part38, trip2.sl.exec_k0_part39, trip2.sl.exec_k0_part40, trip2.sl.exec_k0_part41, trip2.sl.exec_k0_part42, trip2.sl.exec_k0_part43, trip2.sl.exec_k0_part44, trip2.sl.exec_k0_part45, trip2.sl.exec_k0_part46, trip2.sl.exec_k0_part47, trip2.sl.exec_k0_part48, trip2.sl.exec_k0_part49, trip2.sl.exec_k0_part50, trip2.sl.exec_k0_part51, trip2.sl.exec_k0_part52, trip2.sl.exec_k0_part53, trip2.sl.exec_k0_part54, trip2.sl.exec_k0_part55, trip2.sl.exec_k0_part56, trip2.sl.exec_k0_part57, trip2.sl.exec_k0_part58, trip2.sl.exec_k0_part59, trip2.sl.exec_k0_part60, trip2.sl.exec_k0_part61, trip2.sl.exec_k0_part62, trip2.sl.exec_k0_part63, trip2.sl.exec_k0_part64, trip2.sl.exec_k0_part65, trip2.sl.exec_k0_part66, trip2.sl.exec_k0_part67, trip2.sl.exec_k0_part68, trip2.sl.exec_k0_part69, trip2.sl.exec_k0_part70, trip2.sl.exec_k0_part71, trip2.sl.exec_k0_part72, trip2.sl.exec_k0_part73, trip2.sl.exec_k0_part74, trip2.sl.exec_k0_part75, trip2.sl.exec_k0_part76, trip2.sl.exec_k0_part77, trip2.sl.exec_k0_part78, trip2.sl.exec_k0_part79, trip2.sl.exec_k0_part80, trip2.sl.exec_k0_part81, trip2.sl.exec_k0_part82, trip2.sl.exec_k0_part83, trip2.sl.exec_k0_part84, trip2.sl.exec_k0_part85, trip2.sl.exec_k0_part86, trip2.sl.exec_k0_part87, trip2.sl.exec_k0_part88, trip2.sl.exec_k0_part89, trip2.sl.exec_k0_part90, trip2.sl.exec_k0_part91, trip2.sl.exec_k0_part92, trip2.sl.exec_k0_part93, trip2.sl.exec_k0_part94, trip2.sl.exec_k0_part95, trip2.sl.exec_k0_part96, trip2.sl.exec_k0_part97, trip2.sl.exec_k0_part98, trip2.sl.exec_k0_part99, trip2.sl.r_10, trip2.sl.r_100, trip2.sl.r_104, trip2.sl.r_105, trip2.sl.r_111, trip2.sl.r_112, trip2.sl.r_116, trip2.sl.r_118, trip2.sl.r_119, trip2.sl.r_122, trip2.sl.r_123, trip2.sl.r_125, trip2.sl.r_128, trip2.sl.r_13, trip2.sl.r_130, trip2.sl.r_135, trip2.sl.r_139, trip2.sl.r_140, trip2.sl.r_141, trip2.sl.r_147, trip2.sl.r_148, trip2.sl.r_15, trip2.sl.r_152, trip2.sl.r_154, trip2.sl.r_157, trip2.sl.r_158, trip2.sl.r_160, trip2.sl.r_163, trip2.sl.r_165, trip2.sl.r_168, trip2.sl.r_170, trip2.sl.r_171, trip2.sl.r_175, trip2.sl.r_176, trip2.sl.r_177, trip2.sl.r_184, trip2.sl.r_185, trip2.sl.r_189, trip2.sl.r_193, trip2.sl.r_194, trip2.sl.r_196, trip2.sl.r_199, trip2.sl.r_20, trip2.sl.r_201, trip2.sl.r_204, trip2.sl.r_205, trip2.sl.r_207, trip2.sl.r_211, trip2.sl.r_212, trip2.sl.r_213, trip2.sl.r_214, trip2.sl.r_219, trip2.sl.r_220, trip2.sl.r_224, trip2.sl.r_228, trip2.sl.r_229, trip2.sl.r_233, trip2.sl.r_235, trip2.sl.r_236, trip2.sl.r_239, trip2.sl.r_24, trip2.sl.r_240, trip2.sl.r_242, trip2.sl.r_245, trip2.sl.r_247, trip2.sl.r_248, trip2.sl.r_249, trip2.sl.r_25, trip2.sl.r_254, trip2.sl.r_255, trip2.sl.r_259, trip2.sl.r_263, trip2.sl.r_264, trip2.sl.r_268, trip2.sl.r_270, trip2.sl.r_273, trip2.sl.r_274, trip2.sl.r_276, trip2.sl.r_279, trip2.sl.r_281, trip2.sl.r_282, trip2.sl.r_283, trip2.sl.r_284, trip2.sl.r_285, trip2.sl.r_286, trip2.sl.r_287, trip2.sl.r_288, trip2.sl.r_289, trip2.sl.r_29, trip2.sl.r_290, trip2.sl.r_291, trip2.sl.r_292, trip2.sl.r_293, trip2.sl.r_294, trip2.sl.r_295, trip2.sl.r_296, trip2.sl.r_297, trip2.sl.r_298, trip2.sl.r_299, trip2.sl.r_3, trip2.sl.r_300, trip2.sl.r_301, trip2.sl.r_302, trip2.sl.r_303, trip2.sl.r_304, trip2.sl.r_305, trip2.sl.r_306, trip2.sl.r_307, trip2.sl.r_308, trip2.sl.r_309, trip2.sl.r_310, trip2.sl.r_311, trip2.sl.r_312, trip2.sl.r_313, trip2.sl.r_33, trip2.sl.r_34, trip2.sl.r_35, trip2.sl.r_39, trip2.sl.r_42, trip2.sl.r_43, trip2.sl.r_45, trip2.sl.r_48, trip2.sl.r_50, trip2.sl.r_53, trip2.sl.r_55, trip2.sl.r_56, trip2.sl.r_60, trip2.sl.r_61, trip2.sl.r_65, trip2.sl.r_69, trip2.sl.r_7, trip2.sl.r_70, trip2.sl.r_77, trip2.sl.r_78, trip2.sl.r_8, trip2.sl.r_80, trip2.sl.r_83, trip2.sl.r_85, trip2.sl.r_88, trip2.sl.r_89, trip2.sl.r_91, trip2.sl.r_95, trip2.sl.r_96, trip2.sl.v1437, trip2.sl.v1439, trip2.sl.v1440, trip2.sl.v1442, trip2.sl.v1443, trip2.sl.v1445, trip2.sl.v1446, trip2.sl.v1448, trip2.sl.v1449, trip2.sl.v1451, trip2.sl.v1452, trip2.sl.v1454, trip2.sl.v1455, trip2.sl.v1457, trip2.sl.v1458, trip2.sl.v1460, trip2.sl.v1461, trip2.sl.v1463, trip2.sl.v1464, trip2.sl.v1466, trip2.sl.v1467, trip2.sl.v2157, trip2.sl.v2158, trip2.sl.v2160, trip2.sl.v2161, trip2.sl.v2163, trip2.sl.v2164, trip2.sl.v2166, trip2.sl.v2167, trip2.sl.v2169, trip2.sl.v2170, trip2.sl.v2172, trip2.sl.v2173, trip2.sl.v2175, trip2.sl.v2176, trip2.sl.v2178, trip2.sl.v2179, trip2.sl.v2181, trip2.sl.v2182, trip2.sl.v2184, trip2.sl.v2185, trip2.sl.v2875, trip2.sl.v2876, trip2.sl.v2878, trip2.sl.v2879, trip2.sl.v2881, trip2.sl.v2882, trip2.sl.v2884, trip2.sl.v2885, trip2.sl.v2887, trip2.sl.v2888, trip2.sl.v2890, trip2.sl.v2891, trip2.sl.v2893, trip2.sl.v2894, trip2.sl.v2896, trip2.sl.v2897, trip2.sl.v2899, trip2.sl.v2900, trip2.sl.v2902, trip2.sl.v2903, trip2.sl.v3594, trip2.sl.v3596, trip2.sl.v3597, trip2.sl.v3599, trip2.sl.v3600, trip2.sl.v3602, trip2.sl.v3603, trip2.sl.v3605, trip2.sl.v3606, trip2.sl.v3608, trip2.sl.v3609, trip2.sl.v3611, trip2.sl.v3612, trip2.sl.v3614, trip2.sl.v3615, trip2.sl.v3617, trip2.sl.v3618, trip2.sl.v3620, trip2.sl.v3621, trip2.sl.v4314, trip2.sl.v4315, trip2.sl.v4317, trip2.sl.v4318, trip2.sl.v4320, trip2.sl.v4321, trip2.sl.v4323, trip2.sl.v4324, trip2.sl.v4326, trip2.sl.v4327, trip2.sl.v4329, trip2.sl.v4330, trip2.sl.v4332, trip2.sl.v4333, trip2.sl.v4335, trip2.sl.v4336, trip2.sl.v4338, trip2.sl.v4339, trip2.sl.v5032, trip2.sl.v5033, trip2.sl.v5035, trip2.sl.v5036, trip2.sl.v5038, trip2.sl.v5039, trip2.sl.v5041, trip2.sl.v5042, trip2.sl.v5044, trip2.sl.v5045, trip2.sl.v5047, trip2.sl.v5048, trip2.sl.v5050, trip2.sl.v5051, trip2.sl.v5053, trip2.sl.v5054, trip2.sl.v5056, trip2.sl.v5057, trip2.sl.v5753, trip2.sl.v5754, trip2.sl.v5756, trip2.sl.v5757, trip2.sl.v5759, trip2.sl.v5760, trip2.sl.v5762, trip2.sl.v5763, trip2.sl.v5765, trip2.sl.v5766, trip2.sl.v5768, trip2.sl.v5769, trip2.sl.v5771, trip2.sl.v5772, trip2.sl.v5774, trip2.sl.v5775, trip2.sl.v6466, trip2.sl.v6478, trip2.sl.v6491, trip2.sl.v6504, trip2.sl.v6517, trip2.sl.v6530, trip2.sl.v6543, trip2.sl.v6556, trip2.sl.v6575, trip2.sl.v6587, trip2.sl.v6600, trip2.sl.v6613, trip2.sl.v6626, trip2.sl.v6639, trip2.sl.v6652, trip2.sl.v6665, trip2.sl.v6684, trip2.sl.v6696, trip2.sl.v6709, trip2.sl.v6722, trip2.sl.v6735, trip2.sl.v6748, trip2.sl.v6761, trip2.sl.v6774, trip2.sl.v6793, trip2.sl.v6805, trip2.sl.v6818, trip2.sl.v6831, trip2.sl.v6844, trip2.sl.v6857, trip2.sl.v6870, trip2.sl.v6883, trip2.sl.v6902, trip2.sl.v6914, trip2.sl.v6927, trip2.sl.v6940, trip2.sl.v6953, trip2.sl.v6966, trip2.sl.v6979, trip2.sl.v6992, trip2.sl.v7010, trip2.sl.v721, trip2.sl.v722, trip2.sl.v724, trip2.sl.v725, trip2.sl.v727, trip2.sl.v728, trip2.sl.v730, trip2.sl.v731, trip2.sl.v733, trip2.sl.v734, trip2.sl.v736, trip2.sl.v737, trip2.sl.v739, trip2.sl.v740, trip2.sl.v742, trip2.sl.v743, trip2.sl.v745, trip2.sl.v746, trip2.sl.v748, trip2.sl.v749, h.row 0 (by decide) _ S1x1024.size rfl, h.row 1 (by decide) _ S1x1024.size rfl, h.row 2 (by decide) _ S1x256.size rfl, h.row 3 (by decide) _ S1x256.size rfl, h.row 4 (by decide) _ S1x256.size rfl, h.row 5 (by decide) _ S1x256.size rfl, h.row 6 (by decide) _ S1x128.size rfl, h.row 7 (by decide) _ S1x256.size rfl, h.row 8 (by decide) _ S1x256.size rfl, h.row 16 (by decide) _ S1x128.size rfl, h.row 17 (by decide) _ S1x128.size rfl, h.row 18 (by decide) _ S1x128.size rfl, h.row 19 (by decide) _ S1x128.size rfl, h.row 20 (by decide) _ S1x128.size rfl, h.row 21 (by decide) _ S1x128.size rfl, h.row 22 (by decide) _ S1x128.size rfl, h.row 23 (by decide) _ S1x128.size rfl, h.row 24 (by decide) _ S1x128.size rfl]

end Cert.KernelIdeal.Body

end
-- ==== Proof.KernelIdeal.Indep2.lean ====
module

public import proofs.«01_k».proof.Proof.KernelIdeal.Indep

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Nor do the trips before `n`. -/
theorem pb2_congr (𝒱 : Variants) (c : Dev nD) (bd : Option 𝒱.V) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole) (arg0 : BitVec 32) (v5 : F .f32) (v64 : FVec F S1x1024 .f32) (X_arg1 : BufTy.Contents (Elt F) arg1.view.ty) (X_arg10 : BufTy.Contents (Elt F) arg10.view.ty) (X_arg20 : BufTy.Contents (Elt F) arg20.view.ty)  {X X' : BufTy.Contents (Elt F) arg23.view.ty} (h : Agree arg23 X X') (n : ℕ) :
    pb2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X_arg1 X_arg10 X_arg20 X n = pb2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X_arg1 X_arg10 X_arg20 X' n := by
  induction n with
  | zero => rfl
  | succ n ih =>
    by_cases hn : n < k0_t2_loop.trips
    · have e := pb2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X_arg1 X_arg10 X_arg20 X ⟨n, hn⟩
      have e' := pb2_succ (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X_arg1 X_arg10 X_arg20 X' ⟨n, hn⟩
      exact e.trans ((congrArg₂ (fun (q p : List (View.Piece (Elt F) S1x2560x1024 .bf16) × List (View.Piece (Elt F) S1x2560x1024 .fp8e4m3) × List (View.Piece (Elt F) S8x160x128 .f32) × List (View.Piece (Elt F) S2x2560x128 .f32)) =>
        (q.1 ++ p.1, q.2.1 ++ p.2.1, q.2.2.1 ++ p.2.2.1, q.2.2.2 ++ p.2.2.2)) (tripL2_congr 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X_arg1 X_arg10 X_arg20 h ⟨n, hn⟩) ih).trans e'.symm)
    · rw [pb2.eq_2, pb2.eq_2]; unfold pb2Step; rw [dif_neg hn, dif_neg hn]; exact ih

/-- Writes that cover a whole buffer leave the same contents whatever it held before. -/
theorem writes_eq_of_cover {s : Shape} {e : EltTy} {m : Memref sig .tc .vmem s e} (hm : m.IsWhole) (f f' : BufTy.Contents (Elt F) m.view.ty)
    (L : List (View.Piece (Elt F) s e)) (hL : ∀ y : s.Idx, ∃ p ∈ L, y ∈ p.1.set) :
    m.view.writes (Elt F) f L = m.view.writes (Elt F) f' L := by
  rw [hm.eq_unread (f := m.view.writes (Elt F) f L) rfl, hm.eq_unread (f := m.view.writes (Elt F) f' L) rfl]
  exact congrArg _ (funext fun y => View.read_writes_apply_eq _ _ _ _ y L (hL y))

/-- Tables written with the same pieces, which cover the rows in use, agree. -/
theorem agree_of_cover (m : Memref sig .tc .vmem S32x1024 .f32) (f f' : BufTy.Contents (Elt F) m.view.ty)
    (L : List (View.Piece (Elt F) S32x1024 .f32))
    (hL : ∀ y : S32x1024.Idx, ((y 0).val ≤ 8 ∨ 16 ≤ (y 0).val ∧ (y 0).val ≤ 24) → ∃ p ∈ L, y ∈ p.1.set) :
    Agree m (m.view.writes (Elt F) f L) (m.view.writes (Elt F) f' L) :=
  fun y hy => View.read_writes_apply_eq _ _ _ _ y L (hL y hy)

/-- The table's pieces cover the rows in use. -/
theorem table_cover (w0 w1 w2 w3 w4 w5 w6 w7 w8 : Vec F S1x1024 .f32) (w16 : Vec F S9x1024 .f32) (y : S32x1024.Idx)
    (hy : (y 0).val ≤ 8 ∨ 16 ≤ (y 0).val ∧ (y 0).val ≤ 24) :
    ∃ p ∈ ([⟨Rect.unit ![16, 0] S9x1024.size Gen.inb_S32x1024_S9x1024_16_0, w16⟩,
      ⟨Rect.unit ![8, 0] S1x1024.size Gen.inb_S32x1024_S1x1024_8_0, w8⟩,
      ⟨Rect.unit ![7, 0] S1x1024.size Gen.inb_S32x1024_S1x1024_7_0, w7⟩,
      ⟨Rect.unit ![6, 0] S1x1024.size Gen.inb_S32x1024_S1x1024_6_0, w6⟩,
      ⟨Rect.unit ![5, 0] S1x1024.size Gen.inb_S32x1024_S1x1024_5_0, w5⟩,
      ⟨Rect.unit ![4, 0] S1x1024.size Gen.inb_S32x1024_S1x1024_4_0, w4⟩,
      ⟨Rect.unit ![3, 0] S1x1024.size Gen.inb_S32x1024_S1x1024_3_0, w3⟩,
      ⟨Rect.unit ![2, 0] S1x1024.size Gen.inb_S32x1024_S1x1024_2_0, w2⟩,
      ⟨Rect.unit ![1, 0] S1x1024.size Gen.inb_S32x1024_S1x1024_1_0, w1⟩,
      ⟨Rect.unit ![0, 0] S1x1024.size Gen.inb_S32x1024_S1x1024_0_0, w0⟩] : List (View.Piece (Elt F) S32x1024 .f32)), y ∈ p.1.set := by
  have h1 : (y 1).val < 1024 := (y 1).isLt
  by_cases h : 16 ≤ (y 0).val
  · refine ⟨_, List.mem_cons_self, ?_⟩
    rw [Rect.mem_set_unit]; intro a; fin_cases a
    · show 16 ≤ (y 0).val ∧ (y 0).val < 16 + 9; omega
    · show 0 ≤ (y 1).val ∧ (y 1).val < 0 + 1024; omega
  by_cases h8 : (y 0).val = 8
  · refine ⟨_, (List.mem_cons_of_mem _ List.mem_cons_self), ?_⟩
    rw [Rect.mem_set_unit]; intro a; fin_cases a
    · show 8 ≤ (y 0).val ∧ (y 0).val < 8 + 1; omega
    · show 0 ≤ (y 1).val ∧ (y 1).val < 0 + 1024; omega
  by_cases h7 : (y 0).val = 7
  · refine ⟨_, (List.mem_cons_of_mem _ (List.mem_cons_of_mem _ List.mem_cons_self)), ?_⟩
    rw [Rect.mem_set_unit]; intro a; fin_cases a
    · show 7 ≤ (y 0).val ∧ (y 0).val < 7 + 1; omega
    · show 0 ≤ (y 1).val ∧ (y 1).val < 0 + 1024; omega
  by_cases h6 : (y 0).val = 6
  · refine ⟨_, (List.mem_cons_of_mem _ (List.mem_cons_of_mem _ (List.mem_cons_of_mem _ List.mem_cons_self))), ?_⟩
    rw [Rect.mem_set_unit]; intro a; fin_cases a
    · show 6 ≤ (y 0).val ∧ (y 0).val < 6 + 1; omega
    · show 0 ≤ (y 1).val ∧ (y 1).val < 0 + 1024; omega
  by_cases h5 : (y 0).val = 5
  · refine ⟨_, (List.mem_cons_of_mem _ (List.mem_cons_of_mem _ (List.mem_cons_of_mem _ (List.mem_cons_of_mem _ List.mem_cons_self)))), ?_⟩
    rw [Rect.mem_set_unit]; intro a; fin_cases a
    · show 5 ≤ (y 0).val ∧ (y 0).val < 5 + 1; omega
    · show 0 ≤ (y 1).val ∧ (y 1).val < 0 + 1024; omega
  by_cases h4 : (y 0).val = 4
  · refine ⟨_, (List.mem_cons_of_mem _ (List.mem_cons_of_mem _ (List.mem_cons_of_mem _ (List.mem_cons_of_mem _ (List.mem_cons_of_mem _ List.mem_cons_self))))), ?_⟩
    rw [Rect.mem_set_unit]; intro a; fin_cases a
    · show 4 ≤ (y 0).val ∧ (y 0).val < 4 + 1; omega
    · show 0 ≤ (y 1).val ∧ (y 1).val < 0 + 1024; omega
  by_cases h3 : (y 0).val = 3
  · refine ⟨_, (List.mem_cons_of_mem _ (List.mem_cons_of_mem _ (List.mem_cons_of_mem _ (List.mem_cons_of_mem _ (List.mem_cons_of_mem _ (List.mem_cons_of_mem _ List.mem_cons_self)))))), ?_⟩
    rw [Rect.mem_set_unit]; intro a; fin_cases a
    · show 3 ≤ (y 0).val ∧ (y 0).val < 3 + 1; omega
    · show 0 ≤ (y 1).val ∧ (y 1).val < 0 + 1024; omega
  by_cases h2 : (y 0).val = 2
  · refine ⟨_, (List.mem_cons_of_mem _ (List.mem_cons_of_mem _ (List.mem_cons_of_mem _ (List.mem_cons_of_mem _ (List.mem_cons_of_mem _ (List.mem_cons_of_mem _ (List.mem_cons_of_mem _ List.mem_cons_self))))))), ?_⟩
    rw [Rect.mem_set_unit]; intro a; fin_cases a
    · show 2 ≤ (y 0).val ∧ (y 0).val < 2 + 1; omega
    · show 0 ≤ (y 1).val ∧ (y 1).val < 0 + 1024; omega
  by_cases h1 : (y 0).val = 1
  · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), ?_⟩
    rw [Rect.mem_set_unit]; intro a; fin_cases a
    · show 1 ≤ (y 0).val ∧ (y 0).val < 1 + 1; omega
    · show 0 ≤ (y 1).val ∧ (y 1).val < 0 + 1024; omega
  by_cases h0 : (y 0).val = 0
  · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), ?_⟩
    rw [Rect.mem_set_unit]; intro a; fin_cases a
    · show 0 ≤ (y 0).val ∧ (y 0).val < 0 + 1; omega
    · show 0 ≤ (y 1).val ∧ (y 1).val < 0 + 1024; omega
  omega

/-- The two zero borders of the buffer of hidden rows. -/
abbrev borders : List (View.Piece (Elt F) S8x2576x128 .f32) :=
  [⟨Rect.unit ![0, 2568, 0] S8x8x128.size Gen.inb_S8x2576x128_S8x8x128_0_2568_0, Gen.k0_pay734⟩, ⟨Rect.unit ![0, 0, 0] S8x8x128.size Gen.inb_S8x2576x128_S8x8x128_0_0_0, Gen.k0_pay733⟩]

/-- The pieces of the whole first loop. -/
abbrev front (𝒱 : Variants) (c : Dev nD) (bd : Option 𝒱.V) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole) (arg0 : BitVec 32) (v5 : F .f32) (v64 : FVec F S1x1024 .f32)  (X1 : BufTy.Contents (Elt F) arg1.view.ty) (X4 : BufTy.Contents (Elt F) arg4.view.ty) (X10 : BufTy.Contents (Elt F) arg10.view.ty) (L23 : List (View.Piece (Elt F) S32x1024 .f32)) (f15 : BufTy.Contents (Elt F) arg16.view.ty) (fs0 : BufTy.Contents (Elt F) arg20.view.ty) (fs2 : BufTy.Contents (Elt F) arg22.view.ty) (fs3 : BufTy.Contents (Elt F) arg23.view.ty) :=
  pb_k0_t1 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X4 (arg23.view.writes (Elt F) fs3 L23) f15 (arg20.view.writes (Elt F) fs0 borders) fs2 (Scf.trips k0_t1_loop.lb k0_t1_loop.ub k0_t1_loop.st)

/-- The hidden rows after it. -/
abbrev hidden (𝒱 : Variants) (c : Dev nD) (bd : Option 𝒱.V) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole) (arg0 : BitVec 32) (v5 : F .f32) (v64 : FVec F S1x1024 .f32)  (X1 : BufTy.Contents (Elt F) arg1.view.ty) (X4 : BufTy.Contents (Elt F) arg4.view.ty) (X10 : BufTy.Contents (Elt F) arg10.view.ty) (L23 : List (View.Piece (Elt F) S32x1024 .f32)) (f15 : BufTy.Contents (Elt F) arg16.view.ty) (fs0 : BufTy.Contents (Elt F) arg20.view.ty) (fs2 : BufTy.Contents (Elt F) arg22.view.ty) (fs3 : BufTy.Contents (Elt F) arg23.view.ty) : BufTy.Contents (Elt F) arg20.view.ty :=
  arg20.view.writes (Elt F) fs0 ((front 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X4 X10 L23 f15 fs0 fs2 fs3).2.1 ++ borders)

/-- The pieces of the whole second loop. -/
abbrev back (𝒱 : Variants) (c : Dev nD) (bd : Option 𝒱.V) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole) (arg0 : BitVec 32) (v5 : F .f32) (v64 : FVec F S1x1024 .f32)  (X1 : BufTy.Contents (Elt F) arg1.view.ty) (X4 : BufTy.Contents (Elt F) arg4.view.ty) (X10 : BufTy.Contents (Elt F) arg10.view.ty) (L23 : List (View.Piece (Elt F) S32x1024 .f32)) (f15 : BufTy.Contents (Elt F) arg16.view.ty) (fs0 : BufTy.Contents (Elt F) arg20.view.ty) (fs2 : BufTy.Contents (Elt F) arg22.view.ty) (fs3 : BufTy.Contents (Elt F) arg23.view.ty) :=
  pb2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X10 (hidden 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X4 X10 L23 f15 fs0 fs2 fs3) (arg23.view.writes (Elt F) fs3 L23) (Scf.trips k0_t2_loop.lb k0_t2_loop.ub k0_t2_loop.st)

/-- The row maxima after it. -/
abbrev maxima (𝒱 : Variants) (c : Dev nD) (bd : Option 𝒱.V) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole) (arg0 : BitVec 32) (v5 : F .f32) (v64 : FVec F S1x1024 .f32)  (X1 : BufTy.Contents (Elt F) arg1.view.ty) (X4 : BufTy.Contents (Elt F) arg4.view.ty) (X10 : BufTy.Contents (Elt F) arg10.view.ty) (L23 : List (View.Piece (Elt F) S32x1024 .f32)) (f15 : BufTy.Contents (Elt F) arg16.view.ty) (fs0 : BufTy.Contents (Elt F) arg20.view.ty) (fs2 : BufTy.Contents (Elt F) arg22.view.ty) (fs3 : BufTy.Contents (Elt F) arg23.view.ty) : BufTy.Contents (Elt F) arg22.view.ty :=
  arg22.view.writes (Elt F) fs2 ((back 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X4 X10 L23 f15 fs0 fs2 fs3).2.2.2 ++ (front 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X4 X10 L23 f15 fs0 fs2 fs3).2.2)

set_option maxHeartbeats 4000000 in
theorem cover_hidden (𝒱 : Variants) (c : Dev nD) (bd : Option 𝒱.V) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole) (arg0 : BitVec 32) (v5 : F .f32) (v64 : FVec F S1x1024 .f32)  (X1 : BufTy.Contents (Elt F) arg1.view.ty) (X4 : BufTy.Contents (Elt F) arg4.view.ty) (X10 : BufTy.Contents (Elt F) arg10.view.ty) (L23 : List (View.Piece (Elt F) S32x1024 .f32)) (f15 : BufTy.Contents (Elt F) arg16.view.ty) (fs0 : BufTy.Contents (Elt F) arg20.view.ty) (fs2 : BufTy.Contents (Elt F) arg22.view.ty) (fs3 : BufTy.Contents (Elt F) arg23.view.ty) (y : S8x2576x128.Idx) :
    ∃ p ∈ (front 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X4 X10 L23 f15 fs0 fs2 fs3).2.1 ++ borders, y ∈ p.1.set :=
  View.cover_of_tiledBy _ ![1, 8, 128] (by sl_kernel_rfl) y

set_option maxHeartbeats 4000000 in
theorem cover_maxima (𝒱 : Variants) (c : Dev nD) (bd : Option 𝒱.V) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole) (arg0 : BitVec 32) (v5 : F .f32) (v64 : FVec F S1x1024 .f32)  (X1 : BufTy.Contents (Elt F) arg1.view.ty) (X4 : BufTy.Contents (Elt F) arg4.view.ty) (X10 : BufTy.Contents (Elt F) arg10.view.ty) (L23 : List (View.Piece (Elt F) S32x1024 .f32)) (f15 : BufTy.Contents (Elt F) arg16.view.ty) (fs0 : BufTy.Contents (Elt F) arg20.view.ty) (fs2 : BufTy.Contents (Elt F) arg22.view.ty) (fs3 : BufTy.Contents (Elt F) arg23.view.ty) (y : S2x2560x128.Idx) :
    ∃ p ∈ (back 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X4 X10 L23 f15 fs0 fs2 fs3).2.2.2 ++ (front 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X4 X10 L23 f15 fs0 fs2 fs3).2.2, y ∈ p.1.set :=
  View.cover_of_tiledL _ ![1, 32, 128] (by sl_kernel_rfl) y

/-- Nothing that the loops leave depends on what the buffers held before. -/
theorem loops_congr (𝒱 : Variants) (c : Dev nD) (bd : Option 𝒱.V) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole) (arg0 : BitVec 32) (v5 : F .f32) (v64 : FVec F S1x1024 .f32)  (X1 : BufTy.Contents (Elt F) arg1.view.ty) (X4 : BufTy.Contents (Elt F) arg4.view.ty) (X10 : BufTy.Contents (Elt F) arg10.view.ty) (L23 : List (View.Piece (Elt F) S32x1024 .f32))
    (hL : ∀ y : S32x1024.Idx, ((y 0).val ≤ 8 ∨ 16 ≤ (y 0).val ∧ (y 0).val ≤ 24) → ∃ p ∈ L23, y ∈ p.1.set) (f15 : BufTy.Contents (Elt F) arg16.view.ty) (fs0 : BufTy.Contents (Elt F) arg20.view.ty) (fs2 : BufTy.Contents (Elt F) arg22.view.ty) (fs3 : BufTy.Contents (Elt F) arg23.view.ty) (f15' : BufTy.Contents (Elt F) arg16.view.ty) (fs0' : BufTy.Contents (Elt F) arg20.view.ty) (fs2' : BufTy.Contents (Elt F) arg22.view.ty) (fs3' : BufTy.Contents (Elt F) arg23.view.ty) :
    front 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X4 X10 L23 f15 fs0 fs2 fs3 = front 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X4 X10 L23 f15' fs0' fs2' fs3'
    ∧ back 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X4 X10 L23 f15 fs0 fs2 fs3 = back 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X4 X10 L23 f15' fs0' fs2' fs3'
    ∧ maxima 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X4 X10 L23 f15 fs0 fs2 fs3 = maxima 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X4 X10 L23 f15' fs0' fs2' fs3' := by
  have hag := agree_of_cover arg23 fs3 fs3' L23 hL
  have h1 : front 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X4 X10 L23 f15 fs0 fs2 fs3 = front 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X4 X10 L23 f15' fs0' fs2' fs3' := pb1_congr 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X4 hag _
  have h2 : hidden 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X4 X10 L23 f15 fs0 fs2 fs3 = hidden 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X4 X10 L23 f15' fs0' fs2' fs3' :=
    (congrArg (fun q => arg20.view.writes (Elt F) fs0 (q.2.1 ++ borders)) h1).trans
      (writes_eq_of_cover harg20 fs0 fs0' _ (cover_hidden 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X4 X10 L23 f15' fs0' fs2' fs3'))
  have h3 : back 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X4 X10 L23 f15 fs0 fs2 fs3 = back 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X4 X10 L23 f15' fs0' fs2' fs3' :=
    (congrArg (fun X => pb2 (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X10 X (arg23.view.writes (Elt F) fs3 L23) (Scf.trips k0_t2_loop.lb k0_t2_loop.ub k0_t2_loop.st)) h2).trans
      (pb2_congr 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X10 _ hag _)
  exact ⟨h1, h3, (congrArg₂ (fun q q' => arg22.view.writes (Elt F) fs2 (q.2.2.2 ++ q'.2.2)) h3 h1).trans
    (writes_eq_of_cover harg22 fs2 fs2' _ (cover_maxima 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64  X1 X4 X10 L23 f15' fs0' fs2' fs3'))⟩

end Cert.KernelIdeal.Body

end
-- ==== Proof.KernelIdeal.Indep3.lean ====
module

public import proofs.«01_k».proof.Proof.KernelIdeal.Indep2

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (c : Dev nD) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole)
    (x0 : Vec F S1x2560x1024 .bf16) (x1 : Vec F S1x1024 .f32) (x2 : Vec F S1x1024 .f32) (x3 : Vec F S1024x2048 .fp8e4m3) (x4 : Vec F S1x2048 .f32) (x5 : Vec F S1x2048 .f32) (x6 : Vec F S9x1024 .f32) (x7 : Vec F S1x1024 .f32) (x8 : Vec F S1x1024 .f32) (x9 : Vec F S1024x1024 .fp8e4m3) (x10 : Vec F S1x1024 .f32) (x11 : Vec F S1x1024 .f32) (x12 : Vec F S1 .f32) (x13 : Vec F S1 .f32)

set_option maxHeartbeats 8000000 in
/-- The pieces that the body stores at first point do not depend on what the buffers held. -/
theorem runA_congr (hc0 : cond0_0 i) (f14 : BufTy.Contents (Elt F) arg15.view.ty) (f15 : BufTy.Contents (Elt F) arg16.view.ty) (f16 : BufTy.Contents (Elt F) arg17.view.ty) (f17 : BufTy.Contents (Elt F) arg18.view.ty) (f18 : BufTy.Contents (Elt F) arg19.view.ty) (fs0 : BufTy.Contents (Elt F) arg20.view.ty) (fs1 : BufTy.Contents (Elt F) arg21.view.ty) (fs2 : BufTy.Contents (Elt F) arg22.view.ty) (fs3 : BufTy.Contents (Elt F) arg23.view.ty) (f14' : BufTy.Contents (Elt F) arg15.view.ty) (f15' : BufTy.Contents (Elt F) arg16.view.ty) (f16' : BufTy.Contents (Elt F) arg17.view.ty) (f17' : BufTy.Contents (Elt F) arg18.view.ty) (f18' : BufTy.Contents (Elt F) arg19.view.ty) (fs0' : BufTy.Contents (Elt F) arg20.view.ty) (fs1' : BufTy.Contents (Elt F) arg21.view.ty) (fs2' : BufTy.Contents (Elt F) arg22.view.ty) (fs3' : BufTy.Contents (Elt F) arg23.view.ty) :
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 f14 f15 f16 f17 f18 fs0 fs1 fs2 fs3).1 = (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 f14' f15' f16' f17' f18' fs0' fs1' fs2' fs3').1 ∧
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 f14 f15 f16 f17 f18 fs0 fs1 fs2 fs3).2.1 = (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 f14' f15' f16' f17' f18' fs0' fs1' fs2' fs3').2.1 ∧
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 f14 f15 f16 f17 f18 fs0 fs1 fs2 fs3).2.2.1 = (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 f14' f15' f16' f17' f18' fs0' fs1' fs2' fs3').2.2.1 ∧
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 f14 f15 f16 f17 f18 fs0 fs1 fs2 fs3).2.2.2.1 = (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 f14' f15' f16' f17' f18' fs0' fs1' fs2' fs3').2.2.2.1 ∧
    (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 f14 f15 f16 f17 f18 fs0 fs1 fs2 fs3).2.2.2.2.1 = (kernelRun0_A (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 f14' f15' f16' f17' f18' fs0' fs1' fs2' fs3').2.2.2.2.1 := by
  have h := loops_congr (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (BitVec.ofNat 32 ↑(i 0)) (kernelRun0_A.sl.r_2 c arg14 harg14 x13) (kernelRun0_A.sl.r_6 c arg11 harg11 arg14 harg14 x10 x13) (harg1.unread x0) (harg4.unread x3) (harg10.unread x9)
    (⟨Rect.unit ![16, 0] S9x1024.size Gen.inb_S32x1024_S9x1024_16_0, Gen.k0_pay731 (View.readAt (Elt F) arg7.view (Rect.unit ![0, 0] S9x1024.size Gen.inb_S9x1024_S9x1024_0_0).toLoadRect (harg7.unread x6)) (View.readAt (Elt F) arg8.view (Rect.unit ![0, 0] S1x1024.size Gen.inb_S1x1024_S1x1024_0_0).toLoadRect (harg8.unread x7))⟩ ::
    ⟨Rect.unit ![8, 0] S1x1024.size Gen.inb_S32x1024_S1x1024_8_0, Gen.k0_pay730 (View.readAt (Elt F) arg12.view (Rect.unit ![0, 0] S1x1024.size Gen.inb_S1x1024_S1x1024_0_0).toLoadRect (harg12.unread x11))⟩ ::
    ⟨Rect.unit ![7, 0] S1x1024.size Gen.inb_S32x1024_S1x1024_7_0, Gen.k0_pay729 (kernelRun0_A.sl.r_6 c arg11 harg11 arg14 harg14 x10 x13)⟩ :: kernelRun0_A.sl.HS3_7 c arg2 harg2 arg3 harg3 arg5 harg5 arg6 harg6 arg9 harg9 arg13 harg13 x1 x2 x4 x5 x8 x12) (fun y hy => table_cover _ _ _ _ _ _ _ _ _ _ y hy) f15 fs0 fs2 fs3 f15' fs0' fs2' fs3'
  refine ⟨congrArg Prod.fst h.2.1, congrArg Prod.fst h.1, ?_, congrArg (fun q => (Prod.snd q).1) h.2.1, ?_⟩
  · have h := h.2.2
    unfold kernelRun0_A
    dsimp only
    simp only [kernelRun0_A.sl.v471, kernelRun0_A.sl.v478, kernelRun0_A.sl.v148, kernelRun0_A.sl.H16_3, kernelRun0_A.sl.v403, kernelRun0_A.sl.H16_7, kernelRun0_A.sl.v336, kernelRun0_A.sl.r_9, kernelRun0_A.sl.H18_15, kernelRun0_A.sl.v433, kernelRun0_A.sl.v306, kernelRun0_A.sl.v688, kernelRun0_A.sl.r_20, kernelRun0_A.sl.v486, kernelRun0_A.sl.v636, kernelRun0_A.sl.v553, kernelRun0_A.sl.H18_19, kernelRun0_A.sl.v163, kernelRun0_A.sl.H18_7, kernelRun0_A.sl.v193, kernelRun0_A.sl.v178, kernelRun0_A.sl.v238, kernelRun0_A.sl.v613, kernelRun0_A.sl.v381, kernelRun0_A.sl.H16_5, kernelRun0_A.sl.v463, kernelRun0_A.sl.v208, kernelRun0_A.sl.H18_13, kernelRun0_A.sl.H18_12, kernelRun0_A.sl.v598, kernelRun0_A.sl.v283, kernelRun0_A.sl.r_21, kernelRun0_A.sl.v546, kernelRun0_A.sl.v216, kernelRun0_A.sl.r_8, kernelRun0_A.sl.v253, kernelRun0_A.sl.v703, kernelRun0_A.sl.v343, kernelRun0_A.sl.v133, kernelRun0_A.sl.v298, kernelRun0_A.sl.v373, kernelRun0_A.sl.v583, kernelRun0_A.sl.v696, kernelRun0_A.sl.v456, kernelRun0_A.sl.v568, kernelRun0_A.sl.H18_11, kernelRun0_A.sl.H16_10, kernelRun0_A.sl.v508, kernelRun0_A.sl.v448, kernelRun0_A.sl.v328, kernelRun0_A.sl.H18_5, kernelRun0_A.sl.H16_17, kernelRun0_A.sl.v366, kernelRun0_A.sl.v351, kernelRun0_A.sl.v523, kernelRun0_A.sl.H18_2, kernelRun0_A.sl.r_14, kernelRun0_A.sl.v261, kernelRun0_A.sl.H18_17, kernelRun0_A.sl.v276, kernelRun0_A.sl.v576, kernelRun0_A.sl.r_12, kernelRun0_A.sl.v681, kernelRun0_A.sl.r_13, kernelRun0_A.sl.H16_8, kernelRun0_A.sl.v531, kernelRun0_A.sl.v493, kernelRun0_A.sl.H18_4, kernelRun0_A.sl.v246, kernelRun0_A.sl.v711, kernelRun0_A.sl.H16_20, kernelRun0_A.sl.v118, kernelRun0_A.sl.H18_6, kernelRun0_A.sl.H16_18, kernelRun0_A.sl.v628, kernelRun0_A.sl.H16_11, kernelRun0_A.sl.r_16, kernelRun0_A.sl.r_18, kernelRun0_A.sl.v516, kernelRun0_A.sl.H16_15, kernelRun0_A.sl.v621, kernelRun0_A.sl.H16_4, kernelRun0_A.sl.v673, kernelRun0_A.sl.r_17, kernelRun0_A.sl.v291, kernelRun0_A.sl.H16_19, kernelRun0_A.sl.v643, kernelRun0_A.sl.H16_2, kernelRun0_A.sl.v418, kernelRun0_A.sl.v268, kernelRun0_A.sl.v186, kernelRun0_A.sl.v321, kernelRun0_A.sl.H16_9, kernelRun0_A.sl.r_19, kernelRun0_A.sl.v591, kernelRun0_A.sl.H18_3, kernelRun0_A.sl.v223, kernelRun0_A.sl.r_10, kernelRun0_A.sl.H16_14, kernelRun0_A.sl.H18_8, kernelRun0_A.sl.r_15, kernelRun0_A.sl.v606, kernelRun0_A.sl.v231, kernelRun0_A.sl.H18_18, kernelRun0_A.sl.H16_16, kernelRun0_A.sl.v666, kernelRun0_A.sl.v538, kernelRun0_A.sl.H18_10, kernelRun0_A.sl.v426, kernelRun0_A.sl.v501, kernelRun0_A.sl.v388, kernelRun0_A.sl.v411, kernelRun0_A.sl.v313, kernelRun0_A.sl.H16_6, kernelRun0_A.sl.v358, kernelRun0_A.sl.v201, kernelRun0_A.sl.H18_16, kernelRun0_A.sl.H18_20, kernelRun0_A.sl.v156, kernelRun0_A.sl.r_11, kernelRun0_A.sl.v561, kernelRun0_A.sl.H16_13, kernelRun0_A.sl.H18_14, kernelRun0_A.sl.v658, kernelRun0_A.sl.v396, kernelRun0_A.sl.v171, kernelRun0_A.sl.H16_12, kernelRun0_A.sl.H18_9, kernelRun0_A.sl.v441, kernelRun0_A.sl.v651, h]
  · have h := h.2.2
    unfold kernelRun0_A
    dsimp only
    simp only [kernelRun0_A.sl.v471, kernelRun0_A.sl.v478, kernelRun0_A.sl.v148, kernelRun0_A.sl.H16_3, kernelRun0_A.sl.v403, kernelRun0_A.sl.H16_7, kernelRun0_A.sl.v336, kernelRun0_A.sl.r_9, kernelRun0_A.sl.H18_15, kernelRun0_A.sl.v433, kernelRun0_A.sl.v306, kernelRun0_A.sl.v688, kernelRun0_A.sl.r_20, kernelRun0_A.sl.v486, kernelRun0_A.sl.v636, kernelRun0_A.sl.v553, kernelRun0_A.sl.H18_19, kernelRun0_A.sl.v163, kernelRun0_A.sl.H18_7, kernelRun0_A.sl.v193, kernelRun0_A.sl.v178, kernelRun0_A.sl.v238, kernelRun0_A.sl.v613, kernelRun0_A.sl.v381, kernelRun0_A.sl.H16_5, kernelRun0_A.sl.v463, kernelRun0_A.sl.v208, kernelRun0_A.sl.H18_13, kernelRun0_A.sl.H18_12, kernelRun0_A.sl.v598, kernelRun0_A.sl.v283, kernelRun0_A.sl.r_21, kernelRun0_A.sl.v546, kernelRun0_A.sl.v216, kernelRun0_A.sl.r_8, kernelRun0_A.sl.v253, kernelRun0_A.sl.v703, kernelRun0_A.sl.v343, kernelRun0_A.sl.v133, kernelRun0_A.sl.v298, kernelRun0_A.sl.v373, kernelRun0_A.sl.v583, kernelRun0_A.sl.v696, kernelRun0_A.sl.v456, kernelRun0_A.sl.v568, kernelRun0_A.sl.H18_11, kernelRun0_A.sl.H16_10, kernelRun0_A.sl.v508, kernelRun0_A.sl.v448, kernelRun0_A.sl.v328, kernelRun0_A.sl.H18_5, kernelRun0_A.sl.H16_17, kernelRun0_A.sl.v366, kernelRun0_A.sl.v351, kernelRun0_A.sl.v523, kernelRun0_A.sl.H18_2, kernelRun0_A.sl.r_14, kernelRun0_A.sl.v261, kernelRun0_A.sl.H18_17, kernelRun0_A.sl.v276, kernelRun0_A.sl.v576, kernelRun0_A.sl.r_12, kernelRun0_A.sl.v681, kernelRun0_A.sl.r_13, kernelRun0_A.sl.H16_8, kernelRun0_A.sl.v531, kernelRun0_A.sl.v493, kernelRun0_A.sl.H18_4, kernelRun0_A.sl.v246, kernelRun0_A.sl.v711, kernelRun0_A.sl.H16_20, kernelRun0_A.sl.v118, kernelRun0_A.sl.H18_6, kernelRun0_A.sl.H16_18, kernelRun0_A.sl.v628, kernelRun0_A.sl.H16_11, kernelRun0_A.sl.r_16, kernelRun0_A.sl.r_18, kernelRun0_A.sl.v516, kernelRun0_A.sl.H16_15, kernelRun0_A.sl.v621, kernelRun0_A.sl.H16_4, kernelRun0_A.sl.v673, kernelRun0_A.sl.r_17, kernelRun0_A.sl.v291, kernelRun0_A.sl.H16_19, kernelRun0_A.sl.v643, kernelRun0_A.sl.H16_2, kernelRun0_A.sl.v418, kernelRun0_A.sl.v268, kernelRun0_A.sl.v186, kernelRun0_A.sl.v321, kernelRun0_A.sl.H16_9, kernelRun0_A.sl.r_19, kernelRun0_A.sl.v591, kernelRun0_A.sl.H18_3, kernelRun0_A.sl.v223, kernelRun0_A.sl.r_10, kernelRun0_A.sl.H16_14, kernelRun0_A.sl.H18_8, kernelRun0_A.sl.r_15, kernelRun0_A.sl.v606, kernelRun0_A.sl.v231, kernelRun0_A.sl.H18_18, kernelRun0_A.sl.H16_16, kernelRun0_A.sl.v666, kernelRun0_A.sl.v538, kernelRun0_A.sl.H18_10, kernelRun0_A.sl.v426, kernelRun0_A.sl.v501, kernelRun0_A.sl.v388, kernelRun0_A.sl.v411, kernelRun0_A.sl.v313, kernelRun0_A.sl.H16_6, kernelRun0_A.sl.v358, kernelRun0_A.sl.v201, kernelRun0_A.sl.H18_16, kernelRun0_A.sl.H18_20, kernelRun0_A.sl.v156, kernelRun0_A.sl.r_11, kernelRun0_A.sl.v561, kernelRun0_A.sl.H16_13, kernelRun0_A.sl.H18_14, kernelRun0_A.sl.v658, kernelRun0_A.sl.v396, kernelRun0_A.sl.v171, kernelRun0_A.sl.H16_12, kernelRun0_A.sl.H18_9, kernelRun0_A.sl.v441, kernelRun0_A.sl.v651, h]

set_option maxHeartbeats 8000000 in
/-- The pieces that the body stores at a later point do not depend on what the buffers held. -/
theorem runB_congr (hc0 : ¬cond0_0 i) (xo16 xo18 : Vec F S24x2560 .f32) (f14 : BufTy.Contents (Elt F) arg15.view.ty) (f15 : BufTy.Contents (Elt F) arg16.view.ty) (f17 : BufTy.Contents (Elt F) arg18.view.ty) (fs0 : BufTy.Contents (Elt F) arg20.view.ty) (fs1 : BufTy.Contents (Elt F) arg21.view.ty) (fs2 : BufTy.Contents (Elt F) arg22.view.ty) (fs3 : BufTy.Contents (Elt F) arg23.view.ty) (f14' : BufTy.Contents (Elt F) arg15.view.ty) (f15' : BufTy.Contents (Elt F) arg16.view.ty) (f17' : BufTy.Contents (Elt F) arg18.view.ty) (fs0' : BufTy.Contents (Elt F) arg20.view.ty) (fs1' : BufTy.Contents (Elt F) arg21.view.ty) (fs2' : BufTy.Contents (Elt F) arg22.view.ty) (fs3' : BufTy.Contents (Elt F) arg23.view.ty) :
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xo16 xo18 f14 f15 f17 fs0 fs1 fs2 fs3).1 = (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xo16 xo18 f14' f15' f17' fs0' fs1' fs2' fs3').1 ∧
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xo16 xo18 f14 f15 f17 fs0 fs1 fs2 fs3).2.1 = (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xo16 xo18 f14' f15' f17' fs0' fs1' fs2' fs3').2.1 ∧
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xo16 xo18 f14 f15 f17 fs0 fs1 fs2 fs3).2.2.1 = (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xo16 xo18 f14' f15' f17' fs0' fs1' fs2' fs3').2.2.1 ∧
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xo16 xo18 f14 f15 f17 fs0 fs1 fs2 fs3).2.2.2.1 = (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xo16 xo18 f14' f15' f17' fs0' fs1' fs2' fs3').2.2.2.1 ∧
    (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xo16 xo18 f14 f15 f17 fs0 fs1 fs2 fs3).2.2.2.2.1 = (kernelRun0_B (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xo16 xo18 f14' f15' f17' fs0' fs1' fs2' fs3').2.2.2.2.1 := by
  have h := loops_congr (F := F) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (BitVec.ofNat 32 ↑(i 0)) (kernelRun0_B.sl.r_2 c arg14 harg14 x13) (kernelRun0_B.sl.r_6 c arg11 harg11 arg14 harg14 x10 x13) (harg1.unread x0) (harg4.unread x3) (harg10.unread x9)
    (⟨Rect.unit ![16, 0] S9x1024.size Gen.inb_S32x1024_S9x1024_16_0, Gen.k0_pay731 (View.readAt (Elt F) arg7.view (Rect.unit ![0, 0] S9x1024.size Gen.inb_S9x1024_S9x1024_0_0).toLoadRect (harg7.unread x6)) (View.readAt (Elt F) arg8.view (Rect.unit ![0, 0] S1x1024.size Gen.inb_S1x1024_S1x1024_0_0).toLoadRect (harg8.unread x7))⟩ ::
    ⟨Rect.unit ![8, 0] S1x1024.size Gen.inb_S32x1024_S1x1024_8_0, Gen.k0_pay730 (View.readAt (Elt F) arg12.view (Rect.unit ![0, 0] S1x1024.size Gen.inb_S1x1024_S1x1024_0_0).toLoadRect (harg12.unread x11))⟩ ::
    ⟨Rect.unit ![7, 0] S1x1024.size Gen.inb_S32x1024_S1x1024_7_0, Gen.k0_pay729 (kernelRun0_B.sl.r_6 c arg11 harg11 arg14 harg14 x10 x13)⟩ :: kernelRun0_B.sl.HS3_7 c arg2 harg2 arg3 harg3 arg5 harg5 arg6 harg6 arg9 harg9 arg13 harg13 x1 x2 x4 x5 x8 x12) (fun y hy => table_cover _ _ _ _ _ _ _ _ _ _ y hy) f15 fs0 fs2 fs3 f15' fs0' fs2' fs3'
  refine ⟨congrArg Prod.fst h.2.1, congrArg Prod.fst h.1, ?_, congrArg (fun q => (Prod.snd q).1) h.2.1, ?_⟩
  · have h := h.2.2
    unfold kernelRun0_B
    dsimp only
    simp only [kernelRun0_B.sl.H16_18, kernelRun0_B.sl.v388, kernelRun0_B.sl.v568, kernelRun0_B.sl.v673, kernelRun0_B.sl.v283, kernelRun0_B.sl.v418, kernelRun0_B.sl.v643, kernelRun0_B.sl.r_20, kernelRun0_B.sl.v313, kernelRun0_B.sl.v403, kernelRun0_B.sl.H16_7, kernelRun0_B.sl.v448, kernelRun0_B.sl.v523, kernelRun0_B.sl.v493, kernelRun0_B.sl.r_21, kernelRun0_B.sl.v598, kernelRun0_B.sl.v463, kernelRun0_B.sl.r_8, kernelRun0_B.sl.v238, kernelRun0_B.sl.H16_6, kernelRun0_B.sl.v163, kernelRun0_B.sl.v478, kernelRun0_B.sl.v703, kernelRun0_B.sl.H18_8, kernelRun0_B.sl.v358, kernelRun0_B.sl.v538, kernelRun0_B.sl.r_12, kernelRun0_B.sl.H18_15, kernelRun0_B.sl.H18_11, kernelRun0_B.sl.r_16, kernelRun0_B.sl.v178, kernelRun0_B.sl.H16_11, kernelRun0_B.sl.v328, kernelRun0_B.sl.v208, kernelRun0_B.sl.v268, kernelRun0_B.sl.H16_3, kernelRun0_B.sl.v118, kernelRun0_B.sl.v553, kernelRun0_B.sl.H16_17, kernelRun0_B.sl.H18_16, kernelRun0_B.sl.v433, kernelRun0_B.sl.r_18, kernelRun0_B.sl.v148, kernelRun0_B.sl.H16_1, kernelRun0_B.sl.v343, kernelRun0_B.sl.H16_5, kernelRun0_B.sl.r_19, kernelRun0_B.sl.H16_9, kernelRun0_B.sl.r_14, kernelRun0_B.sl.H16_13, kernelRun0_B.sl.H16_2, kernelRun0_B.sl.v583, kernelRun0_B.sl.v628, kernelRun0_B.sl.H16_16, kernelRun0_B.sl.H18_10, kernelRun0_B.sl.v508, kernelRun0_B.sl.H18_14, kernelRun0_B.sl.r_10, kernelRun0_B.sl.v133, kernelRun0_B.sl.H18_3, kernelRun0_B.sl.r_13, kernelRun0_B.sl.H18_6, kernelRun0_B.sl.H16_10, kernelRun0_B.sl.H18_1, kernelRun0_B.sl.H18_18, kernelRun0_B.sl.v223, kernelRun0_B.sl.H16_14, kernelRun0_B.sl.v688, kernelRun0_B.sl.v298, kernelRun0_B.sl.v373, kernelRun0_B.sl.r_9, kernelRun0_B.sl.v613, kernelRun0_B.sl.H18_12, kernelRun0_B.sl.v193, kernelRun0_B.sl.v658, kernelRun0_B.sl.H18_7, kernelRun0_B.sl.H18_4, kernelRun0_B.sl.v253, kernelRun0_B.sl.r_15, h]
  · have h := h.2.2
    unfold kernelRun0_B
    dsimp only
    simp only [kernelRun0_B.sl.H16_18, kernelRun0_B.sl.v388, kernelRun0_B.sl.v568, kernelRun0_B.sl.v673, kernelRun0_B.sl.v283, kernelRun0_B.sl.v418, kernelRun0_B.sl.v643, kernelRun0_B.sl.r_20, kernelRun0_B.sl.v313, kernelRun0_B.sl.v403, kernelRun0_B.sl.H16_7, kernelRun0_B.sl.v448, kernelRun0_B.sl.v523, kernelRun0_B.sl.v493, kernelRun0_B.sl.r_21, kernelRun0_B.sl.v598, kernelRun0_B.sl.v463, kernelRun0_B.sl.r_8, kernelRun0_B.sl.v238, kernelRun0_B.sl.H16_6, kernelRun0_B.sl.v163, kernelRun0_B.sl.v478, kernelRun0_B.sl.v703, kernelRun0_B.sl.H18_8, kernelRun0_B.sl.v358, kernelRun0_B.sl.v538, kernelRun0_B.sl.r_12, kernelRun0_B.sl.H18_15, kernelRun0_B.sl.H18_11, kernelRun0_B.sl.r_16, kernelRun0_B.sl.v178, kernelRun0_B.sl.H16_11, kernelRun0_B.sl.v328, kernelRun0_B.sl.v208, kernelRun0_B.sl.v268, kernelRun0_B.sl.H16_3, kernelRun0_B.sl.v118, kernelRun0_B.sl.v553, kernelRun0_B.sl.H16_17, kernelRun0_B.sl.H18_16, kernelRun0_B.sl.v433, kernelRun0_B.sl.r_18, kernelRun0_B.sl.v148, kernelRun0_B.sl.H16_1, kernelRun0_B.sl.v343, kernelRun0_B.sl.H16_5, kernelRun0_B.sl.r_19, kernelRun0_B.sl.H16_9, kernelRun0_B.sl.r_14, kernelRun0_B.sl.H16_13, kernelRun0_B.sl.H16_2, kernelRun0_B.sl.v583, kernelRun0_B.sl.v628, kernelRun0_B.sl.H16_16, kernelRun0_B.sl.H18_10, kernelRun0_B.sl.v508, kernelRun0_B.sl.H18_14, kernelRun0_B.sl.r_10, kernelRun0_B.sl.v133, kernelRun0_B.sl.H18_3, kernelRun0_B.sl.r_13, kernelRun0_B.sl.H18_6, kernelRun0_B.sl.H16_10, kernelRun0_B.sl.H18_1, kernelRun0_B.sl.H18_18, kernelRun0_B.sl.v223, kernelRun0_B.sl.H16_14, kernelRun0_B.sl.v688, kernelRun0_B.sl.v298, kernelRun0_B.sl.v373, kernelRun0_B.sl.r_9, kernelRun0_B.sl.v613, kernelRun0_B.sl.H18_12, kernelRun0_B.sl.v193, kernelRun0_B.sl.v658, kernelRun0_B.sl.H18_7, kernelRun0_B.sl.H18_4, kernelRun0_B.sl.v253, kernelRun0_B.sl.r_15, h]

end Cert.KernelIdeal.Body

end
-- ==== Proof.KernelIdeal.Outs.lean ====
module

public import proofs.«01_k».proof.Proof.KernelIdeal.Indep3

/-!
What every output window holds after each grid point.
-/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- It holds at the first point only — by arithmetic of the point. -/
theorem hcond0_0 : ∀ t : Fin cfg0.N, cond0_0 (grid0.coords t) ↔ t.val % 24 = 0 :=
  (fun t => by
    have ht : t.val < 24 := Nat.lt_of_lt_of_eq t.isLt N_0
    have e0 : (grid0.coords t 0).val = t.val / 1 % 24 := Pipeline.Grid.coords_val t 0 (by decide) rfl
    simp only [cond0_0, e0]
    word_cmp
   : ∀ t : Fin grid0.N, cond0_0 (grid0.coords t) ↔ t.val % 24 = 0)

/-! One staging buffer of each output window: its contents are stated through it, and the choice does not matter. -/
abbrev VO0_14 : View sig .tc .vmem S1x2560x1024 .bf16 := (Memref.whole cc0_stg14_0 : Memref sig .tc .vmem S1x2560x1024 .bf16).view
abbrev VO0_15 : View sig .tc .vmem S1x2560x1024 .fp8e4m3 := (Memref.whole cc0_stg15_0 : Memref sig .tc .vmem S1x2560x1024 .fp8e4m3).view
abbrev VO0_16 : View sig .tc .vmem S24x2560 .f32 := (Memref.whole cc0_stg16_0 : Memref sig .tc .vmem S24x2560 .f32).view
abbrev VO0_17 : View sig .tc .vmem S1x2560x1024 .fp8e4m3 := (Memref.whole cc0_stg17_0 : Memref sig .tc .vmem S1x2560x1024 .fp8e4m3).view
abbrev VO0_18 : View sig .tc .vmem S24x2560 .f32 := (Memref.whole cc0_stg18_0 : Memref sig .tc .vmem S24x2560 .f32).view
/-- Each window's current staging memref at point `t`, spelled as the pipeline passes it (`bodyAt0`), and its wholeness. -/
abbrev ms0_0 (t : Fin cfg0.N) : Memref sig .tc .vmem S1x2560x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1024 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x2048 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S9x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1024 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1024x1024 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1024 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1024 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .smem S1 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .smem S1 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x2560x1024 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1x2560x1024 .fp8e4m3 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S24x2560 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x2560x1024 .fp8e4m3 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S24x2560 .f32 := win0_18.stage (cfg0.slots t 18)
abbrev hs0_18 (t : Fin cfg0.N) : (ms0_18 t).IsWhole := hstage0_18 ((cfg0.slots t 18).cast nbuf0_18)
/-- The scratch operands: whole scoped buffers of the kernel's own, passed beside the windows. -/
abbrev scM0_0 : Memref sig .tc .vmem S8x2576x128 .f32 := Memref.whole cc0_scratch0
abbrev scM0_1 : Memref sig .tc .vmem S8x160x128 .f32 := Memref.whole cc0_scratch1
abbrev scM0_2 : Memref sig .tc .vmem S2x2560x128 .f32 := Memref.whole cc0_scratch2
abbrev scM0_3 : Memref sig .tc .vmem S32x1024 .f32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-- The run of the body at the first point, at the staging memrefs and blocks of point `t`. -/
abbrev runA (c : Dev nD) (t : Fin cfg0.N) (h0 : t.val % 24 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((ms0_14 t).view.junk) ((ms0_15 t).view.junk) ((ms0_16 t).view.junk) ((ms0_17 t).view.junk) ((ms0_18 t).view.junk) (scM0_0.view.junk) (scM0_1.view.junk) (scM0_2.view.junk) (scM0_3.view.junk)

/-- The run of the body at a later point. -/
abbrev runB (c : Dev nD) (t : Fin cfg0.N) (h0 : ¬t.val % 24 = 0) (xo16 xo18 : Vec F S24x2560 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) xo16 xo18 ((ms0_14 t).view.junk) ((ms0_15 t).view.junk) ((ms0_17 t).view.junk) (scM0_0.view.junk) (scM0_1.view.junk) (scM0_2.view.junk) (scM0_3.view.junk)

/-- The same runs at any contents. -/
abbrev runA' (c : Dev nD) (t : Fin cfg0.N) (h0 : t.val % 24 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)
abbrev runB' (c : Dev nD) (t : Fin cfg0.N) (h0 : ¬t.val % 24 = 0) (xo16 xo18 : Vec F S24x2560 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) xo16 xo18

/-! The pieces of the three windows written block by block tile their blocks; so do the first point's pieces of the two
windows kept over the grid (its first store fills the block with zeros). -/

theorem coverA_14 (c : Dev nD) (t : Fin cfg0.N) (h0 : t.val % 24 = 0) (y : S1x2560x1024.Idx) : ∃ pc ∈ (runA m c t h0).1, y ∈ pc.1.set :=
  View.cover_of_tiledL _ ![1, 160, 256] (by sl_kernel_rfl) y
theorem coverA_15 (c : Dev nD) (t : Fin cfg0.N) (h0 : t.val % 24 = 0) (y : S1x2560x1024.Idx) : ∃ pc ∈ (runA m c t h0).2.1, y ∈ pc.1.set :=
  View.cover_of_tiledL _ ![1, 32, 1024] (by sl_kernel_rfl) y
theorem coverA_17 (c : Dev nD) (t : Fin cfg0.N) (h0 : t.val % 24 = 0) (y : S1x2560x1024.Idx) : ∃ pc ∈ (runA m c t h0).2.2.2.1, y ∈ pc.1.set :=
  View.cover_of_tiledL _ ![1, 32, 128] (by sl_kernel_rfl) y
theorem coverB_14 (c : Dev nD) (t : Fin cfg0.N) (h0 : ¬t.val % 24 = 0) (a b) (y : S1x2560x1024.Idx) : ∃ pc ∈ (runB m c t h0 a b).1, y ∈ pc.1.set :=
  View.cover_of_tiledL _ ![1, 160, 256] (by sl_kernel_rfl) y
theorem coverB_15 (c : Dev nD) (t : Fin cfg0.N) (h0 : ¬t.val % 24 = 0) (a b) (y : S1x2560x1024.Idx) : ∃ pc ∈ (runB m c t h0 a b).2.1, y ∈ pc.1.set :=
  View.cover_of_tiledL _ ![1, 32, 1024] (by sl_kernel_rfl) y
theorem coverB_17 (c : Dev nD) (t : Fin cfg0.N) (h0 : ¬t.val % 24 = 0) (a b) (y : S1x2560x1024.Idx) : ∃ pc ∈ (runB m c t h0 a b).2.2.2.1, y ∈ pc.1.set :=
  View.cover_of_tiledL _ ![1, 32, 128] (by sl_kernel_rfl) y
theorem coverA_16 (c : Dev nD) (t : Fin cfg0.N) (h0 : t.val % 24 = 0) (y : S24x2560.Idx) : ∃ pc ∈ (runA m c t h0).2.2.1, y ∈ pc.1.set :=
  View.cover_of_wholeMem _ (by sl_whole_mem) y
theorem coverA_18 (c : Dev nD) (t : Fin cfg0.N) (h0 : t.val % 24 = 0) (y : S24x2560.Idx) : ∃ pc ∈ (runA m c t h0).2.2.2.2.1, y ∈ pc.1.set :=
  View.cover_of_wholeMem _ (by sl_whole_mem) y

/-- What the outputs hold after the first point. -/
def stepA (c : Dev nD) (t : Fin cfg0.N) (h0 : t.val % 24 = 0) : Vec F S1x2560x1024 .bf16 × Vec F S1x2560x1024 .fp8e4m3 × Vec F S24x2560 .f32 × Vec F S1x2560x1024 .fp8e4m3 × Vec F S24x2560 .f32 :=
  (VO0_14.read (Elt F) (VO0_14.writes (Elt F) VO0_14.junk (runA m c t h0).1),
   VO0_15.read (Elt F) (VO0_15.writes (Elt F) VO0_15.junk (runA m c t h0).2.1),
   VO0_16.read (Elt F) (VO0_16.writes (Elt F) VO0_16.junk (runA m c t h0).2.2.1),
   VO0_17.read (Elt F) (VO0_17.writes (Elt F) VO0_17.junk (runA m c t h0).2.2.2.1),
   VO0_18.read (Elt F) (VO0_18.writes (Elt F) VO0_18.junk (runA m c t h0).2.2.2.2.1))

/-- What the outputs hold after a later point, the kept windows holding `a` and `b` before it. -/
def stepB (c : Dev nD) (t : Fin cfg0.N) (h0 : ¬t.val % 24 = 0) (a b : Vec F S24x2560 .f32) : Vec F S1x2560x1024 .bf16 × Vec F S1x2560x1024 .fp8e4m3 × Vec F S24x2560 .f32 × Vec F S1x2560x1024 .fp8e4m3 × Vec F S24x2560 .f32 :=
  (VO0_14.read (Elt F) (VO0_14.writes (Elt F) VO0_14.junk (runB m c t h0 a b).1),
   VO0_15.read (Elt F) (VO0_15.writes (Elt F) VO0_15.junk (runB m c t h0 a b).2.1),
   (ms0_16 t).view.read (Elt F) ((ms0_16 t).view.writes (Elt F) ((hs0_16 t).unread a) (runB m c t h0 a b).2.2.1),
   VO0_17.read (Elt F) (VO0_17.writes (Elt F) VO0_17.junk (runB m c t h0 a b).2.2.2.1),
   (ms0_18 t).view.read (Elt F) ((ms0_18 t).view.writes (Elt F) ((hs0_18 t).unread b) (runB m c t h0 a b).2.2.2.2.1))

/-- What the outputs hold after each point. -/
def outsAt0 (c : Dev nD) : (n : ℕ) → n < cfg0.N → Vec F S1x2560x1024 .bf16 × Vec F S1x2560x1024 .fp8e4m3 × Vec F S24x2560 .f32 × Vec F S1x2560x1024 .fp8e4m3 × Vec F S24x2560 .f32
  | 0, hn => stepA m c ⟨0, hn⟩ (Nat.zero_mod _)
  | n + 1, hn =>
    if h0 : (n + 1) % 24 = 0 then stepA m c ⟨n + 1, hn⟩ h0
    else stepB m c ⟨n + 1, hn⟩ h0 (outsAt0 c n (Nat.lt_of_succ_lt hn)).2.2.1 (outsAt0 c n (Nat.lt_of_succ_lt hn)).2.2.2.2

theorem outsAt0_A (c : Dev nD) (t : Fin cfg0.N) (h0 : t.val % 24 = 0) : outsAt0 m c t.val t.isLt = stepA m c t h0 := by
  obtain ⟨n, hn⟩ := t
  cases n with
  | zero => exact rfl
  | succ n => exact (dif_pos h0).trans rfl

theorem outsAt0_B (c : Dev nD) (t : Fin cfg0.N) (h0 : ¬t.val % 24 = 0) :
    outsAt0 m c t.val t.isLt = stepB m c t h0 (outsAt0 m c (t.val - 1) (Nat.lt_of_le_of_lt (Nat.sub_le _ _) t.isLt)).2.2.1
      (outsAt0 m c (t.val - 1) (Nat.lt_of_le_of_lt (Nat.sub_le _ _) t.isLt)).2.2.2.2 := by
  obtain ⟨n, hn⟩ := t
  cases n with
  | zero => exact (by exfalso; (try dsimp only at h0); exact absurd (Nat.zero_mod _) h0)
  | succ n => exact (dif_neg h0).trans rfl

end Cert.KernelIdeal.Body

end
-- ==== Proof.KernelIdeal.Whole.lean ====
module

public import proofs.«01_k».proof.Proof.KernelIdeal.Outs
public import Idealize.ShloMosaic.Lib.Claim

/-!
The whole program: the proof data of the pipeline, the body
obligation, the run and the frame.
-/

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outsAt0 m c t.val t.isLt).1
    | ⟨15, _⟩ => (outsAt0 m c t.val t.isLt).2.1
    | ⟨16, _⟩ => (outsAt0 m c t.val t.isLt).2.2.1
    | ⟨17, _⟩ => (outsAt0 m c t.val t.isLt).2.2.2.1
    | ⟨18, _⟩ => (outsAt0 m c t.val t.isLt).2.2.2.2
    | ⟨_ + 19, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = (outsAt0 m c t.val t.isLt).1 := by dsimp only [dats]
theorem after0_15 (c : Dev nD) (t : Fin cfg0.N) : (dats m 0 c).after 15 t = (outsAt0 m c t.val t.isLt).2.1 := by dsimp only [dats]
theorem after0_16 (c : Dev nD) (t : Fin cfg0.N) : (dats m 0 c).after 16 t = (outsAt0 m c t.val t.isLt).2.2.1 := by dsimp only [dats]
theorem after0_17 (c : Dev nD) (t : Fin cfg0.N) : (dats m 0 c).after 17 t = (outsAt0 m c t.val t.isLt).2.2.2.1 := by dsimp only [dats]
theorem after0_18 (c : Dev nD) (t : Fin cfg0.N) : (dats m 0 c).after 18 t = (outsAt0 m c t.val t.isLt).2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
/-- At a point of case B output 16's current staging buffer holds what the body left at the point before: the point is
    not the first, the buffer was not written back between (`flush0_16`), the window is live and uncut (Lib/Pipeline/Frame.lean
    `Dat.before_out_kept`). -/
theorem before0_16_B (c : Dev nD) (t : Fin cfg0.N) (h0 : ¬t.val % 24 = 0) (d) :
    (dats m 0 c).before 16 t d = (outsAt0 m c (t.val - 1) (Nat.lt_of_le_of_lt (Nat.sub_le _ _) t.isLt)).2.2.1 := by
  have hN : t.val < 24 := lt_of_lt_of_eq t.isLt (show cfg0.N = 24 from N_0)
  rw [Dat.before_out_kept _ 16 rfl t (by omega) (Bool.eq_false_iff.mpr fun h => by have := (flush0_16 _).mp h; dsimp only at this; omega)
    (fun _ => rfl) (fun _ _ => rfl)]
  dsimp only [dats]
/-- At a point of case B output 18's current staging buffer holds what the body left at the point before: the point is
    not the first, the buffer was not written back between (`flush0_18`), the window is live and uncut (Lib/Pipeline/Frame.lean
    `Dat.before_out_kept`). -/
theorem before0_18_B (c : Dev nD) (t : Fin cfg0.N) (h0 : ¬t.val % 24 = 0) (d) :
    (dats m 0 c).before 18 t d = (outsAt0 m c (t.val - 1) (Nat.lt_of_le_of_lt (Nat.sub_le _ _) t.isLt)).2.2.2.2 := by
  have hN : t.val < 24 := lt_of_lt_of_eq t.isLt (show cfg0.N = 24 from N_0)
  rw [Dat.before_out_kept _ 18 rfl t (by omega) (Bool.eq_false_iff.mpr fun h => by have := (flush0_18 _).mp h; dsimp only at this; omega)
    (fun _ => rfl) (fun _ _ => rfl)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t))

set_option maxHeartbeats 4000000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18]
  rw [show (dats m 0 c).Φ t.castSucc = Pipeline.ΦA spec0 c from rfl, PhiA0_eq]
  have hN : t.val < 24 := lt_of_lt_of_eq t.isLt (show cfg0.N = 24 from N_0)
  by_cases h0 : t.val % 24 = 0
  · rw [outsAt0_A m c t h0]
    unfold stepA; (try dsimp only)
    unfold owns
    iintro ⟨⟨⟨⟨%ds0, %s0, %hs0, HS0⟩, ⟨%ds1, %s1, %hs1, HS1⟩, ⟨%ds2, %s2, %hs2, HS2⟩, ⟨%ds3, %s3, %hs3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, %i14, %h14, H14⟩, ⟨%d15, %i15, %h15, H15⟩, ⟨%d16, %i16, %h16, H16⟩, ⟨%d17, %i17, %h17, H17⟩, ⟨%d18, %i18, %h18, H18⟩⟩
    have hcg := runA_congr (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) ((hcond0_0 t).mpr h0) i14 i15 i16 i17 i18 s0 s1 s2 s3 ((ms0_14 t).view.junk) ((ms0_15 t).view.junk) ((ms0_16 t).view.junk) ((ms0_17 t).view.junk) ((ms0_18 t).view.junk) (scM0_0.view.junk) (scM0_1.view.junk) (scM0_2.view.junk) (scM0_3.view.junk)
    obtain ⟨hc14, hc15, hc16, hc17, hc18⟩ := hcg
    iapply ((runA' m c t h0 i14 i15 i16 i17 i18 s0 s1 s2 s3).2.2.2.2.2 Set.univ _)
    isplitl [H0]; · unfold owns; iexact H0
    isplitl [H1]; · unfold owns; iexact H1
    isplitl [H2]; · unfold owns; iexact H2
    isplitl [H3]; · unfold owns; iexact H3
    isplitl [H4]; · unfold owns; iexact H4
    isplitl [H5]; · unfold owns; iexact H5
    isplitl [H6]; · unfold owns; iexact H6
    isplitl [H7]; · unfold owns; iexact H7
    isplitl [H8]; · unfold owns; iexact H8
    isplitl [H9]; · unfold owns; iexact H9
    isplitl [H10]; · unfold owns; iexact H10
    isplitl [H11]; · unfold owns; iexact H11
    isplitl [H12]; · unfold owns; iexact H12
    isplitl [H13]; · unfold owns; iexact H13
    isplitl [H14]; · iexact H14
    isplitl [H15]; · iexact H15
    isplitl [H16]; · iexact H16
    isplitl [H17]; · iexact H17
    isplitl [H18]; · iexact H18
    isplitl [HS0]; · iexact HS0
    isplitl [HS1]; · iexact HS1
    isplitl [HS2]; · iexact HS2
    isplitl [HS3]; · iexact HS3
    unfold owns
    iintro ⟨H0, H1, H2, H3, H4, H5, H6, H7, H8, H9, H10, H11, H12, H13, ⟨%e14, H14⟩, ⟨%e15, H15⟩, ⟨%e16, H16⟩, ⟨%e17, H17⟩, ⟨%e18, H18⟩, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]
    · iexists _; isplitr
      swap; · iexact H14
      ipureintro; rw [hc14]; exact View.read_writes_of_cover _ _ _ _ _ (coverA_14 m c t h0)
    isplitl [H15]
    · iexists _; isplitr
      swap; · iexact H15
      ipureintro; rw [hc15]; exact View.read_writes_of_cover _ _ _ _ _ (coverA_15 m c t h0)
    isplitl [H16]
    · iexists _; isplitr
      swap; · iexact H16
      ipureintro; rw [hc16]; exact View.read_writes_of_cover _ _ _ _ _ (coverA_16 m c t h0)
    isplitl [H17]
    · iexists _; isplitr
      swap; · iexact H17
      ipureintro; rw [hc17]; exact View.read_writes_of_cover _ _ _ _ _ (coverA_17 m c t h0)
    iexists _; isplitr
    swap; · iexact H18
    ipureintro; rw [hc18]; exact View.read_writes_of_cover _ _ _ _ _ (coverA_18 m c t h0)
  · rw [outsAt0_B m c t h0]
    simp only [before0_16_B m c t h0, before0_18_B m c t h0]
    unfold stepB; (try dsimp only)
    unfold owns
    iintro ⟨⟨⟨⟨%ds0, %s0, %hs0, HS0⟩, ⟨%ds1, %s1, %hs1, HS1⟩, ⟨%ds2, %s2, %hs2, HS2⟩, ⟨%ds3, %s3, %hs3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, %i14, %h14, H14⟩, ⟨%d15, %i15, %h15, H15⟩, ⟨%d16, H16⟩, ⟨%d17, %i17, %h17, H17⟩, ⟨%d18, H18⟩⟩
    have hcg := runB_congr (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (fun h => h0 ((hcond0_0 t).mp h)) (outsAt0 m c (t.val - 1) (Nat.lt_of_le_of_lt (Nat.sub_le _ _) t.isLt)).2.2.1 (outsAt0 m c (t.val - 1) (Nat.lt_of_le_of_lt (Nat.sub_le _ _) t.isLt)).2.2.2.2 i14 i15 i17 s0 s1 s2 s3 ((ms0_14 t).view.junk) ((ms0_15 t).view.junk) ((ms0_17 t).view.junk) (scM0_0.view.junk) (scM0_1.view.junk) (scM0_2.view.junk) (scM0_3.view.junk)
    obtain ⟨hc14, hc15, hc16, hc17, hc18⟩ := hcg
    iapply ((runB' m c t h0 _ _ i14 i15 i17 s0 s1 s2 s3).2.2.2.2.2 Set.univ _)
    isplitl [H0]; · unfold owns; iexact H0
    isplitl [H1]; · unfold owns; iexact H1
    isplitl [H2]; · unfold owns; iexact H2
    isplitl [H3]; · unfold owns; iexact H3
    isplitl [H4]; · unfold owns; iexact H4
    isplitl [H5]; · unfold owns; iexact H5
    isplitl [H6]; · unfold owns; iexact H6
    isplitl [H7]; · unfold owns; iexact H7
    isplitl [H8]; · unfold owns; iexact H8
    isplitl [H9]; · unfold owns; iexact H9
    isplitl [H10]; · unfold owns; iexact H10
    isplitl [H11]; · unfold owns; iexact H11
    isplitl [H12]; · unfold owns; iexact H12
    isplitl [H13]; · unfold owns; iexact H13
    isplitl [H14]; · iexact H14
    isplitl [H15]; · iexact H15
    isplitl [H16]; · unfold owns; iexact H16
    isplitl [H17]; · iexact H17
    isplitl [H18]; · unfold owns; iexact H18
    isplitl [HS0]; · iexact HS0
    isplitl [HS1]; · iexact HS1
    isplitl [HS2]; · iexact HS2
    isplitl [HS3]; · iexact HS3
    unfold owns
    iintro ⟨H0, H1, H2, H3, H4, H5, H6, H7, H8, H9, H10, H11, H12, H13, ⟨%e14, H14⟩, ⟨%e15, H15⟩, H16, ⟨%e17, H17⟩, H18, HS0, HS1, HS2, HS3⟩
    isplitl [HS0 HS1 HS2 HS3 Hg]
    · isplitl [HS0 HS1 HS2 HS3]
      · isplitl [HS0]
        · iexact HS0
        isplitl [HS1]
        · iexact HS1
        isplitl [HS2]
        · iexact HS2
        iexact HS3
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]
    · iexists _; isplitr
      swap; · iexact H14
      ipureintro; rw [hc14]; exact View.read_writes_of_cover _ _ _ _ _ (coverB_14 m c t h0 _ _)
    isplitl [H15]
    · iexists _; isplitr
      swap; · iexact H15
      ipureintro; rw [hc15]; exact View.read_writes_of_cover _ _ _ _ _ (coverB_15 m c t h0 _ _)
    isplitl [H16]
    · iexists _; isplitr
      swap; · iexact H16
      ipureintro; rw [hc16]
    isplitl [H17]
    · iexists _; isplitr
      swap; · iexact H17
      ipureintro; rw [hc17]; exact View.read_writes_of_cover _ _ _ _ _ (coverB_17 m c t h0 _ _)
    iexists _; isplitr
    swap; · iexact H18
    ipureintro; rw [hc18]

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

/-- The frame: the arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  θ_run_and (unchanged m ρ) ((θ_run defs _ _).mono (fun _ h => h.2) (run_main_quiescent m ρ))

end Cert.KernelIdeal.Body

end
-- ==== Proof.KernelIdeal.Rows.lean ====
module

public import proofs.«01_k».proof.Proof.Gen.KernelIdeal.Skeleton
public import Idealize.ShloMosaic.Lib.Pointwise
public import Idealize.ShloMosaic.PureOps.Ideal

@[expose] public section

set_option maxRecDepth 16384

noncomputable section

namespace Cert.KernelIdeal.Val

open Cert.KernelIdeal Cert.KernelIdeal.Gen
open Idealize.ShloMosaic

/-- Every piece of the list holds, at its own indices, what `G` holds at their places. -/
def Agrees {s : Shape} {e : EltTy} (L : List (View.Piece (Elt Ideal) s e)) (G : s.Idx → Elt Ideal e) : Prop :=
  ∀ p ∈ L, ∀ x : p.1.shape.Idx, p.2 x = G (p.1.emb x)

theorem Agrees.nil {s : Shape} {e : EltTy} (G : s.Idx → Elt Ideal e) : Agrees [] G :=
  fun _ h => absurd h List.not_mem_nil

theorem Agrees.cons {s : Shape} {e : EltTy} {r : Rect s} {w : r.shape.Idx → Elt Ideal e}
    {L : List (View.Piece (Elt Ideal) s e)} {G : s.Idx → Elt Ideal e}
    (h : ∀ x, w x = G (r.emb x)) (hL : Agrees L G) : Agrees (⟨r, w⟩ :: L) G :=
  fun p hp x => by
    rcases List.mem_cons.mp hp with rfl | hp
    · exact h x
    · exact hL p hp x

theorem Agrees.append {s : Shape} {e : EltTy} {L L' : List (View.Piece (Elt Ideal) s e)} {G : s.Idx → Elt Ideal e}
    (h : Agrees L G) (h' : Agrees L' G) : Agrees (L ++ L') G :=
  fun p hp x => (List.mem_append.mp hp).elim (fun hp => h p hp x) (fun hp => h' p hp x)

/-- What is read from a buffer at a place that its pieces cover. -/
theorem Agrees.read {s : Shape} {e : EltTy} {L : List (View.Piece (Elt Ideal) s e)} {G : s.Idx → Elt Ideal e}
    (h : Agrees L G) (m : Memref sig .tc .vmem s e) (f : BufTy.Contents (Elt Ideal) m.view.ty) (y : s.Idx)
    (hy : ∃ p ∈ L, y ∈ p.1.set) : m.view.read (Elt Ideal) (m.view.writes (Elt Ideal) f L) y = G y :=
  View.read_writes_apply_of_pieces m.view f G L h y hy

/-- One entry of a normalised row: its distance from the mean by the reciprocal deviation, scaled and shifted. -/
def nrm (x g b : Fin 1024 → EReal) (c : Fin 1024) : EReal :=
  (x c - (∑ j, x j) * Ideal.ofBits .f32 981467136#32)
    * Ideal.rsqrt ((∑ j, (x j - (∑ j, x j) * Ideal.ofBits .f32 981467136#32) * (x j - (∑ j, x j) * Ideal.ofBits .f32 981467136#32))
        * Ideal.ofBits .f32 981467136#32 + Ideal.ofBits .f32 925353388#32) * g c + b c

/-- The largest absolute value of the eight entries of a row in lane `l`. -/
def am8 (n : Fin 1024 → EReal) (l : Fin 128) : EReal :=
  max (max (max (max (max (max (max (FloatOps.absf (F := Ideal) (φ := .f32) (n ⟨l.val, by omega⟩)) (FloatOps.absf (F := Ideal) (φ := .f32) (n ⟨128 + l.val, by omega⟩)))
    (FloatOps.absf (F := Ideal) (φ := .f32) (n ⟨256 + l.val, by omega⟩))) (FloatOps.absf (F := Ideal) (φ := .f32) (n ⟨384 + l.val, by omega⟩)))
    (FloatOps.absf (F := Ideal) (φ := .f32) (n ⟨512 + l.val, by omega⟩))) (FloatOps.absf (F := Ideal) (φ := .f32) (n ⟨640 + l.val, by omega⟩)))
    (FloatOps.absf (F := Ideal) (φ := .f32) (n ⟨768 + l.val, by omega⟩))) (FloatOps.absf (F := Ideal) (φ := .f32) (n ⟨896 + l.val, by omega⟩))

/-- A value held between -448 and 448, the largest fp8 numbers. -/
def clip (v : EReal) : EReal := min (Ideal.ofBits .f32 1138753536#32) (max (Ideal.ofBits .f32 3286237184#32) v)

/-- The gated linear unit of one row of codes. -/
def hid (q wa wb : Fin 1024 → EReal) (p2 p3 p4 p5 : EReal) : EReal :=
  ((∑ j, q j * wa j) * p2 + p3) * Ideal.tanh ((∑ j, q j * wb j) * p4 + p5) + ((∑ j, q j * wa j) * p2 + p3)

theorem pay2_apply (x : Vec Ideal S1x32x1024 .bf16) (g b : Vec Ideal S1x1024 .f32) (r : Fin 32) (c : Fin 1024) :
    k0_pay2 (F := Ideal) x g b (ix2 r c) = nrm (fun j => x (ix3 0 r j)) (fun j => g (ix2 0 j)) (fun j => b (ix2 0 j)) c := by
  unfold k0_pay2 nrm
  pointwise

theorem pay5_apply (x : Vec Ideal S1x32x1024 .bf16) (g b : Vec Ideal S1x1024 .f32) (r : Fin 32) (l : Fin 128) :
    k0_pay5 (F := Ideal) (k0_pay2 x g b) (k0_pay3 x g b) (k0_pay4 x g b) (ix3 0 r l)
      = am8 (nrm (fun j => x (ix3 0 r j)) (fun j => g (ix2 0 j)) (fun j => b (ix2 0 j))) l := by
  have h : nrm (fun j => x (ix3 0 r j)) (fun j => g (ix2 0 j)) (fun j => b (ix2 0 j)) = fun c => k0_pay2 (F := Ideal) x g b (ix2 r c) :=
    funext fun c => (pay2_apply x g b r c).symm
  rw [h]
  unfold k0_pay5 k0_pay3 k0_pay4 am8
  generalize k0_pay2 x g b = n
  pointwise

theorem pay6_apply (x : Vec Ideal S1x32x1024 .bf16) (g b : Vec Ideal S1x1024 .f32) (r : Fin 32) (c : Fin 1024) :
    k0_pay6 (F := Ideal) (k0_pay2 x g b) (ix3 0 r c)
      = clip (nrm (fun j => x (ix3 0 r j)) (fun j => g (ix2 0 j)) (fun j => b (ix2 0 j)) c) := by
  rw [← pay2_apply x g b r c]
  unfold k0_pay6 clip
  generalize k0_pay2 x g b = n
  pointwise

theorem pay28_apply (q : Vec Ideal S1x160x1024 .fp8e4m3) (wa wb : Vec Ideal S1024x256 .fp8e4m3) (p2 p3 p4 p5 : Vec Ideal S1x256 .f32) (r : Fin 160) (c : Fin 256) :
    k0_pay28 (F := Ideal) q wa wb p2 p3 p4 p5 (ix2 r c)
      = hid (fun j => q (ix3 0 r j)) (fun j => wa (ix2 j c)) (fun j => wb (ix2 j c)) (p2 (ix2 0 c)) (p3 (ix2 0 c)) (p4 (ix2 0 c)) (p5 (ix2 0 c)) := by
  unfold k0_pay28 k0_pay27 hid
  pointwise

theorem pay29_apply (q : Vec Ideal S1x160x1024 .fp8e4m3) (wa wb : Vec Ideal S1024x256 .fp8e4m3) (p2 p3 p4 p5 : Vec Ideal S1x256 .f32) (r : Fin 160) (l : Fin 128) :
    k0_pay29 (F := Ideal) q wa wb p2 p3 p4 p5 (ix3 0 r l) = k0_pay28 (F := Ideal) q wa wb p2 p3 p4 p5 (ix2 r ⟨l.val, by omega⟩) := by
  unfold k0_pay29
  generalize k0_pay28 q wa wb p2 p3 p4 p5 = n
  pointwise

theorem pay31_apply (q : Vec Ideal S1x160x1024 .fp8e4m3) (wa wb : Vec Ideal S1024x256 .fp8e4m3) (p2 p3 p4 p5 : Vec Ideal S1x256 .f32) (r : Fin 160) (l : Fin 128) :
    k0_pay31 (F := Ideal) (k0_pay30 q wa wb p2 p3 p4 p5) (ix3 0 r l) = k0_pay28 (F := Ideal) q wa wb p2 p3 p4 p5 (ix2 r ⟨128 + l.val, by omega⟩) := by
  unfold k0_pay31 k0_pay30
  generalize k0_pay28 q wa wb p2 p3 p4 p5 = n
  pointwise

end Cert.KernelIdeal.Val

end
-- ==== Proof.KernelIdeal.AmRows.lean ====
module

public import proofs.«01_k».proof.Proof.KernelIdeal.Indep3
public import proofs.«01_k».proof.Proof.KernelIdeal.Rows

/-!
The rows of largest absolute values: each point of the grid writes its own row of the two windows that stay in place,
128 columns at a time, keeping the other seven rows of the eight it stores.
-/

@[expose] public section

set_option maxRecDepth 16384

noncomputable section

namespace Cert.KernelIdeal.Val

open Cert.KernelIdeal Cert.KernelIdeal.Gen Cert.KernelIdeal.Body
open Idealize.ShloMosaic Idealize.ShloMosaic.TcCoe
open Idealize.SL Idealize.SL.Sem

/-- Where block `n` of the point's eight rows begins, as the program computes it. -/
def amOff (i : grid0.Coords) : ℕ → Fin 2 → ℕ
  | 0 => k0_off42 i
  | 1 => k0_off43 i
  | 2 => k0_off44 i
  | 3 => k0_off45 i
  | 4 => k0_off46 i
  | 5 => k0_off47 i
  | 6 => k0_off48 i
  | 7 => k0_off49 i
  | 8 => k0_off50 i
  | 9 => k0_off51 i
  | 10 => k0_off52 i
  | 11 => k0_off53 i
  | 12 => k0_off54 i
  | 13 => k0_off55 i
  | 14 => k0_off56 i
  | 15 => k0_off57 i
  | 16 => k0_off58 i
  | 17 => k0_off59 i
  | 18 => k0_off60 i
  | 19 => k0_off61 i
  | _ => ![0, 0]

theorem amOff_eq (i : grid0.Coords) (n : ℕ) (h : n < 20) : amOff i n = ![(i 0).val / 8 * 8, 128 * n] := by
  obtain rfl | rfl | rfl | rfl | rfl | rfl | rfl | rfl | rfl | rfl | rfl | rfl | rfl | rfl | rfl | rfl | rfl | rfl | rfl | rfl : n = 0 ∨ n = 1 ∨ n = 2 ∨ n = 3 ∨ n = 4 ∨ n = 5 ∨ n = 6 ∨ n = 7 ∨ n = 8 ∨ n = 9 ∨ n = 10 ∨ n = 11 ∨ n = 12 ∨ n = 13 ∨ n = 14 ∨ n = 15 ∨ n = 16 ∨ n = 17 ∨ n = 18 ∨ n = 19 := by omega
  · exact off42_eq i
  · exact off43_eq i
  · exact off44_eq i
  · exact off45_eq i
  · exact off46_eq i
  · exact off47_eq i
  · exact off48_eq i
  · exact off49_eq i
  · exact off50_eq i
  · exact off51_eq i
  · exact off52_eq i
  · exact off53_eq i
  · exact off54_eq i
  · exact off55_eq i
  · exact off56_eq i
  · exact off57_eq i
  · exact off58_eq i
  · exact off59_eq i
  · exact off60_eq i
  · exact off61_eq i

theorem point_lt (i : grid0.Coords) : (i 0).val < 24 := (i 0).isLt

/-- Block `n` of the point's eight rows. -/
def amRect (i : grid0.Coords) (n : ℕ) (h : n < 20) : Rect S24x2560 :=
  Rect.unit (s := S24x2560) (amOff i n) S8x128.size (by
    have hi := point_lt i
    intro a; rw [amOff_eq i n h]
    fin_cases a
    · show (i 0).val / 8 * 8 + 8 ≤ 24; omega
    · show 128 * n + 128 ≤ 2560; omega)

/-- The mask chooses the point's own row. -/
theorem mask_apply : ∀ (i : grid0.Coords) (a : Fin 8), k0_pay741 (BitVec.ofNat 32 (i 0).val) (ix2 a (0 : Fin 128)) = if a.val = (i 0).val % 8 then 1#1 else 0#1 := by
  decide +kernel

theorem mask_lane (v : BitVec 32) (a : Fin 8) (l : Fin 128) : k0_pay741 v (ix2 a l) = k0_pay741 v (ix2 a 0) := by
  unfold k0_pay741
  pointwise

theorem row_apply (v6 : Ideal .f32) (mask : IVec S8x128 1) (v : Vec Ideal S1x128x128 .f32) (old : Vec Ideal S8x128 .f32) (a : Fin 8) (l : Fin 128) :
    k0_pay744 (F := Ideal) v6 mask v old (ix2 a l)
      = if mask (ix2 a l) = 1#1 then (Finset.univ.fold max (Ideal.ofBits .f32 4286578688#32) fun j : Fin 128 => v (ix3 0 l j)) * v6 else old (ix2 a l) := by
  unfold k0_pay744
  pointwise
  rfl

section
variable (i : grid0.Coords) (m : Memref sig .tc .vmem S24x2560 .f32) (arg22 : Memref sig .tc .vmem S2x2560x128 .f32) (X22 : BufTy.Contents (Elt Ideal) arg22.view.ty)
  (g : ℕ) (hg : g < 2) (v6 : Ideal .f32)

/-- What block `n` stores, from what the window held there. -/
def amPay (n : ℕ) (h : n < 20) (O : BufTy.Contents (Elt Ideal) m.view.ty) : (amRect i n h).shape.Idx → Elt Ideal .f32 :=
  k0_pay744 (F := Ideal) v6 (k0_pay741 (BitVec.ofNat 32 (i 0).val))
    (View.readAt (Elt Ideal) arg22.view (Rect.unit (s := S2x2560x128) ![g, 128 * n, 0] S1x128x128.size (by
      intro a
      fin_cases a
      · show g + 1 ≤ 2; omega
      · show 128 * n + 128 ≤ 2560; omega
      · show 0 + 128 ≤ 128; omega)).toLoadRect X22)
    (View.readAt (Elt Ideal) m.view (amRect i n h).toLoadRect O)

/-- The first `n` blocks' pieces at the first point, over a window filled with zeros. -/
def amFirst : (n : ℕ) → n ≤ 20 → List (View.Piece (Elt Ideal) S24x2560 .f32)
  | 0, _ => [⟨Rect.unit ![0, 0] S24x2560.size inb_S24x2560_S24x2560_0_0, k0_pay739 (F := Ideal)⟩]
  | n + 1, h => ⟨amRect i n (by omega), amPay i m arg22 X22 g hg v6 n (by omega) (m.view.writes (Elt Ideal) m.view.junk (amFirst n (by omega)))⟩ :: amFirst n (by omega)

/-- The first `n` blocks' pieces at a later point. -/
def amLater (O : BufTy.Contents (Elt Ideal) m.view.ty) : (n : ℕ) → n ≤ 20 → List (View.Piece (Elt Ideal) S24x2560 .f32)
  | 0, _ => []
  | n + 1, h => ⟨amRect i n (by omega), amPay i m arg22 X22 g hg v6 n (by omega) O⟩ :: amLater O n (by omega)

/-- The window after `n` blocks: the point's row from `R`, the rest as before. -/
def amMix (R : Fin 2560 → EReal) (base : S24x2560.Idx → EReal) (n : ℕ) (y : S24x2560.Idx) : EReal :=
  if (y 1).val < 128 * n ∧ (y 0).val = (i 0).val then R (y 1) else base y

/-- One more block. -/
theorem am_step (m' : Memref sig .tc .vmem S24x2560 .f32) (f : BufTy.Contents (Elt Ideal) m'.view.ty) (L : List (View.Piece (Elt Ideal) S24x2560 .f32))
    (O : BufTy.Contents (Elt Ideal) m.view.ty) (R : Fin 2560 → EReal) (base : S24x2560.Idx → EReal) (n : ℕ) (hn : n < 20)
    (hR : ∀ r : Fin 2560, R r = (Finset.univ.fold max (Ideal.ofBits .f32 4286578688#32) fun j : Fin 128 => View.read (Elt Ideal) arg22.view X22 (ix3 ⟨g, hg⟩ r j)) * v6)
    (hprev : ∀ y, m'.view.read (Elt Ideal) (m'.view.writes (Elt Ideal) f L) y = amMix i R base n y)
    (hold : ∀ y : S24x2560.Idx, 128 * n ≤ (y 1).val → m.view.read (Elt Ideal) O y = base y) (y : S24x2560.Idx) :
    m'.view.read (Elt Ideal) (m'.view.writes (Elt Ideal) f (⟨amRect i n hn, amPay i m arg22 X22 g hg v6 n hn O⟩ :: L)) y = amMix i R base (n + 1) y := by
  have hi := point_lt i
  have o0 : (amRect i n hn).off 0 = (i 0).val / 8 * 8 := by show amOff i n 0 = _; rw [amOff_eq i n hn]; rfl
  have o1 : (amRect i n hn).off 1 = 128 * n := by show amOff i n 1 = _; rw [amOff_eq i n hn]; rfl
  have hy0 : (y 0).val < 24 := (y 0).isLt
  have hy1 : (y 1).val < 2560 := (y 1).isLt
  by_cases hb : ((i 0).val / 8 * 8 ≤ (y 0).val ∧ (y 0).val < (i 0).val / 8 * 8 + 8) ∧ (128 * n ≤ (y 1).val ∧ (y 1).val < 128 * n + 128)
  · have ha : (y 0).val - (i 0).val / 8 * 8 < 8 := by omega
    have hl : (y 1).val - 128 * n < 128 := by omega
    have hc : ∀ a, (y a).val = (amRect i n hn).off a + (amRect i n hn).stride a * ((ix2 (⟨_, ha⟩ : Fin 8) (⟨_, hl⟩ : Fin 128) : S8x128.Idx) a).val := by
      intro a; fin_cases a
      · show (y 0).val = (amRect i n hn).off 0 + 1 * ((y 0).val - (i 0).val / 8 * 8); omega
      · show (y 1).val = (amRect i n hn).off 1 + 1 * ((y 1).val - 128 * n); omega
    refine (View.read_writes_cons_hit_of_coords m'.view f (amRect i n hn) _ L (ix2 (⟨_, ha⟩ : Fin 8) (⟨_, hl⟩ : Fin 128) : S8x128.Idx) y hc).trans ?_
    refine (row_apply v6 _ _ _ _ _).trans ?_
    rw [mask_lane, mask_apply i]
    unfold amMix
    by_cases hrow : (y 0).val = (i 0).val
    · rw [if_pos (by rw [if_pos (by show (y 0).val - (i 0).val / 8 * 8 = (i 0).val % 8; omega)]), if_pos ⟨by omega, hrow⟩]
      refine Eq.trans ?_ (hR (y 1)).symm
      refine congrArg (fun q => q * v6) (congrArg (fun q => Finset.univ.fold max (Ideal.ofBits .f32 4286578688#32) q) (funext fun j => ?_))
      refine congrArg (View.read (Elt Ideal) arg22.view X22) (funext fun a => Fin.ext ?_)
      fin_cases a
      · show g + 1 * 0 = g; omega
      · show 128 * n + 1 * ((y 1).val - 128 * n) = (y 1).val; omega
      · show 0 + 1 * j.val = j.val; omega
    · rw [if_neg (by rw [if_neg (by show ¬ (y 0).val - (i 0).val / 8 * 8 = (i 0).val % 8; omega)]; decide), if_neg (fun h => hrow h.2)]
      rw [← hold y hb.2.1]
      refine congrArg (View.read (Elt Ideal) m.view O) (funext fun a => Fin.ext ?_)
      exact (hc a).symm
  · refine (View.read_writes_cons_miss m'.view f ⟨amRect i n hn, _⟩ L y fun hmem => hb ?_).trans ((hprev y).trans ?_)
    · rw [show (⟨amRect i n hn, amPay i m arg22 X22 g hg v6 n hn O⟩ : View.Piece (Elt Ideal) S24x2560 .f32).1 = amRect i n hn from rfl] at hmem
      unfold amRect at hmem
      rw [Rect.mem_set_unit] at hmem
      have h0 := hmem 0
      have h1 := hmem 1
      rw [amOff_eq i n hn] at h0 h1
      exact ⟨h0, h1⟩
    · unfold amMix
      by_cases h : (y 1).val < 128 * n ∧ (y 0).val = (i 0).val
      · rw [if_pos h, if_pos ⟨by omega, h.2⟩]
      · rw [if_neg h, if_neg (fun h' => by omega)]

/-- The window after the first point's blocks. -/
theorem amFirst_read (R : Fin 2560 → EReal)
    (hR : ∀ r : Fin 2560, R r = (Finset.univ.fold max (Ideal.ofBits .f32 4286578688#32) fun j : Fin 128 => View.read (Elt Ideal) arg22.view X22 (ix3 ⟨g, hg⟩ r j)) * v6) :
    ∀ (n : ℕ) (h : n ≤ 20) (m' : Memref sig .tc .vmem S24x2560 .f32) (f : BufTy.Contents (Elt Ideal) m'.view.ty) (y : S24x2560.Idx),
      m'.view.read (Elt Ideal) (m'.view.writes (Elt Ideal) f (amFirst i m arg22 X22 g hg v6 n h)) y = amMix i R (fun _ => 0) n y
  | 0, _, m', f, y => by
    have hz : ∀ a, (y a).val = (Rect.unit (s := S24x2560) ![0, 0] S24x2560.size inb_S24x2560_S24x2560_0_0).off a + (Rect.unit (s := S24x2560) ![0, 0] S24x2560.size inb_S24x2560_S24x2560_0_0).stride a * (y a).val := by
      intro a; fin_cases a
      · show (y 0).val = 0 + 1 * (y 0).val; omega
      · show (y 1).val = 0 + 1 * (y 1).val; omega
    refine (View.read_writes_cons_hit_of_coords m'.view f (Rect.unit (s := S24x2560) ![0, 0] S24x2560.size inb_S24x2560_S24x2560_0_0) (k0_pay739 (F := Ideal)) [] y y hz).trans ?_
    unfold amMix
    rw [if_neg (fun h => by omega)]
    exact Ideal.ofBits_zero_f32
  | n + 1, h, m', f, y =>
    am_step i m arg22 X22 g hg v6 m' f _ _ R (fun _ => 0) n (by omega) hR (amFirst_read R hR n (by omega) m' f)
      (fun y hy => (amFirst_read R hR n (by omega) m m.view.junk y).trans (by unfold amMix; rw [if_neg (fun h => by omega)])) y

/-- The window after a later point's blocks. -/
theorem amLater_read (O : BufTy.Contents (Elt Ideal) m.view.ty) (R : Fin 2560 → EReal)
    (hR : ∀ r : Fin 2560, R r = (Finset.univ.fold max (Ideal.ofBits .f32 4286578688#32) fun j : Fin 128 => View.read (Elt Ideal) arg22.view X22 (ix3 ⟨g, hg⟩ r j)) * v6) :
    ∀ (n : ℕ) (h : n ≤ 20) (y : S24x2560.Idx),
      m.view.read (Elt Ideal) (m.view.writes (Elt Ideal) O (amLater i m arg22 X22 g hg v6 O n h)) y = amMix i R (m.view.read (Elt Ideal) O) n y
  | 0, _, y => by
    unfold amMix
    rw [if_neg (fun h => by omega)]
    rfl
  | n + 1, h, y =>
    am_step i m arg22 X22 g hg v6 m O _ O R _ n (by omega) hR (amLater_read O R hR n (by omega)) (fun _ _ => rfl) y

end

variable (c : Dev nD) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole)
    (x0 : Vec Ideal S1x2560x1024 .bf16) (x1 : Vec Ideal S1x1024 .f32) (x2 : Vec Ideal S1x1024 .f32) (x3 : Vec Ideal S1024x2048 .fp8e4m3) (x4 : Vec Ideal S1x2048 .f32) (x5 : Vec Ideal S1x2048 .f32) (x6 : Vec Ideal S9x1024 .f32) (x7 : Vec Ideal S1x1024 .f32) (x8 : Vec Ideal S1x1024 .f32) (x9 : Vec Ideal S1024x1024 .fp8e4m3) (x10 : Vec Ideal S1x1024 .f32) (x11 : Vec Ideal S1x1024 .f32) (x12 : Vec Ideal S1 .f32) (x13 : Vec Ideal S1 .f32)

section

variable (hc0 : cond0_0 i) (f14 : BufTy.Contents (Elt Ideal) arg15.view.ty) (f15 : BufTy.Contents (Elt Ideal) arg16.view.ty) (f16 : BufTy.Contents (Elt Ideal) arg17.view.ty) (f17 : BufTy.Contents (Elt Ideal) arg18.view.ty) (f18 : BufTy.Contents (Elt Ideal) arg19.view.ty) (fs0 : BufTy.Contents (Elt Ideal) arg20.view.ty) (fs1 : BufTy.Contents (Elt Ideal) arg21.view.ty) (fs2 : BufTy.Contents (Elt Ideal) arg22.view.ty) (fs3 : BufTy.Contents (Elt Ideal) arg23.view.ty) (L : List (View.Piece (Elt Ideal) S32x1024 .f32))

/-- The run of the point. -/
local notation "runA" => (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 f14 f15 f16 f17 f18 fs0 fs1 fs2 fs3)
/-- A part of the body, on the buffers it is run on. -/
local notation "partA" g => g (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (BitVec.ofNat 32 (i 0 : Nat)) (kernelRun0_A.sl.r_2 c arg14 harg14 x13) (kernelRun0_A.sl.r_6 c arg11 harg11 arg14 harg14 x10 x13) (harg1.unread x0) (harg4.unread x3) (harg10.unread x9) L f15 fs0 fs2 fs3

set_option maxHeartbeats 8000000 in
/-- The first point's pieces, by window. -/
theorem runA_parts (hL : L = (⟨Rect.unit ![16, 0] S9x1024.size Gen.inb_S32x1024_S9x1024_16_0, Gen.k0_pay731 (View.readAt (Elt Ideal) arg7.view (Rect.unit ![0, 0] S9x1024.size Gen.inb_S9x1024_S9x1024_0_0).toLoadRect (harg7.unread x6)) (View.readAt (Elt Ideal) arg8.view (Rect.unit ![0, 0] S1x1024.size Gen.inb_S1x1024_S1x1024_0_0).toLoadRect (harg8.unread x7))⟩ ::
    ⟨Rect.unit ![8, 0] S1x1024.size Gen.inb_S32x1024_S1x1024_8_0, Gen.k0_pay730 (View.readAt (Elt Ideal) arg12.view (Rect.unit ![0, 0] S1x1024.size Gen.inb_S1x1024_S1x1024_0_0).toLoadRect (harg12.unread x11))⟩ ::
    ⟨Rect.unit ![7, 0] S1x1024.size Gen.inb_S32x1024_S1x1024_7_0, Gen.k0_pay729 (kernelRun0_A.sl.r_6 c arg11 harg11 arg14 harg14 x10 x13)⟩ :: kernelRun0_A.sl.HS3_7 c arg2 harg2 arg3 harg3 arg5 harg5 arg6 harg6 arg9 harg9 arg13 harg13 x1 x2 x4 x5 x8 x12)) :
    runA.1 = (partA back).1 ∧
    runA.2.1 = (partA front).1 ∧
    runA.2.2.1 = amFirst i arg17 arg22 (partA maxima) 0 (by decide) (kernelRun0_A.sl.r_3 c arg13 harg13 x12) 20 (le_refl _) ∧
    runA.2.2.2.1 = (partA back).2.1 ∧
    runA.2.2.2.2.1 = amFirst i arg19 arg22 (partA maxima) 1 (by decide) (kernelRun0_A.sl.r_4 c arg14 harg14 x13) 20 (le_refl _) := by
  subst hL
  exact ⟨rfl, rfl, rfl, rfl, rfl⟩

end

section

variable (hc0 : ¬cond0_0 i) (xo16 xo18 : Vec Ideal S24x2560 .f32) (f14 : BufTy.Contents (Elt Ideal) arg15.view.ty) (f15 : BufTy.Contents (Elt Ideal) arg16.view.ty) (f17 : BufTy.Contents (Elt Ideal) arg18.view.ty) (fs0 : BufTy.Contents (Elt Ideal) arg20.view.ty) (fs1 : BufTy.Contents (Elt Ideal) arg21.view.ty) (fs2 : BufTy.Contents (Elt Ideal) arg22.view.ty) (fs3 : BufTy.Contents (Elt Ideal) arg23.view.ty) (L : List (View.Piece (Elt Ideal) S32x1024 .f32))

/-- The run of the point. -/
local notation "runB" => (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xo16 xo18 f14 f15 f17 fs0 fs1 fs2 fs3)
/-- A part of the body, on the buffers it is run on. -/
local notation "partB" g => g (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (BitVec.ofNat 32 (i 0 : Nat)) (kernelRun0_B.sl.r_2 c arg14 harg14 x13) (kernelRun0_B.sl.r_6 c arg11 harg11 arg14 harg14 x10 x13) (harg1.unread x0) (harg4.unread x3) (harg10.unread x9) L f15 fs0 fs2 fs3

set_option maxHeartbeats 8000000 in
/-- A later point's pieces, by window. -/
theorem runB_parts (hL : L = (⟨Rect.unit ![16, 0] S9x1024.size Gen.inb_S32x1024_S9x1024_16_0, Gen.k0_pay731 (View.readAt (Elt Ideal) arg7.view (Rect.unit ![0, 0] S9x1024.size Gen.inb_S9x1024_S9x1024_0_0).toLoadRect (harg7.unread x6)) (View.readAt (Elt Ideal) arg8.view (Rect.unit ![0, 0] S1x1024.size Gen.inb_S1x1024_S1x1024_0_0).toLoadRect (harg8.unread x7))⟩ ::
    ⟨Rect.unit ![8, 0] S1x1024.size Gen.inb_S32x1024_S1x1024_8_0, Gen.k0_pay730 (View.readAt (Elt Ideal) arg12.view (Rect.unit ![0, 0] S1x1024.size Gen.inb_S1x1024_S1x1024_0_0).toLoadRect (harg12.unread x11))⟩ ::
    ⟨Rect.unit ![7, 0] S1x1024.size Gen.inb_S32x1024_S1x1024_7_0, Gen.k0_pay729 (kernelRun0_B.sl.r_6 c arg11 harg11 arg14 harg14 x10 x13)⟩ :: kernelRun0_B.sl.HS3_7 c arg2 harg2 arg3 harg3 arg5 harg5 arg6 harg6 arg9 harg9 arg13 harg13 x1 x2 x4 x5 x8 x12)) :
    runB.1 = (partB back).1 ∧
    runB.2.1 = (partB front).1 ∧
    runB.2.2.1 = amLater i arg17 arg22 (partB maxima) 0 (by decide) (kernelRun0_B.sl.r_3 c arg13 harg13 x12) (harg17.unread xo16) 20 (le_refl _) ∧
    runB.2.2.2.1 = (partB back).2.1 ∧
    runB.2.2.2.2.1 = amLater i arg19 arg22 (partB maxima) 1 (by decide) (kernelRun0_B.sl.r_4 c arg14 harg14 x13) (harg19.unread xo18) 20 (le_refl _) := by
  subst hL
  exact ⟨rfl, rfl, rfl, rfl, rfl⟩

end

end Cert.KernelIdeal.Val

end
-- ==== Proof.KernelIdeal.Front.lean ====
module

public import proofs.«01_k».proof.Proof.KernelIdeal.Rows
public import proofs.«01_k».proof.Proof.Gen.KernelIdeal.Loops

@[expose] public section

set_option maxRecDepth 16384

noncomputable section

namespace Cert.KernelIdeal.Val

open Cert.KernelIdeal Cert.KernelIdeal.Gen
open Idealize.ShloMosaic Idealize.ShloMosaic.TcCoe
open Idealize.SL Idealize.SL.Sem

/-- A load reads the buffer at the place its rectangle names. -/
theorem readAt_eq {sp : Space} {s : Shape} {e : EltTy} (m : Memref sig .tc sp s e) (r : LoadRect s)
    (X : BufTy.Contents (Elt Ideal) m.view.ty) (j : r.shape.Idx) (y : s.Idx)
    (h : ∀ a, (y a).val = r.off a + r.stride a * (j a).val) :
    View.readAt (Elt Ideal) m.view r X j = m.view.read (Elt Ideal) X y := by
  have e : r.idx j = y := funext fun a => Fin.ext (h a).symm
  subst e; rfl

/-- A row of normalised values, from the input and the table of parameters. -/
def rowN (x : S1x2560x1024.Idx → EReal) (p : S32x1024.Idx → EReal) (r : Fin 2560) (c : Fin 1024) : EReal :=
  nrm (fun j => x (ix3 0 r j)) (fun j => p (ix2 0 j)) (fun j => p (ix2 1 j)) c

/-- The first quantisation's codes. -/
def codes1 (x : S1x2560x1024.Idx → EReal) (p : S32x1024.Idx → EReal) (y : S1x2560x1024.Idx) : EReal :=
  clip (rowN x p (y 1) (y 2))

/-- The gated linear unit's value at row `r` and column `c`. -/
def hidV (x : S1x2560x1024.Idx → EReal) (p : S32x1024.Idx → EReal) (w : S1024x2048.Idx → EReal) (r : Fin 2560) (c : Fin 1024) : EReal :=
  hid (fun j => clip (rowN x p r j)) (fun j => w (ix2 j ⟨c.val, by omega⟩)) (fun j => w (ix2 j ⟨1024 + c.val, by omega⟩))
    (p (ix2 2 c)) (p (ix2 3 c)) (p (ix2 4 c)) (p (ix2 5 c))

/-- The buffer of hidden values: slab `y 0` holds its 128 columns from row 8 on, the borders hold zero. -/
def hidS (x : S1x2560x1024.Idx → EReal) (p : S32x1024.Idx → EReal) (w : S1024x2048.Idx → EReal) (y : S8x2576x128.Idx) : EReal :=
  if h : 8 ≤ (y 1).val ∧ (y 1).val < 2568 then
    hidV x p w ⟨(y 1).val - 8, by omega⟩ ⟨128 * (y 0).val + (y 2).val, by
      have h0 : (y 0).val < 8 := (y 0).isLt
      have h2 : (y 2).val < 128 := (y 2).isLt
      omega⟩
  else 0

section
variable (arg1 : Memref sig .tc .vmem S1x2560x1024 .bf16) (arg4 : Memref sig .tc .vmem S1024x2048 .fp8e4m3) (arg23 : Memref sig .tc .vmem S32x1024 .f32)
  (X1 : BufTy.Contents (Elt Ideal) arg1.view.ty) (X4 : BufTy.Contents (Elt Ideal) arg4.view.ty) (X23 : BufTy.Contents (Elt Ideal) arg23.view.ty)

local notation "x₁" => View.read (Elt Ideal) (Memref.view arg1) X1
local notation "w₁" => View.read (Elt Ideal) (Memref.view arg4) X4
local notation "p₁" => View.read (Elt Ideal) (Memref.view arg23) X23

/-- The normalised row that a group of 32 rows computes is the row of the array. -/
theorem row_group (o : Fin 3 → ℕ) (inb) (ho0 : o 0 = 0) (ho2 : o 2 = 0) (r : Fin 32) (R : Fin 2560) (hR : R.val = o 1 + r.val) :
    nrm (fun j => View.readAt (Elt Ideal) arg1.view (Rect.unit (s := S1x2560x1024) o S1x32x1024.size inb).toLoadRect X1 (ix3 0 r j))
      (fun j => View.readAt (Elt Ideal) arg23.view (Rect.unit (s := S32x1024) ![0, 0] S1x1024.size inb_S32x1024_S1x1024_0_0).toLoadRect X23 (ix2 0 j))
      (fun j => View.readAt (Elt Ideal) arg23.view (Rect.unit (s := S32x1024) ![1, 0] S1x1024.size inb_S32x1024_S1x1024_1_0).toLoadRect X23 (ix2 0 j))
    = rowN x₁ p₁ R := by
  have e1 : (fun j => View.readAt (Elt Ideal) arg1.view (Rect.unit (s := S1x2560x1024) o S1x32x1024.size inb).toLoadRect X1 (ix3 0 r j))
      = fun j => x₁ (ix3 0 R j) := funext fun j => readAt_eq _ _ _ _ _ fun a => by
    fin_cases a
    · show 0 = o 0 + 1 * 0; omega
    · show R.val = o 1 + 1 * r.val; omega
    · show j.val = o 2 + 1 * j.val; omega
  have e2 : (fun j => View.readAt (Elt Ideal) arg23.view (Rect.unit (s := S32x1024) ![0, 0] S1x1024.size inb_S32x1024_S1x1024_0_0).toLoadRect X23 (ix2 0 j))
      = fun j => p₁ (ix2 0 j) := funext fun j => readAt_eq _ _ _ _ _ fun a => by
    fin_cases a
    · rfl
    · show j.val = 0 + 1 * j.val; omega
  have e3 : (fun j => View.readAt (Elt Ideal) arg23.view (Rect.unit (s := S32x1024) ![1, 0] S1x1024.size inb_S32x1024_S1x1024_1_0).toLoadRect X23 (ix2 0 j))
      = fun j => p₁ (ix2 1 j) := funext fun j => readAt_eq _ _ _ _ _ fun a => by
    fin_cases a
    · rfl
    · show j.val = 0 + 1 * j.val; omega
  rw [e1, e2, e3]; rfl

/-- The codes of a group of 32 rows are the array's. -/
theorem piece16 (o : Fin 3 → ℕ) (inb inb') (ho0 : o 0 = 0) (ho2 : o 2 = 0)
    (x : (Rect.unit (s := S1x2560x1024) o S1x32x1024.size inb).shape.Idx) :
    k0_pay6 (F := Ideal) (k0_pay2 (View.readAt (Elt Ideal) arg1.view (Rect.unit (s := S1x2560x1024) o S1x32x1024.size inb').toLoadRect X1)
      (View.readAt (Elt Ideal) arg23.view (Rect.unit (s := S32x1024) ![0, 0] S1x1024.size inb_S32x1024_S1x1024_0_0).toLoadRect X23)
      (View.readAt (Elt Ideal) arg23.view (Rect.unit (s := S32x1024) ![1, 0] S1x1024.size inb_S32x1024_S1x1024_1_0).toLoadRect X23)) x
    = codes1 x₁ p₁ ((Rect.unit (s := S1x2560x1024) o S1x32x1024.size inb).emb x) := by
  obtain ⟨r, c, rfl⟩ : ∃ (r : Fin 32) (c : Fin 1024), x = ix3 (0 : Fin 1) r c :=
    ⟨x 1, x 2, funext fun a => by fin_cases a; exacts [Subsingleton.elim (α := Fin 1) _ _, rfl, rfl]⟩
  rw [pay6_apply, row_group arg1 arg23 X1 X23 o inb' ho0 ho2 r ((Rect.unit (s := S1x2560x1024) o S1x32x1024.size inb).emb (ix3 (0 : Fin 1) r c) 1)
    (by show o 1 + 1 * r.val = _; omega)]
  unfold codes1
  congr 2
  exact Fin.ext (by show c.val = o 2 + 1 * c.val; omega)

/-- The lane maxima of a group of 32 rows are the array's. -/
theorem piece22 (G : S2x2560x128.Idx → EReal) (hG : ∀ (r : Fin 2560) (l : Fin 128), G (ix3 0 r l) = am8 (rowN x₁ p₁ r) l)
    (o o' : Fin 3 → ℕ) (inb inb') (ho0 : o 0 = 0) (ho2 : o 2 = 0) (h0 : o' 0 = 0) (h1 : o' 1 = o 1) (h2 : o' 2 = 0)
    (x : (Rect.unit (s := S2x2560x128) o' S1x32x128.size inb).shape.Idx) :
    k0_pay5 (F := Ideal) (k0_pay2 (View.readAt (Elt Ideal) arg1.view (Rect.unit (s := S1x2560x1024) o S1x32x1024.size inb').toLoadRect X1)
      (View.readAt (Elt Ideal) arg23.view (Rect.unit (s := S32x1024) ![0, 0] S1x1024.size inb_S32x1024_S1x1024_0_0).toLoadRect X23)
      (View.readAt (Elt Ideal) arg23.view (Rect.unit (s := S32x1024) ![1, 0] S1x1024.size inb_S32x1024_S1x1024_1_0).toLoadRect X23))
     (k0_pay3 (View.readAt (Elt Ideal) arg1.view (Rect.unit (s := S1x2560x1024) o S1x32x1024.size inb').toLoadRect X1)
      (View.readAt (Elt Ideal) arg23.view (Rect.unit (s := S32x1024) ![0, 0] S1x1024.size inb_S32x1024_S1x1024_0_0).toLoadRect X23)
      (View.readAt (Elt Ideal) arg23.view (Rect.unit (s := S32x1024) ![1, 0] S1x1024.size inb_S32x1024_S1x1024_1_0).toLoadRect X23))
     (k0_pay4 (View.readAt (Elt Ideal) arg1.view (Rect.unit (s := S1x2560x1024) o S1x32x1024.size inb').toLoadRect X1)
      (View.readAt (Elt Ideal) arg23.view (Rect.unit (s := S32x1024) ![0, 0] S1x1024.size inb_S32x1024_S1x1024_0_0).toLoadRect X23)
      (View.readAt (Elt Ideal) arg23.view (Rect.unit (s := S32x1024) ![1, 0] S1x1024.size inb_S32x1024_S1x1024_1_0).toLoadRect X23)) x
    = G ((Rect.unit (s := S2x2560x128) o' S1x32x128.size inb).emb x) := by
  obtain ⟨r, l, rfl⟩ : ∃ (r : Fin 32) (l : Fin 128), x = ix3 (0 : Fin 1) r l :=
    ⟨x 1, x 2, funext fun a => by fin_cases a; exacts [Subsingleton.elim (α := Fin 1) _ _, rfl, rfl]⟩
  have hR : o 1 + r.val < 2560 := by
    have := (Rect.unit (s := S2x2560x128) o' S1x32x128.size inb).emb (ix3 (0 : Fin 1) r l) 1 |>.isLt
    have : o' 1 + 1 * r.val < 2560 := this
    omega
  rw [pay5_apply, row_group arg1 arg23 X1 X23 o inb' ho0 ho2 r ⟨o 1 + r.val, hR⟩ rfl, ← hG]
  congr 1
  funext a; refine Fin.ext ?_; fin_cases a
  · show 0 = o' 0 + 1 * 0; omega
  · show o 1 + r.val = o' 1 + 1 * r.val; omega
  · show l.val = o' 2 + 1 * l.val; omega

/-- The hidden values that a trip computes for one slab are the array's. -/
theorem piece20 (b cb hh s : ℕ) (hs : 128 * s = cb + hh) (hh' : hh + 128 ≤ 256) (q : Vec Ideal S1x160x1024 .fp8e4m3)
    (hq : ∀ (r : Fin 160) (j : Fin 1024) (R : Fin 2560), R.val = b + r.val → q (ix3 0 r j) = clip (rowN x₁ p₁ R j)) (hb : b + 160 ≤ 2560)
    (inb1 inb2 inb3 inb4 inb5 inb6) (P : Vec Ideal S1x160x128 .f32)
    (hP : ∀ (r : Fin 160) (l : Fin 128), P (ix3 0 r l) = k0_pay28 (F := Ideal) q
      (View.readAt (Elt Ideal) arg4.view (Rect.unit (s := S1024x2048) ![0, cb] S1024x256.size inb1).toLoadRect X4)
      (View.readAt (Elt Ideal) arg4.view (Rect.unit (s := S1024x2048) ![0, 1024 + cb] S1024x256.size inb2).toLoadRect X4)
      (View.readAt (Elt Ideal) arg23.view (Rect.unit (s := S32x1024) ![2, cb] S1x256.size inb3).toLoadRect X23)
      (View.readAt (Elt Ideal) arg23.view (Rect.unit (s := S32x1024) ![3, cb] S1x256.size inb4).toLoadRect X23)
      (View.readAt (Elt Ideal) arg23.view (Rect.unit (s := S32x1024) ![4, cb] S1x256.size inb5).toLoadRect X23)
      (View.readAt (Elt Ideal) arg23.view (Rect.unit (s := S32x1024) ![5, cb] S1x256.size inb6).toLoadRect X23)
      (ix2 r ⟨hh + l.val, by omega⟩))
    (o : Fin 3 → ℕ) (ho : o = ![s, b + 8, 0]) (inb)
    (x : (Rect.unit (s := S8x2576x128) o S1x160x128.size inb).shape.Idx) :
    P x = hidS x₁ p₁ w₁ ((Rect.unit (s := S8x2576x128) o S1x160x128.size inb).emb x) := by
  obtain ⟨r, l, rfl⟩ : ∃ (r : Fin 160) (l : Fin 128), x = ix3 (0 : Fin 1) r l :=
    ⟨x 1, x 2, funext fun a => by fin_cases a; exacts [Subsingleton.elim (α := Fin 1) _ _, rfl, rfl]⟩
  subst ho
  have hs8 : s < 8 := by
    have := (Rect.unit (s := S8x2576x128) ![s, b + 8, 0] S1x160x128.size inb).emb (ix3 (0 : Fin 1) r l) 0 |>.isLt
    have : s + 1 * 0 < 8 := this
    omega
  have hr := r.isLt
  have hl := l.isLt
  have e0 : ((Rect.unit (s := S8x2576x128) ![s, b + 8, 0] S1x160x128.size inb).emb (ix3 (0 : Fin 1) r l) 0).val = s + 1 * 0 := rfl
  have e1 : ((Rect.unit (s := S8x2576x128) ![s, b + 8, 0] S1x160x128.size inb).emb (ix3 (0 : Fin 1) r l) 1).val = b + 8 + 1 * r.val := rfl
  have e2 : ((Rect.unit (s := S8x2576x128) ![s, b + 8, 0] S1x160x128.size inb).emb (ix3 (0 : Fin 1) r l) 2).val = 0 + 1 * l.val := rfl
  have hc : cb + (hh + l.val) < 1024 := by omega
  have hE : hidS x₁ p₁ w₁ ((Rect.unit (s := S8x2576x128) ![s, b + 8, 0] S1x160x128.size inb).emb (ix3 (0 : Fin 1) r l))
      = hidV x₁ p₁ w₁ ⟨b + r.val, by omega⟩ ⟨cb + (hh + l.val), hc⟩ := by
    unfold hidS
    rw [dif_pos (by rw [e1]; omega)]
    congr 1
    · refine Fin.ext ?_; show b + 8 + 1 * r.val - 8 = b + r.val; omega
    · refine Fin.ext ?_; show 128 * (s + 1 * 0) + (0 + 1 * l.val) = cb + (hh + l.val); omega
  refine (hP r l).trans (Eq.trans ?_ hE.symm)
  rw [pay28_apply]
  unfold hidV
  have f0 : (fun j => q (ix3 0 r j)) = fun j => clip (rowN x₁ p₁ ⟨b + r.val, by omega⟩ j) := funext fun j => hq r j _ rfl
  rw [f0]
  congr 1
  · funext j; refine readAt_eq _ _ _ _ _ fun a => ?_
    fin_cases a
    · show j.val = 0 + 1 * j.val; omega
    · show cb + (hh + l.val) = cb + 1 * (hh + l.val); omega
  · funext j; refine readAt_eq _ _ _ _ _ fun a => ?_
    fin_cases a
    · show j.val = 0 + 1 * j.val; omega
    · show 1024 + (cb + (hh + l.val)) = 1024 + cb + 1 * (hh + l.val); omega
  all_goals
    refine readAt_eq _ _ _ _ _ fun a => ?_
    fin_cases a
    · rfl
    · show cb + (hh + l.val) = cb + 1 * (hh + l.val); omega

end

variable (𝒱 : Variants) (c : Dev nD) (bd : Option 𝒱.V) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole) (arg0 : BitVec 32) (v5 : Ideal .f32) (v64 : FVec Ideal S1x1024 .f32)
variable (X_arg1 : BufTy.Contents (Elt Ideal) arg1.view.ty) (X_arg4 : BufTy.Contents (Elt Ideal) arg4.view.ty) (X_arg23 : BufTy.Contents (Elt Ideal) arg23.view.ty)

local notation "x₁" => View.read (Elt Ideal) (Memref.view arg1) X_arg1
local notation "w₁" => View.read (Elt Ideal) (Memref.view arg4) X_arg4
local notation "p₁" => View.read (Elt Ideal) (Memref.view arg23) X_arg23

theorem off1_ends (k : Fin k0_t1_loop.trips) (r : Fin 5) : k0_off1 k (BitVec.ofNat 32 (32 * r.val)) 0 = 0 ∧ k0_off1 k (BitVec.ofNat 32 (32 * r.val)) 2 = 0 := by
  rw [k0_off1_eq]; exact ⟨rfl, rfl⟩

theorem off2_ends (k : Fin k0_t1_loop.trips) (r : Fin 5) : k0_off2 k (BitVec.ofNat 32 (32 * r.val)) 0 = 0
    ∧ k0_off2 k (BitVec.ofNat 32 (32 * r.val)) 1 = k0_off1 k (BitVec.ofNat 32 (32 * r.val)) 1 ∧ k0_off2 k (BitVec.ofNat 32 (32 * r.val)) 2 = 0 := by
  rw [k0_off1_eq, k0_off2_eq]; exact ⟨rfl, rfl, rfl⟩

/-- The codes that a trip of the first loop stores. -/
theorem trip_codes (k : Fin k0_t1_loop.trips) :
    Agrees (Gen.trip_k0_t1.sl.HW_arg16_5 (F := Ideal) arg1 arg23 X_arg1 X_arg23 k) (codes1 x₁ p₁) := by
  unfold Gen.trip_k0_t1.sl.HW_arg16_5
  refine Agrees.cons (fun x => piece16 arg1 arg23 X_arg1 X_arg23 (k0_off1 k 128#32) _ _ (off1_ends k 4).1 (off1_ends k 4).2 x) ?_
  refine Agrees.cons (fun x => piece16 arg1 arg23 X_arg1 X_arg23 (k0_off1 k 96#32) _ _ (off1_ends k 3).1 (off1_ends k 3).2 x) ?_
  refine Agrees.cons (fun x => piece16 arg1 arg23 X_arg1 X_arg23 (k0_off1 k 64#32) _ _ (off1_ends k 2).1 (off1_ends k 2).2 x) ?_
  refine Agrees.cons (fun x => piece16 arg1 arg23 X_arg1 X_arg23 (k0_off1 k 32#32) _ _ (off1_ends k 1).1 (off1_ends k 1).2 x) ?_
  exact Agrees.cons (fun x => piece16 arg1 arg23 X_arg1 X_arg23 (k0_off1 k 0#32) _ _ (off1_ends k 0).1 (off1_ends k 0).2 x) (Agrees.nil _)

/-- They cover the trip's 160 rows. -/
theorem trip_codes_cover (k : Fin k0_t1_loop.trips) (y : S1x2560x1024.Idx) (h : 160 * k.val ≤ (y 1).val ∧ (y 1).val < 160 * k.val + 160) :
    ∃ p ∈ Gen.trip_k0_t1.sl.HW_arg16_5 (F := Ideal) arg1 arg23 X_arg1 X_arg23 k, y ∈ p.1.set := by
  have h0 : (y 0).val < 1 := (y 0).isLt
  have h2 : (y 2).val < 1024 := (y 2).isLt
  have key : ∀ (r : Fin 5), 160 * k.val + 32 * r.val ≤ (y 1).val → (y 1).val < 160 * k.val + 32 * r.val + 32 →
      ∀ a : Fin 3, k0_off1 k (BitVec.ofNat 32 (32 * r.val)) a ≤ (y a).val ∧ (y a).val < k0_off1 k (BitVec.ofNat 32 (32 * r.val)) a + S1x32x1024.size a := by
    intro r ha hb
    rw [k0_off1_eq]
    intro a; fin_cases a
    · show 0 ≤ (y 0).val ∧ (y 0).val < 0 + 1; omega
    · show 160 * k.val + 32 * r.val ≤ (y 1).val ∧ (y 1).val < 160 * k.val + 32 * r.val + 32; omega
    · show 0 ≤ (y 2).val ∧ (y 2).val < 0 + 1024; omega
  unfold Gen.trip_k0_t1.sl.HW_arg16_5
  by_cases g4 : 160 * k.val + 128 ≤ (y 1).val
  · refine ⟨_, List.mem_cons_self, ?_⟩; rw [Rect.mem_set_unit]; exact key 4 g4 (by show _ < _ + 32 * 4 + 32; omega)
  by_cases g3 : 160 * k.val + 96 ≤ (y 1).val
  · refine ⟨_, List.mem_cons_of_mem _ List.mem_cons_self, ?_⟩; rw [Rect.mem_set_unit]; exact key 3 g3 (by show _ < _ + 32 * 3 + 32; omega)
  by_cases g2 : 160 * k.val + 64 ≤ (y 1).val
  · refine ⟨_, List.mem_cons_of_mem _ (List.mem_cons_of_mem _ List.mem_cons_self), ?_⟩; rw [Rect.mem_set_unit]; exact key 2 g2 (by show _ < _ + 32 * 2 + 32; omega)
  by_cases g1 : 160 * k.val + 32 ≤ (y 1).val
  · refine ⟨_, List.mem_cons_of_mem _ (List.mem_cons_of_mem _ (List.mem_cons_of_mem _ List.mem_cons_self)), ?_⟩; rw [Rect.mem_set_unit]; exact key 1 g1 (by show _ < _ + 32 * 1 + 32; omega)
  · refine ⟨_, List.mem_cons_of_mem _ (List.mem_cons_of_mem _ (List.mem_cons_of_mem _ (List.mem_cons_of_mem _ List.mem_cons_self))), ?_⟩; rw [Rect.mem_set_unit]; exact key 0 (by show _ + 32 * 0 ≤ _; omega) (by show _ < _ + 32 * 0 + 32; omega)

/-- What the trip reads back of its codes. -/
theorem trip_codes_read (k : Fin k0_t1_loop.trips) (r : Fin 160) (j : Fin 1024) (R : Fin 2560) (hR : R.val = 160 * k.val + r.val) :
    Gen.trip_k0_t1.sl.v1041 (F := Ideal) arg1 arg16 arg23 X_arg1 X_arg23 k (ix3 0 r j) = clip (rowN x₁ p₁ R j) := by
  unfold Gen.trip_k0_t1.sl.v1041 View.readCov
  refine (readAt_eq arg16 _ _ _ (ix3 0 R j) fun a => ?_).trans
    ((trip_codes arg1 arg23 X_arg1 X_arg23 k).read arg16 _ _ (trip_codes_cover arg1 arg23 X_arg1 X_arg23 k _ ?_))
  · have h0 : k0_off3 k 0 = 0 := by rw [k0_off3_eq]; rfl
    have h1 : k0_off3 k 1 = 160 * k.val := by rw [k0_off3_eq]; rfl
    have h2 : k0_off3 k 2 = 0 := by rw [k0_off3_eq]; rfl
    fin_cases a
    · show 0 = k0_off3 k 0 + 1 * 0; omega
    · show R.val = k0_off3 k 1 + 1 * r.val; omega
    · show j.val = k0_off3 k 2 + 1 * j.val; omega
  · show 160 * k.val ≤ R.val ∧ R.val < 160 * k.val + 160
    have := r.isLt
    omega

set_option maxHeartbeats 4000000 in
/-- What a trip of the first loop stores: codes, hidden values, lane maxima. -/
theorem trip_front (k : Fin k0_t1_loop.trips) (f16 : BufTy.Contents (Elt Ideal) arg16.view.ty) (f20 : BufTy.Contents (Elt Ideal) arg20.view.ty) (f22 : BufTy.Contents (Elt Ideal) arg22.view.ty)
    (G : S2x2560x128.Idx → EReal) (hG : ∀ (r : Fin 2560) (l : Fin 128), G (ix3 0 r l) = am8 (rowN x₁ p₁ r) l) :
    Agrees (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg4 X_arg23 k f16 f20 f22).1 (codes1 x₁ p₁) ∧ Agrees (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg4 X_arg23 k f16 f20 f22).2.1 (hidS x₁ p₁ w₁) ∧ Agrees (tripL_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg4 X_arg23 k f16 f20 f22).2.2 G := by
  have hk : k.val < 16 := Nat.lt_of_lt_of_le k.isLt k0_t1_abs.2.1
  unfold tripL_k0_t1 trip_k0_t1
  refine ⟨trip_codes arg1 arg23 X_arg1 X_arg23 k, ?_, ?_⟩
  · refine Agrees.cons (fun x => piece20 arg1 arg4 arg23 X_arg1 X_arg4 X_arg23 (160 * k.val) 768 128 7 rfl (by omega) _ (trip_codes_read arg1 arg16 arg23 X_arg1 X_arg23 k) (by omega) _ _ _ _ _ _ _ (fun r l => (pay31_apply _ _ _ _ _ _ _ r l).trans (congrArg _ (congrArg (ix2 r) (Fin.ext (by show 128 + l.val = 128 + l.val; omega))))) (k0_off11 k) (k0_off11_eq k) _ x) ?_
    refine Agrees.cons (fun x => piece20 arg1 arg4 arg23 X_arg1 X_arg4 X_arg23 (160 * k.val) 768 0 6 rfl (by omega) _ (trip_codes_read arg1 arg16 arg23 X_arg1 X_arg23 k) (by omega) _ _ _ _ _ _ _ (fun r l => (pay29_apply _ _ _ _ _ _ _ r l).trans (congrArg _ (congrArg (ix2 r) (Fin.ext (by show l.val = 0 + l.val; omega))))) (k0_off10 k) (k0_off10_eq k) _ x) ?_
    refine Agrees.cons (fun x => piece20 arg1 arg4 arg23 X_arg1 X_arg4 X_arg23 (160 * k.val) 512 128 5 rfl (by omega) _ (trip_codes_read arg1 arg16 arg23 X_arg1 X_arg23 k) (by omega) _ _ _ _ _ _ _ (fun r l => (pay31_apply _ _ _ _ _ _ _ r l).trans (congrArg _ (congrArg (ix2 r) (Fin.ext (by show 128 + l.val = 128 + l.val; omega))))) (k0_off9 k) (k0_off9_eq k) _ x) ?_
    refine Agrees.cons (fun x => piece20 arg1 arg4 arg23 X_arg1 X_arg4 X_arg23 (160 * k.val) 512 0 4 rfl (by omega) _ (trip_codes_read arg1 arg16 arg23 X_arg1 X_arg23 k) (by omega) _ _ _ _ _ _ _ (fun r l => (pay29_apply _ _ _ _ _ _ _ r l).trans (congrArg _ (congrArg (ix2 r) (Fin.ext (by show l.val = 0 + l.val; omega))))) (k0_off8 k) (k0_off8_eq k) _ x) ?_
    refine Agrees.cons (fun x => piece20 arg1 arg4 arg23 X_arg1 X_arg4 X_arg23 (160 * k.val) 256 128 3 rfl (by omega) _ (trip_codes_read arg1 arg16 arg23 X_arg1 X_arg23 k) (by omega) _ _ _ _ _ _ _ (fun r l => (pay31_apply _ _ _ _ _ _ _ r l).trans (congrArg _ (congrArg (ix2 r) (Fin.ext (by show 128 + l.val = 128 + l.val; omega))))) (k0_off7 k) (k0_off7_eq k) _ x) ?_
    refine Agrees.cons (fun x => piece20 arg1 arg4 arg23 X_arg1 X_arg4 X_arg23 (160 * k.val) 256 0 2 rfl (by omega) _ (trip_codes_read arg1 arg16 arg23 X_arg1 X_arg23 k) (by omega) _ _ _ _ _ _ _ (fun r l => (pay29_apply _ _ _ _ _ _ _ r l).trans (congrArg _ (congrArg (ix2 r) (Fin.ext (by show l.val = 0 + l.val; omega))))) (k0_off6 k) (k0_off6_eq k) _ x) ?_
    refine Agrees.cons (fun x => piece20 arg1 arg4 arg23 X_arg1 X_arg4 X_arg23 (160 * k.val) 0 128 1 rfl (by omega) _ (trip_codes_read arg1 arg16 arg23 X_arg1 X_arg23 k) (by omega) _ _ _ _ _ _ _ (fun r l => (pay31_apply _ _ _ _ _ _ _ r l).trans (congrArg _ (congrArg (ix2 r) (Fin.ext (by show 128 + l.val = 128 + l.val; omega))))) (k0_off5 k) (k0_off5_eq k) _ x) ?_
    exact Agrees.cons (fun x => piece20 arg1 arg4 arg23 X_arg1 X_arg4 X_arg23 (160 * k.val) 0 0 0 rfl (by omega) _ (trip_codes_read arg1 arg16 arg23 X_arg1 X_arg23 k) (by omega) _ _ _ _ _ _ _ (fun r l => (pay29_apply _ _ _ _ _ _ _ r l).trans (congrArg _ (congrArg (ix2 r) (Fin.ext (by show l.val = 0 + l.val; omega))))) (k0_off4 k) (k0_off4_eq k) _ x) (Agrees.nil _)
  · refine Agrees.cons (fun x => piece22 arg1 arg23 X_arg1 X_arg23 G hG (k0_off1 k 128#32) (k0_off2 k 128#32) _ _ (off1_ends k 4).1 (off1_ends k 4).2 (off2_ends k 4).1 (off2_ends k 4).2.1 (off2_ends k 4).2.2 x) ?_
    refine Agrees.cons (fun x => piece22 arg1 arg23 X_arg1 X_arg23 G hG (k0_off1 k 96#32) (k0_off2 k 96#32) _ _ (off1_ends k 3).1 (off1_ends k 3).2 (off2_ends k 3).1 (off2_ends k 3).2.1 (off2_ends k 3).2.2 x) ?_
    refine Agrees.cons (fun x => piece22 arg1 arg23 X_arg1 X_arg23 G hG (k0_off1 k 64#32) (k0_off2 k 64#32) _ _ (off1_ends k 2).1 (off1_ends k 2).2 (off2_ends k 2).1 (off2_ends k 2).2.1 (off2_ends k 2).2.2 x) ?_
    refine Agrees.cons (fun x => piece22 arg1 arg23 X_arg1 X_arg23 G hG (k0_off1 k 32#32) (k0_off2 k 32#32) _ _ (off1_ends k 1).1 (off1_ends k 1).2 (off2_ends k 1).1 (off2_ends k 1).2.1 (off2_ends k 1).2.2 x) ?_
    exact Agrees.cons (fun x => piece22 arg1 arg23 X_arg1 X_arg23 G hG (k0_off1 k 0#32) (k0_off2 k 0#32) _ _ (off1_ends k 0).1 (off1_ends k 0).2 (off2_ends k 0).1 (off2_ends k 0).2.1 (off2_ends k 0).2.2 x) (Agrees.nil _)

/-- What the first loop has stored before trip `n`. -/
theorem front_agrees (G16 : BufTy.Contents (Elt Ideal) arg16.view.ty) (G20 : BufTy.Contents (Elt Ideal) arg20.view.ty) (G22 : BufTy.Contents (Elt Ideal) arg22.view.ty)
    (G : S2x2560x128.Idx → EReal) (hG : ∀ (r : Fin 2560) (l : Fin 128), G (ix3 0 r l) = am8 (rowN x₁ p₁ r) l) (n : ℕ) (hn : n ≤ k0_t1_loop.trips) :
    Agrees (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg4 X_arg23 G16 G20 G22 n).1 (codes1 x₁ p₁) ∧ Agrees (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg4 X_arg23 G16 G20 G22 n).2.1 (hidS x₁ p₁ w₁) ∧ Agrees (pb_k0_t1 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg4 X_arg23 G16 G20 G22 n).2.2 G := by
  induction n with
  | zero => exact ⟨Agrees.nil _, Agrees.nil _, Agrees.nil _⟩
  | succ n ih =>
    have ih := ih (by omega)
    rw [show n + 1 = (⟨n, by omega⟩ : Fin k0_t1_loop.trips).val + 1 from rfl, pb_k0_t1_succ]
    have t := fun f16 f20 f22 => trip_front 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg4 X_arg23 ⟨n, by omega⟩ f16 f20 f22 G hG
    exact ⟨(t _ _ _).1.append ih.1, (t _ _ _).2.1.append ih.2.1, (t _ _ _).2.2.append ih.2.2⟩

end Cert.KernelIdeal.Val

end
-- ==== Proof.KernelIdeal.Conv.lean ====
module

public import proofs.«01_k».proof.Proof.KernelIdeal.Front
public import proofs.«01_k».proof.Proof.KernelIdeal.Loop2

@[expose] public section

set_option maxRecDepth 16384

noncomputable section

namespace Cert.KernelIdeal.Val

open Cert.KernelIdeal Cert.KernelIdeal.Gen Cert.KernelIdeal.Body
open Idealize.ShloMosaic Idealize.ShloMosaic.TcCoe
open Idealize.SL Idealize.SL.Sem

/-- One entry of the convolution with its shift and its swish, scaled: `w` the nine hidden values, `t` the nine taps. -/
def convE (v5 : EReal) (w t : Fin 9 → EReal) (p : EReal) : EReal :=
  ((p + w 0 * t 0 + w 1 * t 1 + w 2 * t 2 + w 3 * t 3 + w 4 * t 4 + w 5 * t 5 + w 6 * t 6 + w 7 * t 7 + w 8 * t 8)
      * Ideal.tanh (p + w 0 * t 0 + w 1 * t 1 + w 2 * t 2 + w 3 * t 3 + w 4 * t 4 + w 5 * t 5 + w 6 * t 6 + w 7 * t 7 + w 8 * t 8)
    + (p + w 0 * t 0 + w 1 * t 1 + w 2 * t 2 + w 3 * t 3 + w 4 * t 4 + w 5 * t 5 + w 6 * t 6 + w 7 * t 7 + w 8 * t 8)) * v5

/-- Eight rows of one slab, at a distance of twenty rows from each other: the vector operations. -/
def convPay (v5 : Ideal .f32) (t0 t1 t2 t3 t4 t5 t6 t7 t8 p w0 w1 w2 w3 w4 w5 w6 w7 w8 : FVec Ideal S8x128 .f32) : FVec Ideal S1x8x128 .f32 :=
  let y := addf (addf (addf (addf (addf (addf (addf (addf (addf p (mulf w0 t0)) (mulf w1 t1)) (mulf w2 t2)) (mulf w3 t3)) (mulf w4 t4)) (mulf w5 t5)) (mulf w6 t6)) (mulf w7 t7)) (mulf w8 t8)
  shapeCast S1x8x128 (mulf (addf (mulf y (tanh y)) y) (broadcast S8x128 v5)) shapeCasts_S8x128_S1x8x128

theorem convPay_apply (v5 : Ideal .f32) (T W : Fin 9 → FVec Ideal S8x128 .f32) (p : FVec Ideal S8x128 .f32) (r : Fin 8) (l : Fin 128) :
    convPay v5 (T 0) (T 1) (T 2) (T 3) (T 4) (T 5) (T 6) (T 7) (T 8) p (W 0) (W 1) (W 2) (W 3) (W 4) (W 5) (W 6) (W 7) (W 8) (ix3 0 r l)
      = convE v5 (fun t => W t (ix2 r l)) (fun t => T t (ix2 r l)) (p (ix2 r l)) := by
  unfold convPay convE
  pointwise

/-- The place in the buffer of hidden values of window `w` of slab `s`, as the program computes it. -/
def offW (k : Fin k0_t2_loop.trips) : ℕ → ℕ → Fin 3 → ℕ
  | 0, w => bif Nat.blt w 8 then k0_off12 k (BitVec.ofNat 32 w) else k0_off13 k (BitVec.ofNat 32 (w - 8))
  | 1, w => bif Nat.blt w 8 then k0_off14 k (BitVec.ofNat 32 w) else k0_off15 k (BitVec.ofNat 32 (w - 8))
  | 2, w => bif Nat.blt w 8 then k0_off16 k (BitVec.ofNat 32 w) else k0_off17 k (BitVec.ofNat 32 (w - 8))
  | 3, w => bif Nat.blt w 8 then k0_off18 k (BitVec.ofNat 32 w) else k0_off19 k (BitVec.ofNat 32 (w - 8))
  | 4, w => bif Nat.blt w 8 then k0_off20 k (BitVec.ofNat 32 w) else k0_off21 k (BitVec.ofNat 32 (w - 8))
  | 5, w => bif Nat.blt w 8 then k0_off22 k (BitVec.ofNat 32 w) else k0_off23 k (BitVec.ofNat 32 (w - 8))
  | 6, w => bif Nat.blt w 8 then k0_off24 k (BitVec.ofNat 32 w) else k0_off25 k (BitVec.ofNat 32 (w - 8))
  | 7, w => bif Nat.blt w 8 then k0_off26 k (BitVec.ofNat 32 w) else k0_off27 k (BitVec.ofNat 32 (w - 8))
  | _, _ => ![0, 0, 0]

theorem offW_eq (k : Fin k0_t2_loop.trips) (s w : ℕ) (hs : s < 8) (hw : w < 28) : offW k s w = ![s, 160 * k.val + w + 4, 0] := by
  obtain rfl | rfl | rfl | rfl | rfl | rfl | rfl | rfl : s = 0 ∨ s = 1 ∨ s = 2 ∨ s = 3 ∨ s = 4 ∨ s = 5 ∨ s = 6 ∨ s = 7 := by omega
  · by_cases h : w < 8
    · have e : offW k 0 w = k0_off12 k (BitVec.ofNat 32 w) := by show (bif Nat.blt w 8 then _ else _) = _; rw [show Nat.blt w 8 = true from Nat.blt_eq ▸ h]; rfl
      rw [e, show BitVec.ofNat 32 w = BitVec.ofNat 32 (⟨w, h⟩ : Fin 8).val from rfl, k0_off12_eq]
    · have e : offW k 0 w = k0_off13 k (BitVec.ofNat 32 (w - 8)) := by
        show (bif Nat.blt w 8 then _ else _) = _
        rw [show Nat.blt w 8 = false from Bool.eq_false_iff.mpr fun hb => h (Nat.le_of_ble_eq_true hb)]; rfl
      rw [e, show BitVec.ofNat 32 (w - 8) = BitVec.ofNat 32 (⟨w - 8, by omega⟩ : Fin 20).val from rfl, k0_off13_eq]
      show ![_, 160 * k.val + (w - 8) + 12, 0] = _
      rw [show 160 * k.val + (w - 8) + 12 = 160 * k.val + w + 4 by omega]
  · by_cases h : w < 8
    · have e : offW k 1 w = k0_off14 k (BitVec.ofNat 32 w) := by show (bif Nat.blt w 8 then _ else _) = _; rw [show Nat.blt w 8 = true from Nat.blt_eq ▸ h]; rfl
      rw [e, show BitVec.ofNat 32 w = BitVec.ofNat 32 (⟨w, h⟩ : Fin 8).val from rfl, k0_off14_eq]
    · have e : offW k 1 w = k0_off15 k (BitVec.ofNat 32 (w - 8)) := by
        show (bif Nat.blt w 8 then _ else _) = _
        rw [show Nat.blt w 8 = false from Bool.eq_false_iff.mpr fun hb => h (Nat.le_of_ble_eq_true hb)]; rfl
      rw [e, show BitVec.ofNat 32 (w - 8) = BitVec.ofNat 32 (⟨w - 8, by omega⟩ : Fin 20).val from rfl, k0_off15_eq]
      show ![_, 160 * k.val + (w - 8) + 12, 0] = _
      rw [show 160 * k.val + (w - 8) + 12 = 160 * k.val + w + 4 by omega]
  · by_cases h : w < 8
    · have e : offW k 2 w = k0_off16 k (BitVec.ofNat 32 w) := by show (bif Nat.blt w 8 then _ else _) = _; rw [show Nat.blt w 8 = true from Nat.blt_eq ▸ h]; rfl
      rw [e, show BitVec.ofNat 32 w = BitVec.ofNat 32 (⟨w, h⟩ : Fin 8).val from rfl, k0_off16_eq]
    · have e : offW k 2 w = k0_off17 k (BitVec.ofNat 32 (w - 8)) := by
        show (bif Nat.blt w 8 then _ else _) = _
        rw [show Nat.blt w 8 = false from Bool.eq_false_iff.mpr fun hb => h (Nat.le_of_ble_eq_true hb)]; rfl
      rw [e, show BitVec.ofNat 32 (w - 8) = BitVec.ofNat 32 (⟨w - 8, by omega⟩ : Fin 20).val from rfl, k0_off17_eq]
      show ![_, 160 * k.val + (w - 8) + 12, 0] = _
      rw [show 160 * k.val + (w - 8) + 12 = 160 * k.val + w + 4 by omega]
  · by_cases h : w < 8
    · have e : offW k 3 w = k0_off18 k (BitVec.ofNat 32 w) := by show (bif Nat.blt w 8 then _ else _) = _; rw [show Nat.blt w 8 = true from Nat.blt_eq ▸ h]; rfl
      rw [e, show BitVec.ofNat 32 w = BitVec.ofNat 32 (⟨w, h⟩ : Fin 8).val from rfl, k0_off18_eq]
    · have e : offW k 3 w = k0_off19 k (BitVec.ofNat 32 (w - 8)) := by
        show (bif Nat.blt w 8 then _ else _) = _
        rw [show Nat.blt w 8 = false from Bool.eq_false_iff.mpr fun hb => h (Nat.le_of_ble_eq_true hb)]; rfl
      rw [e, show BitVec.ofNat 32 (w - 8) = BitVec.ofNat 32 (⟨w - 8, by omega⟩ : Fin 20).val from rfl, k0_off19_eq]
      show ![_, 160 * k.val + (w - 8) + 12, 0] = _
      rw [show 160 * k.val + (w - 8) + 12 = 160 * k.val + w + 4 by omega]
  · by_cases h : w < 8
    · have e : offW k 4 w = k0_off20 k (BitVec.ofNat 32 w) := by show (bif Nat.blt w 8 then _ else _) = _; rw [show Nat.blt w 8 = true from Nat.blt_eq ▸ h]; rfl
      rw [e, show BitVec.ofNat 32 w = BitVec.ofNat 32 (⟨w, h⟩ : Fin 8).val from rfl, k0_off20_eq]
    · have e : offW k 4 w = k0_off21 k (BitVec.ofNat 32 (w - 8)) := by
        show (bif Nat.blt w 8 then _ else _) = _
        rw [show Nat.blt w 8 = false from Bool.eq_false_iff.mpr fun hb => h (Nat.le_of_ble_eq_true hb)]; rfl
      rw [e, show BitVec.ofNat 32 (w - 8) = BitVec.ofNat 32 (⟨w - 8, by omega⟩ : Fin 20).val from rfl, k0_off21_eq]
      show ![_, 160 * k.val + (w - 8) + 12, 0] = _
      rw [show 160 * k.val + (w - 8) + 12 = 160 * k.val + w + 4 by omega]
  · by_cases h : w < 8
    · have e : offW k 5 w = k0_off22 k (BitVec.ofNat 32 w) := by show (bif Nat.blt w 8 then _ else _) = _; rw [show Nat.blt w 8 = true from Nat.blt_eq ▸ h]; rfl
      rw [e, show BitVec.ofNat 32 w = BitVec.ofNat 32 (⟨w, h⟩ : Fin 8).val from rfl, k0_off22_eq]
    · have e : offW k 5 w = k0_off23 k (BitVec.ofNat 32 (w - 8)) := by
        show (bif Nat.blt w 8 then _ else _) = _
        rw [show Nat.blt w 8 = false from Bool.eq_false_iff.mpr fun hb => h (Nat.le_of_ble_eq_true hb)]; rfl
      rw [e, show BitVec.ofNat 32 (w - 8) = BitVec.ofNat 32 (⟨w - 8, by omega⟩ : Fin 20).val from rfl, k0_off23_eq]
      show ![_, 160 * k.val + (w - 8) + 12, 0] = _
      rw [show 160 * k.val + (w - 8) + 12 = 160 * k.val + w + 4 by omega]
  · by_cases h : w < 8
    · have e : offW k 6 w = k0_off24 k (BitVec.ofNat 32 w) := by show (bif Nat.blt w 8 then _ else _) = _; rw [show Nat.blt w 8 = true from Nat.blt_eq ▸ h]; rfl
      rw [e, show BitVec.ofNat 32 w = BitVec.ofNat 32 (⟨w, h⟩ : Fin 8).val from rfl, k0_off24_eq]
    · have e : offW k 6 w = k0_off25 k (BitVec.ofNat 32 (w - 8)) := by
        show (bif Nat.blt w 8 then _ else _) = _
        rw [show Nat.blt w 8 = false from Bool.eq_false_iff.mpr fun hb => h (Nat.le_of_ble_eq_true hb)]; rfl
      rw [e, show BitVec.ofNat 32 (w - 8) = BitVec.ofNat 32 (⟨w - 8, by omega⟩ : Fin 20).val from rfl, k0_off25_eq]
      show ![_, 160 * k.val + (w - 8) + 12, 0] = _
      rw [show 160 * k.val + (w - 8) + 12 = 160 * k.val + w + 4 by omega]
  · by_cases h : w < 8
    · have e : offW k 7 w = k0_off26 k (BitVec.ofNat 32 w) := by show (bif Nat.blt w 8 then _ else _) = _; rw [show Nat.blt w 8 = true from Nat.blt_eq ▸ h]; rfl
      rw [e, show BitVec.ofNat 32 w = BitVec.ofNat 32 (⟨w, h⟩ : Fin 8).val from rfl, k0_off26_eq]
    · have e : offW k 7 w = k0_off27 k (BitVec.ofNat 32 (w - 8)) := by
        show (bif Nat.blt w 8 then _ else _) = _
        rw [show Nat.blt w 8 = false from Bool.eq_false_iff.mpr fun hb => h (Nat.le_of_ble_eq_true hb)]; rfl
      rw [e, show BitVec.ofNat 32 (w - 8) = BitVec.ofNat 32 (⟨w - 8, by omega⟩ : Fin 20).val from rfl, k0_off27_eq]
      show ![_, 160 * k.val + (w - 8) + 12, 0] = _
      rw [show 160 * k.val + (w - 8) + 12 = 160 * k.val + w + 4 by omega]

theorem offW_inb (k : Fin k0_t2_loop.trips) (s w : ℕ) (hs : s < 8) (hw : w < 28) :
    ∀ a, S1x8x128.size a = 0 ∨ (offW k s w) a + (![1, 20, 1] : Fin 3 → Nat) a * (S1x8x128.size a - 1) < S8x2576x128.size a := by
  have hk : k.val < 16 := Nat.lt_of_lt_of_le k.isLt k0_t2_abs.2.1
  intro a; right; rw [offW_eq k s w hs hw]
  fin_cases a
  · show s + 1 * 0 < 8; omega
  · show 160 * k.val + w + 4 + 20 * 7 < 2576; omega
  · show 0 + 1 * 127 < 128; omega

section
variable (arg20 : Memref sig .tc .vmem S8x2576x128 .f32) (arg23 : Memref sig .tc .vmem S32x1024 .f32)
  (X20 : BufTy.Contents (Elt Ideal) arg20.view.ty) (X23 : BufTy.Contents (Elt Ideal) arg23.view.ty) (v5 : Ideal .f32) (k : Fin k0_t2_loop.trips)

/-- Window `w` of slab `s`. -/
def win (s w : ℕ) (hs : s < 8) (hw : w < 28) : FVec Ideal S8x128 .f32 :=
  shapeCast S8x128 (View.readAt (Elt Ideal) arg20.view { off := offW k s w, size := S1x8x128.size, stride := ![1, 20, 1], inb := offW_inb k s w hs hw } X20)
    shapeCasts_S1x8x128_S8x128

/-- Row `i` of the table over the columns of slab `s`, for every one of the eight rows. -/
def tab (i s : ℕ) (hi : i < 32) (hs : s < 8) : FVec Ideal S8x128 .f32 :=
  broadcastTo S8x128 (shapeCast S1x128 (View.readAt (Elt Ideal) arg23.view (Rect.unit (s := S32x1024) ![i, 128 * s] S1x128.size (fun a => by
    fin_cases a
    · show i + 1 ≤ 32; omega
    · show 128 * s + 128 ≤ 1024; omega)).toLoadRect X23) shapeCasts_S1x128_S1x128) broadcasts_S1x128_S8x128

/-- Where piece `u` of slab `s` lies among the trip's 160 rows. -/
def zrect (s u : ℕ) (hs : s < 8) (hu : u < 20) : Rect S8x160x128 :=
  { off := ![s, u, 0], size := S1x8x128.size, stride := ![1, 20, 1], stride_pos := spos_1_20_1, inb := fun a => by
      right
      fin_cases a
      · show s + 1 * 0 < 8; omega
      · show u + 20 * 7 < 160; omega
      · show 0 + 1 * 127 < 128; omega }

/-- What piece `u` of slab `s` holds. -/
def zval (s u : ℕ) (hs : s < 8) (hu : u < 20) : FVec Ideal S1x8x128 .f32 :=
  convPay v5 (tab arg23 X23 16 s (by omega) hs) (tab arg23 X23 17 s (by omega) hs) (tab arg23 X23 18 s (by omega) hs)
    (tab arg23 X23 19 s (by omega) hs) (tab arg23 X23 20 s (by omega) hs) (tab arg23 X23 21 s (by omega) hs)
    (tab arg23 X23 22 s (by omega) hs) (tab arg23 X23 23 s (by omega) hs) (tab arg23 X23 24 s (by omega) hs)
    (tab arg23 X23 6 s (by omega) hs)
    (win arg20 X20 k s u hs (by omega)) (win arg20 X20 k s (u + 1) hs (by omega)) (win arg20 X20 k s (u + 2) hs (by omega))
    (win arg20 X20 k s (u + 3) hs (by omega)) (win arg20 X20 k s (u + 4) hs (by omega)) (win arg20 X20 k s (u + 5) hs (by omega))
    (win arg20 X20 k s (u + 6) hs (by omega)) (win arg20 X20 k s (u + 7) hs (by omega)) (win arg20 X20 k s (u + 8) hs (by omega))

/-- The first `n` pieces, last first: twenty per slab. -/
def zpieces : (n : ℕ) → n ≤ 160 → List (View.Piece (Elt Ideal) S8x160x128 .f32)
  | 0, _ => []
  | n + 1, h => ⟨zrect (n / 20) (n % 20) (by omega) (by omega), zval arg20 arg23 X20 X23 v5 k (n / 20) (n % 20) (by omega) (by omega)⟩ :: zpieces n (by omega)

set_option maxHeartbeats 8000000 in
/-- The run's pieces are these. -/
theorem slab_pieces : Body.trip2.sl.HW21_160 (F := Ideal) arg20 arg23 v5 X20 X23 k = zpieces arg20 arg23 X20 X23 v5 k 160 (le_refl _) := rfl

end

end Cert.KernelIdeal.Val

end
-- ==== Proof.ReferenceIdeal.Rows.lean ====
module

public import proofs.«01_k».proof.Proof.Gen.ReferenceIdeal.Skeleton
public import Idealize.ShloMosaic.Lib.Pointwise
public import Idealize.ShloMosaic.PureOps.Ideal

/-!
What the reference's values hold at an index, over the extended reals.
-/

@[expose] public section

set_option maxRecDepth 16384

noncomputable section

namespace Cert.ReferenceIdeal.Val

open Cert.ReferenceIdeal Cert.ReferenceIdeal.Gen
open Idealize.ShloMosaic

/-- One entry of a normalised row. -/
def lnR (x g b : Fin 1024 → EReal) (c : Fin 1024) : EReal :=
  (x c - Ideal.div (∑ j, x j) (Ideal.ofBits .f32 1149239296#32))
    * Ideal.rsqrt (Ideal.div (∑ j, (x j - Ideal.div (∑ j, x j) (Ideal.ofBits .f32 1149239296#32)) * (x j - Ideal.div (∑ j, x j) (Ideal.ofBits .f32 1149239296#32)))
        (Ideal.ofBits .f32 1149239296#32) + Ideal.ofBits .f32 925353388#32) * g c + b c

/-- The largest absolute value of a row. -/
def rowMax (n : Fin 1024 → EReal) : EReal :=
  Finset.univ.fold max (Ideal.ofBits .f32 4286578688#32) fun c => FloatOps.absf (F := Ideal) (φ := .f32) (n c)

/-- A value divided by its scale and held between -448 and 448. -/
def quant (v s : EReal) : EReal :=
  min (Ideal.ofBits .f32 1138753536#32) (max (Ideal.ofBits .f32 3286237184#32) (v * Ideal.div (Ideal.ofBits .f32 1065353216#32) s))

/-- One entry of the gated linear unit. -/
def gluR (q wa wb : Fin 1024 → EReal) (s sa sb ba bb : EReal) : EReal :=
  ((∑ j, q j * wa j) * (s * sa) + ba) * Ideal.logistic ((∑ j, q j * wb j) * (s * sb) + bb)

/-- A value times its own logistic. -/
def swish (y : EReal) : EReal := y * Ideal.logistic y

/-- The nine taps at one place, then the affine map. -/
def tapsR (h d : Fin 9 → EReal) (s b : EReal) : EReal :=
  (0 + h 0 * d 0 + h 1 * d 1 + h 2 * d 2 + h 3 * d 3 + h 4 * d 4 + h 5 * d 5 + h 6 * d 6 + h 7 * d 7 + h 8 * d 8) * s + b

set_option maxHeartbeats 4000000 in
theorem pay7_apply (x : Vec Ideal S24x2560x1024 .bf16) (g b : Vec Ideal S1x1024 .f32) (t : Fin 24) (r : Fin 2560) (c : Fin 1024) :
    k0_pay7 (F := Ideal) x g b (ix3 t r c) = lnR (fun j => x (ix3 t r j)) (fun j => g (ix2 0 j)) (fun j => b (ix2 0 j)) c := by
  unfold k0_pay7 k0_pay6 lnR
  pointwise

theorem pay8_apply (x : Vec Ideal S24x2560x1024 .bf16) (g b : Vec Ideal S1x1024 .f32) (t : Fin 24) (r : Fin 2560) :
    k0_pay8 (F := Ideal) x g b (ix2 t r) = rowMax (fun c => k0_pay7 (F := Ideal) x g b (ix3 t r c)) := by
  unfold k0_pay8 rowMax
  generalize k0_pay7 x g b = n
  pointwise

theorem pay1_apply (v : FVec Ideal S24x2560x1024 .f32) (t : Fin 24) (r : Fin 2560) :
    k0_pay1 (F := Ideal) (absf v) (ix2 t r) = rowMax (fun c => v (ix3 t r c)) := by
  unfold k0_pay1 rowMax
  pointwise

theorem pay10_apply (n : FVec Ideal S24x2560x1024 .f32) (s : Vec Ideal S1x1 .f32) (t : Fin 24) (r : Fin 2560) (c : Fin 1024) :
    k0_pay10 (F := Ideal) n (k0_pay9 s) (ix3 t r c) = quant (n (ix3 t r c)) (s (ix2 0 0)) := by
  unfold k0_pay10 k0_pay9 k0_pay4 quant
  pointwise

theorem pay2_apply (z : FVec Ideal S24x2560x1024 .f32) (s : Vec Ideal S1x1 .f32) (t : Fin 24) (r : Fin 2560) (c : Fin 1024) :
    k0_pay2 (F := Ideal) (k0_pay5 s) z (ix3 t r c) = quant (z (ix3 t r c)) (s (ix2 0 0)) := by
  unfold k0_pay2 k0_pay5 quant
  pointwise

set_option maxHeartbeats 4000000 in
theorem pay3_apply (x : Vec Ideal S24x2560x1024 .bf16) (z : FVec Ideal S24x2560x1024 .f32) (s : Vec Ideal S1x1 .f32) (w : Vec Ideal S1024x1024 .fp8e4m3)
    (ws b : Vec Ideal S1x1024 .f32) (t : Fin 24) (r : Fin 2560) (c : Fin 1024) :
    k0_pay3 (F := Ideal) (k0_pay5 s) (k0_pay6 x) z w ws b (ix3 t r c)
      = x (ix3 t r c) + ((∑ j, quant (z (ix3 t r j)) (s (ix2 0 0)) * w (ix2 j c)) * (s (ix2 0 0) * ws (ix2 0 c)) + b (ix2 0 c)) := by
  have h : ∀ j, quant (z (ix3 t r j)) (s (ix2 0 0)) = k0_pay2 (F := Ideal) (k0_pay5 s) z (ix3 t r j) := fun j => (pay2_apply z s t r j).symm
  simp only [h]
  unfold k0_pay3
  generalize k0_pay2 (k0_pay5 s) z = q
  unfold k0_pay5 k0_pay6
  pointwise

set_option maxHeartbeats 4000000 in
theorem pay11_apply (q : FVec Ideal S24x2560x1024 .f32) (k : FVec Ideal S24x2560x1024 .f32) (s : Vec Ideal S1x1 .f32) (w : Vec Ideal S1024x2048 .fp8e4m3)
    (ws b : Vec Ideal S1x2048 .f32) (t : Fin 24) (r : Fin 2568) (c : Fin 1024) :
    k0_pay11 (F := Ideal) (k0_pay4 s) q k w ws b (ix3 t r c)
      = if h : 4 ≤ r.val ∧ r.val < 2564 then
          gluR (fun j => k0_pay10 (F := Ideal) q k (ix3 t ⟨r.val - 4, by omega⟩ j)) (fun j => w (ix2 j ⟨c.val, by omega⟩)) (fun j => w (ix2 j ⟨1024 + c.val, by omega⟩))
            (s (ix2 0 0)) (ws (ix2 0 ⟨c.val, by omega⟩)) (ws (ix2 0 ⟨1024 + c.val, by omega⟩)) (b (ix2 0 ⟨c.val, by omega⟩)) (b (ix2 0 ⟨1024 + c.val, by omega⟩))
        else 0 := by
  unfold k0_pay11 gluR
  generalize k0_pay10 q k = q'
  unfold k0_pay4
  pointwise
  have ht := t.isLt
  by_cases h4 : r.val < 4
  · rw [dif_pos h4, dif_neg (by omega)]
  · rw [dif_neg h4]
    by_cases h5 : r.val - 4 < 2560
    · rw [dif_pos h5, dif_pos (by omega)]
      simp only [show (t.val * 2560 + (r.val - 4)) / 2560 = t.val by omega, show (t.val * 2560 + (r.val - 4)) % 2560 = r.val - 4 by omega, Fin.eta]
    · rw [dif_neg h5, dif_neg (by omega)]

set_option maxHeartbeats 4000000 in
theorem pay14_apply (q k : FVec Ideal S24x2560x1024 .f32) (s : FVec Ideal S1x1 .f32) (w : Vec Ideal S1024x2048 .fp8e4m3)
    (ws b : Vec Ideal S1x2048 .f32) (d : Vec Ideal S9x1024 .f32) (sc sh : Vec Ideal S1x1024 .f32) (t : Fin 24) (r : Fin 2560) (c : Fin 1024) :
    k0_pay14 (F := Ideal) (k0_pay11 s q k w ws b) d (k0_pay12 s q k w ws b d) (k0_pay13 s q k w ws b d) sc sh (ix3 t r c)
      = swish (tapsR (fun m => k0_pay11 (F := Ideal) s q k w ws b (ix3 t ⟨m.val + r.val, by omega⟩ c)) (fun m => d (ix2 m c)) (sc (ix2 0 c)) (sh (ix2 0 c))) := by
  unfold k0_pay14 k0_pay12 k0_pay13 swish tapsR
  generalize k0_pay11 s q k w ws b = h
  pointwise

end Cert.ReferenceIdeal.Val

end
-- ==== Proof.KernelIdeal.Maths.lean ====
module

public import proofs.«01_k».proof.Proof.KernelIdeal.Rows
public import proofs.«01_k».proof.Proof.KernelIdeal.Conv
public import proofs.«01_k».proof.Proof.ReferenceIdeal.Rows

/-!
The kernel's formulas and the reference's are equal over the extended reals, where the scales are positive and finite and
what enters the gated linear unit and the convolution as a weight is finite.
-/

@[expose] public section

set_option maxRecDepth 16384

noncomputable section

namespace Cert.KernelIdeal.Val

open Idealize.ShloMosaic Cert.ReferenceIdeal.Val

/-- The float one half. -/
abbrev half : EReal := Ideal.ofBits .f32 1056964608#32
/-- The float one. -/
abbrev one32 : EReal := Ideal.ofBits .f32 1065353216#32
/-- The kernel's reciprocal of a scale, at most 2^100. -/
def kinv (s : EReal) : EReal := min (Ideal.div one32 s) (Ideal.ofBits .f32 1904214016#32)

theorem half_eq : half = ((1 / 2 : ℝ) : EReal) := by
  simp [half, Ideal.ofBits, Ideal.ieee, -EReal.coe_mul]; norm_num
theorem one_eq : one32 = ((1 : ℝ) : EReal) := by
  simp [one32, Ideal.ofBits, Ideal.ieee, -EReal.coe_mul]; norm_num
theorem n1024_eq : Ideal.ofBits .f32 1149239296#32 = ((1024 : ℝ) : EReal) := by
  simp [Ideal.ofBits, Ideal.ieee, -EReal.coe_mul]; norm_num
theorem r1024_eq : Ideal.ofBits .f32 981467136#32 = ((1 / 1024 : ℝ) : EReal) := by
  simp [Ideal.ofBits, Ideal.ieee, -EReal.coe_mul]; norm_num
theorem hi_eq : Ideal.ofBits .f32 1138753536#32 = ((448 : ℝ) : EReal) := by
  simp [Ideal.ofBits, Ideal.ieee, -EReal.coe_mul]; norm_num
theorem lo_eq : Ideal.ofBits .f32 3286237184#32 = ((-448 : ℝ) : EReal) := by
  simp [Ideal.ofBits, Ideal.ieee, -EReal.coe_mul]; norm_num
theorem bot_eq : Ideal.ofBits .f32 4286578688#32 = ⊥ := by
  simp [Ideal.ofBits, Ideal.ieee]
theorem top_eq : Ideal.ofBits .f32 2139095040#32 = ⊤ := by
  simp [Ideal.ofBits, Ideal.ieee]
theorem cap_eq : Ideal.ofBits .f32 1904214016#32 = ((2 ^ 100 : ℝ) : EReal) := by
  rw [show (2 ^ 100 : ℝ) = 1267650600228229401496703205376 by norm_num]
  simp [Ideal.ofBits, Ideal.ieee, -EReal.coe_mul]; norm_num
theorem least_eq : Ideal.ofBits .f32 226492416#32 = (((2 : ℝ) ^ 100)⁻¹ : ℝ) := by
  simp [Ideal.ofBits, Ideal.ieee, -EReal.coe_mul]; norm_num

theorem mean_eq (x : EReal) : Ideal.div x (Ideal.ofBits .f32 1149239296#32) = x * Ideal.ofBits .f32 981467136#32 := by
  rw [n1024_eq, r1024_eq, Ideal.div_coe (by norm_num)]

/-- A scale that the precondition admits: the capped reciprocal is the reciprocal. -/
theorem kinv_eq (s : ℝ) (hs : ((2 : ℝ) ^ 100)⁻¹ ≤ s) : kinv (s : EReal) = ((1 / s : ℝ) : EReal) := by
  have h0 : 0 < s := lt_of_lt_of_le (by positivity) hs
  unfold kinv
  rw [one_eq, Ideal.div_coe h0.ne', ← EReal.coe_mul, one_mul, cap_eq, min_eq_left]
  rw [EReal.coe_le_coe_iff, div_le_iff₀ h0]
  calc (1 : ℝ) = 2 ^ 100 * ((2 : ℝ) ^ 100)⁻¹ := by rw [mul_inv_cancel₀]; positivity
    _ ≤ 2 ^ 100 * s := by gcongr

/-- Scaling the affine map of a normalisation scales the row. -/
theorem nrm_eq (x g b : Fin 1024 → EReal) (k : ℝ) (hk : 0 ≤ k) (c : Fin 1024) :
    nrm x (fun j => g j * (k : EReal)) (fun j => b j * (k : EReal)) c = lnR x g b c * (k : EReal) := by
  unfold nrm lnR
  simp only [mean_eq]
  rw [EReal.right_distrib_of_nonneg_of_ne_top (by exact_mod_cast hk) (EReal.coe_ne_top k), mul_assoc _ (g c) (k : EReal)]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem clip_real (v : EReal) : ∃ r : ℝ, clip v = (r : EReal) := by
  unfold clip
  rw [hi_eq, lo_eq]
  have h1 : min ((448 : ℝ) : EReal) (max ((-448 : ℝ) : EReal) v) ≠ ⊤ := ne_top_of_le_ne_top (EReal.coe_ne_top 448) (min_le_left _ _)
  have h2 : min ((448 : ℝ) : EReal) (max ((-448 : ℝ) : EReal) v) ≠ ⊥ :=
    ne_bot_of_le_ne_bot (EReal.coe_ne_bot (-448)) (le_min (by exact_mod_cast (by norm_num : (-448 : ℝ) ≤ 448)) (le_max_left _ _))
  exact ⟨_, (EReal.coe_toReal h1 h2).symm⟩

theorem quant_eq (v : EReal) (s : ℝ) (hs : 0 < s) : quant v (s : EReal) = clip (v * ((1 / s : ℝ) : EReal)) := by
  unfold quant clip
  rw [show Ideal.ofBits .f32 1065353216#32 = ((1 : ℝ) : EReal) from one_eq, Ideal.div_coe hs.ne', ← EReal.coe_mul, one_mul]

/-- The logistic function by the hyperbolic tangent of half its argument. -/
theorem logistic_half (y : ℝ) : (1 + Real.exp (-y))⁻¹ = (1 + Real.tanh (y / 2)) / 2 := by
  have h1 : Real.exp (-y) = Real.exp (-(y / 2)) * Real.exp (-(y / 2)) := by rw [← Real.exp_add]; ring_nf
  have h2 : Real.exp (y / 2) * Real.exp (-(y / 2)) = 1 := by rw [← Real.exp_add]; simp
  have p1 := Real.exp_pos (y / 2)
  have p2 := Real.exp_pos (-(y / 2))
  rw [Real.tanh_eq_sinh_div_cosh, Real.sinh_eq, Real.cosh_eq, h1]
  field_simp
  nlinarith [h2]

/-- The kernel's gated linear unit is the reference's, and is finite. -/
theorem hid_eq (q wa wb : Fin 1024 → ℝ) (s sa sb ba bb : ℝ) :
    hid (fun j => (q j : EReal)) (fun j => (wa j : EReal)) (fun j => (wb j : EReal)) ((sa : EReal) * s * half) ((ba : EReal) * half) ((sb : EReal) * s * half) ((bb : EReal) * half)
      = gluR (fun j => (q j : EReal)) (fun j => (wa j : EReal)) (fun j => (wb j : EReal)) s sa sb ba bb
    ∧ ∃ r : ℝ, gluR (fun j => (q j : EReal)) (fun j => (wa j : EReal)) (fun j => (wb j : EReal)) s sa sb ba bb = (r : EReal) := by
  unfold hid gluR
  rw [half_eq]
  simp only [← EReal.coe_mul, ← coe_sum, ← EReal.coe_add, Ideal.tanh_coe, Ideal.logistic_coe]
  refine ⟨?_, _, rfl⟩
  rw [EReal.coe_eq_coe_iff, logistic_half]
  rw [show (∑ j, q j * wb j) * (sb * s * (1 / 2)) + bb * (1 / 2) = ((∑ j, q j * wb j) * (s * sb) + bb) / 2 by ring]
  ring

/-- The kernel's scaled activation is the reference's by the reciprocal scale. -/
theorem conv_eq (w d : Fin 9 → ℝ) (s b k : ℝ) :
    convE (k : EReal) (fun t => (w t : EReal)) (fun t => (d t : EReal) * ((s : EReal) * half)) ((b : EReal) * half)
      = swish (tapsR (fun t => (w t : EReal)) (fun t => (d t : EReal)) s b) * (k : EReal) := by
  unfold convE swish tapsR
  rw [half_eq, show (0 : EReal) = ((0 : ℝ) : EReal) from rfl]
  simp only [← EReal.coe_mul, ← EReal.coe_add, Ideal.tanh_coe, Ideal.logistic_coe]
  rw [EReal.coe_eq_coe_iff, logistic_half]
  rw [show b * (1 / 2) + w 0 * (d 0 * (s * (1 / 2))) + w 1 * (d 1 * (s * (1 / 2))) + w 2 * (d 2 * (s * (1 / 2))) + w 3 * (d 3 * (s * (1 / 2)))
      + w 4 * (d 4 * (s * (1 / 2))) + w 5 * (d 5 * (s * (1 / 2))) + w 6 * (d 6 * (s * (1 / 2))) + w 7 * (d 7 * (s * (1 / 2))) + w 8 * (d 8 * (s * (1 / 2)))
    = ((0 + w 0 * d 0 + w 1 * d 1 + w 2 * d 2 + w 3 * d 3 + w 4 * d 4 + w 5 * d 5 + w 6 * d 6 + w 7 * d 7 + w 8 * d 8) * s + b) / 2 by ring]
  ring

/-- The largest over the lanes of the eight values in each is the largest of the row. -/
theorem lanes_max (n : Fin 1024 → EReal) :
    (Finset.univ.fold max (Ideal.ofBits .f32 4286578688#32) fun l : Fin 128 => am8 n l) = rowMax n := by
  unfold rowMax
  refine eq_of_forall_ge_iff fun x => ?_
  rw [Finset.fold_max_le, Finset.fold_max_le]
  refine and_congr_right fun _ => ⟨fun h c _ => ?_, fun h l _ => ?_⟩
  · have hl := h ⟨c.val % 128, by omega⟩ (Finset.mem_univ _)
    unfold am8 at hl
    simp only [max_le_iff] at hl
    obtain ⟨⟨⟨⟨⟨⟨⟨h0, h1⟩, h2⟩, h3⟩, h4⟩, h5⟩, h6⟩, h7⟩ := hl
    have hc : c.val / 128 = 0 ∨ c.val / 128 = 1 ∨ c.val / 128 = 2 ∨ c.val / 128 = 3 ∨ c.val / 128 = 4 ∨ c.val / 128 = 5 ∨ c.val / 128 = 6 ∨ c.val / 128 = 7 := by omega
    rcases hc with e | e | e | e | e | e | e | e
    · exact (show c = ⟨c.val % 128, by omega⟩ from Fin.ext (by show c.val = c.val % 128; omega)) ▸ h0
    · exact (show c = ⟨128 + c.val % 128, by omega⟩ from Fin.ext (by show c.val = 128 + c.val % 128; omega)) ▸ h1
    · exact (show c = ⟨256 + c.val % 128, by omega⟩ from Fin.ext (by show c.val = 256 + c.val % 128; omega)) ▸ h2
    · exact (show c = ⟨384 + c.val % 128, by omega⟩ from Fin.ext (by show c.val = 384 + c.val % 128; omega)) ▸ h3
    · exact (show c = ⟨512 + c.val % 128, by omega⟩ from Fin.ext (by show c.val = 512 + c.val % 128; omega)) ▸ h4
    · exact (show c = ⟨640 + c.val % 128, by omega⟩ from Fin.ext (by show c.val = 640 + c.val % 128; omega)) ▸ h5
    · exact (show c = ⟨768 + c.val % 128, by omega⟩ from Fin.ext (by show c.val = 768 + c.val % 128; omega)) ▸ h6
    · exact (show c = ⟨896 + c.val % 128, by omega⟩ from Fin.ext (by show c.val = 896 + c.val % 128; omega)) ▸ h7
  · unfold am8
    simp only [max_le_iff]
    exact ⟨⟨⟨⟨⟨⟨⟨h _ (Finset.mem_univ _), h _ (Finset.mem_univ _)⟩, h _ (Finset.mem_univ _)⟩, h _ (Finset.mem_univ _)⟩, h _ (Finset.mem_univ _)⟩,
      h _ (Finset.mem_univ _)⟩, h _ (Finset.mem_univ _)⟩, h _ (Finset.mem_univ _)⟩

theorem absf_mul (v : EReal) (k : ℝ) (hk : 0 < k) :
    FloatOps.absf (F := Ideal) (φ := .f32) (v * (k : EReal) : EReal) = FloatOps.absf (F := Ideal) (φ := .f32) v * (k : EReal) := by
  show max (v * (k : EReal)) (-(v * (k : EReal))) = max v (-v) * (k : EReal)
  rw [← EReal.neg_mul]
  exact (Monotone.map_max (f := fun z : EReal => z * (k : EReal)) (fun a b hab => mul_le_mul_of_nonneg_right hab (by exact_mod_cast hk.le))).symm

/-- Scaling a row scales its largest absolute value; scaling back gives the row's. -/
theorem rowMax_scaled (n : Fin 1024 → EReal) (k s : ℝ) (hk : 0 < k) (h : k * s = 1) :
    rowMax (fun c => n c * (k : EReal)) * (s : EReal) = rowMax n := by
  have e : rowMax (fun c => n c * (k : EReal)) = rowMax n * (k : EReal) := by
    unfold rowMax
    simp only [absf_mul _ k hk, bot_eq]
    have hm : Monotone (fun z : EReal => z * (k : EReal)) := fun a b hab => mul_le_mul_of_nonneg_right hab (by exact_mod_cast hk.le)
    have := Finset.fold_hom (op := max) (op' := max) (s := (Finset.univ : Finset (Fin 1024))) (b := (⊥ : EReal))
      (f := fun c => FloatOps.absf (F := Ideal) (φ := .f32) (n c)) (m := fun z : EReal => z * (k : EReal)) (fun a b => hm.map_max)
    rw [EReal.bot_mul_coe_of_pos hk] at this
    exact this
  rw [e, mul_assoc, ← EReal.coe_mul, h, EReal.coe_one, mul_one]

end Cert.KernelIdeal.Val

end
-- ==== Proof.KernelIdeal.Back.lean ====
module

public import proofs.«01_k».proof.Proof.KernelIdeal.Conv

@[expose] public section

set_option maxRecDepth 16384

noncomputable section

namespace Cert.KernelIdeal.Val

open Cert.KernelIdeal Cert.KernelIdeal.Gen Cert.KernelIdeal.Body
open Idealize.ShloMosaic Idealize.ShloMosaic.TcCoe
open Idealize.SL Idealize.SL.Sem

/-- The scaled activations at slab `s`, row `r`, lane `l`, from the hidden values and the table. -/
def zV (h : S8x2576x128.Idx → EReal) (p : S32x1024.Idx → EReal) (v5 : EReal) (s : Fin 8) (r : Fin 2560) (l : Fin 128) : EReal :=
  convE v5 (fun t => h (ix3 s ⟨r.val + 4 + t.val, by omega⟩ l)) (fun t => p (ix2 ⟨16 + t.val, by omega⟩ ⟨128 * s.val + l.val, by omega⟩))
    (p (ix2 6 ⟨128 * s.val + l.val, by omega⟩))

/-- The scaled activations at row `r` and column `c`. -/
def zR (h : S8x2576x128.Idx → EReal) (p : S32x1024.Idx → EReal) (v5 : EReal) (r : Fin 2560) (c : Fin 1024) : EReal :=
  zV h p v5 ⟨c.val / 128, by omega⟩ r ⟨c.val % 128, by omega⟩

theorem zR_lane (h : S8x2576x128.Idx → EReal) (p : S32x1024.Idx → EReal) (v5 : EReal) (r : Fin 2560) (s : Fin 8) (l : Fin 128) (c : Fin 1024)
    (hc : c.val = 128 * s.val + l.val) : zR h p v5 r c = zV h p v5 s r l := by
  unfold zR
  rw [show (⟨c.val / 128, by omega⟩ : Fin 8) = s from Fin.ext (by show c.val / 128 = s.val; omega),
    show (⟨c.val % 128, by omega⟩ : Fin 128) = l from Fin.ext (by show c.val % 128 = l.val; omega)]

/-- The second quantisation's codes. -/
def codes2 (h : S8x2576x128.Idx → EReal) (p : S32x1024.Idx → EReal) (v5 : EReal) (y : S1x2560x1024.Idx) : EReal :=
  clip (zR h p v5 (y 1) (y 2))

/-- The block's output. -/
def outV (x : S1x2560x1024.Idx → EReal) (w : S1024x1024.Idx → EReal) (h : S8x2576x128.Idx → EReal) (p : S32x1024.Idx → EReal) (v5 : EReal)
    (y : S1x2560x1024.Idx) : EReal :=
  x y + ((∑ j, clip (zR h p v5 (y 1) j) * w (ix2 j (y 2))) * p (ix2 7 (y 2)) + p (ix2 8 (y 2)))

theorem bc_row (v : Vec Ideal S1x128 .f32) (r : Fin 8) (l : Fin 128) :
    broadcastTo S8x128 (shapeCast S1x128 v shapeCasts_S1x128_S1x128) broadcasts_S1x128_S8x128 (ix2 r l) = v (ix2 0 l) := by
  pointwise

theorem drop_unit (v : Vec Ideal S1x8x128 .f32) (r : Fin 8) (l : Fin 128) :
    shapeCast S8x128 v shapeCasts_S1x8x128_S8x128 (ix2 r l) = v (ix3 0 r l) := by
  pointwise

/-- The lane maxima of eight slabs' rows. -/
def mx8 (v0 v1 v2 v3 v4 v5 v6 v7 : Vec Ideal S1x32x128 .f32) : FVec Ideal S1x32x128 .f32 :=
  shapeCast S1x32x128 (maximumf (maximumf (maximumf (maximumf (maximumf (maximumf (maximumf
    (absf (shapeCast S32x128 v0 shapeCasts_S1x32x128_S32x128)) (absf (shapeCast S32x128 v1 shapeCasts_S1x32x128_S32x128)))
    (absf (shapeCast S32x128 v2 shapeCasts_S1x32x128_S32x128))) (absf (shapeCast S32x128 v3 shapeCasts_S1x32x128_S32x128)))
    (absf (shapeCast S32x128 v4 shapeCasts_S1x32x128_S32x128))) (absf (shapeCast S32x128 v5 shapeCasts_S1x32x128_S32x128)))
    (absf (shapeCast S32x128 v6 shapeCasts_S1x32x128_S32x128))) (absf (shapeCast S32x128 v7 shapeCasts_S1x32x128_S32x128))) shapeCasts_S32x128_S1x32x128

theorem mx8_apply (v0 v1 v2 v3 v4 v5 v6 v7 : Vec Ideal S1x32x128 .f32) (n : Fin 1024 → EReal) (r : Fin 32) (l : Fin 128)
    (h0 : v0 (ix3 0 r l) = n ⟨l.val, by omega⟩) (h1 : v1 (ix3 0 r l) = n ⟨128 + l.val, by omega⟩) (h2 : v2 (ix3 0 r l) = n ⟨256 + l.val, by omega⟩)
    (h3 : v3 (ix3 0 r l) = n ⟨384 + l.val, by omega⟩) (h4 : v4 (ix3 0 r l) = n ⟨512 + l.val, by omega⟩) (h5 : v5 (ix3 0 r l) = n ⟨640 + l.val, by omega⟩)
    (h6 : v6 (ix3 0 r l) = n ⟨768 + l.val, by omega⟩) (h7 : v7 (ix3 0 r l) = n ⟨896 + l.val, by omega⟩) :
    mx8 v0 v1 v2 v3 v4 v5 v6 v7 (ix3 0 r l) = am8 n l := by
  unfold am8
  rw [← h0, ← h1, ← h2, ← h3, ← h4, ← h5, ← h6, ← h7]
  unfold mx8
  pointwise

theorem code_apply (v : Vec Ideal S1x32x128 .f32) (r : Fin 32) (l : Fin 128) : k0_pay603 (F := Ideal) v (ix3 0 r l) = clip (v (ix3 0 r l)) := by
  unfold k0_pay603 k0_pay602 clip
  pointwise

theorem out_apply (q : Vec Ideal S1x160x1024 .fp8e4m3) (w : Vec Ideal S1024x256 .fp8e4m3) (p7 p8 : Vec Ideal S1x256 .f32) (x : Vec Ideal S1x160x256 .bf16)
    (r : Fin 160) (c : Fin 256) : k0_pay711 (F := Ideal) (k0_pay710 q w p7 p8 x) (ix3 0 r c)
      = x (ix3 0 r c) + ((∑ j, q (ix3 0 r j) * w (ix2 j c)) * p7 (ix2 0 c) + p8 (ix2 0 c)) := by
  unfold k0_pay711 k0_pay710 k0_pay709
  pointwise

section
variable (arg20 : Memref sig .tc .vmem S8x2576x128 .f32) (arg23 : Memref sig .tc .vmem S32x1024 .f32)
  (X20 : BufTy.Contents (Elt Ideal) arg20.view.ty) (X23 : BufTy.Contents (Elt Ideal) arg23.view.ty) (v5 : Ideal .f32) (k : Fin k0_t2_loop.trips)

local notation "h₁" => View.read (Elt Ideal) (Memref.view arg20) X20
local notation "p₁" => View.read (Elt Ideal) (Memref.view arg23) X23

theorem trip_lt : 160 * k.val + 160 ≤ 2560 := by
  have hk : k.val < 16 := Nat.lt_of_lt_of_le k.isLt k0_t2_abs.2.1
  omega

/-- What the trip's slabs hold: the activations of its 160 rows. -/
def zS (y : S8x160x128.Idx) : EReal :=
  zV h₁ p₁ v5 (y 0) ⟨160 * k.val + (y 1).val, by
    have h1 : (y 1).val < 160 := (y 1).isLt
    have := trip_lt k
    omega⟩ (y 2)

theorem win_apply (s w : ℕ) (hs : s < 8) (hw : w < 28) (r : Fin 8) (l : Fin 128) (R : Fin 2576) (hR : R.val = 160 * k.val + w + 4 + 20 * r.val) :
    win arg20 X20 k s w hs hw (ix2 r l) = h₁ (ix3 ⟨s, hs⟩ R l) := by
  unfold win
  rw [drop_unit]
  have o0 : offW k s w 0 = s := by rw [offW_eq k s w hs hw]; rfl
  have o1 : offW k s w 1 = 160 * k.val + w + 4 := by rw [offW_eq k s w hs hw]; rfl
  have o2 : offW k s w 2 = 0 := by rw [offW_eq k s w hs hw]; rfl
  refine readAt_eq _ _ _ _ _ fun a => ?_
  fin_cases a
  · show s = offW k s w 0 + 1 * 0; omega
  · show R.val = offW k s w 1 + 20 * r.val; omega
  · show l.val = offW k s w 2 + 1 * l.val; omega

theorem tab_apply (i s : ℕ) (hi : i < 32) (hs : s < 8) (r : Fin 8) (l : Fin 128) :
    tab arg23 X23 i s hi hs (ix2 r l) = p₁ (ix2 ⟨i, hi⟩ ⟨128 * s + l.val, by omega⟩) := by
  unfold tab
  rw [bc_row]
  refine readAt_eq _ _ _ _ _ fun a => ?_
  fin_cases a
  · show i = i + 1 * 0; omega
  · show 128 * s + l.val = 128 * s + 1 * l.val; omega

theorem zval_apply (s u : ℕ) (hs : s < 8) (hu : u < 20) (x : (zrect s u hs hu).shape.Idx) :
    zval arg20 arg23 X20 X23 v5 k s u hs hu x = zS arg20 arg23 X20 X23 v5 k ((zrect s u hs hu).emb x) := by
  obtain ⟨r, l, rfl⟩ : ∃ (r : Fin 8) (l : Fin 128), x = ix3 (0 : Fin 1) r l :=
    ⟨x 1, x 2, funext fun a => by fin_cases a; exacts [Subsingleton.elim (α := Fin 1) _ _, rfl, rfl]⟩
  have ht := trip_lt k
  have e0 : (zrect s u hs hu).emb (ix3 (0 : Fin 1) r l) 0 = (⟨s, hs⟩ : Fin 8) := Fin.ext (by show s + 1 * 0 = s; omega)
  have e2 : (zrect s u hs hu).emb (ix3 (0 : Fin 1) r l) 2 = l := Fin.ext (by show 0 + 1 * l.val = l.val; omega)
  have hr := r.isLt
  refine (convPay_apply v5 (fun t : Fin 9 => tab arg23 X23 (16 + t.val) s (by omega) hs)
    (fun t : Fin 9 => win arg20 X20 k s (u + t.val) hs (by omega)) (tab arg23 X23 6 s (by omega) hs) r l).trans ?_
  unfold zS zV
  rw [e0, e2]
  congr 1
  · funext t
    refine (win_apply arg20 X20 k s (u + t.val) hs (by omega) r l ⟨160 * k.val + (u + t.val) + 4 + 20 * r.val, by omega⟩ rfl).trans ?_
    refine congrArg (View.read (Elt Ideal) (Memref.view arg20) X20) (congrArg (fun R => ix3 (⟨s, hs⟩ : Fin 8) R l) (Fin.ext ?_))
    show 160 * k.val + (u + t.val) + 4 + 20 * r.val = 160 * k.val + (u + 20 * r.val) + 4 + t.val
    omega
  · funext t; exact tab_apply arg23 X23 (16 + t.val) s (by omega) hs r l
  · exact tab_apply arg23 X23 6 s (by omega) hs r l

theorem zpieces_agree : ∀ (n : ℕ) (h : n ≤ 160), Agrees (zpieces arg20 arg23 X20 X23 v5 k n h) (zS arg20 arg23 X20 X23 v5 k)
  | 0, _ => Agrees.nil _
  | n + 1, h => Agrees.cons (fun x => zval_apply arg20 arg23 X20 X23 v5 k _ _ _ _ x) (zpieces_agree n (by omega))

theorem zpieces_mem (m : ℕ) : ∀ (n : ℕ) (h : n ≤ 160) (hm : m < n),
    ⟨zrect (m / 20) (m % 20) (by omega) (by omega), zval arg20 arg23 X20 X23 v5 k (m / 20) (m % 20) (by omega) (by omega)⟩
      ∈ zpieces arg20 arg23 X20 X23 v5 k n h
  | 0, _, hm => absurd hm (by omega)
  | n + 1, h, hm => by
    by_cases e : m = n
    · subst e; exact List.mem_cons_self
    · exact List.mem_cons_of_mem _ (zpieces_mem m n (by omega) (by omega))

theorem zrect_mem (s u : ℕ) (hs : s < 8) (hu : u < 20) (y : S8x160x128.Idx) (h0 : (y 0).val = s) (h1 : (y 1).val % 20 = u) :
    y ∈ (zrect s u hs hu).set := by
  have hy1 : (y 1).val < 160 := (y 1).isLt
  have hy2 : (y 2).val < 128 := (y 2).isLt
  rw [LoadRect.mem_set]
  intro a
  fin_cases a
  · exact ⟨0, by show 0 < 1; omega, by show (y 0).val = s + 1 * 0; omega⟩
  · exact ⟨(y 1).val / 20, by show (y 1).val / 20 < 8; omega, by show (y 1).val = u + 20 * ((y 1).val / 20); omega⟩
  · exact ⟨(y 2).val, by show (y 2).val < 128; omega, by show (y 2).val = 0 + 1 * (y 2).val; omega⟩

theorem zpieces_cover (y : S8x160x128.Idx) : ∃ p ∈ zpieces arg20 arg23 X20 X23 v5 k 160 (le_refl _), y ∈ p.1.set := by
  have hy0 : (y 0).val < 8 := (y 0).isLt
  have hy1 : (y 1).val < 160 := (y 1).isLt
  refine ⟨_, zpieces_mem arg20 arg23 X20 X23 v5 k (20 * (y 0).val + (y 1).val % 20) 160 (le_refl _) (by omega), ?_⟩
  exact zrect_mem _ _ (by omega) (by omega) y (by omega) (by omega)

variable (arg21 : Memref sig .tc .vmem S8x160x128 .f32)

/-- 32 rows of one slab, read back. -/
def slab (s g : ℕ) (hs : s < 8) (hg : g < 5) : Vec Ideal S1x32x128 .f32 :=
  arg21.view.readCov (Val := Elt Ideal) (Body.trip2.sl.HW21_160 (F := Ideal) arg20 arg23 v5 X20 X23 k)
    (Rect.unit (s := S8x160x128) ![s, 32 * g, 0] S1x32x128.size (fun a => by
      fin_cases a
      · show s + 1 ≤ 8; omega
      · show 32 * g + 32 ≤ 160; omega
      · show 0 + 128 ≤ 128; omega)).toLoadRect

theorem slab_apply (s g : ℕ) (hs : s < 8) (hg : g < 5) (r : Fin 32) (l : Fin 128) (R : Fin 2560) (hR : R.val = 160 * k.val + 32 * g + r.val) :
    slab arg20 arg23 X20 X23 v5 k arg21 s g hs hg (ix3 0 r l) = zV h₁ p₁ v5 ⟨s, hs⟩ R l := by
  have hr := r.isLt
  unfold slab View.readCov
  rw [slab_pieces]
  refine (readAt_eq arg21 _ _ _ (ix3 (⟨s, hs⟩ : Fin 8) (⟨32 * g + r.val, by omega⟩ : Fin 160) l) fun a => ?_).trans
    (((zpieces_agree arg20 arg23 X20 X23 v5 k 160 (le_refl _)).read arg21 _ _ (zpieces_cover arg20 arg23 X20 X23 v5 k _)).trans ?_)
  · fin_cases a
    · show s = s + 1 * 0; omega
    · show 32 * g + r.val = 32 * g + 1 * r.val; omega
    · show l.val = 0 + 1 * l.val; omega
  · exact congrArg (fun R => zV h₁ p₁ v5 ⟨s, hs⟩ R l) (Fin.ext (by show 160 * k.val + (32 * g + r.val) = R.val; omega))

/-- The place of the codes of 32 rows of one slab, as the program computes it. -/
def offQ : ℕ → ℕ → Fin 3 → ℕ
  | 0, g => k0_off28 k (BitVec.ofNat 32 (32 * g))
  | 1, g => k0_off29 k (BitVec.ofNat 32 (32 * g))
  | 2, g => k0_off30 k (BitVec.ofNat 32 (32 * g))
  | 3, g => k0_off31 k (BitVec.ofNat 32 (32 * g))
  | 4, g => k0_off32 k (BitVec.ofNat 32 (32 * g))
  | 5, g => k0_off33 k (BitVec.ofNat 32 (32 * g))
  | 6, g => k0_off34 k (BitVec.ofNat 32 (32 * g))
  | 7, g => k0_off35 k (BitVec.ofNat 32 (32 * g))
  | _, _ => ![0, 0, 0]

theorem offQ_eq (s g : ℕ) (hs : s < 8) (hg : g < 5) : offQ k s g = ![0, 160 * k.val + 32 * g, 128 * s] := by
  obtain rfl | rfl | rfl | rfl | rfl | rfl | rfl | rfl : s = 0 ∨ s = 1 ∨ s = 2 ∨ s = 3 ∨ s = 4 ∨ s = 5 ∨ s = 6 ∨ s = 7 := by omega
  · exact k0_off28_eq k ⟨g, hg⟩
  · exact k0_off29_eq k ⟨g, hg⟩
  · exact k0_off30_eq k ⟨g, hg⟩
  · exact k0_off31_eq k ⟨g, hg⟩
  · exact k0_off32_eq k ⟨g, hg⟩
  · exact k0_off33_eq k ⟨g, hg⟩
  · exact k0_off34_eq k ⟨g, hg⟩
  · exact k0_off35_eq k ⟨g, hg⟩

/-- Where the codes of 32 rows of one slab lie. -/
def qrect (s g : ℕ) (hs : s < 8) (hg : g < 5) : Rect S1x2560x1024 :=
  Rect.unit (s := S1x2560x1024) (offQ k s g) S1x32x128.size (fun a => by
    have := trip_lt k
    rw [offQ_eq k s g hs hg]
    fin_cases a
    · show 0 + 1 ≤ 1; omega
    · show 160 * k.val + 32 * g + 32 ≤ 2560; omega
    · show 128 * s + 128 ≤ 1024; omega)

/-- The first `n` pieces of codes, last first: eight slabs per 32 rows. -/
def qpieces : (n : ℕ) → n ≤ 40 → List (View.Piece (Elt Ideal) S1x2560x1024 .fp8e4m3)
  | 0, _ => []
  | n + 1, h => ⟨qrect k (n % 8) (n / 8) (by omega) (by omega), k0_pay603 (F := Ideal) (slab arg20 arg23 X20 X23 v5 k arg21 (n % 8) (n / 8) (by omega) (by omega))⟩
      :: qpieces n (by omega)

set_option maxHeartbeats 8000000 in
/-- The run's pieces are these. -/
theorem code_pieces : Body.trip2.sl.HW18_40 (F := Ideal) arg20 arg21 arg23 v5 X20 X23 k = qpieces arg20 arg23 X20 X23 v5 k arg21 40 (le_refl _) := rfl

theorem qpiece_apply (s g : ℕ) (hs : s < 8) (hg : g < 5) (x : (qrect k s g hs hg).shape.Idx) :
    k0_pay603 (F := Ideal) (slab arg20 arg23 X20 X23 v5 k arg21 s g hs hg) x = codes2 h₁ p₁ v5 ((qrect k s g hs hg).emb x) := by
  obtain ⟨r, l, rfl⟩ : ∃ (r : Fin 32) (l : Fin 128), x = ix3 (0 : Fin 1) r l :=
    ⟨x 1, x 2, funext fun a => by fin_cases a; exacts [Subsingleton.elim (α := Fin 1) _ _, rfl, rfl]⟩
  have o1 : offQ k s g 1 = 160 * k.val + 32 * g := by rw [offQ_eq k s g hs hg]; rfl
  have o2 : offQ k s g 2 = 128 * s := by rw [offQ_eq k s g hs hg]; rfl
  refine (code_apply _ r l).trans (congrArg clip ((slab_apply arg20 arg23 X20 X23 v5 k arg21 s g hs hg r l ((qrect k s g hs hg).emb (ix3 (0 : Fin 1) r l) 1)
    (by show offQ k s g 1 + 1 * r.val = _; omega)).trans (zR_lane h₁ p₁ v5 _ ⟨s, hs⟩ l _ (by show offQ k s g 2 + 1 * l.val = 128 * s + l.val; omega)).symm))

theorem qpieces_agree : ∀ (n : ℕ) (h : n ≤ 40), Agrees (qpieces arg20 arg23 X20 X23 v5 k arg21 n h) (codes2 h₁ p₁ v5)
  | 0, _ => Agrees.nil _
  | n + 1, h => Agrees.cons (fun x => qpiece_apply arg20 arg23 X20 X23 v5 k arg21 _ _ _ _ x) (qpieces_agree n (by omega))

theorem qpieces_mem (m : ℕ) : ∀ (n : ℕ) (h : n ≤ 40) (hm : m < n),
    ⟨qrect k (m % 8) (m / 8) (by omega) (by omega), k0_pay603 (F := Ideal) (slab arg20 arg23 X20 X23 v5 k arg21 (m % 8) (m / 8) (by omega) (by omega))⟩
      ∈ qpieces arg20 arg23 X20 X23 v5 k arg21 n h
  | 0, _, hm => absurd hm (by omega)
  | n + 1, h, hm => by
    by_cases e : m = n
    · subst e; exact List.mem_cons_self
    · exact List.mem_cons_of_mem _ (qpieces_mem m n (by omega) (by omega))

theorem qrect_mem (s g : ℕ) (hs : s < 8) (hg : g < 5) (y : S1x2560x1024.Idx) (h1 : 160 * k.val + 32 * g ≤ (y 1).val ∧ (y 1).val < 160 * k.val + 32 * g + 32)
    (h2 : (y 2).val / 128 = s) : y ∈ (qrect k s g hs hg).set := by
  have hy0 : (y 0).val < 1 := (y 0).isLt
  unfold qrect
  rw [Rect.mem_set_unit, offQ_eq k s g hs hg]
  intro a
  fin_cases a
  · show 0 ≤ (y 0).val ∧ (y 0).val < 0 + 1; omega
  · show 160 * k.val + 32 * g ≤ (y 1).val ∧ (y 1).val < 160 * k.val + 32 * g + 32; omega
  · show 128 * s ≤ (y 2).val ∧ (y 2).val < 128 * s + 128; omega

theorem qpieces_cover (y : S1x2560x1024.Idx) (h1 : 160 * k.val ≤ (y 1).val ∧ (y 1).val < 160 * k.val + 160) :
    ∃ p ∈ qpieces arg20 arg23 X20 X23 v5 k arg21 40 (le_refl _), y ∈ p.1.set := by
  have hy2 : (y 2).val < 1024 := (y 2).isLt
  refine ⟨_, qpieces_mem arg20 arg23 X20 X23 v5 k arg21 (8 * (((y 1).val - 160 * k.val) / 32) + (y 2).val / 128) 40 (le_refl _) (by omega), ?_⟩
  exact qrect_mem k _ _ (by omega) (by omega) y (by omega) (by omega)

/-- The first `n` pieces of lane maxima, last first. -/
def mpieces : (n : ℕ) → n ≤ 5 → List (View.Piece (Elt Ideal) S2x2560x128 .f32)
  | 0, _ => []
  | n + 1, h => ⟨Rect.unit (s := S2x2560x128) (k0_off36 k (BitVec.ofNat 32 (32 * (⟨n, h⟩ : Fin 5).val))) S1x32x128.size (fun a => by
      have := trip_lt k
      rw [k0_off36_eq k ⟨n, h⟩]
      fin_cases a
      · show 1 + 1 ≤ 2; omega
      · show 160 * k.val + 32 * n + 32 ≤ 2560; omega
      · show 0 + 128 ≤ 128; omega),
      mx8 (slab arg20 arg23 X20 X23 v5 k arg21 0 n (by omega) h) (slab arg20 arg23 X20 X23 v5 k arg21 1 n (by omega) h)
        (slab arg20 arg23 X20 X23 v5 k arg21 2 n (by omega) h) (slab arg20 arg23 X20 X23 v5 k arg21 3 n (by omega) h)
        (slab arg20 arg23 X20 X23 v5 k arg21 4 n (by omega) h) (slab arg20 arg23 X20 X23 v5 k arg21 5 n (by omega) h)
        (slab arg20 arg23 X20 X23 v5 k arg21 6 n (by omega) h) (slab arg20 arg23 X20 X23 v5 k arg21 7 n (by omega) h)⟩ :: mpieces n (by omega)

set_option maxHeartbeats 8000000 in
/-- The run's pieces are these. -/
theorem max_pieces : Body.trip2.sl.HW22_5 (F := Ideal) arg20 arg21 arg23 v5 X20 X23 k = mpieces arg20 arg23 X20 X23 v5 k arg21 5 (le_refl _) := rfl

theorem mpieces_agree (G : S2x2560x128.Idx → EReal) (hG : ∀ (r : Fin 2560) (l : Fin 128), G (ix3 1 r l) = am8 (zR h₁ p₁ v5 r) l) :
    ∀ (n : ℕ) (h : n ≤ 5), Agrees (mpieces arg20 arg23 X20 X23 v5 k arg21 n h) G
  | 0, _ => Agrees.nil _
  | n + 1, h => Agrees.cons (fun x => by
      obtain ⟨r, l, rfl⟩ : ∃ (r : Fin 32) (l : Fin 128), x = ix3 (0 : Fin 1) r l :=
        ⟨x 1, x 2, funext fun a => by fin_cases a; exacts [Subsingleton.elim (α := Fin 1) _ _, rfl, rfl]⟩
      have := trip_lt k
      have hr := r.isLt
      have o0 : k0_off36 k (BitVec.ofNat 32 (32 * (⟨n, h⟩ : Fin 5).val)) 0 = 1 := by rw [k0_off36_eq]; rfl
      have o1 : k0_off36 k (BitVec.ofNat 32 (32 * (⟨n, h⟩ : Fin 5).val)) 1 = 160 * k.val + 32 * n := by rw [k0_off36_eq]; rfl
      have o2 : k0_off36 k (BitVec.ofNat 32 (32 * (⟨n, h⟩ : Fin 5).val)) 2 = 0 := by rw [k0_off36_eq]; rfl
      have key : ∀ (s : ℕ) (hs : s < 8) (c : Fin 1024), c.val = 128 * s + l.val → slab arg20 arg23 X20 X23 v5 k arg21 s n hs h (ix3 0 r l)
          = zR h₁ p₁ v5 ⟨160 * k.val + 32 * n + r.val, by omega⟩ c := fun s hs c hc =>
        (slab_apply arg20 arg23 X20 X23 v5 k arg21 s n hs h r l _ rfl).trans (zR_lane h₁ p₁ v5 _ ⟨s, hs⟩ l c hc).symm
      refine (mx8_apply _ _ _ _ _ _ _ _ (zR h₁ p₁ v5 ⟨160 * k.val + 32 * n + r.val, by omega⟩) r l
        (key 0 _ _ (by show l.val = _; omega)) (key 1 _ _ (by show 128 + l.val = _; omega)) (key 2 _ _ (by show 256 + l.val = _; omega))
        (key 3 _ _ (by show 384 + l.val = _; omega)) (key 4 _ _ (by show 512 + l.val = _; omega)) (key 5 _ _ (by show 640 + l.val = _; omega))
        (key 6 _ _ (by show 768 + l.val = _; omega)) (key 7 _ _ (by show 896 + l.val = _; omega))).trans ?_
      rw [← hG]
      refine congrArg G (funext fun a => Fin.ext ?_)
      fin_cases a
      · show 1 = k0_off36 k (BitVec.ofNat 32 (32 * (⟨n, h⟩ : Fin 5).val)) 0 + 1 * 0; omega
      · show 160 * k.val + 32 * n + r.val = k0_off36 k (BitVec.ofNat 32 (32 * (⟨n, h⟩ : Fin 5).val)) 1 + 1 * r.val; omega
      · show l.val = k0_off36 k (BitVec.ofNat 32 (32 * (⟨n, h⟩ : Fin 5).val)) 2 + 1 * l.val; omega) (mpieces_agree G hG n (by omega))

/-- What the trip reads back of its codes. -/
theorem back_codes_read (arg18 : Memref sig .tc .vmem S1x2560x1024 .fp8e4m3) (r : Fin 160) (j : Fin 1024) (R : Fin 2560) (hR : R.val = 160 * k.val + r.val) :
    Body.trip2.sl.v7010 (F := Ideal) arg18 arg20 arg21 arg23 v5 X20 X23 k (ix3 0 r j) = clip (zR h₁ p₁ v5 R j) := by
  have o0 : k0_off37 k 0 = 0 := by rw [k0_off37_eq]; rfl
  have o1 : k0_off37 k 1 = 160 * k.val := by rw [k0_off37_eq]; rfl
  have o2 : k0_off37 k 2 = 0 := by rw [k0_off37_eq]; rfl
  have hr := r.isLt
  unfold Body.trip2.sl.v7010 View.readCov
  rw [code_pieces]
  refine (readAt_eq arg18 _ _ _ (ix3 0 R j) fun a => ?_).trans
    ((qpieces_agree arg20 arg23 X20 X23 v5 k arg21 40 (le_refl _)).read arg18 _ _ (qpieces_cover arg20 arg23 X20 X23 v5 k arg21 _ ?_))
  · fin_cases a
    · show 0 = k0_off37 k 0 + 1 * 0; omega
    · show R.val = k0_off37 k 1 + 1 * r.val; omega
    · show j.val = k0_off37 k 2 + 1 * j.val; omega
  · show 160 * k.val ≤ R.val ∧ R.val < 160 * k.val + 160; omega

set_option maxHeartbeats 4000000 in
/-- The output of the trip's rows in 256 columns is the array's. -/
theorem out_piece (arg1 : Memref sig .tc .vmem S1x2560x1024 .bf16) (arg10 : Memref sig .tc .vmem S1024x1024 .fp8e4m3) (X1 : BufTy.Contents (Elt Ideal) arg1.view.ty)
    (X10 : BufTy.Contents (Elt Ideal) arg10.view.ty) (q : Vec Ideal S1x160x1024 .fp8e4m3)
    (hq : ∀ (r : Fin 160) (j : Fin 1024) (R : Fin 2560), R.val = 160 * k.val + r.val → q (ix3 (0 : Fin 1) r j) = clip (zR h₁ p₁ v5 R j)) (cb : ℕ) (hcb : cb + 256 ≤ 1024)
    (o : Fin 3 → ℕ) (ho : o = ![0, 160 * k.val, cb]) (inb inb' inb1 inb2 inb3) (x : (Rect.unit (s := S1x2560x1024) o S1x160x256.size inb).shape.Idx) :
    k0_pay711 (F := Ideal) (k0_pay710 q
      (View.readAt (Elt Ideal) arg10.view (Rect.unit (s := S1024x1024) ![0, cb] S1024x256.size inb1).toLoadRect X10)
      (View.readAt (Elt Ideal) arg23.view (Rect.unit (s := S32x1024) ![7, cb] S1x256.size inb2).toLoadRect X23)
      (View.readAt (Elt Ideal) arg23.view (Rect.unit (s := S32x1024) ![8, cb] S1x256.size inb3).toLoadRect X23)
      (View.readAt (Elt Ideal) arg1.view (Rect.unit (s := S1x2560x1024) o S1x160x256.size inb').toLoadRect X1)) x
    = outV (View.read (Elt Ideal) arg1.view X1) (View.read (Elt Ideal) arg10.view X10) h₁ p₁ v5 ((Rect.unit (s := S1x2560x1024) o S1x160x256.size inb).emb x) := by
  obtain ⟨r, c, rfl⟩ : ∃ (r : Fin 160) (c : Fin 256), x = ix3 (0 : Fin 1) r c :=
    ⟨x 1, x 2, funext fun a => by fin_cases a; exacts [Subsingleton.elim (α := Fin 1) _ _, rfl, rfl]⟩
  subst ho
  have hr := r.isLt
  have hc := c.isLt
  have ht := trip_lt k
  have e1 : (Rect.unit (s := S1x2560x1024) ![0, 160 * k.val, cb] S1x160x256.size inb).emb (ix3 (0 : Fin 1) r c) 1 = (⟨160 * k.val + r.val, by omega⟩ : Fin 2560) :=
    Fin.ext (by show 160 * k.val + 1 * r.val = 160 * k.val + r.val; omega)
  have e2 : (Rect.unit (s := S1x2560x1024) ![0, 160 * k.val, cb] S1x160x256.size inb).emb (ix3 (0 : Fin 1) r c) 2 = (⟨cb + c.val, by omega⟩ : Fin 1024) :=
    Fin.ext (by show cb + 1 * c.val = cb + c.val; omega)
  refine (out_apply _ _ _ _ _ r c).trans ?_
  unfold outV
  rw [e1, e2]
  congr 1
  congr 1
  · congr 1
    · refine Finset.sum_congr rfl fun j _ => ?_
      rw [hq r j ⟨160 * k.val + r.val, by omega⟩ rfl]
      refine congrArg _ (readAt_eq _ _ _ _ _ fun a => ?_)
      fin_cases a
      · show j.val = 0 + 1 * j.val; omega
      · show cb + c.val = cb + 1 * c.val; omega
    · refine readAt_eq _ _ _ _ _ fun a => ?_
      fin_cases a
      · rfl
      · show cb + c.val = cb + 1 * c.val; omega
  · refine readAt_eq _ _ _ _ _ fun a => ?_
    fin_cases a
    · rfl
    · show cb + c.val = cb + 1 * c.val; omega

end

variable (𝒱 : Variants) (c : Dev nD) (bd : Option 𝒱.V) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole) (arg0 : BitVec 32) (v5 : Ideal .f32) (v64 : FVec Ideal S1x1024 .f32)
variable (X_arg1 : BufTy.Contents (Elt Ideal) arg1.view.ty) (X_arg10 : BufTy.Contents (Elt Ideal) arg10.view.ty) (X_arg20 : BufTy.Contents (Elt Ideal) arg20.view.ty) (X_arg23 : BufTy.Contents (Elt Ideal) arg23.view.ty)

local notation "x₁" => View.read (Elt Ideal) (Memref.view arg1) X_arg1
local notation "w₂" => View.read (Elt Ideal) (Memref.view arg10) X_arg10
local notation "h₁" => View.read (Elt Ideal) (Memref.view arg20) X_arg20
local notation "p₁" => View.read (Elt Ideal) (Memref.view arg23) X_arg23

set_option maxHeartbeats 4000000 in
/-- What a trip of the second loop stores: outputs, codes, lane maxima. -/
theorem trip_back (k : Fin k0_t2_loop.trips)
    (G : S2x2560x128.Idx → EReal) (hG : ∀ (r : Fin 2560) (l : Fin 128), G (ix3 1 r l) = am8 (zR h₁ p₁ v5 r) l) :
    Agrees (tripL2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 k).1 (outV x₁ w₂ h₁ p₁ v5) ∧ Agrees (tripL2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 k).2.1 (codes2 h₁ p₁ v5) ∧ Agrees (tripL2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 k).2.2.2 G := by
  unfold tripL2 trip2
  refine ⟨?_, ?_, ?_⟩
  · refine Agrees.cons (fun x => out_piece arg20 arg23 X_arg20 X_arg23 v5 k arg1 arg10 X_arg1 X_arg10 _ (back_codes_read arg20 arg23 X_arg20 X_arg23 v5 k arg21 arg18) 768 (by omega) (k0_off41 k) (k0_off41_eq k) _ _ _ _ _ x) ?_
    refine Agrees.cons (fun x => out_piece arg20 arg23 X_arg20 X_arg23 v5 k arg1 arg10 X_arg1 X_arg10 _ (back_codes_read arg20 arg23 X_arg20 X_arg23 v5 k arg21 arg18) 512 (by omega) (k0_off40 k) (k0_off40_eq k) _ _ _ _ _ x) ?_
    refine Agrees.cons (fun x => out_piece arg20 arg23 X_arg20 X_arg23 v5 k arg1 arg10 X_arg1 X_arg10 _ (back_codes_read arg20 arg23 X_arg20 X_arg23 v5 k arg21 arg18) 256 (by omega) (k0_off39 k) (k0_off39_eq k) _ _ _ _ _ x) ?_
    exact Agrees.cons (fun x => out_piece arg20 arg23 X_arg20 X_arg23 v5 k arg1 arg10 X_arg1 X_arg10 _ (back_codes_read arg20 arg23 X_arg20 X_arg23 v5 k arg21 arg18) 0 (by omega) (k0_off38 k) (k0_off38_eq k) _ _ _ _ _ x) (Agrees.nil _)
  · show Agrees (Body.trip2.sl.HW18_40 (F := Ideal) arg20 arg21 arg23 v5 X_arg20 X_arg23 k) _
    rw [code_pieces]; exact qpieces_agree arg20 arg23 X_arg20 X_arg23 v5 k arg21 40 (le_refl _)
  · show Agrees (Body.trip2.sl.HW22_5 (F := Ideal) arg20 arg21 arg23 v5 X_arg20 X_arg23 k) _
    rw [max_pieces]; exact mpieces_agree arg20 arg23 X_arg20 X_arg23 v5 k arg21 G hG 5 (le_refl _)

/-- What the second loop has stored before trip `n`. -/
theorem back_agrees (G : S2x2560x128.Idx → EReal) (hG : ∀ (r : Fin 2560) (l : Fin 128), G (ix3 1 r l) = am8 (zR h₁ p₁ v5 r) l) (n : ℕ) (hn : n ≤ k0_t2_loop.trips) :
    Agrees (pb2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 n).1 (outV x₁ w₂ h₁ p₁ v5) ∧ Agrees (pb2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 n).2.1 (codes2 h₁ p₁ v5) ∧ Agrees (pb2 (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 n).2.2.2 G := by
  induction n with
  | zero => exact ⟨Agrees.nil _, Agrees.nil _, Agrees.nil _⟩
  | succ n ih =>
    have ih := ih (by omega)
    rw [show n + 1 = (⟨n, by omega⟩ : Fin k0_t2_loop.trips).val + 1 from rfl, pb2_succ]
    have t := trip_back 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v5 v64 X_arg1 X_arg10 X_arg20 X_arg23 ⟨n, by omega⟩ G hG
    exact ⟨t.1.append ih.1, t.2.1.append ih.2.1, t.2.2.append ih.2.2⟩

end Cert.KernelIdeal.Val

end
-- ==== Proof.ReferenceIdeal.Spec.lean ====
module

public import proofs.«01_k».proof.Proof.ReferenceIdeal.Rows

/-!
The module's mathematics for one sequence of the batch, entry by entry.
-/

@[expose] public section

noncomputable section

namespace Cert.Spec

open Idealize.ShloMosaic Cert.ReferenceIdeal.Val

/-- The weights and scales. -/
structure Par where
  g : Fin 1024 → EReal
  be : Fin 1024 → EReal
  w1 : Fin 1024 → Fin 2048 → EReal
  ws1 : Fin 2048 → EReal
  b1 : Fin 2048 → EReal
  d : Fin 9 → Fin 1024 → EReal
  bs : Fin 1024 → EReal
  bt : Fin 1024 → EReal
  w2 : Fin 1024 → Fin 1024 → EReal
  ws2 : Fin 1024 → EReal
  b2 : Fin 1024 → EReal
  s1 : EReal
  s2 : EReal

variable (P : Par) (x : Fin 2560 → Fin 1024 → EReal)

/-- The normalised row. -/
def sN (r : Fin 2560) (c : Fin 1024) : EReal := lnR (x r) P.g P.be c

/-- The gated linear unit of the row's codes. -/
def sH (r : Fin 2560) (c : Fin 1024) : EReal :=
  gluR (fun j => quant (sN P x r j) P.s1) (fun j => P.w1 j ⟨c.val, by omega⟩) (fun j => P.w1 j ⟨1024 + c.val, by omega⟩)
    P.s1 (P.ws1 ⟨c.val, by omega⟩) (P.ws1 ⟨1024 + c.val, by omega⟩) (P.b1 ⟨c.val, by omega⟩) (P.b1 ⟨1024 + c.val, by omega⟩)

/-- The same with four rows of zeros before and after. -/
def sHp (r : Fin 2568) (c : Fin 1024) : EReal :=
  if h : 4 ≤ r.val ∧ r.val < 2564 then sH P x ⟨r.val - 4, by omega⟩ c else 0

/-- The activations after the depthwise convolution. -/
def sZ (r : Fin 2560) (c : Fin 1024) : EReal :=
  swish (tapsR (fun m => sHp P x ⟨m.val + r.val, by omega⟩ c) (fun m => P.d m c) (P.bs c) (P.bt c))

/-- The result. -/
def sOut (r : Fin 2560) (c : Fin 1024) : EReal :=
  x r c + ((∑ j, quant (sZ P x r j) P.s2 * P.w2 j c) * (P.s2 * P.ws2 c) + P.b2 c)

/-- What the precondition says of the weights and scales. -/
structure Good : Prop where
  s1 : ∃ r : ℝ, ((2 : ℝ) ^ 100)⁻¹ ≤ r ∧ P.s1 = (r : EReal)
  s2 : ∃ r : ℝ, ((2 : ℝ) ^ 100)⁻¹ ≤ r ∧ P.s2 = (r : EReal)
  w1 : ∀ j c, ∃ r : ℝ, P.w1 j c = (r : EReal)
  ws1 : ∀ c, ∃ r : ℝ, P.ws1 c = (r : EReal)
  b1 : ∀ c, ∃ r : ℝ, P.b1 c = (r : EReal)
  d : ∀ t c, ∃ r : ℝ, P.d t c = (r : EReal)
  bs : ∀ c, ∃ r : ℝ, P.bs c = (r : EReal)
  bt : ∀ c, ∃ r : ℝ, P.bt c = (r : EReal)

end Cert.Spec

end
-- ==== Proof.KernelIdeal.Same.lean ====
module

public import proofs.«01_k».proof.Proof.KernelIdeal.Maths
public import proofs.«01_k».proof.Proof.KernelIdeal.Front
public import proofs.«01_k».proof.Proof.KernelIdeal.Back
public import proofs.«01_k».proof.Proof.ReferenceIdeal.Spec

/-!
What one point computes from its table of folded scales is the module's mathematics.
-/

@[expose] public section

set_option maxRecDepth 16384

noncomputable section

namespace Cert.KernelIdeal.Val

open Cert.KernelIdeal Cert.KernelIdeal.Gen Cert.Spec
open Cert.ReferenceIdeal.Val (lnR gluR quant swish tapsR rowMax)
open Idealize.ShloMosaic Idealize.ShloMosaic.TcCoe

/-- The rows of the table of folded scales. -/
structure Table (P : Par) (p : S32x1024.Idx → EReal) : Prop where
  r0 : ∀ c : Fin 1024, p (ix2 0 c) = P.g c * kinv P.s1
  r1 : ∀ c : Fin 1024, p (ix2 1 c) = P.be c * kinv P.s1
  r2 : ∀ c : Fin 1024, p (ix2 2 c) = P.ws1 ⟨c.val, by omega⟩ * P.s1 * half
  r3 : ∀ c : Fin 1024, p (ix2 3 c) = P.b1 ⟨c.val, by omega⟩ * half
  r4 : ∀ c : Fin 1024, p (ix2 4 c) = P.ws1 ⟨1024 + c.val, by omega⟩ * P.s1 * half
  r5 : ∀ c : Fin 1024, p (ix2 5 c) = P.b1 ⟨1024 + c.val, by omega⟩ * half
  r6 : ∀ c : Fin 1024, p (ix2 6 c) = P.bt c * half
  r7 : ∀ c : Fin 1024, p (ix2 7 c) = P.ws2 c * P.s2
  r8 : ∀ c : Fin 1024, p (ix2 8 c) = P.b2 c
  taps : ∀ (t : Fin 9) (c : Fin 1024), p (ix2 ⟨16 + t.val, by omega⟩ c) = P.d t c * (P.bs c * half)

variable {P : Par} (hP : Good P) {p : S32x1024.Idx → EReal} (T : Table P p) {X : S1x2560x1024.Idx → EReal} {x : Fin 2560 → Fin 1024 → EReal}
  (hX : ∀ r c, X (ix3 0 r c) = x r c) {w : S1024x2048.Idx → EReal} (hw : ∀ j c, w (ix2 j c) = P.w1 j c)
  {v : S1024x1024.Idx → EReal} (hv : ∀ j c, v (ix2 j c) = P.w2 j c)

include T hX in
theorem rowN_eq (s : ℝ) (hs : ((2 : ℝ) ^ 100)⁻¹ ≤ s) (h : P.s1 = (s : EReal)) (r : Fin 2560) (c : Fin 1024) :
    rowN X p r c = sN P x r c * ((1 / s : ℝ) : EReal) := by
  have h0 : 0 < s := lt_of_lt_of_le (by positivity) hs
  unfold rowN sN
  rw [← nrm_eq _ _ _ (1 / s) (by positivity)]
  simp only [T.r0, T.r1, hX, h, kinv_eq s hs]

include hP T hX in
theorem code1_eq (r : Fin 2560) (c : Fin 1024) : clip (rowN X p r c) = quant (sN P x r c) P.s1 := by
  obtain ⟨s, hs, h⟩ := hP.s1
  rw [rowN_eq T hX s hs h, h, quant_eq _ s (lt_of_lt_of_le (by positivity) hs)]

include hP T hX hw in
theorem hidV_eq (r : Fin 2560) (c : Fin 1024) : hidV X p w r c = sH P x r c ∧ ∃ q : ℝ, sH P x r c = (q : EReal) := by
  obtain ⟨s, hs, h⟩ := hP.s1
  have hq : ∀ j, ∃ q : ℝ, quant (sN P x r j) P.s1 = (q : EReal) := fun j => by
    rw [← code1_eq hP T hX]; exact clip_real _
  choose q hq using hq
  choose w1 hw1 using hP.w1
  choose ws1 hws1 using hP.ws1
  choose b1 hb1 using hP.b1
  unfold hidV sH
  have e := hid_eq q (fun j => w1 j ⟨c.val, by omega⟩) (fun j => w1 j ⟨1024 + c.val, by omega⟩) s (ws1 ⟨c.val, by omega⟩) (ws1 ⟨1024 + c.val, by omega⟩)
    (b1 ⟨c.val, by omega⟩) (b1 ⟨1024 + c.val, by omega⟩)
  simp only [← hq, ← hw1, ← hws1, ← hb1, ← h] at e
  simp only [code1_eq hP T hX, T.r2, T.r3, T.r4, T.r5, hw]
  exact e

include hP T hX hw in
theorem hidS_eq (s : Fin 8) (r : Fin 2560) (t : Fin 9) (l : Fin 128) :
    hidS X p w (ix3 s ⟨r.val + 4 + t.val, by omega⟩ l) = sHp P x ⟨t.val + r.val, by omega⟩ ⟨128 * s.val + l.val, by omega⟩ := by
  unfold hidS sHp
  by_cases hb : 4 ≤ t.val + r.val ∧ t.val + r.val < 2564
  · refine (dif_pos (by show 8 ≤ r.val + 4 + t.val ∧ r.val + 4 + t.val < 2568; omega)).trans ?_
    refine Eq.trans ?_ (dif_pos hb).symm
    refine Eq.trans ?_ (hidV_eq hP T hX hw _ _).1
    exact congrArg (fun q => hidV X p w q _) (Fin.ext (by show r.val + 4 + t.val - 8 = t.val + r.val - 4; omega))
  · refine (dif_neg (by show ¬ (8 ≤ r.val + 4 + t.val ∧ r.val + 4 + t.val < 2568); omega)).trans ?_
    exact Eq.symm (dif_neg (by exact hb))

include hP T hX hw in
theorem sHp_real (r : Fin 2568) (c : Fin 1024) : ∃ q : ℝ, sHp P x r c = (q : EReal) := by
  unfold sHp
  split
  · exact (hidV_eq hP T hX hw _ _).2
  · exact ⟨0, rfl⟩

include hP T hX hw in
theorem zR_eq (s : ℝ) (hs : ((2 : ℝ) ^ 100)⁻¹ ≤ s) (h : P.s2 = (s : EReal)) (r : Fin 2560) (c : Fin 1024) :
    zR (hidS X p w) p (kinv P.s2) r c = sZ P x r c * ((1 / s : ℝ) : EReal) := by
  choose q hq using sHp_real hP T hX hw
  choose d hd using hP.d
  choose bs hbs using hP.bs
  choose bt hbt using hP.bt
  have hc : (⟨128 * (c.val / 128) + c.val % 128, by omega⟩ : Fin 1024) = c := Fin.ext (by show 128 * (c.val / 128) + c.val % 128 = c.val; omega)
  unfold zR zV sZ
  simp only [hidS_eq hP T hX hw, T.taps, T.r6, hc, h, kinv_eq s hs, hq, hd, hbs, hbt]
  exact conv_eq _ _ _ _ _

include hP T hX hw in
theorem code2_eq (r : Fin 2560) (c : Fin 1024) : clip (zR (hidS X p w) p (kinv P.s2) r c) = quant (sZ P x r c) P.s2 := by
  obtain ⟨s, hs, h⟩ := hP.s2
  rw [zR_eq hP T hX hw s hs h, h, quant_eq _ s (lt_of_lt_of_le (by positivity) hs)]

include hP T hX hw hv in
theorem out_eq (r : Fin 2560) (c : Fin 1024) : outV X v (hidS X p w) p (kinv P.s2) (ix3 0 r c) = sOut P x r c := by
  show X (ix3 0 r c) + ((∑ j, clip (zR (hidS X p w) p (kinv P.s2) r j) * v (ix2 j c)) * p (ix2 7 c) + p (ix2 8 c)) = _
  unfold sOut
  simp only [code2_eq hP T hX hw, hv, hX, T.r7, T.r8, mul_comm (P.ws2 c) P.s2]

/-- The reciprocal of the capped reciprocal is the scale. -/
theorem back_eq (s : ℝ) (hs : ((2 : ℝ) ^ 100)⁻¹ ≤ s) : Ideal.div one32 (kinv (s : EReal)) = (s : EReal) := by
  have h0 : 0 < s := lt_of_lt_of_le (by positivity) hs
  rw [kinv_eq s hs, Ideal.div_coe (by positivity), one_eq, ← EReal.coe_mul]
  congr 1
  field_simp

include hP T hX in
theorem max1_eq (r : Fin 2560) :
    (Finset.univ.fold max (Ideal.ofBits .f32 4286578688#32) fun j : Fin 128 => am8 (rowN X p r) j) * Ideal.div one32 (kinv P.s1) = rowMax (sN P x r) := by
  obtain ⟨s, hs, h⟩ := hP.s1
  have h0 : 0 < s := lt_of_lt_of_le (by positivity) hs
  rw [lanes_max, h, back_eq s hs, show rowN X p r = fun c => sN P x r c * ((1 / s : ℝ) : EReal) from funext (rowN_eq T hX s hs h r)]
  exact rowMax_scaled _ _ _ (by positivity) (by field_simp)

include hP T hX hw in
theorem max2_eq (r : Fin 2560) :
    (Finset.univ.fold max (Ideal.ofBits .f32 4286578688#32) fun j : Fin 128 => am8 (zR (hidS X p w) p (kinv P.s2) r) j) * Ideal.div one32 (kinv P.s2) = rowMax (sZ P x r) := by
  obtain ⟨s, hs, h⟩ := hP.s2
  have h0 : 0 < s := lt_of_lt_of_le (by positivity) hs
  have e : zR (hidS X p w) p (kinv P.s2) r = fun c => sZ P x r c * ((1 / s : ℝ) : EReal) := funext (zR_eq hP T hX hw s hs h r)
  rw [lanes_max, e, h, back_eq s hs]
  exact rowMax_scaled _ _ _ (by positivity) (by field_simp)

end Cert.KernelIdeal.Val

end
-- ==== Proof.KernelIdeal.Point.lean ====
module

public import proofs.«01_k».proof.Proof.KernelIdeal.AmRows
public import proofs.«01_k».proof.Proof.KernelIdeal.Same

/-!
What one point of the grid stores: the module's results for its own sequence of the batch.
-/

@[expose] public section

set_option maxRecDepth 16384

noncomputable section

namespace Cert.KernelIdeal.Val

open Cert.KernelIdeal Cert.KernelIdeal.Gen Cert.KernelIdeal.Body Cert.Spec
open Cert.ReferenceIdeal.Val (lnR gluR quant swish tapsR rowMax)
open Idealize.ShloMosaic Idealize.ShloMosaic.TcCoe
open Idealize.SL Idealize.SL.Sem

/-- Row `k` and column `c` of the table that the point writes. -/
def tabRow (w0 w1 w2 w3 w4 w5 w6 w7 w8 : Vec Ideal S1x1024 .f32) (w16 : Vec Ideal S9x1024 .f32) (k : ℕ) (c : Fin 1024) : EReal :=
  if 16 ≤ k then w16 (ix2 ⟨min (k - 16) 8, by omega⟩ c) else
  match k with
  | 0 => w0 (ix2 0 c) | 1 => w1 (ix2 0 c) | 2 => w2 (ix2 0 c) | 3 => w3 (ix2 0 c) | 4 => w4 (ix2 0 c)
  | 5 => w5 (ix2 0 c) | 6 => w6 (ix2 0 c) | 7 => w7 (ix2 0 c) | _ => w8 (ix2 0 c)

theorem tabRow_eight (w0 w1 w2 w3 w4 w5 w6 w7 w8 : Vec Ideal S1x1024 .f32) (w16 : Vec Ideal S9x1024 .f32) (c : Fin 1024) :
    tabRow w0 w1 w2 w3 w4 w5 w6 w7 w8 w16 8 c = w8 (ix2 0 c) := rfl

/-- One row of the table. -/
theorem tab_row (G : ℕ → Fin 1024 → EReal) (k : ℕ) (inb) (w : Vec Ideal S1x1024 .f32) (h : ∀ c, w (ix2 0 c) = G k c)
    (x : (Rect.unit (s := S32x1024) ![k, 0] S1x1024.size inb).shape.Idx) :
    w x = G ((Rect.unit (s := S32x1024) ![k, 0] S1x1024.size inb).emb x 0).val ((Rect.unit (s := S32x1024) ![k, 0] S1x1024.size inb).emb x 1) := by
  obtain ⟨a, c, rfl⟩ : ∃ (a : Fin 1) (c : Fin 1024), x = ix2 a c := ⟨x 0, x 1, eq_ix2 x⟩
  obtain rfl : a = 0 := Fin.eq_zero a
  refine (h c).trans (congrArg₂ G ?_ (Fin.ext ?_))
  · show k = k + 1 * 0; omega
  · show c.val = 0 + 1 * c.val; omega

theorem tab_reads (m : Memref sig .tc .vmem S32x1024 .f32) (f : BufTy.Contents (Elt Ideal) m.view.ty)
    (w0 w1 w2 w3 w4 w5 w6 w7 w8 : Vec Ideal S1x1024 .f32) (w16 : Vec Ideal S9x1024 .f32) (k : Fin 32) (c : Fin 1024) (hk : k.val ≤ 8 ∨ 16 ≤ k.val ∧ k.val ≤ 24) :
    m.view.read (Elt Ideal) (m.view.writes (Elt Ideal) f [⟨Rect.unit ![16, 0] S9x1024.size inb_S32x1024_S9x1024_16_0, w16⟩, ⟨Rect.unit ![8, 0] S1x1024.size inb_S32x1024_S1x1024_8_0, w8⟩, ⟨Rect.unit ![7, 0] S1x1024.size inb_S32x1024_S1x1024_7_0, w7⟩, ⟨Rect.unit ![6, 0] S1x1024.size inb_S32x1024_S1x1024_6_0, w6⟩, ⟨Rect.unit ![5, 0] S1x1024.size inb_S32x1024_S1x1024_5_0, w5⟩, ⟨Rect.unit ![4, 0] S1x1024.size inb_S32x1024_S1x1024_4_0, w4⟩, ⟨Rect.unit ![3, 0] S1x1024.size inb_S32x1024_S1x1024_3_0, w3⟩, ⟨Rect.unit ![2, 0] S1x1024.size inb_S32x1024_S1x1024_2_0, w2⟩, ⟨Rect.unit ![1, 0] S1x1024.size inb_S32x1024_S1x1024_1_0, w1⟩, ⟨Rect.unit ![0, 0] S1x1024.size inb_S32x1024_S1x1024_0_0, w0⟩]) (ix2 k c) = tabRow w0 w1 w2 w3 w4 w5 w6 w7 w8 w16 k.val c := by
  refine Agrees.read (G := fun y : S32x1024.Idx => tabRow w0 w1 w2 w3 w4 w5 w6 w7 w8 w16 (y 0).val (y 1)) ?_ m f (ix2 k c) (table_cover (F := Ideal) w0 w1 w2 w3 w4 w5 w6 w7 w8 w16 (ix2 k c) hk)
  refine Agrees.cons (fun x => ?_) (Agrees.cons (tab_row (tabRow w0 w1 w2 w3 w4 w5 w6 w7 w8 w16) 8 _ w8 fun c => rfl) (Agrees.cons (tab_row (tabRow w0 w1 w2 w3 w4 w5 w6 w7 w8 w16) 7 _ w7 fun c => rfl) (Agrees.cons (tab_row (tabRow w0 w1 w2 w3 w4 w5 w6 w7 w8 w16) 6 _ w6 fun c => rfl) (Agrees.cons (tab_row (tabRow w0 w1 w2 w3 w4 w5 w6 w7 w8 w16) 5 _ w5 fun c => rfl) (Agrees.cons (tab_row (tabRow w0 w1 w2 w3 w4 w5 w6 w7 w8 w16) 4 _ w4 fun c => rfl) (Agrees.cons (tab_row (tabRow w0 w1 w2 w3 w4 w5 w6 w7 w8 w16) 3 _ w3 fun c => rfl) (Agrees.cons (tab_row (tabRow w0 w1 w2 w3 w4 w5 w6 w7 w8 w16) 2 _ w2 fun c => rfl) (Agrees.cons (tab_row (tabRow w0 w1 w2 w3 w4 w5 w6 w7 w8 w16) 1 _ w1 fun c => rfl) (Agrees.cons (tab_row (tabRow w0 w1 w2 w3 w4 w5 w6 w7 w8 w16) 0 _ w0 fun c => rfl) (Agrees.nil _))))))))))
  obtain ⟨a, c, rfl⟩ : ∃ (a : Fin 9) (c : Fin 1024), x = ix2 a c := ⟨x 0, x 1, eq_ix2 x⟩
  refine Eq.symm ((if_pos (by show 16 ≤ 16 + 1 * a.val; omega)).trans (congrArg₂ (fun a c => w16 (ix2 a c)) (Fin.ext ?_) (Fin.ext ?_)))
  · show min (16 + 1 * a.val - 16) 8 = a.val; omega
  · show 0 + 1 * c.val = c.val; omega

/-- A whole parameter row, loaded. -/
theorem ld_row (m : Memref sig .tc .vmem S1x1024 .f32) (hm : m.IsWhole) (x : Vec Ideal S1x1024 .f32) (inb) (c : Fin 1024) :
    View.readAt (Elt Ideal) m.view (Rect.unit (s := S1x1024) ![0, 0] S1x1024.size inb).toLoadRect (hm.unread x) (ix2 0 c) = x (ix2 0 c) :=
  (readAt_eq m _ _ _ (ix2 0 c) fun a => by
    fin_cases a
    · rfl
    · show c.val = 0 + 1 * c.val; omega).trans (congrFun (hm.read_unread x) _)

/-- Half of a double row, loaded. -/
theorem ld_half (m : Memref sig .tc .vmem S1x2048 .f32) (hm : m.IsWhole) (x : Vec Ideal S1x2048 .f32) (o : ℕ) (inb) (c : Fin 1024) (C : Fin 2048) (hC : C.val = o + c.val) :
    View.readAt (Elt Ideal) m.view (Rect.unit (s := S1x2048) ![0, o] S1x1024.size inb).toLoadRect (hm.unread x) (ix2 0 c) = x (ix2 0 C) :=
  (readAt_eq m _ _ _ (ix2 0 C) fun a => by
    fin_cases a
    · rfl
    · show C.val = o + 1 * c.val; omega).trans (congrFun (hm.read_unread x) _)

theorem ld_taps (m : Memref sig .tc .vmem S9x1024 .f32) (hm : m.IsWhole) (x : Vec Ideal S9x1024 .f32) (inb) (t : Fin 9) (c : Fin 1024) :
    View.readAt (Elt Ideal) m.view (Rect.unit (s := S9x1024) ![0, 0] S9x1024.size inb).toLoadRect (hm.unread x) (ix2 t c) = x (ix2 t c) :=
  (readAt_eq m _ _ _ (ix2 t c) fun a => by
    fin_cases a
    · show t.val = 0 + 1 * t.val; omega
    · show c.val = 0 + 1 * c.val; omega).trans (congrFun (hm.read_unread x) _)

theorem ld_scale (m : Memref sig .tc .smem S1 .f32) (hm : m.IsWhole) (x : Vec Ideal S1 .f32) (inb) (h) :
    View.readAt (Elt Ideal) m.view (Rect.unit (s := S1) ![0] S1.size inb).toLoadRect (hm.unread x) (Shape.Idx.first (s := S1) h) = x (ix1 0) :=
  (readAt_eq m _ _ _ (ix1 0) fun a => by fin_cases a; rfl).trans (congrFun (hm.read_unread x) _)

theorem pay720_apply (s : EReal) (v : Vec Ideal S1x1024 .f32) (c : Fin 1024) : k0_pay720 (F := Ideal) s v (ix2 0 c) = v (ix2 0 c) * kinv s := by
  unfold k0_pay720; pointwise; rfl
theorem pay721_apply (s : EReal) (v : Vec Ideal S1x1024 .f32) (c : Fin 1024) : k0_pay721 (F := Ideal) s v (ix2 0 c) = v (ix2 0 c) * kinv s := by
  unfold k0_pay721; pointwise; rfl
theorem pay722_apply (s : EReal) (v : Vec Ideal S1x1024 .f32) (c : Fin 1024) : k0_pay722 (F := Ideal) s v (ix2 0 c) = v (ix2 0 c) * s * half := by
  unfold k0_pay722 half; pointwise
theorem pay724_apply (v : Vec Ideal S1x1024 .f32) (c : Fin 1024) : k0_pay724 (F := Ideal) (k0_pay723 v) (ix2 0 c) = v (ix2 0 c) * half := by
  unfold k0_pay724 k0_pay723 half; pointwise
theorem pay725_apply (s : EReal) (v : Vec Ideal S1x1024 .f32) (c : Fin 1024) : k0_pay725 (F := Ideal) s v (ix2 0 c) = v (ix2 0 c) * s * half := by
  unfold k0_pay725 half; pointwise
theorem pay726_apply (v : Vec Ideal S1x1024 .f32) (c : Fin 1024) : k0_pay726 (F := Ideal) v (ix2 0 c) = v (ix2 0 c) * half := by
  unfold k0_pay726 half; pointwise
theorem pay727_apply (v : Vec Ideal S1x1024 .f32) (c : Fin 1024) : k0_pay727 (F := Ideal) v (ix2 0 c) = v (ix2 0 c) * half := by
  unfold k0_pay727 half; pointwise
theorem pay729_apply (s : EReal) (v : Vec Ideal S1x1024 .f32) (c : Fin 1024) : k0_pay729 (F := Ideal) (k0_pay728 s v) (ix2 0 c) = v (ix2 0 c) * s := by
  unfold k0_pay729 k0_pay728; pointwise
theorem pay730_apply (v : Vec Ideal S1x1024 .f32) (c : Fin 1024) : k0_pay730 (F := Ideal) v (ix2 0 c) = v (ix2 0 c) := by
  unfold k0_pay730; pointwise
theorem pay731_apply (d : Vec Ideal S9x1024 .f32) (v : Vec Ideal S1x1024 .f32) (t : Fin 9) (c : Fin 1024) :
    k0_pay731 (F := Ideal) d v (ix2 t c) = d (ix2 t c) * (v (ix2 0 c) * half) := by
  unfold k0_pay731 half; pointwise

/-- The weights and scales that the point's blocks hold. -/
def parOf (x1 x2 : Vec Ideal S1x1024 .f32) (x3 : Vec Ideal S1024x2048 .fp8e4m3) (x4 x5 : Vec Ideal S1x2048 .f32) (x6 : Vec Ideal S9x1024 .f32) (x7 x8 : Vec Ideal S1x1024 .f32)
    (x9 : Vec Ideal S1024x1024 .fp8e4m3) (x10 x11 : Vec Ideal S1x1024 .f32) (x12 x13 : Vec Ideal S1 .f32) : Par where
  g c := x1 (ix2 0 c)
  be c := x2 (ix2 0 c)
  w1 j c := x3 (ix2 j c)
  ws1 c := x4 (ix2 0 c)
  b1 c := x5 (ix2 0 c)
  d t c := x6 (ix2 t c)
  bs c := x7 (ix2 0 c)
  bt c := x8 (ix2 0 c)
  w2 j c := x9 (ix2 j c)
  ws2 c := x10 (ix2 0 c)
  b2 c := x11 (ix2 0 c)
  s1 := x12 (ix1 0)
  s2 := x13 (ix1 0)

/-- The zero rows around the hidden values. -/
theorem borders_agree (x : S1x2560x1024.Idx → EReal) (p : S32x1024.Idx → EReal) (w : S1024x2048.Idx → EReal) : Agrees (borders (F := Ideal)) (hidS x p w) := by
  refine Agrees.cons (fun y => ?_) (Agrees.cons (fun y => ?_) (Agrees.nil _))
  · refine Eq.trans ?_ (dif_neg ?_).symm
    · exact Ideal.ofBits_zero_f32
    · show ¬ (8 ≤ 2568 + 1 * (y 1).val ∧ 2568 + 1 * (y 1).val < 2568); omega
  · have h1 : (y 1).val < 8 := (y 1).isLt
    refine Eq.trans ?_ (dif_neg ?_).symm
    · exact Ideal.ofBits_zero_f32
    · show ¬ (8 ≤ 0 + 1 * (y 1).val ∧ 0 + 1 * (y 1).val < 2568); omega

section

variable (𝒱 : Variants) (c : Dev nD) (bd : Option 𝒱.V) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole) (arg0 : BitVec 32) (v5 : Ideal .f32) (v64 : FVec Ideal S1x1024 .f32)  (X1 : BufTy.Contents (Elt Ideal) arg1.view.ty) (X4 : BufTy.Contents (Elt Ideal) arg4.view.ty) (X10 : BufTy.Contents (Elt Ideal) arg10.view.ty) (L23 : List (View.Piece (Elt Ideal) S32x1024 .f32)) (f15 : BufTy.Contents (Elt Ideal) arg16.view.ty) (fs0 : BufTy.Contents (Elt Ideal) arg20.view.ty) (fs2 : BufTy.Contents (Elt Ideal) arg22.view.ty) (fs3 : BufTy.Contents (Elt Ideal) arg23.view.ty)

/-- A part of the body, on the buffers it is run on; v is the second scale's factor. -/
local notation "onBufs" g:max v:max => g (F := Ideal) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 v v64 X1 X4 X10 L23 f15 fs0 fs2 fs3

set_option maxHeartbeats 4000000 in
/-- What the two loops leave. -/
theorem loops_values
    (P : Par) (hP : Good P) (x : Fin 2560 → Fin 1024 → EReal) (T : Table P (arg23.view.read (Elt Ideal) (arg23.view.writes (Elt Ideal) fs3 L23))) (hX : ∀ r c, (arg1.view.read (Elt Ideal) X1) (ix3 0 r c) = x r c) (hw : ∀ j c, (arg4.view.read (Elt Ideal) X4) (ix2 j c) = P.w1 j c)
    (hv : ∀ j c, (arg10.view.read (Elt Ideal) X10) (ix2 j c) = P.w2 j c) (hv5 : v5 = kinv P.s2) :
    Agrees (onBufs back v5).1 (fun y => sOut P x (y 1) (y 2)) ∧ Agrees (onBufs front v5).1 (fun y => quant (sN P x (y 1) (y 2)) P.s1)
    ∧ Agrees (onBufs back v5).2.1 (fun y => quant (sZ P x (y 1) (y 2)) P.s2)
    ∧ (∀ r, rowMax (sN P x r) = (Finset.univ.fold max (Ideal.ofBits .f32 4286578688#32) fun j : Fin 128 => arg22.view.read (Elt Ideal) (onBufs maxima v5) (ix3 0 r j)) * Ideal.div one32 (kinv P.s1))
    ∧ (∀ r, rowMax (sZ P x r) = (Finset.univ.fold max (Ideal.ofBits .f32 4286578688#32) fun j : Fin 128 => arg22.view.read (Elt Ideal) (onBufs maxima v5) (ix3 1 r j)) * Ideal.div one32 (kinv P.s2)) := by
  subst hv5
  let G : S2x2560x128.Idx → EReal := fun y => if (y 0).val = 0 then am8 (rowN (arg1.view.read (Elt Ideal) X1) (arg23.view.read (Elt Ideal) (arg23.view.writes (Elt Ideal) fs3 L23)) (y 1)) (y 2) else am8 (zR (hidS (arg1.view.read (Elt Ideal) X1) (arg23.view.read (Elt Ideal) (arg23.view.writes (Elt Ideal) fs3 L23)) (arg4.view.read (Elt Ideal) X4)) (arg23.view.read (Elt Ideal) (arg23.view.writes (Elt Ideal) fs3 L23)) (kinv P.s2) (y 1)) (y 2)
  have F := front_agrees 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 (kinv P.s2) v64 X1 X4 (arg23.view.writes (Elt Ideal) fs3 L23) f15 (arg20.view.writes (Elt Ideal) fs0 borders) fs2 G (fun r l => if_pos rfl) _ (le_refl k0_t1_loop.trips)
  have hh : arg20.view.read (Elt Ideal) (onBufs Cert.KernelIdeal.Body.hidden (kinv P.s2)) = hidS (arg1.view.read (Elt Ideal) X1) (arg23.view.read (Elt Ideal) (arg23.view.writes (Elt Ideal) fs3 L23)) (arg4.view.read (Elt Ideal) X4) := funext fun y =>
    (F.2.1.append (borders_agree _ _ _)).read arg20 fs0 y ((onBufs cover_hidden (kinv P.s2)) y)
  have B := back_agrees 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg0 (kinv P.s2) v64 X1 X10 (onBufs Cert.KernelIdeal.Body.hidden (kinv P.s2)) (arg23.view.writes (Elt Ideal) fs3 L23) G (fun r l => by rw [hh]; exact if_neg Nat.one_ne_zero) _ (le_refl k0_t2_loop.trips)
  rw [hh] at B
  have M : ∀ y, arg22.view.read (Elt Ideal) (onBufs maxima (kinv P.s2)) y = G y := fun y =>
    (B.2.2.append F.2.2).read arg22 fs2 y ((onBufs cover_maxima (kinv P.s2)) y)
  have split : ∀ y : S1x2560x1024.Idx, y = ix3 0 (y 1) (y 2) := fun y => (eq_ix3 y).trans (congrArg (fun q => ix3 q (y 1) (y 2)) (Fin.eq_zero _))
  refine ⟨?_, ?_, ?_, fun r => ?_, fun r => ?_⟩
  · rw [show (fun y : S1x2560x1024.Idx => sOut P x (y 1) (y 2)) = outV _ _ _ _ _ from funext fun y => (out_eq hP T hX hw hv (y 1) (y 2)).symm.trans (congrArg _ (split y).symm)]
    exact B.1
  · rw [show (fun y : S1x2560x1024.Idx => quant (sN P x (y 1) (y 2)) P.s1) = codes1 _ _ from funext fun y => (code1_eq hP T hX (y 1) (y 2)).symm]
    exact F.1
  · rw [show (fun y : S1x2560x1024.Idx => quant (sZ P x (y 1) (y 2)) P.s2) = codes2 _ _ _ from funext fun y => (code2_eq hP T hX hw (y 1) (y 2)).symm]
    exact B.2.1
  · simp only [M]
    exact (max1_eq hP T hX r).symm
  · simp only [M]
    exact (max2_eq hP T hX hw r).symm

end

end Cert.KernelIdeal.Val

end
-- ==== Proof.KernelIdeal.PointA.lean ====
module

public import proofs.«01_k».proof.Proof.KernelIdeal.Point

/-!
What one point of the grid stores: the module's results for its own sequence of the batch.
-/

@[expose] public section

set_option maxRecDepth 16384

noncomputable section

namespace Cert.KernelIdeal.Val

open Cert.KernelIdeal Cert.KernelIdeal.Gen Cert.KernelIdeal.Body Cert.Spec
open Cert.ReferenceIdeal.Val (lnR gluR quant swish tapsR rowMax)
open Idealize.ShloMosaic Idealize.ShloMosaic.TcCoe
open Idealize.SL Idealize.SL.Sem

variable (c : Dev nD) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole)
    (x0 : Vec Ideal S1x2560x1024 .bf16) (x1 : Vec Ideal S1x1024 .f32) (x2 : Vec Ideal S1x1024 .f32) (x3 : Vec Ideal S1024x2048 .fp8e4m3) (x4 : Vec Ideal S1x2048 .f32) (x5 : Vec Ideal S1x2048 .f32) (x6 : Vec Ideal S9x1024 .f32) (x7 : Vec Ideal S1x1024 .f32) (x8 : Vec Ideal S1x1024 .f32) (x9 : Vec Ideal S1024x1024 .fp8e4m3) (x10 : Vec Ideal S1x1024 .f32) (x11 : Vec Ideal S1x1024 .f32) (x12 : Vec Ideal S1 .f32) (x13 : Vec Ideal S1 .f32)
variable (hc0 : cond0_0 i) (f14 : BufTy.Contents (Elt Ideal) arg15.view.ty) (f15 : BufTy.Contents (Elt Ideal) arg16.view.ty) (f16 : BufTy.Contents (Elt Ideal) arg17.view.ty) (f17 : BufTy.Contents (Elt Ideal) arg18.view.ty) (f18 : BufTy.Contents (Elt Ideal) arg19.view.ty) (fs0 : BufTy.Contents (Elt Ideal) arg20.view.ty) (fs1 : BufTy.Contents (Elt Ideal) arg21.view.ty) (fs2 : BufTy.Contents (Elt Ideal) arg22.view.ty) (fs3 : BufTy.Contents (Elt Ideal) arg23.view.ty)

/-- The run of the point. -/
local notation "runA" => (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 f14 f15 f16 f17 f18 fs0 fs1 fs2 fs3)
/-- The parameters the blocks give. -/
local notation "par" => (parOf x1 x2 x3 x4 x5 x6 x7 x8 x9 x10 x11 x12 x13)
/-- The rows of the point's block of x. -/
local notation "rows" => (fun r c => x0 (ix3 0 r c))

set_option maxHeartbeats 8000000 in
/-- What the first point stores. -/
theorem runA_values
    (hP : Good par) :
    Agrees runA.1 (fun y => sOut par rows (y 1) (y 2)) ∧
    Agrees runA.2.1 (fun y => quant (sN par rows (y 1) (y 2)) (x12 (ix1 0))) ∧
    (∀ (m : Memref sig .tc .vmem S24x2560 .f32) (f : BufTy.Contents (Elt Ideal) m.view.ty) (y : S24x2560.Idx), m.view.read (Elt Ideal) (m.view.writes (Elt Ideal) f runA.2.2.1) y = amMix i (fun r => rowMax (sN par rows r)) (fun _ => 0) 20 y) ∧
    Agrees runA.2.2.2.1 (fun y => quant (sZ par rows (y 1) (y 2)) (x13 (ix1 0))) ∧
    (∀ (m : Memref sig .tc .vmem S24x2560 .f32) (f : BufTy.Contents (Elt Ideal) m.view.ty) (y : S24x2560.Idx), m.view.read (Elt Ideal) (m.view.writes (Elt Ideal) f runA.2.2.2.2.1) y = amMix i (fun r => rowMax (sZ par rows r)) (fun _ => 0) 20 y) := by
  have hs1 : kernelRun0_A.sl.r c arg13 harg13 x12 = x12 (ix1 0) := ld_scale arg13 harg13 x12 _ _
  have hs2 : kernelRun0_A.sl.r_1 c arg14 harg14 x13 = x13 (ix1 0) := ld_scale arg14 harg14 x13 _ _
  have e2 : kernelRun0_A.sl.r_2 c arg14 harg14 x13 = kinv (x13 (ix1 0)) := (rfl : _ = kinv (kernelRun0_A.sl.r_1 c arg14 harg14 x13)).trans (by rw [hs2])
  have e3 : kernelRun0_A.sl.r_3 c arg13 harg13 x12 = Ideal.div one32 (kinv (x12 (ix1 0))) := (rfl : _ = Ideal.div one32 (kinv (kernelRun0_A.sl.r c arg13 harg13 x12))).trans (by rw [hs1])
  have e4 : kernelRun0_A.sl.r_4 c arg14 harg14 x13 = Ideal.div one32 (kinv (x13 (ix1 0))) := (rfl : _ = Ideal.div one32 (kinv (kernelRun0_A.sl.r_1 c arg14 harg14 x13))).trans (by rw [hs2])
  have tr := tab_reads arg23 fs3
    (k0_pay720 (kernelRun0_A.sl.r c arg13 harg13 x12) (View.readAt (Elt Ideal) arg2.view (Rect.unit ![0, 0] S1x1024.size inb_S1x1024_S1x1024_0_0).toLoadRect (harg2.unread x1)))
    (k0_pay721 (kernelRun0_A.sl.r c arg13 harg13 x12) (View.readAt (Elt Ideal) arg3.view (Rect.unit ![0, 0] S1x1024.size inb_S1x1024_S1x1024_0_0).toLoadRect (harg3.unread x2)))
    (k0_pay722 (kernelRun0_A.sl.r c arg13 harg13 x12) (View.readAt (Elt Ideal) arg5.view (Rect.unit (s := S1x2048) ![0, 0] S1x1024.size inb_S1x2048_S1x1024_0_0).toLoadRect (harg5.unread x4)))
    (k0_pay724 (k0_pay723 (View.readAt (Elt Ideal) arg6.view (Rect.unit (s := S1x2048) ![0, 0] S1x1024.size inb_S1x2048_S1x1024_0_0).toLoadRect (harg6.unread x5))))
    (k0_pay725 (kernelRun0_A.sl.r c arg13 harg13 x12) (View.readAt (Elt Ideal) arg5.view (Rect.unit (s := S1x2048) ![0, 1024] S1x1024.size inb_S1x2048_S1x1024_0_1024).toLoadRect (harg5.unread x4)))
    (k0_pay726 (View.readAt (Elt Ideal) arg6.view (Rect.unit (s := S1x2048) ![0, 1024] S1x1024.size inb_S1x2048_S1x1024_0_1024).toLoadRect (harg6.unread x5)))
    (k0_pay727 (View.readAt (Elt Ideal) arg9.view (Rect.unit ![0, 0] S1x1024.size inb_S1x1024_S1x1024_0_0).toLoadRect (harg9.unread x8)))
    (k0_pay729 (k0_pay728 (kernelRun0_A.sl.r_1 c arg14 harg14 x13) (View.readAt (Elt Ideal) arg11.view (Rect.unit ![0, 0] S1x1024.size inb_S1x1024_S1x1024_0_0).toLoadRect (harg11.unread x10))))
    (k0_pay730 (View.readAt (Elt Ideal) arg12.view (Rect.unit ![0, 0] S1x1024.size inb_S1x1024_S1x1024_0_0).toLoadRect (harg12.unread x11)))
    (k0_pay731 (View.readAt (Elt Ideal) arg7.view (Rect.unit ![0, 0] S9x1024.size inb_S9x1024_S9x1024_0_0).toLoadRect (harg7.unread x6)) (View.readAt (Elt Ideal) arg8.view (Rect.unit ![0, 0] S1x1024.size inb_S1x1024_S1x1024_0_0).toLoadRect (harg8.unread x7)))
  have T : Table par _ := {
    r0 := fun c' => (tr 0 c' (by decide)).trans ((pay720_apply _ _ c').trans (by rw [ld_row, hs1]; rfl))
    r1 := fun c' => (tr 1 c' (by decide)).trans ((pay721_apply _ _ c').trans (by rw [ld_row, hs1]; rfl))
    r2 := fun c' => (tr 2 c' (by decide)).trans ((pay722_apply _ _ c').trans (by rw [ld_half arg5 harg5 x4 0 _ c' ⟨c'.val, by omega⟩ (Nat.zero_add _).symm, hs1]; rfl))
    r3 := fun c' => (tr 3 c' (by decide)).trans ((pay724_apply _ c').trans (by rw [ld_half arg6 harg6 x5 0 _ c' ⟨c'.val, by omega⟩ (Nat.zero_add _).symm]; rfl))
    r4 := fun c' => (tr 4 c' (by decide)).trans ((pay725_apply _ _ c').trans (by rw [ld_half arg5 harg5 x4 1024 _ c' ⟨1024 + c'.val, by omega⟩ rfl, hs1]; rfl))
    r5 := fun c' => (tr 5 c' (by decide)).trans ((pay726_apply _ c').trans (by rw [ld_half arg6 harg6 x5 1024 _ c' ⟨1024 + c'.val, by omega⟩ rfl]; rfl))
    r6 := fun c' => (tr 6 c' (by decide)).trans ((pay727_apply _ c').trans (by rw [ld_row]; rfl))
    r7 := fun c' => (tr 7 c' (by decide)).trans ((pay729_apply _ _ c').trans (by rw [ld_row, hs2]; rfl))
    r8 := fun c' => (tr 8 c' (by decide)).trans ((tabRow_eight ..).trans ((pay730_apply _ c').trans (by rw [ld_row]; rfl)))
    taps := fun t c' => (tr ⟨16 + t.val, by omega⟩ c' (Or.inr (by show 16 ≤ 16 + t.val ∧ 16 + t.val ≤ 24; omega))).trans ((if_pos (by show 16 ≤ 16 + t.val; omega)).trans
      ((pay731_apply _ _ _ c').trans (by
        rw [show (⟨min (16 + t.val - 16) 8, by omega⟩ : Fin 9) = t from Fin.ext (by show min (16 + t.val - 16) 8 = t.val; omega), ld_row, ld_taps]; rfl))) }
  obtain ⟨L, hL⟩ : ∃ L : List (View.Piece (Elt Ideal) S32x1024 .f32), L = (⟨Rect.unit ![16, 0] S9x1024.size Gen.inb_S32x1024_S9x1024_16_0, Gen.k0_pay731 (View.readAt (Elt Ideal) arg7.view (Rect.unit ![0, 0] S9x1024.size Gen.inb_S9x1024_S9x1024_0_0).toLoadRect (harg7.unread x6)) (View.readAt (Elt Ideal) arg8.view (Rect.unit ![0, 0] S1x1024.size Gen.inb_S1x1024_S1x1024_0_0).toLoadRect (harg8.unread x7))⟩ ::
    ⟨Rect.unit ![8, 0] S1x1024.size Gen.inb_S32x1024_S1x1024_8_0, Gen.k0_pay730 (View.readAt (Elt Ideal) arg12.view (Rect.unit ![0, 0] S1x1024.size Gen.inb_S1x1024_S1x1024_0_0).toLoadRect (harg12.unread x11))⟩ ::
    ⟨Rect.unit ![7, 0] S1x1024.size Gen.inb_S32x1024_S1x1024_7_0, Gen.k0_pay729 (kernelRun0_A.sl.r_6 c arg11 harg11 arg14 harg14 x10 x13)⟩ :: kernelRun0_A.sl.HS3_7 c arg2 harg2 arg3 harg3 arg5 harg5 arg6 harg6 arg9 harg9 arg13 harg13 x1 x2 x4 x5 x8 x12) := ⟨_, rfl⟩
  have E := runA_parts c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 hc0 f14 f15 f16 f17 f18 fs0 fs1 fs2 fs3 L hL
  have hL2 : L =
      ([⟨Rect.unit ![16, 0] S9x1024.size inb_S32x1024_S9x1024_16_0, k0_pay731 (View.readAt (Elt Ideal) arg7.view (Rect.unit ![0, 0] S9x1024.size inb_S9x1024_S9x1024_0_0).toLoadRect (harg7.unread x6)) (View.readAt (Elt Ideal) arg8.view (Rect.unit ![0, 0] S1x1024.size inb_S1x1024_S1x1024_0_0).toLoadRect (harg8.unread x7))⟩,
      ⟨Rect.unit ![8, 0] S1x1024.size inb_S32x1024_S1x1024_8_0, k0_pay730 (View.readAt (Elt Ideal) arg12.view (Rect.unit ![0, 0] S1x1024.size inb_S1x1024_S1x1024_0_0).toLoadRect (harg12.unread x11))⟩,
      ⟨Rect.unit ![7, 0] S1x1024.size inb_S32x1024_S1x1024_7_0, k0_pay729 (k0_pay728 (kernelRun0_A.sl.r_1 c arg14 harg14 x13) (View.readAt (Elt Ideal) arg11.view (Rect.unit ![0, 0] S1x1024.size inb_S1x1024_S1x1024_0_0).toLoadRect (harg11.unread x10)))⟩,
      ⟨Rect.unit ![6, 0] S1x1024.size inb_S32x1024_S1x1024_6_0, k0_pay727 (View.readAt (Elt Ideal) arg9.view (Rect.unit ![0, 0] S1x1024.size inb_S1x1024_S1x1024_0_0).toLoadRect (harg9.unread x8))⟩,
      ⟨Rect.unit ![5, 0] S1x1024.size inb_S32x1024_S1x1024_5_0, k0_pay726 (View.readAt (Elt Ideal) arg6.view (Rect.unit (s := S1x2048) ![0, 1024] S1x1024.size inb_S1x2048_S1x1024_0_1024).toLoadRect (harg6.unread x5))⟩,
      ⟨Rect.unit ![4, 0] S1x1024.size inb_S32x1024_S1x1024_4_0, k0_pay725 (kernelRun0_A.sl.r c arg13 harg13 x12) (View.readAt (Elt Ideal) arg5.view (Rect.unit (s := S1x2048) ![0, 1024] S1x1024.size inb_S1x2048_S1x1024_0_1024).toLoadRect (harg5.unread x4))⟩,
      ⟨Rect.unit ![3, 0] S1x1024.size inb_S32x1024_S1x1024_3_0, k0_pay724 (k0_pay723 (View.readAt (Elt Ideal) arg6.view (Rect.unit (s := S1x2048) ![0, 0] S1x1024.size inb_S1x2048_S1x1024_0_0).toLoadRect (harg6.unread x5)))⟩,
      ⟨Rect.unit ![2, 0] S1x1024.size inb_S32x1024_S1x1024_2_0, k0_pay722 (kernelRun0_A.sl.r c arg13 harg13 x12) (View.readAt (Elt Ideal) arg5.view (Rect.unit (s := S1x2048) ![0, 0] S1x1024.size inb_S1x2048_S1x1024_0_0).toLoadRect (harg5.unread x4))⟩,
      ⟨Rect.unit ![1, 0] S1x1024.size inb_S32x1024_S1x1024_1_0, k0_pay721 (kernelRun0_A.sl.r c arg13 harg13 x12) (View.readAt (Elt Ideal) arg3.view (Rect.unit ![0, 0] S1x1024.size inb_S1x1024_S1x1024_0_0).toLoadRect (harg3.unread x2))⟩,
      ⟨Rect.unit ![0, 0] S1x1024.size inb_S32x1024_S1x1024_0_0, k0_pay720 (kernelRun0_A.sl.r c arg13 harg13 x12) (View.readAt (Elt Ideal) arg2.view (Rect.unit ![0, 0] S1x1024.size inb_S1x1024_S1x1024_0_0).toLoadRect (harg2.unread x1))⟩] : List (View.Piece (Elt Ideal) S32x1024 .f32)) := hL.trans rfl
  have T1 : Table par (arg23.view.read (Elt Ideal) (arg23.view.writes (Elt Ideal) fs3 L)) := by
    rw [hL2]; exact T
  have V := loops_values Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (BitVec.ofNat 32 ↑(i 0)) (kernelRun0_A.sl.r_2 c arg14 harg14 x13) (kernelRun0_A.sl.r_6 c arg11 harg11 arg14 harg14 x10 x13) (harg1.unread x0) (harg4.unread x3) (harg10.unread x9)
    L f15 fs0 fs2 fs3 par hP rows T1
    (fun r c' => congrFun (harg1.read_unread x0) _) (fun j c' => congrFun (harg4.read_unread x3) _) (fun j c' => congrFun (harg10.read_unread x9) _) e2
  refine ⟨?_, ?_, ?_, ?_, ?_⟩
  · rw [E.1]; exact V.1
  · rw [E.2.1]; exact V.2.1
  · exact fun m f y => by rw [E.2.2.1]; exact amFirst_read i arg17 arg22 _ 0 (by decide) _ _ (fun r => by rw [e3]; exact V.2.2.2.1 r) 20 (le_refl _) m f y
  · rw [E.2.2.2.1]; exact V.2.2.1
  · exact fun m f y => by rw [E.2.2.2.2]; exact amFirst_read i arg19 arg22 _ 1 (by decide) _ _ (fun r => by rw [e4]; exact V.2.2.2.2 r) 20 (le_refl _) m f y

end Cert.KernelIdeal.Val

end
-- ==== Proof.KernelIdeal.PointB.lean ====
module

public import proofs.«01_k».proof.Proof.KernelIdeal.Point

/-!
What one point of the grid stores: the module's results for its own sequence of the batch.
-/

@[expose] public section

set_option maxRecDepth 16384

noncomputable section

namespace Cert.KernelIdeal.Val

open Cert.KernelIdeal Cert.KernelIdeal.Gen Cert.KernelIdeal.Body Cert.Spec
open Cert.ReferenceIdeal.Val (lnR gluR quant swish tapsR rowMax)
open Idealize.ShloMosaic Idealize.ShloMosaic.TcCoe
open Idealize.SL Idealize.SL.Sem

variable (c : Dev nD) (i : grid0.Coords) (arg1 : Memref sig .tc .vmem S1x2560x1024 .bf16) (harg1 : arg1.IsWhole) (arg2 : Memref sig .tc .vmem S1x1024 .f32) (harg2 : arg2.IsWhole) (arg3 : Memref sig .tc .vmem S1x1024 .f32) (harg3 : arg3.IsWhole) (arg4 : Memref sig .tc .vmem S1024x2048 .fp8e4m3) (harg4 : arg4.IsWhole) (arg5 : Memref sig .tc .vmem S1x2048 .f32) (harg5 : arg5.IsWhole) (arg6 : Memref sig .tc .vmem S1x2048 .f32) (harg6 : arg6.IsWhole) (arg7 : Memref sig .tc .vmem S9x1024 .f32) (harg7 : arg7.IsWhole) (arg8 : Memref sig .tc .vmem S1x1024 .f32) (harg8 : arg8.IsWhole) (arg9 : Memref sig .tc .vmem S1x1024 .f32) (harg9 : arg9.IsWhole) (arg10 : Memref sig .tc .vmem S1024x1024 .fp8e4m3) (harg10 : arg10.IsWhole) (arg11 : Memref sig .tc .vmem S1x1024 .f32) (harg11 : arg11.IsWhole) (arg12 : Memref sig .tc .vmem S1x1024 .f32) (harg12 : arg12.IsWhole) (arg13 : Memref sig .tc .smem S1 .f32) (harg13 : arg13.IsWhole) (arg14 : Memref sig .tc .smem S1 .f32) (harg14 : arg14.IsWhole) (arg15 : Memref sig .tc .vmem S1x2560x1024 .bf16) (harg15 : arg15.IsWhole) (arg16 : Memref sig .tc .vmem S1x2560x1024 .fp8e4m3) (harg16 : arg16.IsWhole) (arg17 : Memref sig .tc .vmem S24x2560 .f32) (harg17 : arg17.IsWhole) (arg18 : Memref sig .tc .vmem S1x2560x1024 .fp8e4m3) (harg18 : arg18.IsWhole) (arg19 : Memref sig .tc .vmem S24x2560 .f32) (harg19 : arg19.IsWhole) (arg20 : Memref sig .tc .vmem S8x2576x128 .f32) (harg20 : arg20.IsWhole) (arg21 : Memref sig .tc .vmem S8x160x128 .f32) (harg21 : arg21.IsWhole) (arg22 : Memref sig .tc .vmem S2x2560x128 .f32) (harg22 : arg22.IsWhole) (arg23 : Memref sig .tc .vmem S32x1024 .f32) (harg23 : arg23.IsWhole)
    (x0 : Vec Ideal S1x2560x1024 .bf16) (x1 : Vec Ideal S1x1024 .f32) (x2 : Vec Ideal S1x1024 .f32) (x3 : Vec Ideal S1024x2048 .fp8e4m3) (x4 : Vec Ideal S1x2048 .f32) (x5 : Vec Ideal S1x2048 .f32) (x6 : Vec Ideal S9x1024 .f32) (x7 : Vec Ideal S1x1024 .f32) (x8 : Vec Ideal S1x1024 .f32) (x9 : Vec Ideal S1024x1024 .fp8e4m3) (x10 : Vec Ideal S1x1024 .f32) (x11 : Vec Ideal S1x1024 .f32) (x12 : Vec Ideal S1 .f32) (x13 : Vec Ideal S1 .f32)
variable (hc0 : ¬cond0_0 i) (xo16 xo18 : Vec Ideal S24x2560 .f32) (f14 : BufTy.Contents (Elt Ideal) arg15.view.ty) (f15 : BufTy.Contents (Elt Ideal) arg16.view.ty) (f17 : BufTy.Contents (Elt Ideal) arg18.view.ty) (fs0 : BufTy.Contents (Elt Ideal) arg20.view.ty) (fs1 : BufTy.Contents (Elt Ideal) arg21.view.ty) (fs2 : BufTy.Contents (Elt Ideal) arg22.view.ty) (fs3 : BufTy.Contents (Elt Ideal) arg23.view.ty)

/-- The run of the point. -/
local notation "runB" => (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xo16 xo18 f14 f15 f17 fs0 fs1 fs2 fs3)
/-- The parameters the blocks give. -/
local notation "par" => (parOf x1 x2 x3 x4 x5 x6 x7 x8 x9 x10 x11 x12 x13)
/-- The rows of the point's block of x. -/
local notation "rows" => (fun r c => x0 (ix3 0 r c))

set_option maxHeartbeats 8000000 in
/-- What a later point stores. -/
theorem runB_values
    (hP : Good par) :
    Agrees runB.1 (fun y => sOut par rows (y 1) (y 2)) ∧
    Agrees runB.2.1 (fun y => quant (sN par rows (y 1) (y 2)) (x12 (ix1 0))) ∧
    (∀ y : S24x2560.Idx, arg17.view.read (Elt Ideal) (arg17.view.writes (Elt Ideal) (harg17.unread xo16) runB.2.2.1) y = amMix i (fun r => rowMax (sN par rows r)) xo16 20 y) ∧
    Agrees runB.2.2.2.1 (fun y => quant (sZ par rows (y 1) (y 2)) (x13 (ix1 0))) ∧
    (∀ y : S24x2560.Idx, arg19.view.read (Elt Ideal) (arg19.view.writes (Elt Ideal) (harg19.unread xo18) runB.2.2.2.2.1) y = amMix i (fun r => rowMax (sZ par rows r)) xo18 20 y) := by
  have hs1 : kernelRun0_B.sl.r c arg13 harg13 x12 = x12 (ix1 0) := ld_scale arg13 harg13 x12 _ _
  have hs2 : kernelRun0_B.sl.r_1 c arg14 harg14 x13 = x13 (ix1 0) := ld_scale arg14 harg14 x13 _ _
  have e2 : kernelRun0_B.sl.r_2 c arg14 harg14 x13 = kinv (x13 (ix1 0)) := (rfl : _ = kinv (kernelRun0_B.sl.r_1 c arg14 harg14 x13)).trans (by rw [hs2])
  have e3 : kernelRun0_B.sl.r_3 c arg13 harg13 x12 = Ideal.div one32 (kinv (x12 (ix1 0))) := (rfl : _ = Ideal.div one32 (kinv (kernelRun0_B.sl.r c arg13 harg13 x12))).trans (by rw [hs1])
  have e4 : kernelRun0_B.sl.r_4 c arg14 harg14 x13 = Ideal.div one32 (kinv (x13 (ix1 0))) := (rfl : _ = Ideal.div one32 (kinv (kernelRun0_B.sl.r_1 c arg14 harg14 x13))).trans (by rw [hs2])
  have tr := tab_reads arg23 fs3
    (k0_pay720 (kernelRun0_B.sl.r c arg13 harg13 x12) (View.readAt (Elt Ideal) arg2.view (Rect.unit ![0, 0] S1x1024.size inb_S1x1024_S1x1024_0_0).toLoadRect (harg2.unread x1)))
    (k0_pay721 (kernelRun0_B.sl.r c arg13 harg13 x12) (View.readAt (Elt Ideal) arg3.view (Rect.unit ![0, 0] S1x1024.size inb_S1x1024_S1x1024_0_0).toLoadRect (harg3.unread x2)))
    (k0_pay722 (kernelRun0_B.sl.r c arg13 harg13 x12) (View.readAt (Elt Ideal) arg5.view (Rect.unit (s := S1x2048) ![0, 0] S1x1024.size inb_S1x2048_S1x1024_0_0).toLoadRect (harg5.unread x4)))
    (k0_pay724 (k0_pay723 (View.readAt (Elt Ideal) arg6.view (Rect.unit (s := S1x2048) ![0, 0] S1x1024.size inb_S1x2048_S1x1024_0_0).toLoadRect (harg6.unread x5))))
    (k0_pay725 (kernelRun0_B.sl.r c arg13 harg13 x12) (View.readAt (Elt Ideal) arg5.view (Rect.unit (s := S1x2048) ![0, 1024] S1x1024.size inb_S1x2048_S1x1024_0_1024).toLoadRect (harg5.unread x4)))
    (k0_pay726 (View.readAt (Elt Ideal) arg6.view (Rect.unit (s := S1x2048) ![0, 1024] S1x1024.size inb_S1x2048_S1x1024_0_1024).toLoadRect (harg6.unread x5)))
    (k0_pay727 (View.readAt (Elt Ideal) arg9.view (Rect.unit ![0, 0] S1x1024.size inb_S1x1024_S1x1024_0_0).toLoadRect (harg9.unread x8)))
    (k0_pay729 (k0_pay728 (kernelRun0_B.sl.r_1 c arg14 harg14 x13) (View.readAt (Elt Ideal) arg11.view (Rect.unit ![0, 0] S1x1024.size inb_S1x1024_S1x1024_0_0).toLoadRect (harg11.unread x10))))
    (k0_pay730 (View.readAt (Elt Ideal) arg12.view (Rect.unit ![0, 0] S1x1024.size inb_S1x1024_S1x1024_0_0).toLoadRect (harg12.unread x11)))
    (k0_pay731 (View.readAt (Elt Ideal) arg7.view (Rect.unit ![0, 0] S9x1024.size inb_S9x1024_S9x1024_0_0).toLoadRect (harg7.unread x6)) (View.readAt (Elt Ideal) arg8.view (Rect.unit ![0, 0] S1x1024.size inb_S1x1024_S1x1024_0_0).toLoadRect (harg8.unread x7)))
  have T : Table par _ := {
    r0 := fun c' => (tr 0 c' (by decide)).trans ((pay720_apply _ _ c').trans (by rw [ld_row, hs1]; rfl))
    r1 := fun c' => (tr 1 c' (by decide)).trans ((pay721_apply _ _ c').trans (by rw [ld_row, hs1]; rfl))
    r2 := fun c' => (tr 2 c' (by decide)).trans ((pay722_apply _ _ c').trans (by rw [ld_half arg5 harg5 x4 0 _ c' ⟨c'.val, by omega⟩ (Nat.zero_add _).symm, hs1]; rfl))
    r3 := fun c' => (tr 3 c' (by decide)).trans ((pay724_apply _ c').trans (by rw [ld_half arg6 harg6 x5 0 _ c' ⟨c'.val, by omega⟩ (Nat.zero_add _).symm]; rfl))
    r4 := fun c' => (tr 4 c' (by decide)).trans ((pay725_apply _ _ c').trans (by rw [ld_half arg5 harg5 x4 1024 _ c' ⟨1024 + c'.val, by omega⟩ rfl, hs1]; rfl))
    r5 := fun c' => (tr 5 c' (by decide)).trans ((pay726_apply _ c').trans (by rw [ld_half arg6 harg6 x5 1024 _ c' ⟨1024 + c'.val, by omega⟩ rfl]; rfl))
    r6 := fun c' => (tr 6 c' (by decide)).trans ((pay727_apply _ c').trans (by rw [ld_row]; rfl))
    r7 := fun c' => (tr 7 c' (by decide)).trans ((pay729_apply _ _ c').trans (by rw [ld_row, hs2]; rfl))
    r8 := fun c' => (tr 8 c' (by decide)).trans ((tabRow_eight ..).trans ((pay730_apply _ c').trans (by rw [ld_row]; rfl)))
    taps := fun t c' => (tr ⟨16 + t.val, by omega⟩ c' (Or.inr (by show 16 ≤ 16 + t.val ∧ 16 + t.val ≤ 24; omega))).trans ((if_pos (by show 16 ≤ 16 + t.val; omega)).trans
      ((pay731_apply _ _ _ c').trans (by
        rw [show (⟨min (16 + t.val - 16) 8, by omega⟩ : Fin 9) = t from Fin.ext (by show min (16 + t.val - 16) 8 = t.val; omega), ld_row, ld_taps]; rfl))) }
  obtain ⟨L, hL⟩ : ∃ L : List (View.Piece (Elt Ideal) S32x1024 .f32), L = (⟨Rect.unit ![16, 0] S9x1024.size Gen.inb_S32x1024_S9x1024_16_0, Gen.k0_pay731 (View.readAt (Elt Ideal) arg7.view (Rect.unit ![0, 0] S9x1024.size Gen.inb_S9x1024_S9x1024_0_0).toLoadRect (harg7.unread x6)) (View.readAt (Elt Ideal) arg8.view (Rect.unit ![0, 0] S1x1024.size Gen.inb_S1x1024_S1x1024_0_0).toLoadRect (harg8.unread x7))⟩ ::
    ⟨Rect.unit ![8, 0] S1x1024.size Gen.inb_S32x1024_S1x1024_8_0, Gen.k0_pay730 (View.readAt (Elt Ideal) arg12.view (Rect.unit ![0, 0] S1x1024.size Gen.inb_S1x1024_S1x1024_0_0).toLoadRect (harg12.unread x11))⟩ ::
    ⟨Rect.unit ![7, 0] S1x1024.size Gen.inb_S32x1024_S1x1024_7_0, Gen.k0_pay729 (kernelRun0_B.sl.r_6 c arg11 harg11 arg14 harg14 x10 x13)⟩ :: kernelRun0_B.sl.HS3_7 c arg2 harg2 arg3 harg3 arg5 harg5 arg6 harg6 arg9 harg9 arg13 harg13 x1 x2 x4 x5 x8 x12) := ⟨_, rfl⟩
  have E := runB_parts c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 hc0 xo16 xo18 f14 f15 f17 fs0 fs1 fs2 fs3 L hL
  have hL2 : L =
      ([⟨Rect.unit ![16, 0] S9x1024.size inb_S32x1024_S9x1024_16_0, k0_pay731 (View.readAt (Elt Ideal) arg7.view (Rect.unit ![0, 0] S9x1024.size inb_S9x1024_S9x1024_0_0).toLoadRect (harg7.unread x6)) (View.readAt (Elt Ideal) arg8.view (Rect.unit ![0, 0] S1x1024.size inb_S1x1024_S1x1024_0_0).toLoadRect (harg8.unread x7))⟩,
      ⟨Rect.unit ![8, 0] S1x1024.size inb_S32x1024_S1x1024_8_0, k0_pay730 (View.readAt (Elt Ideal) arg12.view (Rect.unit ![0, 0] S1x1024.size inb_S1x1024_S1x1024_0_0).toLoadRect (harg12.unread x11))⟩,
      ⟨Rect.unit ![7, 0] S1x1024.size inb_S32x1024_S1x1024_7_0, k0_pay729 (k0_pay728 (kernelRun0_B.sl.r_1 c arg14 harg14 x13) (View.readAt (Elt Ideal) arg11.view (Rect.unit ![0, 0] S1x1024.size inb_S1x1024_S1x1024_0_0).toLoadRect (harg11.unread x10)))⟩,
      ⟨Rect.unit ![6, 0] S1x1024.size inb_S32x1024_S1x1024_6_0, k0_pay727 (View.readAt (Elt Ideal) arg9.view (Rect.unit ![0, 0] S1x1024.size inb_S1x1024_S1x1024_0_0).toLoadRect (harg9.unread x8))⟩,
      ⟨Rect.unit ![5, 0] S1x1024.size inb_S32x1024_S1x1024_5_0, k0_pay726 (View.readAt (Elt Ideal) arg6.view (Rect.unit (s := S1x2048) ![0, 1024] S1x1024.size inb_S1x2048_S1x1024_0_1024).toLoadRect (harg6.unread x5))⟩,
      ⟨Rect.unit ![4, 0] S1x1024.size inb_S32x1024_S1x1024_4_0, k0_pay725 (kernelRun0_B.sl.r c arg13 harg13 x12) (View.readAt (Elt Ideal) arg5.view (Rect.unit (s := S1x2048) ![0, 1024] S1x1024.size inb_S1x2048_S1x1024_0_1024).toLoadRect (harg5.unread x4))⟩,
      ⟨Rect.unit ![3, 0] S1x1024.size inb_S32x1024_S1x1024_3_0, k0_pay724 (k0_pay723 (View.readAt (Elt Ideal) arg6.view (Rect.unit (s := S1x2048) ![0, 0] S1x1024.size inb_S1x2048_S1x1024_0_0).toLoadRect (harg6.unread x5)))⟩,
      ⟨Rect.unit ![2, 0] S1x1024.size inb_S32x1024_S1x1024_2_0, k0_pay722 (kernelRun0_B.sl.r c arg13 harg13 x12) (View.readAt (Elt Ideal) arg5.view (Rect.unit (s := S1x2048) ![0, 0] S1x1024.size inb_S1x2048_S1x1024_0_0).toLoadRect (harg5.unread x4))⟩,
      ⟨Rect.unit ![1, 0] S1x1024.size inb_S32x1024_S1x1024_1_0, k0_pay721 (kernelRun0_B.sl.r c arg13 harg13 x12) (View.readAt (Elt Ideal) arg3.view (Rect.unit ![0, 0] S1x1024.size inb_S1x1024_S1x1024_0_0).toLoadRect (harg3.unread x2))⟩,
      ⟨Rect.unit ![0, 0] S1x1024.size inb_S32x1024_S1x1024_0_0, k0_pay720 (kernelRun0_B.sl.r c arg13 harg13 x12) (View.readAt (Elt Ideal) arg2.view (Rect.unit ![0, 0] S1x1024.size inb_S1x1024_S1x1024_0_0).toLoadRect (harg2.unread x1))⟩] : List (View.Piece (Elt Ideal) S32x1024 .f32)) := hL.trans rfl
  have T1 : Table par (arg23.view.read (Elt Ideal) (arg23.view.writes (Elt Ideal) fs3 L)) := by
    rw [hL2]; exact T
  have V := loops_values Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 (BitVec.ofNat 32 ↑(i 0)) (kernelRun0_B.sl.r_2 c arg14 harg14 x13) (kernelRun0_B.sl.r_6 c arg11 harg11 arg14 harg14 x10 x13) (harg1.unread x0) (harg4.unread x3) (harg10.unread x9)
    L f15 fs0 fs2 fs3 par hP rows T1
    (fun r c' => congrFun (harg1.read_unread x0) _) (fun j c' => congrFun (harg4.read_unread x3) _) (fun j c' => congrFun (harg10.read_unread x9) _) e2
  refine ⟨?_, ?_, ?_, ?_, ?_⟩
  · rw [E.1]; exact V.1
  · rw [E.2.1]; exact V.2.1
  · exact fun y => by rw [E.2.2.1]; exact (amLater_read (R := fun r => rowMax (sN par rows r)) i arg17 arg22 _ 0 (by decide) _ _ (fun r => by rw [e3]; exact V.2.2.2.1 r) 20 (le_refl _) y).trans (by rw [harg17.read_unread])
  · rw [E.2.2.2.1]; exact V.2.2.1
  · exact fun y => by rw [E.2.2.2.2]; exact (amLater_read (R := fun r => rowMax (sZ par rows r)) i arg19 arg22 _ 1 (by decide) _ _ (fun r => by rw [e4]; exact V.2.2.2.2 r) 20 (le_refl _) y).trans (by rw [harg19.read_unread])

end Cert.KernelIdeal.Val

end
-- ==== Proof.KernelIdeal.Blocks.lean ====
module

public import proofs.«01_k».proof.Proof.Gen.KernelIdeal.Frame
public import Idealize.ShloMosaic.Lib.Pipeline.ValueKit
public import Idealize.ShloMosaic.Lib.StableHlo.ReadAt
public import Idealize.ShloMosaic.Lib.Pointwise

/-!
What the kernel's windows hold, in terms of the arguments.
-/

@[expose] public section

noncomputable section

namespace Cert.KernelIdeal.Val

open Cert.KernelIdeal Cert.KernelIdeal.Gen
open Idealize.ShloMosaic Idealize.ShloMosaic.TcCoe Idealize.SL.Sem

variable (m : (ℓ : Loc nD τ sig) → Buf (Elt Ideal) ℓ)

theorem blk3 (c : Dev nD) (t : Fin cfg0.N) (a : Fin 1024) (b : Fin 2048) : iblk m c 3 t (ix2 a b) = (m ((c : Thread nD τ).loc main_arg3) : Shape.Idx _ → EReal) (ix2 a b) := by
  refine (congrArg (V m c main_v2) (funext fun e => Fin.ext (Pipeline.Window.rect_emb_val_of_index_zero win0_3 t e (by fin_cases e <;> rfl) (ix2 a b)))).trans ?_
  unfold V
  after_reads_at
  all_goals first | rfl | exact congrArg (m ((c : Thread nD τ).loc main_arg3)) (funext fun e => Fin.elim0 e)
theorem blk1 (c : Dev nD) (t : Fin cfg0.N) (a : Fin 1024) : iblk m c 1 t (ix2 0 a) = (m ((c : Thread nD τ).loc main_arg1) : Shape.Idx _ → EReal) (ix1 a) := by
  refine (congrArg (V m c main_v0) (funext fun e => Fin.ext (Pipeline.Window.rect_emb_val_of_index_zero win0_1 t e (by fin_cases e <;> rfl) (ix2 0 a)))).trans ?_
  unfold V
  after_reads_at
  all_goals first | rfl | exact congrArg (m ((c : Thread nD τ).loc main_arg1)) (funext fun e => Fin.elim0 e)
theorem blk2 (c : Dev nD) (t : Fin cfg0.N) (a : Fin 1024) : iblk m c 2 t (ix2 0 a) = (m ((c : Thread nD τ).loc main_arg2) : Shape.Idx _ → EReal) (ix1 a) := by
  refine (congrArg (V m c main_v1) (funext fun e => Fin.ext (Pipeline.Window.rect_emb_val_of_index_zero win0_2 t e (by fin_cases e <;> rfl) (ix2 0 a)))).trans ?_
  unfold V
  after_reads_at
  all_goals first | rfl | exact congrArg (m ((c : Thread nD τ).loc main_arg2)) (funext fun e => Fin.elim0 e)
theorem blk4 (c : Dev nD) (t : Fin cfg0.N) (a : Fin 2048) : iblk m c 4 t (ix2 0 a) = (m ((c : Thread nD τ).loc main_arg4) : Shape.Idx _ → EReal) (ix1 a) := by
  refine (congrArg (V m c main_v3) (funext fun e => Fin.ext (Pipeline.Window.rect_emb_val_of_index_zero win0_4 t e (by fin_cases e <;> rfl) (ix2 0 a)))).trans ?_
  unfold V
  after_reads_at
  all_goals first | rfl | exact congrArg (m ((c : Thread nD τ).loc main_arg4)) (funext fun e => Fin.elim0 e)
theorem blk5 (c : Dev nD) (t : Fin cfg0.N) (a : Fin 2048) : iblk m c 5 t (ix2 0 a) = (m ((c : Thread nD τ).loc main_arg5) : Shape.Idx _ → EReal) (ix1 a) := by
  refine (congrArg (V m c main_v4) (funext fun e => Fin.ext (Pipeline.Window.rect_emb_val_of_index_zero win0_5 t e (by fin_cases e <;> rfl) (ix2 0 a)))).trans ?_
  unfold V
  after_reads_at
  all_goals first | rfl | exact congrArg (m ((c : Thread nD τ).loc main_arg5)) (funext fun e => Fin.elim0 e)
theorem blk7 (c : Dev nD) (t : Fin cfg0.N) (a : Fin 1024) : iblk m c 7 t (ix2 0 a) = (m ((c : Thread nD τ).loc main_arg7) : Shape.Idx _ → EReal) (ix1 a) := by
  refine (congrArg (V m c main_v5) (funext fun e => Fin.ext (Pipeline.Window.rect_emb_val_of_index_zero win0_7 t e (by fin_cases e <;> rfl) (ix2 0 a)))).trans ?_
  unfold V
  after_reads_at
  all_goals first | rfl | exact congrArg (m ((c : Thread nD τ).loc main_arg7)) (funext fun e => Fin.elim0 e)
theorem blk8 (c : Dev nD) (t : Fin cfg0.N) (a : Fin 1024) : iblk m c 8 t (ix2 0 a) = (m ((c : Thread nD τ).loc main_arg8) : Shape.Idx _ → EReal) (ix1 a) := by
  refine (congrArg (V m c main_v6) (funext fun e => Fin.ext (Pipeline.Window.rect_emb_val_of_index_zero win0_8 t e (by fin_cases e <;> rfl) (ix2 0 a)))).trans ?_
  unfold V
  after_reads_at
  all_goals first | rfl | exact congrArg (m ((c : Thread nD τ).loc main_arg8)) (funext fun e => Fin.elim0 e)
theorem blk10 (c : Dev nD) (t : Fin cfg0.N) (a : Fin 1024) : iblk m c 10 t (ix2 0 a) = (m ((c : Thread nD τ).loc main_arg10) : Shape.Idx _ → EReal) (ix1 a) := by
  refine (congrArg (V m c main_v7) (funext fun e => Fin.ext (Pipeline.Window.rect_emb_val_of_index_zero win0_10 t e (by fin_cases e <;> rfl) (ix2 0 a)))).trans ?_
  unfold V
  after_reads_at
  all_goals first | rfl | exact congrArg (m ((c : Thread nD τ).loc main_arg10)) (funext fun e => Fin.elim0 e)
theorem blk11 (c : Dev nD) (t : Fin cfg0.N) (a : Fin 1024) : iblk m c 11 t (ix2 0 a) = (m ((c : Thread nD τ).loc main_arg11) : Shape.Idx _ → EReal) (ix1 a) := by
  refine (congrArg (V m c main_v8) (funext fun e => Fin.ext (Pipeline.Window.rect_emb_val_of_index_zero win0_11 t e (by fin_cases e <;> rfl) (ix2 0 a)))).trans ?_
  unfold V
  after_reads_at
  all_goals first | rfl | exact congrArg (m ((c : Thread nD τ).loc main_arg11)) (funext fun e => Fin.elim0 e)
theorem blk12 (c : Dev nD) (t : Fin cfg0.N)  : iblk m c 12 t (ix1 0) = (m ((c : Thread nD τ).loc main_arg12) : Shape.Idx _ → EReal) (fun a => Fin.elim0 a) := by
  refine (congrArg (V m c main_v9) (funext fun e => Fin.ext (Pipeline.Window.rect_emb_val_of_index_zero win0_12 t e (by fin_cases e <;> rfl) (ix1 0)))).trans ?_
  unfold V
  after_reads_at
  all_goals first | rfl | exact congrArg (m ((c : Thread nD τ).loc main_arg12)) (funext fun e => Fin.elim0 e)
theorem blk13 (c : Dev nD) (t : Fin cfg0.N)  : iblk m c 13 t (ix1 0) = (m ((c : Thread nD τ).loc main_arg13) : Shape.Idx _ → EReal) (fun a => Fin.elim0 a) := by
  refine (congrArg (V m c main_v10) (funext fun e => Fin.ext (Pipeline.Window.rect_emb_val_of_index_zero win0_13 t e (by fin_cases e <;> rfl) (ix1 0)))).trans ?_
  unfold V
  after_reads_at
  all_goals first | rfl | exact congrArg (m ((c : Thread nD τ).loc main_arg13)) (funext fun e => Fin.elim0 e)
theorem blk6 (c : Dev nD) (t : Fin cfg0.N) (a : Fin 9) (b : Fin 1024) : iblk m c 6 t (ix2 a b) = m ((c : Thread nD τ).loc main_arg6) (ix2 a b) :=
  (congrArg (V m c main_arg6) (funext fun e => Fin.ext (Pipeline.Window.rect_emb_val_of_index_zero win0_6 t e (by fin_cases e <;> rfl) (ix2 a b)))).trans (congrFun (V_main_arg6 m c) _)
theorem blk9 (c : Dev nD) (t : Fin cfg0.N) (a b : Fin 1024) : iblk m c 9 t (ix2 a b) = m ((c : Thread nD τ).loc main_arg9) (ix2 a b) :=
  (congrArg (V m c main_arg9) (funext fun e => Fin.ext (Pipeline.Window.rect_emb_val_of_index_zero win0_9 t e (by fin_cases e <;> rfl) (ix2 a b)))).trans (congrFun (V_main_arg9 m c) _)
theorem index0 : ∀ t : Fin cfg0.N, win0_0.index t 0 = t.val ∧ win0_0.index t 1 = 0 ∧ win0_0.index t 2 = 0 := by decide +kernel

theorem blk0 (c : Dev nD) (t : Fin cfg0.N) (b : Fin 24) (hb : b.val = t.val) (r : Fin 2560) (j : Fin 1024) : iblk m c 0 t (ix3 0 r j) = m ((c : Thread nD τ).loc main_arg0) (ix3 b r j) := by
  refine (congrArg (V m c main_arg0) (funext fun e => Fin.ext ((Pipeline.Window.rect_emb_val win0_0 t (ix3 0 r j) e).trans ?_))).trans (congrFun (V_main_arg0 m c) (ix3 b r j))
  obtain ⟨h0, h1, h2⟩ := index0 t
  fin_cases e
  · show win0_0.index t 0 * 1 + 0 = b.val; omega
  · show win0_0.index t 1 * 2560 + r.val = r.val; omega
  · show win0_0.index t 2 * 1024 + j.val = j.val; omega

end Cert.KernelIdeal.Val

end
-- ==== Proof.ReferenceIdeal.Blocks.lean ====
module

public import proofs.«01_k».proof.Proof.Gen.ReferenceIdeal.Frame
public import Idealize.ShloMosaic.Lib.Pipeline.ValueKit
public import Idealize.ShloMosaic.Lib.StableHlo.ReadAt
public import Idealize.ShloMosaic.Lib.Pointwise

/-!
What the reference's windows hold, in terms of the arguments.
-/

@[expose] public section

noncomputable section

namespace Cert.ReferenceIdeal.Val

open Cert.ReferenceIdeal Cert.ReferenceIdeal.Gen
open Idealize.ShloMosaic Idealize.ShloMosaic.TcCoe Idealize.SL.Sem

variable (m : (ℓ : Loc nD τ sig) → Buf (Elt Ideal) ℓ)

theorem blk3 (c : Dev nD) (t : Fin cfg0.N) (a : Fin 1024) (b : Fin 2048) : iblk m c 3 t (ix2 a b) = (m ((c : Thread nD τ).loc main_arg3) : Shape.Idx _ → EReal) (ix2 a b) := by
  refine (congrArg (V m c main_v2) (funext fun e => Fin.ext (Pipeline.Window.rect_emb_val_of_index_zero win0_3 t e (by fin_cases e <;> rfl) (ix2 a b)))).trans ?_
  unfold V
  after_reads_at
  all_goals first | rfl | exact congrArg (m ((c : Thread nD τ).loc main_arg3)) (funext fun e => Fin.elim0 e)
theorem blk1 (c : Dev nD) (t : Fin cfg0.N) (a : Fin 1024) : iblk m c 1 t (ix2 0 a) = (m ((c : Thread nD τ).loc main_arg1) : Shape.Idx _ → EReal) (ix1 a) := by
  refine (congrArg (V m c main_v0) (funext fun e => Fin.ext (Pipeline.Window.rect_emb_val_of_index_zero win0_1 t e (by fin_cases e <;> rfl) (ix2 0 a)))).trans ?_
  unfold V
  after_reads_at
  all_goals first | rfl | exact congrArg (m ((c : Thread nD τ).loc main_arg1)) (funext fun e => Fin.elim0 e)
theorem blk2 (c : Dev nD) (t : Fin cfg0.N) (a : Fin 1024) : iblk m c 2 t (ix2 0 a) = (m ((c : Thread nD τ).loc main_arg2) : Shape.Idx _ → EReal) (ix1 a) := by
  refine (congrArg (V m c main_v1) (funext fun e => Fin.ext (Pipeline.Window.rect_emb_val_of_index_zero win0_2 t e (by fin_cases e <;> rfl) (ix2 0 a)))).trans ?_
  unfold V
  after_reads_at
  all_goals first | rfl | exact congrArg (m ((c : Thread nD τ).loc main_arg2)) (funext fun e => Fin.elim0 e)
theorem blk4 (c : Dev nD) (t : Fin cfg0.N) (a : Fin 2048) : iblk m c 4 t (ix2 0 a) = (m ((c : Thread nD τ).loc main_arg4) : Shape.Idx _ → EReal) (ix1 a) := by
  refine (congrArg (V m c main_v3) (funext fun e => Fin.ext (Pipeline.Window.rect_emb_val_of_index_zero win0_4 t e (by fin_cases e <;> rfl) (ix2 0 a)))).trans ?_
  unfold V
  after_reads_at
  all_goals first | rfl | exact congrArg (m ((c : Thread nD τ).loc main_arg4)) (funext fun e => Fin.elim0 e)
theorem blk5 (c : Dev nD) (t : Fin cfg0.N) (a : Fin 2048) : iblk m c 5 t (ix2 0 a) = (m ((c : Thread nD τ).loc main_arg5) : Shape.Idx _ → EReal) (ix1 a) := by
  refine (congrArg (V m c main_v4) (funext fun e => Fin.ext (Pipeline.Window.rect_emb_val_of_index_zero win0_5 t e (by fin_cases e <;> rfl) (ix2 0 a)))).trans ?_
  unfold V
  after_reads_at
  all_goals first | rfl | exact congrArg (m ((c : Thread nD τ).loc main_arg5)) (funext fun e => Fin.elim0 e)
theorem blk7 (c : Dev nD) (t : Fin cfg0.N) (a : Fin 1024) : iblk m c 7 t (ix2 0 a) = (m ((c : Thread nD τ).loc main_arg7) : Shape.Idx _ → EReal) (ix1 a) := by
  refine (congrArg (V m c main_v5) (funext fun e => Fin.ext (Pipeline.Window.rect_emb_val_of_index_zero win0_7 t e (by fin_cases e <;> rfl) (ix2 0 a)))).trans ?_
  unfold V
  after_reads_at
  all_goals first | rfl | exact congrArg (m ((c : Thread nD τ).loc main_arg7)) (funext fun e => Fin.elim0 e)
theorem blk8 (c : Dev nD) (t : Fin cfg0.N) (a : Fin 1024) : iblk m c 8 t (ix2 0 a) = (m ((c : Thread nD τ).loc main_arg8) : Shape.Idx _ → EReal) (ix1 a) := by
  refine (congrArg (V m c main_v6) (funext fun e => Fin.ext (Pipeline.Window.rect_emb_val_of_index_zero win0_8 t e (by fin_cases e <;> rfl) (ix2 0 a)))).trans ?_
  unfold V
  after_reads_at
  all_goals first | rfl | exact congrArg (m ((c : Thread nD τ).loc main_arg8)) (funext fun e => Fin.elim0 e)
theorem blk10 (c : Dev nD) (t : Fin cfg0.N) (a : Fin 1024) : iblk m c 10 t (ix2 0 a) = (m ((c : Thread nD τ).loc main_arg10) : Shape.Idx _ → EReal) (ix1 a) := by
  refine (congrArg (V m c main_v7) (funext fun e => Fin.ext (Pipeline.Window.rect_emb_val_of_index_zero win0_10 t e (by fin_cases e <;> rfl) (ix2 0 a)))).trans ?_
  unfold V
  after_reads_at
  all_goals first | rfl | exact congrArg (m ((c : Thread nD τ).loc main_arg10)) (funext fun e => Fin.elim0 e)
theorem blk11 (c : Dev nD) (t : Fin cfg0.N) (a : Fin 1024) : iblk m c 11 t (ix2 0 a) = (m ((c : Thread nD τ).loc main_arg11) : Shape.Idx _ → EReal) (ix1 a) := by
  refine (congrArg (V m c main_v8) (funext fun e => Fin.ext (Pipeline.Window.rect_emb_val_of_index_zero win0_11 t e (by fin_cases e <;> rfl) (ix2 0 a)))).trans ?_
  unfold V
  after_reads_at
  all_goals first | rfl | exact congrArg (m ((c : Thread nD τ).loc main_arg11)) (funext fun e => Fin.elim0 e)
theorem blk12 (c : Dev nD) (t : Fin cfg0.N)  : iblk m c 12 t (ix2 0 0) = (m ((c : Thread nD τ).loc main_arg12) : Shape.Idx _ → EReal) (fun a => Fin.elim0 a) := by
  refine (congrArg (V m c main_v9) (funext fun e => Fin.ext (Pipeline.Window.rect_emb_val_of_index_zero win0_12 t e (by fin_cases e <;> rfl) (ix2 0 0)))).trans ?_
  unfold V
  after_reads_at
  all_goals first | rfl | exact congrArg (m ((c : Thread nD τ).loc main_arg12)) (funext fun e => Fin.elim0 e)
theorem blk13 (c : Dev nD) (t : Fin cfg0.N)  : iblk m c 13 t (ix2 0 0) = (m ((c : Thread nD τ).loc main_arg13) : Shape.Idx _ → EReal) (fun a => Fin.elim0 a) := by
  refine (congrArg (V m c main_v10) (funext fun e => Fin.ext (Pipeline.Window.rect_emb_val_of_index_zero win0_13 t e (by fin_cases e <;> rfl) (ix2 0 0)))).trans ?_
  unfold V
  after_reads_at
  all_goals first | rfl | exact congrArg (m ((c : Thread nD τ).loc main_arg13)) (funext fun e => Fin.elim0 e)
theorem blk6 (c : Dev nD) (t : Fin cfg0.N) (a : Fin 9) (b : Fin 1024) : iblk m c 6 t (ix2 a b) = m ((c : Thread nD τ).loc main_arg6) (ix2 a b) :=
  (congrArg (V m c main_arg6) (funext fun e => Fin.ext (Pipeline.Window.rect_emb_val_of_index_zero win0_6 t e (by fin_cases e <;> rfl) (ix2 a b)))).trans (congrFun (V_main_arg6 m c) _)
theorem blk9 (c : Dev nD) (t : Fin cfg0.N) (a b : Fin 1024) : iblk m c 9 t (ix2 a b) = m ((c : Thread nD τ).loc main_arg9) (ix2 a b) :=
  (congrArg (V m c main_arg9) (funext fun e => Fin.ext (Pipeline.Window.rect_emb_val_of_index_zero win0_9 t e (by fin_cases e <;> rfl) (ix2 a b)))).trans (congrFun (V_main_arg9 m c) _)
theorem blk0 (c : Dev nD) (t : Fin cfg0.N) (b : Fin 24) (r : Fin 2560) (j : Fin 1024) : iblk m c 0 t (ix3 b r j) = m ((c : Thread nD τ).loc main_arg0) (ix3 b r j) :=
  (congrArg (V m c main_arg0) (funext fun e => Fin.ext (Pipeline.Window.rect_emb_val_of_index_zero win0_0 t e (by fin_cases e <;> rfl) (ix3 b r j)))).trans (congrFun (V_main_arg0 m c) _)

end Cert.ReferenceIdeal.Val

end
-- ==== Proof.ReferenceIdeal.Final.lean ====
module

public import proofs.«01_k».proof.Proof.ReferenceIdeal.Blocks
public import proofs.«01_k».proof.Proof.ReferenceIdeal.Spec

/-!
The reference's results, entry by entry.
-/

@[expose] public section

set_option maxRecDepth 16384

noncomputable section

namespace Cert.Spec

open Cert.ReferenceIdeal Idealize.ShloMosaic

/-- The weights and scales, from the arguments. -/
def parArgs (a1 a2 : S1024.Idx → EReal) (a3 : S1024x2048.Idx → EReal) (a4 a5 : S2048.Idx → EReal) (a6 : S9x1024.Idx → EReal) (a7 a8 : S1024.Idx → EReal)
    (a9 : S1024x1024.Idx → EReal) (a10 a11 : S1024.Idx → EReal) (a12 a13 : Shape.Idx ⟨0, ![]⟩ → EReal) : Par where
  g c := a1 (ix1 c)
  be c := a2 (ix1 c)
  w1 j c := a3 (ix2 j c)
  ws1 c := a4 (ix1 c)
  b1 c := a5 (ix1 c)
  d t c := a6 (ix2 t c)
  bs c := a7 (ix1 c)
  bt c := a8 (ix1 c)
  w2 j c := a9 (ix2 j c)
  ws2 c := a10 (ix1 c)
  b2 c := a11 (ix1 c)
  s1 := a12 fun a => Fin.elim0 a
  s2 := a13 fun a => Fin.elim0 a

/-- Two sets of weights with the same entries. -/
theorem Par.same {P Q : Par} (h1 : ∀ c, P.g c = Q.g c) (h2 : ∀ c, P.be c = Q.be c) (h3 : ∀ j c, P.w1 j c = Q.w1 j c) (h4 : ∀ c, P.ws1 c = Q.ws1 c) (h5 : ∀ c, P.b1 c = Q.b1 c)
    (h6 : ∀ t c, P.d t c = Q.d t c) (h7 : ∀ c, P.bs c = Q.bs c) (h8 : ∀ c, P.bt c = Q.bt c) (h9 : ∀ j c, P.w2 j c = Q.w2 j c) (h10 : ∀ c, P.ws2 c = Q.ws2 c)
    (h11 : ∀ c, P.b2 c = Q.b2 c) (h12 : P.s1 = Q.s1) (h13 : P.s2 = Q.s2) : P = Q := by
  cases P; cases Q
  simp only [Par.mk.injEq]
  exact ⟨funext h1, funext h2, funext fun j => funext (h3 j), funext h4, funext h5, funext fun j => funext (h6 j), funext h7, funext h8, funext fun j => funext (h9 j), funext h10, funext h11, h12, h13⟩

/-- The five results, from the arguments. -/
def res0 (P : Par) (x : S24x2560x1024.Idx → EReal) (y : S24x2560x1024.Idx) : EReal := sOut P (fun r j => x (ix3 (y 0) r j)) (y 1) (y 2)
@[inherit_doc res0] def res1 (P : Par) (x : S24x2560x1024.Idx → EReal) (y : S24x2560x1024.Idx) : EReal :=
  ReferenceIdeal.Val.quant (sN P (fun r j => x (ix3 (y 0) r j)) (y 1) (y 2)) P.s1
@[inherit_doc res0] def res2 (P : Par) (x : S24x2560x1024.Idx → EReal) (y : S24x2560.Idx) : EReal := ReferenceIdeal.Val.rowMax (sN P (fun r j => x (ix3 (y 0) r j)) (y 1))
@[inherit_doc res0] def res3 (P : Par) (x : S24x2560x1024.Idx → EReal) (y : S24x2560x1024.Idx) : EReal :=
  ReferenceIdeal.Val.quant (sZ P (fun r j => x (ix3 (y 0) r j)) (y 1) (y 2)) P.s2
@[inherit_doc res0] def res4 (P : Par) (x : S24x2560x1024.Idx → EReal) (y : S24x2560.Idx) : EReal := ReferenceIdeal.Val.rowMax (sZ P (fun r j => x (ix3 (y 0) r j)) (y 1))

end Cert.Spec

namespace Cert.ReferenceIdeal.Val

open Cert.ReferenceIdeal Cert.ReferenceIdeal.Gen Cert.Spec
open Idealize.ShloMosaic Idealize.ShloMosaic.TcCoe Idealize.SL.Sem

section
variable (x0 : Vec Ideal S24x2560x1024 .bf16) (x1 : Vec Ideal S1x1024 .f32) (x2 : Vec Ideal S1x1024 .f32) (x3 : Vec Ideal S1024x2048 .fp8e4m3) (x4 : Vec Ideal S1x2048 .f32) (x5 : Vec Ideal S1x2048 .f32) (x6 : Vec Ideal S9x1024 .f32) (x7 : Vec Ideal S1x1024 .f32) (x8 : Vec Ideal S1x1024 .f32) (x9 : Vec Ideal S1024x1024 .fp8e4m3) (x10 : Vec Ideal S1x1024 .f32) (x11 : Vec Ideal S1x1024 .f32) (x12 : Vec Ideal S1x1 .f32) (x13 : Vec Ideal S1x1 .f32)

/-- The weights and scales that the windows hold. -/
def refPar (x1 x2 : Vec Ideal S1x1024 .f32) (x3 : Vec Ideal S1024x2048 .fp8e4m3) (x4 x5 : Vec Ideal S1x2048 .f32) (x6 : Vec Ideal S9x1024 .f32) (x7 x8 : Vec Ideal S1x1024 .f32)
    (x9 : Vec Ideal S1024x1024 .fp8e4m3) (x10 x11 : Vec Ideal S1x1024 .f32) (x12 x13 : Vec Ideal S1x1 .f32) : Par where
  g c := x1 (ix2 0 c)
  be c := x2 (ix2 0 c)
  w1 j c := x3 (ix2 j c)
  ws1 c := x4 (ix2 0 c)
  b1 c := x5 (ix2 0 c)
  d t c := x6 (ix2 t c)
  bs c := x7 (ix2 0 c)
  bt c := x8 (ix2 0 c)
  w2 j c := x9 (ix2 j c)
  ws2 c := x10 (ix2 0 c)
  b2 c := x11 (ix2 0 c)
  s1 := x12 (ix2 0 0)
  s2 := x13 (ix2 0 0)

theorem z3 : ∀ a, (![0, 0, 0] : Fin 3 → ℕ) a = 0 := by decide
theorem z2 : ∀ a, (![0, 0] : Fin 2 → ℕ) a = 0 := by decide

theorem ld0_0 (x : Vec Ideal S1x1 .f32) : View.ld x r0_0 = x := View.ld_unit_lit _ _ z2
theorem ld0_1 (x : Vec Ideal S24x2560x1024 .bf16) : View.ld x r0_1 = x := View.ld_unit_lit _ _ z3
theorem ld0_2 (x : Vec Ideal S1x1024 .f32) : View.ld x r0_2 = x := View.ld_unit_lit _ _ z2
theorem ld0_4 (x : Vec Ideal S1024x2048 .fp8e4m3) : View.ld x r0_4 = x := View.ld_unit_lit _ _ z2
theorem ld0_5 (x : Vec Ideal S1x2048 .f32) : View.ld x r0_5 = x := View.ld_unit_lit _ _ z2
theorem ld0_6 (x : Vec Ideal S9x1024 .f32) : View.ld x r0_6 = x := View.ld_unit_lit _ _ z2
theorem ld0_7 (x : Vec Ideal S1024x1024 .fp8e4m3) : View.ld x r0_7 = x := View.ld_unit_lit _ _ z2
theorem can3 (e : EltTy) (v : Vec Ideal S24x2560x1024 e) : View.canon [(⟨r0_1, v⟩ : View.Piece (Elt Ideal) S24x2560x1024 e)] = v := View.canon_cons_unit_lit _ _ _ z3
theorem can2 (v : Vec Ideal S24x2560 .f32) : View.canon [(⟨r0_3, v⟩ : View.Piece (Elt Ideal) S24x2560 .f32)] = v := View.canon_cons_unit_lit _ _ _ z2

theorem n_apply (t : Fin 24) (r : Fin 2560) (c : Fin 1024) : k0_pay18 (F := Ideal) x0 x1 x2 x3 x4 x5 x6 x7 x8 x9 x10 x11 x12 x13 (ix3 t r c) = sN (refPar x1 x2 x3 x4 x5 x6 x7 x8 x9 x10 x11 x12 x13) (fun r j => x0 (ix3 t r j)) r c := by
  unfold k0_pay18
  rw [ld0_1, ld0_2, ld0_2]
  exact pay7_apply x0 x1 x2 t r c

theorem q_apply (t : Fin 24) (r : Fin 2560) (c : Fin 1024) : k0_pay10 (F := Ideal) (k0_pay18 x0 x1 x2 x3 x4 x5 x6 x7 x8 x9 x10 x11 x12 x13) (k0_pay19 x0 x1 x2 x3 x4 x5 x6 x7 x8 x9 x10 x11 x12 x13) (ix3 t r c) = quant (sN (refPar x1 x2 x3 x4 x5 x6 x7 x8 x9 x10 x11 x12 x13) (fun r j => x0 (ix3 t r j)) r c) (refPar x1 x2 x3 x4 x5 x6 x7 x8 x9 x10 x11 x12 x13).s1 := by
  unfold k0_pay19
  rw [ld0_0]
  exact (pay10_apply _ x12 t r c).trans (by rw [n_apply]; rfl)

theorem h_apply (t : Fin 24) (r : Fin 2568) (c : Fin 1024) : k0_pay20 (F := Ideal) x0 x1 x2 x3 x4 x5 x6 x7 x8 x9 x10 x11 x12 x13 (ix3 t r c) = sHp (refPar x1 x2 x3 x4 x5 x6 x7 x8 x9 x10 x11 x12 x13) (fun r j => x0 (ix3 t r j)) r c := by
  unfold k0_pay20 k0_pay16
  rw [ld0_0, ld0_4, ld0_5, ld0_5]
  refine (pay11_apply _ _ x12 x3 x4 x5 t r c).trans ?_
  simp only [q_apply]
  rfl

theorem z_apply (t : Fin 24) (r : Fin 2560) (c : Fin 1024) : k0_pay23 (F := Ideal) x0 x1 x2 x3 x4 x5 x6 x7 x8 x9 x10 x11 x12 x13 (ix3 t r c) = sZ (refPar x1 x2 x3 x4 x5 x6 x7 x8 x9 x10 x11 x12 x13) (fun r j => x0 (ix3 t r j)) r c := by
  have e : ∀ k : Fin 2568, _ = _ := fun k => h_apply x0 x1 x2 x3 x4 x5 x6 x7 x8 x9 x10 x11 x12 x13 t k c
  unfold k0_pay23 k0_pay22 k0_pay21
  unfold k0_pay20 at e ⊢
  refine (pay14_apply _ _ _ _ _ _ _ _ _ t r c).trans ?_
  rw [ld0_6 x6, ld0_2 x7, ld0_2 x8]
  simp only [e]
  rfl

theorem out14_apply (t : Fin 24) (r : Fin 2560) (c : Fin 1024) : out0_14 (F := Ideal) x0 x1 x2 x3 x4 x5 x6 x7 x8 x9 x10 x11 x12 x13 (ix3 t r c) = res0 (refPar x1 x2 x3 x4 x5 x6 x7 x8 x9 x10 x11 x12 x13) x0 (ix3 t r c) := by
  unfold out0_14 k0_pay17
  rw [can3, ld0_0, ld0_1, ld0_7, ld0_2, ld0_2]
  refine (pay3_apply x0 _ x13 x9 x10 x11 t r c).trans ?_
  simp only [z_apply]
  rfl

theorem out15_apply (t : Fin 24) (r : Fin 2560) (c : Fin 1024) : out0_15 (F := Ideal) x0 x1 x2 x3 x4 x5 x6 x7 x8 x9 x10 x11 x12 x13 (ix3 t r c) = res1 (refPar x1 x2 x3 x4 x5 x6 x7 x8 x9 x10 x11 x12 x13) x0 (ix3 t r c) := by
  unfold out0_15
  rw [can3]
  exact q_apply x0 x1 x2 x3 x4 x5 x6 x7 x8 x9 x10 x11 x12 x13 t r c

theorem out16_apply (t : Fin 24) (r : Fin 2560) : out0_16 (F := Ideal) x0 x1 x2 x3 x4 x5 x6 x7 x8 x9 x10 x11 x12 x13 (ix2 t r) = res2 (refPar x1 x2 x3 x4 x5 x6 x7 x8 x9 x10 x11 x12 x13) x0 (ix2 t r) := by
  unfold out0_16
  rw [can2, ld0_1, ld0_2, ld0_2]
  refine (pay8_apply x0 x1 x2 t r).trans ?_
  simp only [pay7_apply]
  rfl

theorem out17_apply (t : Fin 24) (r : Fin 2560) (c : Fin 1024) : out0_17 (F := Ideal) x0 x1 x2 x3 x4 x5 x6 x7 x8 x9 x10 x11 x12 x13 (ix3 t r c) = res3 (refPar x1 x2 x3 x4 x5 x6 x7 x8 x9 x10 x11 x12 x13) x0 (ix3 t r c) := by
  unfold out0_17 k0_pay17
  rw [can3, ld0_0]
  refine (pay2_apply _ x13 t r c).trans ?_
  rw [z_apply]
  rfl

theorem out18_apply (t : Fin 24) (r : Fin 2560) : out0_18 (F := Ideal) x0 x1 x2 x3 x4 x5 x6 x7 x8 x9 x10 x11 x12 x13 (ix2 t r) = res4 (refPar x1 x2 x3 x4 x5 x6 x7 x8 x9 x10 x11 x12 x13) x0 (ix2 t r) := by
  have e : ∀ k : Fin 1024, _ = _ := fun k => z_apply x0 x1 x2 x3 x4 x5 x6 x7 x8 x9 x10 x11 x12 x13 t r k
  unfold out0_18
  rw [can2]
  unfold k0_pay23 at e
  refine (pay1_apply _ t r).trans ?_
  simp only [e]
  rfl

end

variable (m : (ℓ : Loc nD τ sig) → Buf (Elt Ideal) ℓ)

theorem refPar_eq {x1 : Vec Ideal S1x1024 .f32} {x2 : Vec Ideal S1x1024 .f32} {x3 : Vec Ideal S1024x2048 .fp8e4m3} {x4 : Vec Ideal S1x2048 .f32} {x5 : Vec Ideal S1x2048 .f32} {x6 : Vec Ideal S9x1024 .f32} {x7 : Vec Ideal S1x1024 .f32} {x8 : Vec Ideal S1x1024 .f32} {x9 : Vec Ideal S1024x1024 .fp8e4m3} {x10 : Vec Ideal S1x1024 .f32} {x11 : Vec Ideal S1x1024 .f32} {x12 : Vec Ideal S1x1 .f32} {x13 : Vec Ideal S1x1 .f32} {a1 : S1024.Idx → EReal} {a2 : S1024.Idx → EReal} {a3 : S1024x2048.Idx → EReal} {a4 : S2048.Idx → EReal} {a5 : S2048.Idx → EReal} {a6 : S9x1024.Idx → EReal} {a7 : S1024.Idx → EReal} {a8 : S1024.Idx → EReal} {a9 : S1024x1024.Idx → EReal} {a10 : S1024.Idx → EReal} {a11 : S1024.Idx → EReal} {a12 a13 : Shape.Idx ⟨0, ![]⟩ → EReal}
    (h1 : ∀ c, x1 (ix2 0 c) = a1 (ix1 c)) (h2 : ∀ c, x2 (ix2 0 c) = a2 (ix1 c)) (h3 : ∀ j c, x3 (ix2 j c) = a3 (ix2 j c)) (h4 : ∀ c, x4 (ix2 0 c) = a4 (ix1 c)) (h5 : ∀ c, x5 (ix2 0 c) = a5 (ix1 c)) (h6 : ∀ j c, x6 (ix2 j c) = a6 (ix2 j c)) (h7 : ∀ c, x7 (ix2 0 c) = a7 (ix1 c)) (h8 : ∀ c, x8 (ix2 0 c) = a8 (ix1 c)) (h9 : ∀ j c, x9 (ix2 j c) = a9 (ix2 j c)) (h10 : ∀ c, x10 (ix2 0 c) = a10 (ix1 c)) (h11 : ∀ c, x11 (ix2 0 c) = a11 (ix1 c)) (h12 : x12 (ix2 0 0) = a12 fun a => Fin.elim0 a) (h13 : x13 (ix2 0 0) = a13 fun a => Fin.elim0 a) :
    refPar x1 x2 x3 x4 x5 x6 x7 x8 x9 x10 x11 x12 x13 = parArgs a1 a2 a3 a4 a5 a6 a7 a8 a9 a10 a11 a12 a13 :=
  Par.same h1 h2 h3 h4 h5 h6 h7 h8 h9 h10 h11 h12 h13

/-- The weights and scales the program is given on core `c`. -/
def parM (c : Dev nD) : Par := parArgs (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

theorem par_eq (c : Dev nD) (t : Fin cfg0.N) : (refPar (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)) = parM m c :=
  refPar_eq (blk1 m c t) (blk2 m c t) (blk3 m c t) (blk4 m c t) (blk5 m c t) (blk6 m c t) (blk7 m c t) (blk8 m c t) (blk9 m c t) (blk10 m c t) (blk11 m c t) (blk12 m c t) (blk13 m c t)

theorem arg_eq (c : Dev nD) (t : Fin cfg0.N) : iblk m c 0 t = m ((c : Thread nD τ).loc main_arg0) :=
  funext fun y => (congrArg _ (eq_ix3 y)).trans ((blk0 m c t _ _ _).trans (congrArg _ (eq_ix3 y).symm))

theorem final14 (c : Dev nD) : (dats m 0 c).arrAt 14 cfg0.N = res0 (parM m c) (m ((c : Thread nD τ).loc main_arg0)) := by
  refine (dats m 0 c).arrAt_eq_of_after_last 14 ⟨0, by decide⟩ (by decide +kernel) _ fun j => ?_
  refine (congrFun (after0_14 m c _) j).trans ((congrArg _ (eq_ix3 j)).trans ((out14_apply _ _ _ _ _ _ _ _ _ _ _ _ _ _ _ _ _).trans ?_))
  rw [par_eq, arg_eq]
  exact congrArg _ (eq_ix3 j).symm

theorem final15 (c : Dev nD) : (dats m 0 c).arrAt 15 cfg0.N = res1 (parM m c) (m ((c : Thread nD τ).loc main_arg0)) := by
  refine (dats m 0 c).arrAt_eq_of_after_last 15 ⟨0, by decide⟩ (by decide +kernel) _ fun j => ?_
  refine (congrFun (after0_15 m c _) j).trans ((congrArg _ (eq_ix3 j)).trans ((out15_apply _ _ _ _ _ _ _ _ _ _ _ _ _ _ _ _ _).trans ?_))
  rw [par_eq, arg_eq]
  exact congrArg _ (eq_ix3 j).symm

theorem final16 (c : Dev nD) : (dats m 0 c).arrAt 16 cfg0.N = res2 (parM m c) (m ((c : Thread nD τ).loc main_arg0)) := by
  refine (dats m 0 c).arrAt_eq_of_after_last 16 ⟨0, by decide⟩ (by decide +kernel) _ fun j => ?_
  refine (congrFun (after0_16 m c _) j).trans ((congrArg _ (eq_ix2 j)).trans ((out16_apply _ _ _ _ _ _ _ _ _ _ _ _ _ _ _ _).trans ?_))
  rw [par_eq, arg_eq]
  exact congrArg _ (eq_ix2 j).symm

theorem final17 (c : Dev nD) : (dats m 0 c).arrAt 17 cfg0.N = res3 (parM m c) (m ((c : Thread nD τ).loc main_arg0)) := by
  refine (dats m 0 c).arrAt_eq_of_after_last 17 ⟨0, by decide⟩ (by decide +kernel) _ fun j => ?_
  refine (congrFun (after0_17 m c _) j).trans ((congrArg _ (eq_ix3 j)).trans ((out17_apply _ _ _ _ _ _ _ _ _ _ _ _ _ _ _ _ _).trans ?_))
  rw [par_eq, arg_eq]
  exact congrArg _ (eq_ix3 j).symm

theorem final18 (c : Dev nD) : (dats m 0 c).arrAt 18 cfg0.N = res4 (parM m c) (m ((c : Thread nD τ).loc main_arg0)) := by
  refine (dats m 0 c).arrAt_eq_of_after_last 18 ⟨0, by decide⟩ (by decide +kernel) _ fun j => ?_
  refine (congrFun (after0_18 m c _) j).trans ((congrArg _ (eq_ix2 j)).trans ((out18_apply _ _ _ _ _ _ _ _ _ _ _ _ _ _ _ _).trans ?_))
  rw [par_eq, arg_eq]
  exact congrArg _ (eq_ix2 j).symm

end Cert.ReferenceIdeal.Val

end
-- ==== Proof.KernelIdeal.Final.lean ====
module

public import proofs.«01_k».proof.Proof.KernelIdeal.PointA
public import proofs.«01_k».proof.Proof.KernelIdeal.PointB
public import proofs.«01_k».proof.Proof.KernelIdeal.Blocks
public import proofs.«01_k».proof.Proof.KernelIdeal.Whole
public import proofs.«01_k».proof.Proof.ReferenceIdeal.Final

/-!
The kernel's results, entry by entry: each point of the grid leaves its own sequence's, and the two arrays
of row maxima, which the points share, hold those of the sequences done so far.
-/

@[expose] public section

set_option maxRecDepth 16384

noncomputable section

namespace Cert.KernelIdeal.Val

open Cert.KernelIdeal Cert.KernelIdeal.Gen Cert.KernelIdeal.Body Cert.Spec
open Cert.ReferenceIdeal.Val (quant rowMax)
open Idealize.ShloMosaic Idealize.ShloMosaic.TcCoe Idealize.SL.Sem

variable (m : (ℓ : Loc nD τ sig) → Buf (Elt Ideal) ℓ)

/-- The weights and scales the program is given on core `c`. -/
def parM (c : Dev nD) : Par := parArgs (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))

/-- Sequence `b` of the input on core `c`. -/
def seq (c : Dev nD) (b : Fin 24) (r : Fin 2560) (j : Fin 1024) : EReal := m ((c : Thread nD τ).loc main_arg0) (ix3 b r j)

/-- The sequence point `t` of the grid works on. -/
def ofPoint (t : Fin cfg0.N) : Fin 24 := ⟨t.val, lt_of_lt_of_eq t.isLt (show cfg0.N = 24 from N_0)⟩

theorem par_eq (c : Dev nD) (t : Fin cfg0.N) : parOf (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) = parM m c :=
  Par.same (blk1 m c t) (blk2 m c t) (blk3 m c t) (blk4 m c t) (blk5 m c t) (blk6 m c t) (blk7 m c t) (blk8 m c t) (blk9 m c t) (blk10 m c t) (blk11 m c t) (blk12 m c t) (blk13 m c t)

theorem seq_eq (c : Dev nD) (t : Fin cfg0.N) : (fun r j => iblk m c 0 t (ix3 0 r j)) = seq m c (ofPoint t) :=
  funext fun r => funext fun j => blk0 m c t (ofPoint t) rfl r j

theorem coords_val (t : Fin cfg0.N) : (grid0.coords t 0).val = t.val := by
  have h : (grid0.coords t 0).val = t.val / 1 % 24 := Pipeline.Grid.coords_val t 0 (by decide) rfl
  have hN := (ofPoint t).isLt
  have e : (ofPoint t).val = t.val := rfl
  omega

/-- What a point leaves, from what the two shared arrays held before it. -/
def Left (P : Par) (X : Fin 2560 → Fin 1024 → EReal) (i : grid0.Coords) (u v : S24x2560.Idx → EReal)
    (s : Vec Ideal S1x2560x1024 .bf16 × Vec Ideal S1x2560x1024 .fp8e4m3 × Vec Ideal S24x2560 .f32 × Vec Ideal S1x2560x1024 .fp8e4m3 × Vec Ideal S24x2560 .f32) : Prop :=
  (∀ y, s.1 y = sOut P X (y 1) (y 2)) ∧ (∀ y, s.2.1 y = quant (sN P X (y 1) (y 2)) P.s1) ∧ (∀ y, s.2.2.1 y = amMix i (fun r => rowMax (sN P X r)) u 20 y)
    ∧ (∀ y, s.2.2.2.1 y = quant (sZ P X (y 1) (y 2)) P.s2) ∧ (∀ y, s.2.2.2.2 y = amMix i (fun r => rowMax (sZ P X r)) v 20 y)

section

variable (c : Dev nD) (hP : Good (parM m c)) (t : Fin cfg0.N)

/-- A statement about the body, at the buffers and blocks of point t. -/
local notation "atPoint" g:max => g c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t)

set_option maxHeartbeats 2000000 in
include hP in
theorem stepA_left (h0 : t.val % 24 = 0) :
    Left (parM m c) (seq m c (ofPoint t)) (grid0.coords t) (fun _ => 0) (fun _ => 0) (stepA m c t h0) := by
  rw [← par_eq m c t] at hP
  have V := (atPoint runA_values) ((hcond0_0 t).mpr h0) ((ms0_14 t).view.junk) ((ms0_15 t).view.junk) ((ms0_16 t).view.junk) ((ms0_17 t).view.junk) ((ms0_18 t).view.junk) (scM0_0.view.junk) (scM0_1.view.junk) (scM0_2.view.junk) (scM0_3.view.junk) hP
  rw [← par_eq m c t, ← seq_eq m c t]
  refine ⟨fun y => ?_, fun y => ?_, fun y => ?_, fun y => ?_, fun y => ?_⟩
  · exact V.1.read (Memref.whole cc0_stg14_0) VO0_14.junk y (coverA_14 m c t h0 y)
  · exact V.2.1.read (Memref.whole cc0_stg15_0) VO0_15.junk y (coverA_15 m c t h0 y)
  · change VO0_16.read (Elt Ideal) (VO0_16.writes (Elt Ideal) VO0_16.junk (runA m c t h0).2.2.1) y = _
    exact V.2.2.1 (Memref.whole cc0_stg16_0) VO0_16.junk y
  · exact V.2.2.2.1.read (Memref.whole cc0_stg17_0) VO0_17.junk y (coverA_17 m c t h0 y)
  · change VO0_18.read (Elt Ideal) (VO0_18.writes (Elt Ideal) VO0_18.junk (runA m c t h0).2.2.2.2.1) y = _
    exact V.2.2.2.2 (Memref.whole cc0_stg18_0) VO0_18.junk y

set_option maxHeartbeats 2000000 in
include hP in
theorem stepB_left (h0 : ¬t.val % 24 = 0) (u v : Vec Ideal S24x2560 .f32) :
    Left (parM m c) (seq m c (ofPoint t)) (grid0.coords t) u v (stepB m c t h0 u v) := by
  rw [← par_eq m c t] at hP
  have V := (atPoint runB_values) (fun h => h0 ((hcond0_0 t).mp h)) u v ((ms0_14 t).view.junk) ((ms0_15 t).view.junk) ((ms0_17 t).view.junk) (scM0_0.view.junk) (scM0_1.view.junk) (scM0_2.view.junk) (scM0_3.view.junk) hP
  rw [← par_eq m c t, ← seq_eq m c t]
  refine ⟨fun y => ?_, fun y => ?_, fun y => ?_, fun y => ?_, fun y => ?_⟩
  · exact V.1.read (Memref.whole cc0_stg14_0) VO0_14.junk y (coverB_14 m c t h0 u v y)
  · exact V.2.1.read (Memref.whole cc0_stg15_0) VO0_15.junk y (coverB_15 m c t h0 u v y)
  · change (ms0_16 t).view.read (Elt Ideal) ((ms0_16 t).view.writes (Elt Ideal) ((hs0_16 t).unread u) (runB m c t h0 u v).2.2.1) y = _
    exact V.2.2.1 y
  · exact V.2.2.2.1.read (Memref.whole cc0_stg17_0) VO0_17.junk y (coverB_17 m c t h0 u v y)
  · change (ms0_18 t).view.read (Elt Ideal) ((ms0_18 t).view.writes (Elt Ideal) ((hs0_18 t).unread v) (runB m c t h0 u v).2.2.2.2.1) y = _
    exact V.2.2.2.2 y

end

/-- The shared arrays hold the rows of the sequences before `n`, and zero elsewhere. -/
def upTo (R : Fin 24 → Fin 2560 → EReal) (n : ℕ) (y : S24x2560.Idx) : EReal := if (y 0).val < n then R (y 0) (y 1) else 0

theorem upTo_succ (i : grid0.Coords) (R : Fin 24 → Fin 2560 → EReal) (b : Fin 24) (hi : (i 0).val = b.val) (base : S24x2560.Idx → EReal) (hb : ∀ y, base y = upTo R b.val y) (y : S24x2560.Idx) :
    amMix i (R b) base 20 y = upTo R (b.val + 1) y := by
  have h1 : (y 1).val < 2560 := (y 1).isLt
  by_cases h : (y 0).val = b.val
  · have e : y 0 = b := Fin.ext h
    exact (if_pos ⟨by omega, by omega⟩).trans ((congrArg (fun b => R b (y 1)) e.symm).trans (if_pos (by omega : (y 0).val < b.val + 1)).symm)
  · refine (if_neg (by omega)).trans ((hb y).trans ?_)
    unfold upTo
    by_cases h2 : (y 0).val < b.val
    · rw [if_pos h2, if_pos (by omega)]
    · rw [if_neg h2, if_neg (by omega)]

/-- What the outputs hold after every point. -/
theorem outs_left (c : Dev nD) (hP : Good (parM m c)) : ∀ (n : ℕ) (hn : n < cfg0.N),
    ∃ u v : Vec Ideal S24x2560 .f32, (∀ y, u y = upTo (fun b r => rowMax (sN (parM m c) (seq m c b) r)) n y) ∧ (∀ y, v y = upTo (fun b r => rowMax (sZ (parM m c) (seq m c b) r)) n y)
      ∧ Left (parM m c) (seq m c (ofPoint ⟨n, hn⟩)) (grid0.coords ⟨n, hn⟩) u v (outsAt0 m c n hn)
  | 0, hn => ⟨fun _ => 0, fun _ => 0, fun y => (if_neg (Nat.not_lt_zero _)).symm, fun y => (if_neg (Nat.not_lt_zero _)).symm, stepA_left m c hP ⟨0, hn⟩ (Nat.zero_mod _)⟩
  | n + 1, hn => by
    obtain ⟨u, v, hu, hv, h⟩ := outs_left c hP n (Nat.lt_of_succ_lt hn)
    have hN : n + 1 < 24 := (ofPoint ⟨n + 1, hn⟩).isLt
    have h0 : ¬(n + 1) % 24 = 0 := by rw [Nat.mod_eq_of_lt hN]; omega
    refine ⟨_, _, fun y => (h.2.2.1 y).trans (upTo_succ _ (fun b r => rowMax (sN (parM m c) (seq m c b) r)) (ofPoint ⟨n, _⟩) (coords_val _) _ hu y), fun y => (h.2.2.2.2 y).trans (upTo_succ _ (fun b r => rowMax (sZ (parM m c) (seq m c b) r)) (ofPoint ⟨n, _⟩) (coords_val _) _ hv y), ?_⟩
    rw [show outsAt0 m c (n + 1) hn = _ from outsAt0_B m c ⟨n + 1, hn⟩ h0]
    exact stepB_left m c hP ⟨n + 1, hn⟩ h0 _ _

/-- The last point. -/
def last : Fin cfg0.N := ⟨23, by decide⟩

theorem res0_at (P : Par) (x : S24x2560x1024.Idx → EReal) (b : Fin 24) (r : Fin 2560) (j : Fin 1024) {y : S24x2560x1024.Idx} (h : y = ix3 b r j) :
    res0 P x y = sOut P (fun r j => x (ix3 b r j)) r j := by subst h; rfl

theorem res1_at (P : Par) (x : S24x2560x1024.Idx → EReal) (b : Fin 24) (r : Fin 2560) (j : Fin 1024) {y : S24x2560x1024.Idx} (h : y = ix3 b r j) :
    res1 P x y = quant (sN P (fun r j => x (ix3 b r j)) r j) P.s1 := by subst h; rfl

theorem res3_at (P : Par) (x : S24x2560x1024.Idx → EReal) (b : Fin 24) (r : Fin 2560) (j : Fin 1024) {y : S24x2560x1024.Idx} (h : y = ix3 b r j) :
    res3 P x y = quant (sZ P (fun r j => x (ix3 b r j)) r j) P.s2 := by subst h; rfl

theorem index14 : ∀ t : Fin cfg0.N, win0_14.index t 0 = t.val ∧ win0_14.index t 1 = 0 ∧ win0_14.index t 2 = 0 := by decide +kernel

theorem final14 (c : Dev nD) (hP : Good (parM m c)) : (dats m 0 c).arrAt 14 cfg0.N = res0 (parM m c) (m ((c : Thread nD τ).loc main_arg0)) := by
  refine (dats m 0 c).arrAt_eq_of_covers 14 _ (by decide +kernel) fun t hf y => ?_
  blk_simp
  rw [after0_14]
  obtain ⟨u, v, hu, hv, h⟩ := outs_left m c hP t.val t.isLt
  obtain ⟨h0, h1, h2⟩ := index14 t
  refine (h.1 y).trans (res0_at (parM m c) _ (ofPoint t) (y 1) (y 2) ?_).symm
  refine funext fun e => Fin.ext ((Pipeline.Window.rect_emb_val win0_14 t y e).trans ?_)
  have hy : (y 0).val < 1 := (y 0).isLt
  fin_cases e
  · show win0_14.index t 0 * 1 + (y 0).val = t.val; omega
  · show win0_14.index t 1 * 2560 + (y 1).val = (y 1).val; omega
  · show win0_14.index t 2 * 1024 + (y 2).val = (y 2).val; omega

theorem index15 : ∀ t : Fin cfg0.N, win0_15.index t 0 = t.val ∧ win0_15.index t 1 = 0 ∧ win0_15.index t 2 = 0 := by decide +kernel

theorem final15 (c : Dev nD) (hP : Good (parM m c)) : (dats m 0 c).arrAt 15 cfg0.N = res1 (parM m c) (m ((c : Thread nD τ).loc main_arg0)) := by
  refine (dats m 0 c).arrAt_eq_of_covers 15 _ (by decide +kernel) fun t hf y => ?_
  blk_simp
  rw [after0_15]
  obtain ⟨u, v, hu, hv, h⟩ := outs_left m c hP t.val t.isLt
  obtain ⟨h0, h1, h2⟩ := index15 t
  refine (h.2.1 y).trans (res1_at (parM m c) _ (ofPoint t) (y 1) (y 2) ?_).symm
  refine funext fun e => Fin.ext ((Pipeline.Window.rect_emb_val win0_15 t y e).trans ?_)
  have hy : (y 0).val < 1 := (y 0).isLt
  fin_cases e
  · show win0_15.index t 0 * 1 + (y 0).val = t.val; omega
  · show win0_15.index t 1 * 2560 + (y 1).val = (y 1).val; omega
  · show win0_15.index t 2 * 1024 + (y 2).val = (y 2).val; omega

theorem index17 : ∀ t : Fin cfg0.N, win0_17.index t 0 = t.val ∧ win0_17.index t 1 = 0 ∧ win0_17.index t 2 = 0 := by decide +kernel

theorem final17 (c : Dev nD) (hP : Good (parM m c)) : (dats m 0 c).arrAt 17 cfg0.N = res3 (parM m c) (m ((c : Thread nD τ).loc main_arg0)) := by
  refine (dats m 0 c).arrAt_eq_of_covers 17 _ (by decide +kernel) fun t hf y => ?_
  blk_simp
  rw [after0_17]
  obtain ⟨u, v, hu, hv, h⟩ := outs_left m c hP t.val t.isLt
  obtain ⟨h0, h1, h2⟩ := index17 t
  refine (h.2.2.2.1 y).trans (res3_at (parM m c) _ (ofPoint t) (y 1) (y 2) ?_).symm
  refine funext fun e => Fin.ext ((Pipeline.Window.rect_emb_val win0_17 t y e).trans ?_)
  have hy : (y 0).val < 1 := (y 0).isLt
  fin_cases e
  · show win0_17.index t 0 * 1 + (y 0).val = t.val; omega
  · show win0_17.index t 1 * 2560 + (y 1).val = (y 1).val; omega
  · show win0_17.index t 2 * 1024 + (y 2).val = (y 2).val; omega

theorem all16 (c : Dev nD) (hP : Good (parM m c)) (j : S24x2560.Idx) : (outsAt0 m c last.val last.isLt).2.2.1 j = res2 (parM m c) (m ((c : Thread nD τ).loc main_arg0)) j := by
  have hl : last.val = 23 := rfl
  generalize last = t at hl
  obtain ⟨u, v, hu, hv, h⟩ := outs_left m c hP t.val t.isLt
  refine (h.2.2.1 j).trans ((upTo_succ (grid0.coords t) (fun b r => rowMax (sN (parM m c) (seq m c b) r)) (ofPoint t) (coords_val t) _ hu j).trans ?_)
  have hj : (j 0).val < 24 := (j 0).isLt
  exact if_pos (by show (j 0).val < t.val + 1; omega)

theorem final16 (c : Dev nD) (hP : Good (parM m c)) : (dats m 0 c).arrAt 16 cfg0.N = res2 (parM m c) (m ((c : Thread nD τ).loc main_arg0)) := by
  refine (dats m 0 c).arrAt_eq_of_after_last 16 last (by decide +kernel) _ fun j => ?_
  exact (congrFun (after0_16 m c last) j).trans (all16 m c hP j)

theorem all18 (c : Dev nD) (hP : Good (parM m c)) (j : S24x2560.Idx) : (outsAt0 m c last.val last.isLt).2.2.2.2 j = res4 (parM m c) (m ((c : Thread nD τ).loc main_arg0)) j := by
  have hl : last.val = 23 := rfl
  generalize last = t at hl
  obtain ⟨u, v, hu, hv, h⟩ := outs_left m c hP t.val t.isLt
  refine (h.2.2.2.2 j).trans ((upTo_succ (grid0.coords t) (fun b r => rowMax (sZ (parM m c) (seq m c b) r)) (ofPoint t) (coords_val t) _ hv j).trans ?_)
  have hj : (j 0).val < 24 := (j 0).isLt
  exact if_pos (by show (j 0).val < t.val + 1; omega)

theorem final18 (c : Dev nD) (hP : Good (parM m c)) : (dats m 0 c).arrAt 18 cfg0.N = res4 (parM m c) (m ((c : Thread nD τ).loc main_arg0)) := by
  refine (dats m 0 c).arrAt_eq_of_after_last 18 last (by decide +kernel) _ fun j => ?_
  exact (congrFun (after0_18 m c last) j).trans (all18 m c hP j)

end Cert.KernelIdeal.Val

end
-- ==== Proof.KernelIdeal.Scales.lean ====
module

public import proofs.«01_k».proof.Proof.Gen.Pre_scales_and_weights
public import proofs.«01_k».proof.Proof.KernelIdeal.Maths
public import proofs.«01_k».proof.Proof.ReferenceIdeal.Final

/-!
What the precondition says of the weights and scales.
-/

@[expose] public section

noncomputable section

namespace Cert.KernelIdeal.Val

open Cert.Spec Idealize.ShloMosaic

theorem lt_one {x y : EReal} (h : FloatOps.cmpf (F := Ideal) (φ := .f32) .olt x y = 1#1) : x < y := by
  by_contra hn
  have : FloatOps.cmpf (F := Ideal) (φ := .f32) .olt x y = 0#1 := by
    show BitVec.ofBool (decide (x < y)) = 0#1
    rw [decide_eq_false hn]; rfl
  rw [this] at h; exact absurd h (by decide)

theorem le_one {x y : EReal} (h : FloatOps.cmpf (F := Ideal) (φ := .f32) .oge x y = 1#1) : y ≤ x := by
  by_contra hn
  have : FloatOps.cmpf (F := Ideal) (φ := .f32) .oge x y = 0#1 := by
    show BitVec.ofBool (decide (y ≤ x)) = 0#1
    rw [decide_eq_false hn]; rfl
  rw [this] at h; exact absurd h (by decide)

/-- A value whose absolute value is below infinity is real. -/
theorem real_of_abs {v : EReal} (h : max v (-v) < ⊤) : ∃ r : ℝ, v = (r : EReal) := by
  have h1 : v ≠ ⊤ := fun e => by rw [e] at h; simp at h
  have h2 : v ≠ ⊥ := fun e => by rw [e] at h; simp at h
  exact ⟨v.toReal, (EReal.coe_toReal h1 h2).symm⟩

/-- A scale between the least admitted one and infinity. -/
theorem real_scale {v : EReal} (h1 : Ideal.ofBits .f32 226492416#32 ≤ v) (h2 : v < Ideal.ofBits .f32 2139095040#32) : ∃ r : ℝ, ((2 : ℝ) ^ 100)⁻¹ ≤ r ∧ v = (r : EReal) := by
  rw [least_eq] at h1
  rw [top_eq] at h2
  have h3 : v ≠ ⊥ := fun e => by rw [e] at h1; exact absurd h1 (not_le.2 (EReal.bot_lt_coe _))
  have e : v = ((v.toReal : ℝ) : EReal) := (EReal.coe_toReal h2.ne h3).symm
  exact ⟨v.toReal, EReal.coe_le_coe_iff.1 (e ▸ h1), e⟩

theorem good (a0 : FVec Ideal Pre_scales_and_weights.S24x2560x1024 .bf16) (a1 a2 : FVec Ideal Pre_scales_and_weights.S1024 .f32) (a3 : FVec Ideal Pre_scales_and_weights.S1024x2048 .f32)
    (a4 a5 : FVec Ideal Pre_scales_and_weights.S2048 .f32) (a6 : FVec Ideal Pre_scales_and_weights.S9x1024 .f32) (a7 a8 : FVec Ideal Pre_scales_and_weights.S1024 .f32)
    (a9 : FVec Ideal Pre_scales_and_weights.S1024x1024 .fp8e4m3) (a10 a11 : FVec Ideal Pre_scales_and_weights.S1024 .f32) (a12 a13 : FVec Ideal Pre_scales_and_weights.S_ .f32)
    (h : (Pre_scales_and_weights.fn (F := Ideal) a0 a1 a2 a3 a4 a5 a6 a7 a8 a9 a10 a11 a12 a13) = (fun _ => 1#1, fun _ => 1#1, fun _ => 1#1, fun _ => 1#1, fun _ => 1#1, fun _ => 1#1, fun _ => 1#1, fun _ => 1#1, fun _ => 1#1, fun _ => 1#1)) :
    Good (parArgs a1 a2 a3 a4 a5 a6 a7 a8 a9 a10 a11 a12 a13) := by
  unfold Pre_scales_and_weights.fn Pre_scales_and_weights.fn_part1 at h
  simp only [Prod.mk.injEq] at h
  obtain ⟨h0, h1, h2, h3, h4, h5, h6, h7, h8, h9⟩ := h
  refine ⟨real_scale (le_one (congrFun h0 _)) (lt_one (congrFun h1 _)), real_scale (le_one (congrFun h2 _)) (lt_one (congrFun h3 _)), fun j c => ?_, fun c => ?_, fun c => ?_, fun t c => ?_, fun c => ?_, fun c => ?_⟩
  · exact real_of_abs (top_eq ▸ lt_one (congrFun h4 (ix2 j c)))
  · exact real_of_abs (top_eq ▸ lt_one (congrFun h5 (ix1 c)))
  · exact real_of_abs (top_eq ▸ lt_one (congrFun h6 (ix1 c)))
  · exact real_of_abs (top_eq ▸ lt_one (congrFun h7 (ix2 t c)))
  · exact real_of_abs (top_eq ▸ lt_one (congrFun h8 (ix1 c)))
  · exact real_of_abs (top_eq ▸ lt_one (congrFun h9 (ix1 c)))

end Cert.KernelIdeal.Val

end
-- ==== Proof.lean ====
module

public import proofs.«01_k».proof.Defs
public import proofs.«01_k».proof.Proof.Gen.Pre_scales_and_weights
public import proofs.«01_k».proof.Proof.Gen.ReferenceIdeal.Frame
public import proofs.«01_k».proof.Proof.Gen.Kernel.Frame
public import proofs.«01_k».proof.Proof.Gen.KernelIdeal.Frame
public import proofs.«01_k».proof.Proof.Kernel.Whole
public import proofs.«01_k».proof.Proof.KernelIdeal.Whole
public import proofs.«01_k».proof.Proof.KernelIdeal.Final
public import proofs.«01_k».proof.Proof.KernelIdeal.Scales
public import proofs.«01_k».proof.Proof.ReferenceIdeal.Final
public import Idealize.ShloMosaic.Adequacy
public import Idealize.ShloMosaic.Init

@[expose] public section

set_option maxRecDepth 16384

noncomputable section

namespace Cert.Proof

open Cert.Spec Idealize.ShloMosaic Idealize.SL.Sem

/-- Equal arguments give equal parameters. -/
theorem parArgs_congr {a1 b1 : Cert.ReferenceIdeal.S1024.Idx → EReal} {a2 b2 : Cert.ReferenceIdeal.S1024.Idx → EReal} {a3 b3 : Cert.ReferenceIdeal.S1024x2048.Idx → EReal} {a4 b4 : Cert.ReferenceIdeal.S2048.Idx → EReal} {a5 b5 : Cert.ReferenceIdeal.S2048.Idx → EReal} {a6 b6 : Cert.ReferenceIdeal.S9x1024.Idx → EReal} {a7 b7 : Cert.ReferenceIdeal.S1024.Idx → EReal} {a8 b8 : Cert.ReferenceIdeal.S1024.Idx → EReal} {a9 b9 : Cert.ReferenceIdeal.S1024x1024.Idx → EReal} {a10 b10 : Cert.ReferenceIdeal.S1024.Idx → EReal} {a11 b11 : Cert.ReferenceIdeal.S1024.Idx → EReal} {a12 b12 : Shape.Idx ⟨0, ![]⟩ → EReal} {a13 b13 : Shape.Idx ⟨0, ![]⟩ → EReal}
    (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) :
    parArgs a1 a2 a3 a4 a5 a6 a7 a8 a9 a10 a11 a12 a13 = parArgs b1 b2 b3 b4 b5 b6 b7 b8 b9 b10 b11 b12 b13 := by
  subst h1 h2 h3 h4 h5 h6 h7 h8 h9 h10 h11 h12 h13; rfl

/-- The precondition gives what the proof of the values uses. -/
theorem pre_good (m : (ℓ : Loc Cert.KernelIdeal.nD Cert.KernelIdeal.τ Cert.KernelIdeal.sig) → Buf (Elt Ideal) ℓ)
    (h : Cert.Pre_KernelIdeal_scales_and_weights m) (c : Dev Cert.KernelIdeal.nD) : Good (Cert.KernelIdeal.Val.parM m c) := by
  obtain ⟨h1, h2, h3, h4, h5, h6, h7, h8, h9, h10⟩ := h c
  exact Cert.KernelIdeal.Val.good _ _ _ _ _ _ _ _ _ _ _ _ _ _ (Prod.ext h1 (Prod.ext h2 (Prod.ext h3 (Prod.ext h4 (Prod.ext h5 (Prod.ext h6 (Prod.ext h7 (Prod.ext h8 (Prod.ext h9 h10)))))))))

set_option maxHeartbeats 4000000 in
/-- From equal arguments the kernel and the reference end with the five results of the specification. -/
theorem algebraic : Cert.algebraic_KernelIdeal_ReferenceIdeal_pre_scales_and_weights := by
  intro m g m' g' hpre h
  have hP := pre_good m hpre
  have e0 : ∀ c : Dev Cert.KernelIdeal.nD, m' (((c : Dev Cert.ReferenceIdeal.nD).tc : Thread Cert.ReferenceIdeal.nD Cert.ReferenceIdeal.τ).loc Cert.ReferenceIdeal.main_arg0)
      = m ((c.tc : Thread Cert.KernelIdeal.nD Cert.KernelIdeal.τ).loc Cert.KernelIdeal.main_arg0) := fun c => (h c).1
  have e : ∀ c : Dev Cert.KernelIdeal.nD, Cert.ReferenceIdeal.Val.parM m' c = Cert.KernelIdeal.Val.parM m c := fun c => by
    obtain ⟨h0, h1, h2, h3, h4, h5, h6, h7, h8, h9, h10, h11, h12, h13⟩ := h c
    exact parArgs_congr h1 h2 h3 h4 h5 h6 h7 h8 h9 h10 h11 h12 h13
  refine ⟨fun c => res0 (Cert.KernelIdeal.Val.parM m c) (m ((c.tc : Thread Cert.KernelIdeal.nD Cert.KernelIdeal.τ).loc Cert.KernelIdeal.main_arg0)), fun c => res1 (Cert.KernelIdeal.Val.parM m c) (m ((c.tc : Thread Cert.KernelIdeal.nD Cert.KernelIdeal.τ).loc Cert.KernelIdeal.main_arg0)), fun c => res2 (Cert.KernelIdeal.Val.parM m c) (m ((c.tc : Thread Cert.KernelIdeal.nD Cert.KernelIdeal.τ).loc Cert.KernelIdeal.main_arg0)), fun c => res3 (Cert.KernelIdeal.Val.parM m c) (m ((c.tc : Thread Cert.KernelIdeal.nD Cert.KernelIdeal.τ).loc Cert.KernelIdeal.main_arg0)), fun c => res4 (Cert.KernelIdeal.Val.parM m c) (m ((c.tc : Thread Cert.KernelIdeal.nD Cert.KernelIdeal.τ).loc Cert.KernelIdeal.main_arg0)), ?_, ?_⟩
  · refine (θ_run Cert.KernelIdeal.defs _ _).mono (fun r h c => ?_) (θ_run_and (Cert.KernelIdeal.Body.run_main m g) (Cert.KernelIdeal.Body.unchanged m g))
    exact ⟨((h.1 c).1 14).trans (Cert.KernelIdeal.Val.final14 m c (hP c)), ((h.1 c).1 15).trans (Cert.KernelIdeal.Val.final15 m c (hP c)), ((h.1 c).1 16).trans (Cert.KernelIdeal.Val.final16 m c (hP c)), ((h.1 c).1 17).trans (Cert.KernelIdeal.Val.final17 m c (hP c)), ((h.1 c).1 18).trans (Cert.KernelIdeal.Val.final18 m c (hP c)), h.2 c⟩
  · refine (θ_run Cert.ReferenceIdeal.defs _ _).mono (fun r h c => ?_) (θ_run_and (Cert.ReferenceIdeal.Gen.run_main m' g') (Cert.ReferenceIdeal.Gen.unchanged m' g'))
    exact ⟨((h.1 c).1 14).trans ((Cert.ReferenceIdeal.Val.final14 m' c).trans (congrArg₂ res0 (e c) (e0 c))), ((h.1 c).1 15).trans ((Cert.ReferenceIdeal.Val.final15 m' c).trans (congrArg₂ res1 (e c) (e0 c))), ((h.1 c).1 16).trans ((Cert.ReferenceIdeal.Val.final16 m' c).trans (congrArg₂ res2 (e c) (e0 c))), ((h.1 c).1 17).trans ((Cert.ReferenceIdeal.Val.final17 m' c).trans (congrArg₂ res3 (e c) (e0 c))), ((h.1 c).1 18).trans ((Cert.ReferenceIdeal.Val.final18 m' c).trans (congrArg₂ res4 (e c) (e0 c))), h.2 c⟩

theorem claim : Cert.Claim :=
  ⟨Cert.Kernel.Gen.facts, Cert.KernelIdeal.Gen.facts, Cert.ReferenceIdeal.Gen.facts, Cert.Pre_scales_and_weights.Gen.facts,
    fun m ρ _ => Cert.Kernel.Body.frame m ρ, fun m ρ _ => Cert.KernelIdeal.Body.frame m ρ, fun m ρ _ => Cert.KernelIdeal.Body.frame m ρ,
    fun m ρ _ => Cert.ReferenceIdeal.Gen.frame m ρ, fun m ρ _ => Cert.ReferenceIdeal.Gen.frame m ρ, trivial, algebraic⟩

end Cert.Proof
